-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite [hPre_finite : Cert.Pre_finite.Facts] (m : (ℓ : Loc Cert.HeadIdeal.nD Cert.HeadIdeal.τ Cert.HeadIdeal.sig) → Buf (Elt Ideal) ℓ) : Prop :=
  ∀ c : Dev Cert.HeadIdeal.nD,
    (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.2.1 = (fun _ => 1#1)
    ∧ (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10))).2.2.2.2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite [hPre_finite : Cert.Pre_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.2.1 = (fun _ => 1#1)
    ∧ (Cert.Pre_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10))).2.2.2.2.2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_GradMerge (m : (ℓ : Loc Cert.GradMerge.nD Cert.GradMerge.τ Cert.GradMerge.sig) → Buf (Elt Bits) ℓ) : Prop :=
  True

def Pre_GradMergeIdeal (m : (ℓ : Loc Cert.GradMergeIdeal.nD Cert.GradMergeIdeal.τ Cert.GradMergeIdeal.sig) → Buf (Elt Ideal) ℓ) : Prop :=
  True

def Pre_GradMergeRefIdeal (m : (ℓ : Loc Cert.GradMergeRefIdeal.nD Cert.GradMergeRefIdeal.τ Cert.GradMergeRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6)
      ∧ r.2.mem ((c.tc : Thread Cert.UpBwd.nD Cert.UpBwd.τ).loc Cert.UpBwd.main_arg7) = m ((c.tc : Thread Cert.UpBwd.nD Cert.UpBwd.τ).loc Cert.UpBwd.main_arg7)
      ∧ r.2.mem ((c.tc : Thread Cert.UpBwd.nD Cert.UpBwd.τ).loc Cert.UpBwd.main_arg8) = m ((c.tc : Thread Cert.UpBwd.nD Cert.UpBwd.τ).loc Cert.UpBwd.main_arg8)
      ∧ r.2.mem ((c.tc : Thread Cert.UpBwd.nD Cert.UpBwd.τ).loc Cert.UpBwd.main_arg9) = m ((c.tc : Thread Cert.UpBwd.nD Cert.UpBwd.τ).loc Cert.UpBwd.main_arg9)
      ∧ r.2.mem ((c.tc : Thread Cert.UpBwd.nD Cert.UpBwd.τ).loc Cert.UpBwd.main_arg10) = m ((c.tc : Thread Cert.UpBwd.nD Cert.UpBwd.τ).loc Cert.UpBwd.main_arg10)
      ∧ r.2.mem ((c.tc : Thread Cert.UpBwd.nD Cert.UpBwd.τ).loc Cert.UpBwd.main_arg11) = m ((c.tc : Thread Cert.UpBwd.nD Cert.UpBwd.τ).loc Cert.UpBwd.main_arg11)
      ∧ r.2.mem ((c.tc : Thread Cert.UpBwd.nD Cert.UpBwd.τ).loc Cert.UpBwd.main_arg12) = m ((c.tc : Thread Cert.UpBwd.nD Cert.UpBwd.τ).loc Cert.UpBwd.main_arg12)
      ∧ r.2.mem ((c.tc : Thread Cert.UpBwd.nD Cert.UpBwd.τ).loc Cert.UpBwd.main_arg13) = m ((c.tc : Thread Cert.UpBwd.nD Cert.UpBwd.τ).loc Cert.UpBwd.main_arg13))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
      ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7)
      ∧ r.2.mem ((c.tc : Thread Cert.UpBwdIdeal.nD Cert.UpBwdIdeal.τ).loc Cert.UpBwdIdeal.main_arg8) = m ((c.tc : Thread Cert.UpBwdIdeal.nD Cert.UpBwdIdeal.τ).loc Cert.UpBwdIdeal.main_arg8)
      ∧ r.2.mem ((c.tc : Thread Cert.UpBwdIdeal.nD Cert.UpBwdIdeal.τ).loc Cert.UpBwdIdeal.main_arg9) = m ((c.tc : Thread Cert.UpBwdIdeal.nD Cert.UpBwdIdeal.τ).loc Cert.UpBwdIdeal.main_arg9)
      ∧ r.2.mem ((c.tc : Thread Cert.UpBwdIdeal.nD Cert.UpBwdIdeal.τ).loc Cert.UpBwdIdeal.main_arg10) = m ((c.tc : Thread Cert.UpBwdIdeal.nD Cert.UpBwdIdeal.τ).loc Cert.UpBwdIdeal.main_arg10)
      ∧ r.2.mem ((c.tc : Thread Cert.UpBwdIdeal.nD Cert.UpBwdIdeal.τ).loc Cert.UpBwdIdeal.main_arg11) = m ((c.tc : Thread Cert.UpBwdIdeal.nD Cert.UpBwdIdeal.τ).loc Cert.UpBwdIdeal.main_arg11)
      ∧ r.2.mem ((c.tc : Thread Cert.UpBwdIdeal.nD Cert.UpBwdIdeal.τ).loc Cert.UpBwdIdeal.main_arg12) = m ((c.tc : Thread Cert.UpBwdIdeal.nD Cert.UpBwdIdeal.τ).loc Cert.UpBwdIdeal.main_arg12)
      ∧ r.2.mem ((c.tc : Thread Cert.UpBwdIdeal.nD Cert.UpBwdIdeal.τ).loc Cert.UpBwdIdeal.main_arg13) = m ((c.tc : Thread Cert.UpBwdIdeal.nD Cert.UpBwdIdeal.τ).loc Cert.UpBwdIdeal.main_arg13))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6)
      ∧ r.2.mem ((c.tc : Thread Cert.UpBwdRefIdeal.nD Cert.UpBwdRefIdeal.τ).loc Cert.UpBwdRefIdeal.main_arg7) = m ((c.tc : Thread Cert.UpBwdRefIdeal.nD Cert.UpBwdRefIdeal.τ).loc Cert.UpBwdRefIdeal.main_arg7)
      ∧ r.2.mem ((c.tc : Thread Cert.UpBwdRefIdeal.nD Cert.UpBwdRefIdeal.τ).loc Cert.UpBwdRefIdeal.main_arg8) = m ((c.tc : Thread Cert.UpBwdRefIdeal.nD Cert.UpBwdRefIdeal.τ).loc Cert.UpBwdRefIdeal.main_arg8)
      ∧ r.2.mem ((c.tc : Thread Cert.UpBwdRefIdeal.nD Cert.UpBwdRefIdeal.τ).loc Cert.UpBwdRefIdeal.main_arg9) = m ((c.tc : Thread Cert.UpBwdRefIdeal.nD Cert.UpBwdRefIdeal.τ).loc Cert.UpBwdRefIdeal.main_arg9)
      ∧ r.2.mem ((c.tc : Thread Cert.UpBwdRefIdeal.nD Cert.UpBwdRefIdeal.τ).loc Cert.UpBwdRefIdeal.main_arg10) = m ((c.tc : Thread Cert.UpBwdRefIdeal.nD Cert.UpBwdRefIdeal.τ).loc Cert.UpBwdRefIdeal.main_arg10)
      ∧ r.2.mem ((c.tc : Thread Cert.UpBwdRefIdeal.nD Cert.UpBwdRefIdeal.τ).loc Cert.UpBwdRefIdeal.main_arg11) = m ((c.tc : Thread Cert.UpBwdRefIdeal.nD Cert.UpBwdRefIdeal.τ).loc Cert.UpBwdRefIdeal.main_arg11)
      ∧ r.2.mem ((c.tc : Thread Cert.UpBwdRefIdeal.nD Cert.UpBwdRefIdeal.τ).loc Cert.UpBwdRefIdeal.main_arg12) = m ((c.tc : Thread Cert.UpBwdRefIdeal.nD Cert.UpBwdRefIdeal.τ).loc Cert.UpBwdRefIdeal.main_arg12)
      ∧ r.2.mem ((c.tc : Thread Cert.UpBwdRefIdeal.nD Cert.UpBwdRefIdeal.τ).loc Cert.UpBwdRefIdeal.main_arg13) = m ((c.tc : Thread Cert.UpBwdRefIdeal.nD Cert.UpBwdRefIdeal.τ).loc Cert.UpBwdRefIdeal.main_arg13))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadIdeal_pre_finite [hHeadIdeal : Cert.HeadIdeal.Facts] [hPre_finite : Cert.Pre_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_HeadRefIdeal_pre_finite [hHeadRefIdeal : Cert.HeadRefIdeal.Facts] [hPre_finite : Cert.Pre_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2)
      ∧ r.2.mem ((c.tc : Thread Cert.UpAct.nD Cert.UpAct.τ).loc Cert.UpAct.main_arg3) = m ((c.tc : Thread Cert.UpAct.nD Cert.UpAct.τ).loc Cert.UpAct.main_arg3)
      ∧ r.2.mem ((c.tc : Thread Cert.UpAct.nD Cert.UpAct.τ).loc Cert.UpAct.main_arg4) = m ((c.tc : Thread Cert.UpAct.nD Cert.UpAct.τ).loc Cert.UpAct.main_arg4))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
      ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3)
      ∧ r.2.mem ((c.tc : Thread Cert.UpActIdeal.nD Cert.UpActIdeal.τ).loc Cert.UpActIdeal.main_arg4) = m ((c.tc : Thread Cert.UpActIdeal.nD Cert.UpActIdeal.τ).loc Cert.UpActIdeal.main_arg4))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2)
      ∧ r.2.mem ((c.tc : Thread Cert.UpActRefIdeal.nD Cert.UpActRefIdeal.τ).loc Cert.UpActRefIdeal.main_arg3) = m ((c.tc : Thread Cert.UpActRefIdeal.nD Cert.UpActRefIdeal.τ).loc Cert.UpActRefIdeal.main_arg3)
      ∧ r.2.mem ((c.tc : Thread Cert.UpActRefIdeal.nD Cert.UpActRefIdeal.τ).loc Cert.UpActRefIdeal.main_arg4) = m ((c.tc : Thread Cert.UpActRefIdeal.nD Cert.UpActRefIdeal.τ).loc Cert.UpActRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_GradMerge [hGradMerge : Cert.GradMerge.Facts] : Prop :=
  ∀ (m : (ℓ : Loc Cert.GradMerge.nD Cert.GradMerge.τ Cert.GradMerge.sig) → Buf (Elt Bits) ℓ) (g : Dev Cert.GradMerge.nD → PrngReg), Pre_GradMerge m →
    θ_run (Cert.GradMerge.defs (F := Bits)) (onTc (τ := Cert.GradMerge.τ) (Cert.GradMerge.main (F := Bits))) ⟨m, fun _ => 0, g⟩ (fun r => (∀ c : Dev Cert.GradMerge.nD,
      r.2.mem ((c.tc : Thread Cert.GradMerge.nD Cert.GradMerge.τ).loc Cert.GradMerge.main_arg0) = m ((c.tc : Thread Cert.GradMerge.nD Cert.GradMerge.τ).loc Cert.GradMerge.main_arg0)
      ∧ r.2.mem ((c.tc : Thread Cert.GradMerge.nD Cert.GradMerge.τ).loc Cert.GradMerge.main_arg1) = m ((c.tc : Thread Cert.GradMerge.nD Cert.GradMerge.τ).loc Cert.GradMerge.main_arg1)
      ∧ r.2.mem ((c.tc : Thread Cert.GradMerge.nD Cert.GradMerge.τ).loc Cert.GradMerge.main_arg2) = m ((c.tc : Thread Cert.GradMerge.nD Cert.GradMerge.τ).loc Cert.GradMerge.main_arg2)
      ∧ r.2.mem ((c.tc : Thread Cert.GradMerge.nD Cert.GradMerge.τ).loc Cert.GradMerge.main_arg3) = m ((c.tc : Thread Cert.GradMerge.nD Cert.GradMerge.τ).loc Cert.GradMerge.main_arg3)
      ∧ r.2.mem ((c.tc : Thread Cert.GradMerge.nD Cert.GradMerge.τ).loc Cert.GradMerge.main_arg4) = m ((c.tc : Thread Cert.GradMerge.nD Cert.GradMerge.τ).loc Cert.GradMerge.main_arg4)
      ∧ r.2.mem ((c.tc : Thread Cert.GradMerge.nD Cert.GradMerge.τ).loc Cert.GradMerge.main_arg5) = m ((c.tc : Thread Cert.GradMerge.nD Cert.GradMerge.τ).loc Cert.GradMerge.main_arg5))
      ∧ r.2.sem = fun _ => 0)

def quiescent_GradMergeIdeal [hGradMergeIdeal : Cert.GradMergeIdeal.Facts] : Prop :=
  ∀ (m : (ℓ : Loc Cert.GradMergeIdeal.nD Cert.GradMergeIdeal.τ Cert.GradMergeIdeal.sig) → Buf (Elt Ideal) ℓ) (g : Dev Cert.GradMergeIdeal.nD → PrngReg), Pre_GradMergeIdeal m →
    θ_run (Cert.GradMergeIdeal.defs (F := Ideal)) (onTc (τ := Cert.GradMergeIdeal.τ) (Cert.GradMergeIdeal.main (F := Ideal))) ⟨m, fun _ => 0, g⟩ (fun r => (∀ c : Dev Cert.GradMergeIdeal.nD,
      r.2.mem ((c.tc : Thread Cert.GradMergeIdeal.nD Cert.GradMergeIdeal.τ).loc Cert.GradMergeIdeal.main_arg0) = m ((c.tc : Thread Cert.GradMergeIdeal.nD Cert.GradMergeIdeal.τ).loc Cert.GradMergeIdeal.main_arg0)
      ∧ r.2.mem ((c.tc : Thread Cert.GradMergeIdeal.nD Cert.GradMergeIdeal.τ).loc Cert.GradMergeIdeal.main_arg1) = m ((c.tc : Thread Cert.GradMergeIdeal.nD Cert.GradMergeIdeal.τ).loc Cert.GradMergeIdeal.main_arg1)
      ∧ r.2.mem ((c.tc : Thread Cert.GradMergeIdeal.nD Cert.GradMergeIdeal.τ).loc Cert.GradMergeIdeal.main_arg2) = m ((c.tc : Thread Cert.GradMergeIdeal.nD Cert.GradMergeIdeal.τ).loc Cert.GradMergeIdeal.main_arg2)
      ∧ r.2.mem ((c.tc : Thread Cert.GradMergeIdeal.nD Cert.GradMergeIdeal.τ).loc Cert.GradMergeIdeal.main_arg3) = m ((c.tc : Thread Cert.GradMergeIdeal.nD Cert.GradMergeIdeal.τ).loc Cert.GradMergeIdeal.main_arg3)
      ∧ r.2.mem ((c.tc : Thread Cert.GradMergeIdeal.nD Cert.GradMergeIdeal.τ).loc Cert.GradMergeIdeal.main_arg4) = m ((c.tc : Thread Cert.GradMergeIdeal.nD Cert.GradMergeIdeal.τ).loc Cert.GradMergeIdeal.main_arg4)
      ∧ r.2.mem ((c.tc : Thread Cert.GradMergeIdeal.nD Cert.GradMergeIdeal.τ).loc Cert.GradMergeIdeal.main_arg5) = m ((c.tc : Thread Cert.GradMergeIdeal.nD Cert.GradMergeIdeal.τ).loc Cert.GradMergeIdeal.main_arg5))
      ∧ r.2.sem = fun _ => 0)

def quiescent_GradMergeRefIdeal [hGradMergeRefIdeal : Cert.GradMergeRefIdeal.Facts] : Prop :=
  ∀ (m : (ℓ : Loc Cert.GradMergeRefIdeal.nD Cert.GradMergeRefIdeal.τ Cert.GradMergeRefIdeal.sig) → Buf (Elt Ideal) ℓ) (g : Dev Cert.GradMergeRefIdeal.nD → PrngReg), Pre_GradMergeRefIdeal m →
    θ_run (Cert.GradMergeRefIdeal.defs (F := Ideal)) (onTc (τ := Cert.GradMergeRefIdeal.τ) (Cert.GradMergeRefIdeal.main (F := Ideal))) ⟨m, fun _ => 0, g⟩ (fun r => (∀ c : Dev Cert.GradMergeRefIdeal.nD,
      r.2.mem ((c.tc : Thread Cert.GradMergeRefIdeal.nD Cert.GradMergeRefIdeal.τ).loc Cert.GradMergeRefIdeal.main_arg0) = m ((c.tc : Thread Cert.GradMergeRefIdeal.nD Cert.GradMergeRefIdeal.τ).loc Cert.GradMergeRefIdeal.main_arg0)
      ∧ r.2.mem ((c.tc : Thread Cert.GradMergeRefIdeal.nD Cert.GradMergeRefIdeal.τ).loc Cert.GradMergeRefIdeal.main_arg1) = m ((c.tc : Thread Cert.GradMergeRefIdeal.nD Cert.GradMergeRefIdeal.τ).loc Cert.GradMergeRefIdeal.main_arg1)
      ∧ r.2.mem ((c.tc : Thread Cert.GradMergeRefIdeal.nD Cert.GradMergeRefIdeal.τ).loc Cert.GradMergeRefIdeal.main_arg2) = m ((c.tc : Thread Cert.GradMergeRefIdeal.nD Cert.GradMergeRefIdeal.τ).loc Cert.GradMergeRefIdeal.main_arg2)
      ∧ r.2.mem ((c.tc : Thread Cert.GradMergeRefIdeal.nD Cert.GradMergeRefIdeal.τ).loc Cert.GradMergeRefIdeal.main_arg3) = m ((c.tc : Thread Cert.GradMergeRefIdeal.nD Cert.GradMergeRefIdeal.τ).loc Cert.GradMergeRefIdeal.main_arg3)
      ∧ r.2.mem ((c.tc : Thread Cert.GradMergeRefIdeal.nD Cert.GradMergeRefIdeal.τ).loc Cert.GradMergeRefIdeal.main_arg4) = m ((c.tc : Thread Cert.GradMergeRefIdeal.nD Cert.GradMergeRefIdeal.τ).loc Cert.GradMergeRefIdeal.main_arg4)
      ∧ r.2.mem ((c.tc : Thread Cert.GradMergeRefIdeal.nD Cert.GradMergeRefIdeal.τ).loc Cert.GradMergeRefIdeal.main_arg5) = m ((c.tc : Thread Cert.GradMergeRefIdeal.nD Cert.GradMergeRefIdeal.τ).loc Cert.GradMergeRefIdeal.main_arg5))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v69) = v0 c
          ∧ r.2.mem ((c.tc : Thread Cert.InProjRefIdeal.nD Cert.InProjRefIdeal.τ).loc Cert.InProjRefIdeal.main_v70) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)
      ∧ m' ((c.tc : Thread Cert.UpBwdRefIdeal.nD Cert.UpBwdRefIdeal.τ).loc Cert.UpBwdRefIdeal.main_arg7) = m ((c.tc : Thread Cert.UpBwdIdeal.nD Cert.UpBwdIdeal.τ).loc Cert.UpBwdIdeal.main_arg7)
      ∧ m' ((c.tc : Thread Cert.UpBwdRefIdeal.nD Cert.UpBwdRefIdeal.τ).loc Cert.UpBwdRefIdeal.main_arg8) = m ((c.tc : Thread Cert.UpBwdIdeal.nD Cert.UpBwdIdeal.τ).loc Cert.UpBwdIdeal.main_arg8)
      ∧ m' ((c.tc : Thread Cert.UpBwdRefIdeal.nD Cert.UpBwdRefIdeal.τ).loc Cert.UpBwdRefIdeal.main_arg9) = m ((c.tc : Thread Cert.UpBwdIdeal.nD Cert.UpBwdIdeal.τ).loc Cert.UpBwdIdeal.main_arg9)
      ∧ m' ((c.tc : Thread Cert.UpBwdRefIdeal.nD Cert.UpBwdRefIdeal.τ).loc Cert.UpBwdRefIdeal.main_arg10) = m ((c.tc : Thread Cert.UpBwdIdeal.nD Cert.UpBwdIdeal.τ).loc Cert.UpBwdIdeal.main_arg10)
      ∧ m' ((c.tc : Thread Cert.UpBwdRefIdeal.nD Cert.UpBwdRefIdeal.τ).loc Cert.UpBwdRefIdeal.main_arg11) = m ((c.tc : Thread Cert.UpBwdIdeal.nD Cert.UpBwdIdeal.τ).loc Cert.UpBwdIdeal.main_arg11)
      ∧ m' ((c.tc : Thread Cert.UpBwdRefIdeal.nD Cert.UpBwdRefIdeal.τ).loc Cert.UpBwdRefIdeal.main_arg12) = m ((c.tc : Thread Cert.UpBwdIdeal.nD Cert.UpBwdIdeal.τ).loc Cert.UpBwdIdeal.main_arg12)
      ∧ m' ((c.tc : Thread Cert.UpBwdRefIdeal.nD Cert.UpBwdRefIdeal.τ).loc Cert.UpBwdRefIdeal.main_arg13) = m ((c.tc : Thread Cert.UpBwdIdeal.nD Cert.UpBwdIdeal.τ).loc Cert.UpBwdIdeal.main_arg13)) →
    ∃ (v0 : (c : Dev Cert.UpBwdIdeal.nD) → Buf (Elt Ideal) ((c.tc : Thread Cert.UpBwdIdeal.nD Cert.UpBwdIdeal.τ).loc Cert.UpBwdIdeal.main_v49_0)) (v1 : (c : Dev Cert.UpBwdIdeal.nD) → Buf (Elt Ideal) ((c.tc : Thread Cert.UpBwdIdeal.nD Cert.UpBwdIdeal.τ).loc Cert.UpBwdIdeal.main_v49_1)) (v2 : (c : Dev Cert.UpBwdIdeal.nD) → Buf (Elt Ideal) ((c.tc : Thread Cert.UpBwdIdeal.nD Cert.UpBwdIdeal.τ).loc Cert.UpBwdIdeal.main_v49_2)) (v3 : (c : Dev Cert.UpBwdIdeal.nD) → Buf (Elt Ideal) ((c.tc : Thread Cert.UpBwdIdeal.nD Cert.UpBwdIdeal.τ).loc Cert.UpBwdIdeal.main_v49_3)) (v4 : (c : Dev Cert.UpBwdIdeal.nD) → Buf (Elt Ideal) ((c.tc : Thread Cert.UpBwdIdeal.nD Cert.UpBwdIdeal.τ).loc Cert.UpBwdIdeal.main_v49_4)) (v5 : (c : Dev Cert.UpBwdIdeal.nD) → Buf (Elt Ideal) ((c.tc : Thread Cert.UpBwdIdeal.nD Cert.UpBwdIdeal.τ).loc Cert.UpBwdIdeal.main_v49_5)) (v6 : (c : Dev Cert.UpBwdIdeal.nD) → Buf (Elt Ideal) ((c.tc : Thread Cert.UpBwdIdeal.nD Cert.UpBwdIdeal.τ).loc Cert.UpBwdIdeal.main_v49_6)) (v7 : (c : Dev Cert.UpBwdIdeal.nD) → Buf (Elt Ideal) ((c.tc : Thread Cert.UpBwdIdeal.nD Cert.UpBwdIdeal.τ).loc Cert.UpBwdIdeal.main_v49_7)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v49_0) = v0 c
          ∧ r.2.mem ((c.tc : Thread Cert.UpBwdIdeal.nD Cert.UpBwdIdeal.τ).loc Cert.UpBwdIdeal.main_v49_1) = v1 c
          ∧ r.2.mem ((c.tc : Thread Cert.UpBwdIdeal.nD Cert.UpBwdIdeal.τ).loc Cert.UpBwdIdeal.main_v49_2) = v2 c
          ∧ r.2.mem ((c.tc : Thread Cert.UpBwdIdeal.nD Cert.UpBwdIdeal.τ).loc Cert.UpBwdIdeal.main_v49_3) = v3 c
          ∧ r.2.mem ((c.tc : Thread Cert.UpBwdIdeal.nD Cert.UpBwdIdeal.τ).loc Cert.UpBwdIdeal.main_v49_4) = v4 c
          ∧ r.2.mem ((c.tc : Thread Cert.UpBwdIdeal.nD Cert.UpBwdIdeal.τ).loc Cert.UpBwdIdeal.main_v49_5) = v5 c
          ∧ r.2.mem ((c.tc : Thread Cert.UpBwdIdeal.nD Cert.UpBwdIdeal.τ).loc Cert.UpBwdIdeal.main_v49_6) = v6 c
          ∧ r.2.mem ((c.tc : Thread Cert.UpBwdIdeal.nD Cert.UpBwdIdeal.τ).loc Cert.UpBwdIdeal.main_v49_7) = v7 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6)
          ∧ r.2.mem ((c.tc : Thread Cert.UpBwdIdeal.nD Cert.UpBwdIdeal.τ).loc Cert.UpBwdIdeal.main_arg7) = m ((c.tc : Thread Cert.UpBwdIdeal.nD Cert.UpBwdIdeal.τ).loc Cert.UpBwdIdeal.main_arg7)
          ∧ r.2.mem ((c.tc : Thread Cert.UpBwdIdeal.nD Cert.UpBwdIdeal.τ).loc Cert.UpBwdIdeal.main_arg8) = m ((c.tc : Thread Cert.UpBwdIdeal.nD Cert.UpBwdIdeal.τ).loc Cert.UpBwdIdeal.main_arg8)
          ∧ r.2.mem ((c.tc : Thread Cert.UpBwdIdeal.nD Cert.UpBwdIdeal.τ).loc Cert.UpBwdIdeal.main_arg9) = m ((c.tc : Thread Cert.UpBwdIdeal.nD Cert.UpBwdIdeal.τ).loc Cert.UpBwdIdeal.main_arg9)
          ∧ r.2.mem ((c.tc : Thread Cert.UpBwdIdeal.nD Cert.UpBwdIdeal.τ).loc Cert.UpBwdIdeal.main_arg10) = m ((c.tc : Thread Cert.UpBwdIdeal.nD Cert.UpBwdIdeal.τ).loc Cert.UpBwdIdeal.main_arg10)
          ∧ r.2.mem ((c.tc : Thread Cert.UpBwdIdeal.nD Cert.UpBwdIdeal.τ).loc Cert.UpBwdIdeal.main_arg11) = m ((c.tc : Thread Cert.UpBwdIdeal.nD Cert.UpBwdIdeal.τ).loc Cert.UpBwdIdeal.main_arg11)
          ∧ r.2.mem ((c.tc : Thread Cert.UpBwdIdeal.nD Cert.UpBwdIdeal.τ).loc Cert.UpBwdIdeal.main_arg12) = m ((c.tc : Thread Cert.UpBwdIdeal.nD Cert.UpBwdIdeal.τ).loc Cert.UpBwdIdeal.main_arg12)
          ∧ r.2.mem ((c.tc : Thread Cert.UpBwdIdeal.nD Cert.UpBwdIdeal.τ).loc Cert.UpBwdIdeal.main_arg13) = m ((c.tc : Thread Cert.UpBwdIdeal.nD Cert.UpBwdIdeal.τ).loc Cert.UpBwdIdeal.main_arg13))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v182) = v0 c
          ∧ r.2.mem ((c.tc : Thread Cert.UpBwdRefIdeal.nD Cert.UpBwdRefIdeal.τ).loc Cert.UpBwdRefIdeal.main_v176) = v1 c
          ∧ r.2.mem ((c.tc : Thread Cert.UpBwdRefIdeal.nD Cert.UpBwdRefIdeal.τ).loc Cert.UpBwdRefIdeal.main_v177) = v2 c
          ∧ r.2.mem ((c.tc : Thread Cert.UpBwdRefIdeal.nD Cert.UpBwdRefIdeal.τ).loc Cert.UpBwdRefIdeal.main_v178) = v3 c
          ∧ r.2.mem ((c.tc : Thread Cert.UpBwdRefIdeal.nD Cert.UpBwdRefIdeal.τ).loc Cert.UpBwdRefIdeal.main_v179) = v4 c
          ∧ r.2.mem ((c.tc : Thread Cert.UpBwdRefIdeal.nD Cert.UpBwdRefIdeal.τ).loc Cert.UpBwdRefIdeal.main_v180) = v5 c
          ∧ r.2.mem ((c.tc : Thread Cert.UpBwdRefIdeal.nD Cert.UpBwdRefIdeal.τ).loc Cert.UpBwdRefIdeal.main_v181) = v6 c
          ∧ r.2.mem ((c.tc : Thread Cert.UpBwdRefIdeal.nD Cert.UpBwdRefIdeal.τ).loc Cert.UpBwdRefIdeal.main_v183) = v7 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6)
          ∧ r.2.mem ((c.tc : Thread Cert.UpBwdRefIdeal.nD Cert.UpBwdRefIdeal.τ).loc Cert.UpBwdRefIdeal.main_arg7) = m' ((c.tc : Thread Cert.UpBwdRefIdeal.nD Cert.UpBwdRefIdeal.τ).loc Cert.UpBwdRefIdeal.main_arg7)
          ∧ r.2.mem ((c.tc : Thread Cert.UpBwdRefIdeal.nD Cert.UpBwdRefIdeal.τ).loc Cert.UpBwdRefIdeal.main_arg8) = m' ((c.tc : Thread Cert.UpBwdRefIdeal.nD Cert.UpBwdRefIdeal.τ).loc Cert.UpBwdRefIdeal.main_arg8)
          ∧ r.2.mem ((c.tc : Thread Cert.UpBwdRefIdeal.nD Cert.UpBwdRefIdeal.τ).loc Cert.UpBwdRefIdeal.main_arg9) = m' ((c.tc : Thread Cert.UpBwdRefIdeal.nD Cert.UpBwdRefIdeal.τ).loc Cert.UpBwdRefIdeal.main_arg9)
          ∧ r.2.mem ((c.tc : Thread Cert.UpBwdRefIdeal.nD Cert.UpBwdRefIdeal.τ).loc Cert.UpBwdRefIdeal.main_arg10) = m' ((c.tc : Thread Cert.UpBwdRefIdeal.nD Cert.UpBwdRefIdeal.τ).loc Cert.UpBwdRefIdeal.main_arg10)
          ∧ r.2.mem ((c.tc : Thread Cert.UpBwdRefIdeal.nD Cert.UpBwdRefIdeal.τ).loc Cert.UpBwdRefIdeal.main_arg11) = m' ((c.tc : Thread Cert.UpBwdRefIdeal.nD Cert.UpBwdRefIdeal.τ).loc Cert.UpBwdRefIdeal.main_arg11)
          ∧ r.2.mem ((c.tc : Thread Cert.UpBwdRefIdeal.nD Cert.UpBwdRefIdeal.τ).loc Cert.UpBwdRefIdeal.main_arg12) = m' ((c.tc : Thread Cert.UpBwdRefIdeal.nD Cert.UpBwdRefIdeal.τ).loc Cert.UpBwdRefIdeal.main_arg12)
          ∧ r.2.mem ((c.tc : Thread Cert.UpBwdRefIdeal.nD Cert.UpBwdRefIdeal.τ).loc Cert.UpBwdRefIdeal.main_arg13) = m' ((c.tc : Thread Cert.UpBwdRefIdeal.nD Cert.UpBwdRefIdeal.τ).loc Cert.UpBwdRefIdeal.main_arg13))

def preserves_Head_HeadIdeal : Prop :=
  IdealRules.named_const.Statement Cert.HeadIdeal.κ "k" .f32 0x3D372713#32 ((8943 / 200000 : ℝ) : EReal)
  ∧ IdealRules.named_const.Statement Cert.HeadIdeal.κ "k3" .f32 0x3E095D4F#32 ((26829 / 200000 : ℝ) : EReal)

def algebraic_HeadIdeal_HeadRefIdeal_pre_finite [hHeadIdeal : Cert.HeadIdeal.Facts] [hHeadRefIdeal : Cert.HeadRefIdeal.Facts] [hPre_finite : Cert.Pre_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v64_0)) (v1 : (c : Dev Cert.HeadIdeal.nD) → Buf (Elt Ideal) ((c.tc : Thread Cert.HeadIdeal.nD Cert.HeadIdeal.τ).loc Cert.HeadIdeal.main_v64_1)) (v2 : (c : Dev Cert.HeadIdeal.nD) → Buf (Elt Ideal) ((c.tc : Thread Cert.HeadIdeal.nD Cert.HeadIdeal.τ).loc Cert.HeadIdeal.main_v64_2)) (v3 : (c : Dev Cert.HeadIdeal.nD) → Buf (Elt Ideal) ((c.tc : Thread Cert.HeadIdeal.nD Cert.HeadIdeal.τ).loc Cert.HeadIdeal.main_v64_3)) (v4 : (c : Dev Cert.HeadIdeal.nD) → Buf (Elt Ideal) ((c.tc : Thread Cert.HeadIdeal.nD Cert.HeadIdeal.τ).loc Cert.HeadIdeal.main_v64_4)) (v5 : (c : Dev Cert.HeadIdeal.nD) → Buf (Elt Ideal) ((c.tc : Thread Cert.HeadIdeal.nD Cert.HeadIdeal.τ).loc Cert.HeadIdeal.main_v64_5)) (v6 : (c : Dev Cert.HeadIdeal.nD) → Buf (Elt Ideal) ((c.tc : Thread Cert.HeadIdeal.nD Cert.HeadIdeal.τ).loc Cert.HeadIdeal.main_v64_6)) (v7 : (c : Dev Cert.HeadIdeal.nD) → Buf (Elt Ideal) ((c.tc : Thread Cert.HeadIdeal.nD Cert.HeadIdeal.τ).loc Cert.HeadIdeal.main_v64_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v64_0) = v0 c
          ∧ r.2.mem ((c.tc : Thread Cert.HeadIdeal.nD Cert.HeadIdeal.τ).loc Cert.HeadIdeal.main_v64_1) = v1 c
          ∧ r.2.mem ((c.tc : Thread Cert.HeadIdeal.nD Cert.HeadIdeal.τ).loc Cert.HeadIdeal.main_v64_2) = v2 c
          ∧ r.2.mem ((c.tc : Thread Cert.HeadIdeal.nD Cert.HeadIdeal.τ).loc Cert.HeadIdeal.main_v64_3) = v3 c
          ∧ r.2.mem ((c.tc : Thread Cert.HeadIdeal.nD Cert.HeadIdeal.τ).loc Cert.HeadIdeal.main_v64_4) = v4 c
          ∧ r.2.mem ((c.tc : Thread Cert.HeadIdeal.nD Cert.HeadIdeal.τ).loc Cert.HeadIdeal.main_v64_5) = v5 c
          ∧ r.2.mem ((c.tc : Thread Cert.HeadIdeal.nD Cert.HeadIdeal.τ).loc Cert.HeadIdeal.main_v64_6) = v6 c
          ∧ r.2.mem ((c.tc : Thread Cert.HeadIdeal.nD Cert.HeadIdeal.τ).loc Cert.HeadIdeal.main_v64_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v257) = v0 c
          ∧ r.2.mem ((c.tc : Thread Cert.HeadRefIdeal.nD Cert.HeadRefIdeal.τ).loc Cert.HeadRefIdeal.main_v259) = v1 c
          ∧ r.2.mem ((c.tc : Thread Cert.HeadRefIdeal.nD Cert.HeadRefIdeal.τ).loc Cert.HeadRefIdeal.main_v261) = v2 c
          ∧ r.2.mem ((c.tc : Thread Cert.HeadRefIdeal.nD Cert.HeadRefIdeal.τ).loc Cert.HeadRefIdeal.main_v262) = v3 c
          ∧ r.2.mem ((c.tc : Thread Cert.HeadRefIdeal.nD Cert.HeadRefIdeal.τ).loc Cert.HeadRefIdeal.main_v263) = v4 c
          ∧ r.2.mem ((c.tc : Thread Cert.HeadRefIdeal.nD Cert.HeadRefIdeal.τ).loc Cert.HeadRefIdeal.main_v244) = v5 c
          ∧ r.2.mem ((c.tc : Thread Cert.HeadRefIdeal.nD Cert.HeadRefIdeal.τ).loc Cert.HeadRefIdeal.main_v250) = v6 c
          ∧ r.2.mem ((c.tc : Thread Cert.HeadRefIdeal.nD Cert.HeadRefIdeal.τ).loc Cert.HeadRefIdeal.main_v255) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def preserves_Mix_MixIdeal : Prop :=
  True

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v17) = v0 c
          ∧ r.2.mem ((c.tc : Thread Cert.NormRefIdeal.nD Cert.NormRefIdeal.τ).loc Cert.NormRefIdeal.main_v19) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v18_0)) (v1 : (c : Dev Cert.MergeIdeal.nD) → Buf (Elt Ideal) ((c.tc : Thread Cert.MergeIdeal.nD Cert.MergeIdeal.τ).loc Cert.MergeIdeal.main_v18_1)) (v2 : (c : Dev Cert.MergeIdeal.nD) → Buf (Elt Ideal) ((c.tc : Thread Cert.MergeIdeal.nD Cert.MergeIdeal.τ).loc Cert.MergeIdeal.main_v18_2)) (v3 : (c : Dev Cert.MergeIdeal.nD) → Buf (Elt Ideal) ((c.tc : Thread Cert.MergeIdeal.nD Cert.MergeIdeal.τ).loc Cert.MergeIdeal.main_v18_3)) (v4 : (c : Dev Cert.MergeIdeal.nD) → Buf (Elt Ideal) ((c.tc : Thread Cert.MergeIdeal.nD Cert.MergeIdeal.τ).loc Cert.MergeIdeal.main_v18_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18_0) = v0 c
          ∧ r.2.mem ((c.tc : Thread Cert.MergeIdeal.nD Cert.MergeIdeal.τ).loc Cert.MergeIdeal.main_v18_1) = v1 c
          ∧ r.2.mem ((c.tc : Thread Cert.MergeIdeal.nD Cert.MergeIdeal.τ).loc Cert.MergeIdeal.main_v18_2) = v2 c
          ∧ r.2.mem ((c.tc : Thread Cert.MergeIdeal.nD Cert.MergeIdeal.τ).loc Cert.MergeIdeal.main_v18_3) = v3 c
          ∧ r.2.mem ((c.tc : Thread Cert.MergeIdeal.nD Cert.MergeIdeal.τ).loc Cert.MergeIdeal.main_v18_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v41) = v2 c
          ∧ r.2.mem ((c.tc : Thread Cert.MergeRefIdeal.nD Cert.MergeRefIdeal.τ).loc Cert.MergeRefIdeal.main_v42) = v3 c
          ∧ r.2.mem ((c.tc : Thread Cert.MergeRefIdeal.nD Cert.MergeRefIdeal.τ).loc Cert.MergeRefIdeal.main_v44) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)
      ∧ m' ((c.tc : Thread Cert.UpActRefIdeal.nD Cert.UpActRefIdeal.τ).loc Cert.UpActRefIdeal.main_arg3) = m ((c.tc : Thread Cert.UpActIdeal.nD Cert.UpActIdeal.τ).loc Cert.UpActIdeal.main_arg3)
      ∧ m' ((c.tc : Thread Cert.UpActRefIdeal.nD Cert.UpActRefIdeal.τ).loc Cert.UpActRefIdeal.main_arg4) = m ((c.tc : Thread Cert.UpActIdeal.nD Cert.UpActIdeal.τ).loc Cert.UpActIdeal.main_arg4)) →
    ∃ (v0 : (c : Dev Cert.UpActIdeal.nD) → Buf (Elt Ideal) ((c.tc : Thread Cert.UpActIdeal.nD Cert.UpActIdeal.τ).loc Cert.UpActIdeal.main_v24_0)) (v1 : (c : Dev Cert.UpActIdeal.nD) → Buf (Elt Ideal) ((c.tc : Thread Cert.UpActIdeal.nD Cert.UpActIdeal.τ).loc Cert.UpActIdeal.main_v24_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v24_0) = v0 c
          ∧ r.2.mem ((c.tc : Thread Cert.UpActIdeal.nD Cert.UpActIdeal.τ).loc Cert.UpActIdeal.main_v24_1) = v1 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
          ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3)
          ∧ r.2.mem ((c.tc : Thread Cert.UpActIdeal.nD Cert.UpActIdeal.τ).loc Cert.UpActIdeal.main_arg4) = m ((c.tc : Thread Cert.UpActIdeal.nD Cert.UpActIdeal.τ).loc Cert.UpActIdeal.main_arg4))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v48) = v0 c
          ∧ r.2.mem ((c.tc : Thread Cert.UpActRefIdeal.nD Cert.UpActRefIdeal.τ).loc Cert.UpActRefIdeal.main_v64) = v1 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2)
          ∧ r.2.mem ((c.tc : Thread Cert.UpActRefIdeal.nD Cert.UpActRefIdeal.τ).loc Cert.UpActRefIdeal.main_arg3) = m' ((c.tc : Thread Cert.UpActRefIdeal.nD Cert.UpActRefIdeal.τ).loc Cert.UpActRefIdeal.main_arg3)
          ∧ r.2.mem ((c.tc : Thread Cert.UpActRefIdeal.nD Cert.UpActRefIdeal.τ).loc Cert.UpActRefIdeal.main_arg4) = m' ((c.tc : Thread Cert.UpActRefIdeal.nD Cert.UpActRefIdeal.τ).loc Cert.UpActRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)) (v3 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_v4_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v27) = v1 c
          ∧ r.2.mem ((c.tc : Thread Cert.AdamRefIdeal.nD Cert.AdamRefIdeal.τ).loc Cert.AdamRefIdeal.main_v8) = v2 c
          ∧ r.2.mem ((c.tc : Thread Cert.AdamRefIdeal.nD Cert.AdamRefIdeal.τ).loc Cert.AdamRefIdeal.main_v14) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_GradMerge_GradMergeIdeal : Prop :=
  True

def algebraic_GradMergeIdeal_GradMergeRefIdeal [hGradMergeIdeal : Cert.GradMergeIdeal.Facts] [hGradMergeRefIdeal : Cert.GradMergeRefIdeal.Facts] : Prop :=
  ∀ (m : (ℓ : Loc Cert.GradMergeIdeal.nD Cert.GradMergeIdeal.τ Cert.GradMergeIdeal.sig) → Buf (Elt Ideal) ℓ) (g : Dev Cert.GradMergeIdeal.nD → PrngReg)
    (m' : (ℓ : Loc Cert.GradMergeRefIdeal.nD Cert.GradMergeRefIdeal.τ Cert.GradMergeRefIdeal.sig) → Buf (Elt Ideal) ℓ) (g' : Dev Cert.GradMergeRefIdeal.nD → PrngReg), Pre_GradMergeIdeal m →
    (∀ c : Dev Cert.GradMergeIdeal.nD,
      m' ((c.tc : Thread Cert.GradMergeRefIdeal.nD Cert.GradMergeRefIdeal.τ).loc Cert.GradMergeRefIdeal.main_arg0) = m ((c.tc : Thread Cert.GradMergeIdeal.nD Cert.GradMergeIdeal.τ).loc Cert.GradMergeIdeal.main_arg0)
      ∧ m' ((c.tc : Thread Cert.GradMergeRefIdeal.nD Cert.GradMergeRefIdeal.τ).loc Cert.GradMergeRefIdeal.main_arg1) = m ((c.tc : Thread Cert.GradMergeIdeal.nD Cert.GradMergeIdeal.τ).loc Cert.GradMergeIdeal.main_arg1)
      ∧ m' ((c.tc : Thread Cert.GradMergeRefIdeal.nD Cert.GradMergeRefIdeal.τ).loc Cert.GradMergeRefIdeal.main_arg2) = m ((c.tc : Thread Cert.GradMergeIdeal.nD Cert.GradMergeIdeal.τ).loc Cert.GradMergeIdeal.main_arg2)
      ∧ m' ((c.tc : Thread Cert.GradMergeRefIdeal.nD Cert.GradMergeRefIdeal.τ).loc Cert.GradMergeRefIdeal.main_arg3) = m ((c.tc : Thread Cert.GradMergeIdeal.nD Cert.GradMergeIdeal.τ).loc Cert.GradMergeIdeal.main_arg3)
      ∧ m' ((c.tc : Thread Cert.GradMergeRefIdeal.nD Cert.GradMergeRefIdeal.τ).loc Cert.GradMergeRefIdeal.main_arg4) = m ((c.tc : Thread Cert.GradMergeIdeal.nD Cert.GradMergeIdeal.τ).loc Cert.GradMergeIdeal.main_arg4)
      ∧ m' ((c.tc : Thread Cert.GradMergeRefIdeal.nD Cert.GradMergeRefIdeal.τ).loc Cert.GradMergeRefIdeal.main_arg5) = m ((c.tc : Thread Cert.GradMergeIdeal.nD Cert.GradMergeIdeal.τ).loc Cert.GradMergeIdeal.main_arg5)) →
    ∃ (v0 : (c : Dev Cert.GradMergeIdeal.nD) → Buf (Elt Ideal) ((c.tc : Thread Cert.GradMergeIdeal.nD Cert.GradMergeIdeal.τ).loc Cert.GradMergeIdeal.main_v11_0)) (v1 : (c : Dev Cert.GradMergeIdeal.nD) → Buf (Elt Ideal) ((c.tc : Thread Cert.GradMergeIdeal.nD Cert.GradMergeIdeal.τ).loc Cert.GradMergeIdeal.main_v11_1)) (v2 : (c : Dev Cert.GradMergeIdeal.nD) → Buf (Elt Ideal) ((c.tc : Thread Cert.GradMergeIdeal.nD Cert.GradMergeIdeal.τ).loc Cert.GradMergeIdeal.main_v11_2)),
      θ_run (Cert.GradMergeIdeal.defs (F := Ideal)) (onTc (τ := Cert.GradMergeIdeal.τ) (Cert.GradMergeIdeal.main (F := Ideal))) ⟨m, fun _ => 0, g⟩ (fun r => ∀ c : Dev Cert.GradMergeIdeal.nD,
          r.2.mem ((c.tc : Thread Cert.GradMergeIdeal.nD Cert.GradMergeIdeal.τ).loc Cert.GradMergeIdeal.main_v11_0) = v0 c
          ∧ r.2.mem ((c.tc : Thread Cert.GradMergeIdeal.nD Cert.GradMergeIdeal.τ).loc Cert.GradMergeIdeal.main_v11_1) = v1 c
          ∧ r.2.mem ((c.tc : Thread Cert.GradMergeIdeal.nD Cert.GradMergeIdeal.τ).loc Cert.GradMergeIdeal.main_v11_2) = v2 c
          ∧ r.2.mem ((c.tc : Thread Cert.GradMergeIdeal.nD Cert.GradMergeIdeal.τ).loc Cert.GradMergeIdeal.main_arg0) = m ((c.tc : Thread Cert.GradMergeIdeal.nD Cert.GradMergeIdeal.τ).loc Cert.GradMergeIdeal.main_arg0)
          ∧ r.2.mem ((c.tc : Thread Cert.GradMergeIdeal.nD Cert.GradMergeIdeal.τ).loc Cert.GradMergeIdeal.main_arg1) = m ((c.tc : Thread Cert.GradMergeIdeal.nD Cert.GradMergeIdeal.τ).loc Cert.GradMergeIdeal.main_arg1)
          ∧ r.2.mem ((c.tc : Thread Cert.GradMergeIdeal.nD Cert.GradMergeIdeal.τ).loc Cert.GradMergeIdeal.main_arg2) = m ((c.tc : Thread Cert.GradMergeIdeal.nD Cert.GradMergeIdeal.τ).loc Cert.GradMergeIdeal.main_arg2)
          ∧ r.2.mem ((c.tc : Thread Cert.GradMergeIdeal.nD Cert.GradMergeIdeal.τ).loc Cert.GradMergeIdeal.main_arg3) = m ((c.tc : Thread Cert.GradMergeIdeal.nD Cert.GradMergeIdeal.τ).loc Cert.GradMergeIdeal.main_arg3)
          ∧ r.2.mem ((c.tc : Thread Cert.GradMergeIdeal.nD Cert.GradMergeIdeal.τ).loc Cert.GradMergeIdeal.main_arg4) = m ((c.tc : Thread Cert.GradMergeIdeal.nD Cert.GradMergeIdeal.τ).loc Cert.GradMergeIdeal.main_arg4)
          ∧ r.2.mem ((c.tc : Thread Cert.GradMergeIdeal.nD Cert.GradMergeIdeal.τ).loc Cert.GradMergeIdeal.main_arg5) = m ((c.tc : Thread Cert.GradMergeIdeal.nD Cert.GradMergeIdeal.τ).loc Cert.GradMergeIdeal.main_arg5))
      ∧ θ_run (Cert.GradMergeRefIdeal.defs (F := Ideal)) (onTc (τ := Cert.GradMergeRefIdeal.τ) (Cert.GradMergeRefIdeal.main (F := Ideal))) ⟨m', fun _ => 0, g'⟩ (fun r => ∀ c : Dev Cert.GradMergeRefIdeal.nD,
          r.2.mem ((c.tc : Thread Cert.GradMergeRefIdeal.nD Cert.GradMergeRefIdeal.τ).loc Cert.GradMergeRefIdeal.main_v10) = v0 c
          ∧ r.2.mem ((c.tc : Thread Cert.GradMergeRefIdeal.nD Cert.GradMergeRefIdeal.τ).loc Cert.GradMergeRefIdeal.main_v11) = v1 c
          ∧ r.2.mem ((c.tc : Thread Cert.GradMergeRefIdeal.nD Cert.GradMergeRefIdeal.τ).loc Cert.GradMergeRefIdeal.main_v12) = v2 c
          ∧ r.2.mem ((c.tc : Thread Cert.GradMergeRefIdeal.nD Cert.GradMergeRefIdeal.τ).loc Cert.GradMergeRefIdeal.main_arg0) = m' ((c.tc : Thread Cert.GradMergeRefIdeal.nD Cert.GradMergeRefIdeal.τ).loc Cert.GradMergeRefIdeal.main_arg0)
          ∧ r.2.mem ((c.tc : Thread Cert.GradMergeRefIdeal.nD Cert.GradMergeRefIdeal.τ).loc Cert.GradMergeRefIdeal.main_arg1) = m' ((c.tc : Thread Cert.GradMergeRefIdeal.nD Cert.GradMergeRefIdeal.τ).loc Cert.GradMergeRefIdeal.main_arg1)
          ∧ r.2.mem ((c.tc : Thread Cert.GradMergeRefIdeal.nD Cert.GradMergeRefIdeal.τ).loc Cert.GradMergeRefIdeal.main_arg2) = m' ((c.tc : Thread Cert.GradMergeRefIdeal.nD Cert.GradMergeRefIdeal.τ).loc Cert.GradMergeRefIdeal.main_arg2)
          ∧ r.2.mem ((c.tc : Thread Cert.GradMergeRefIdeal.nD Cert.GradMergeRefIdeal.τ).loc Cert.GradMergeRefIdeal.main_arg3) = m' ((c.tc : Thread Cert.GradMergeRefIdeal.nD Cert.GradMergeRefIdeal.τ).loc Cert.GradMergeRefIdeal.main_arg3)
          ∧ r.2.mem ((c.tc : Thread Cert.GradMergeRefIdeal.nD Cert.GradMergeRefIdeal.τ).loc Cert.GradMergeRefIdeal.main_arg4) = m' ((c.tc : Thread Cert.GradMergeRefIdeal.nD Cert.GradMergeRefIdeal.τ).loc Cert.GradMergeRefIdeal.main_arg4)
          ∧ r.2.mem ((c.tc : Thread Cert.GradMergeRefIdeal.nD Cert.GradMergeRefIdeal.τ).loc Cert.GradMergeRefIdeal.main_arg5) = m' ((c.tc : Thread Cert.GradMergeRefIdeal.nD Cert.GradMergeRefIdeal.τ).loc Cert.GradMergeRefIdeal.main_arg5))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v8)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v8) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v4) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v6)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v6) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v6) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)
      ∧ m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7)) →
    ∃ (v0 : (c : Dev Cert.GatesIdeal.nD) → Buf (Elt Ideal) ((c.tc : Thread Cert.GatesIdeal.nD Cert.GatesIdeal.τ).loc Cert.GatesIdeal.main_v11_0)) (v1 : (c : Dev Cert.GatesIdeal.nD) → Buf (Elt Ideal) ((c.tc : Thread Cert.GatesIdeal.nD Cert.GatesIdeal.τ).loc Cert.GatesIdeal.main_v11_1)) (v2 : (c : Dev Cert.GatesIdeal.nD) → Buf (Elt Ideal) ((c.tc : Thread Cert.GatesIdeal.nD Cert.GatesIdeal.τ).loc Cert.GatesIdeal.main_v11_2)) (v3 : (c : Dev Cert.GatesIdeal.nD) → Buf (Elt Ideal) ((c.tc : Thread Cert.GatesIdeal.nD Cert.GatesIdeal.τ).loc Cert.GatesIdeal.main_v11_3)) (v4 : (c : Dev Cert.GatesIdeal.nD) → Buf (Elt Ideal) ((c.tc : Thread Cert.GatesIdeal.nD Cert.GatesIdeal.τ).loc Cert.GatesIdeal.main_v11_4)) (v5 : (c : Dev Cert.GatesIdeal.nD) → Buf (Elt Ideal) ((c.tc : Thread Cert.GatesIdeal.nD Cert.GatesIdeal.τ).loc Cert.GatesIdeal.main_v11_5)) (v6 : (c : Dev Cert.GatesIdeal.nD) → Buf (Elt Ideal) ((c.tc : Thread Cert.GatesIdeal.nD Cert.GatesIdeal.τ).loc Cert.GatesIdeal.main_v11_6)) (v7 : (c : Dev Cert.GatesIdeal.nD) → Buf (Elt Ideal) ((c.tc : Thread Cert.GatesIdeal.nD Cert.GatesIdeal.τ).loc Cert.GatesIdeal.main_v11_7)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v11_0) = v0 c
          ∧ r.2.mem ((c.tc : Thread Cert.GatesIdeal.nD Cert.GatesIdeal.τ).loc Cert.GatesIdeal.main_v11_1) = v1 c
          ∧ r.2.mem ((c.tc : Thread Cert.GatesIdeal.nD Cert.GatesIdeal.τ).loc Cert.GatesIdeal.main_v11_2) = v2 c
          ∧ r.2.mem ((c.tc : Thread Cert.GatesIdeal.nD Cert.GatesIdeal.τ).loc Cert.GatesIdeal.main_v11_3) = v3 c
          ∧ r.2.mem ((c.tc : Thread Cert.GatesIdeal.nD Cert.GatesIdeal.τ).loc Cert.GatesIdeal.main_v11_4) = v4 c
          ∧ r.2.mem ((c.tc : Thread Cert.GatesIdeal.nD Cert.GatesIdeal.τ).loc Cert.GatesIdeal.main_v11_5) = v5 c
          ∧ r.2.mem ((c.tc : Thread Cert.GatesIdeal.nD Cert.GatesIdeal.τ).loc Cert.GatesIdeal.main_v11_6) = v6 c
          ∧ r.2.mem ((c.tc : Thread Cert.GatesIdeal.nD Cert.GatesIdeal.τ).loc Cert.GatesIdeal.main_v11_7) = v7 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v24) = v0 c
          ∧ r.2.mem ((c.tc : Thread Cert.GatesRefIdeal.nD Cert.GatesRefIdeal.τ).loc Cert.GatesRefIdeal.main_v25) = v1 c
          ∧ r.2.mem ((c.tc : Thread Cert.GatesRefIdeal.nD Cert.GatesRefIdeal.τ).loc Cert.GatesRefIdeal.main_v26) = v2 c
          ∧ r.2.mem ((c.tc : Thread Cert.GatesRefIdeal.nD Cert.GatesRefIdeal.τ).loc Cert.GatesRefIdeal.main_v27) = v3 c
          ∧ r.2.mem ((c.tc : Thread Cert.GatesRefIdeal.nD Cert.GatesRefIdeal.τ).loc Cert.GatesRefIdeal.main_v52) = v4 c
          ∧ r.2.mem ((c.tc : Thread Cert.GatesRefIdeal.nD Cert.GatesRefIdeal.τ).loc Cert.GatesRefIdeal.main_v53) = v5 c
          ∧ r.2.mem ((c.tc : Thread Cert.GatesRefIdeal.nD Cert.GatesRefIdeal.τ).loc Cert.GatesRefIdeal.main_v54) = v6 c
          ∧ r.2.mem ((c.tc : Thread Cert.GatesRefIdeal.nD Cert.GatesRefIdeal.τ).loc Cert.GatesRefIdeal.main_v55) = v7 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7))

def Claim : Prop :=
  ∃ (hInProj : Cert.InProj.Facts) (hInProjIdeal : Cert.InProjIdeal.Facts) (hInProjRefIdeal : Cert.InProjRefIdeal.Facts) (hUpBwd : Cert.UpBwd.Facts) (hUpBwdIdeal : Cert.UpBwdIdeal.Facts) (hUpBwdRefIdeal : Cert.UpBwdRefIdeal.Facts) (hHead : Cert.Head.Facts) (hHeadIdeal : Cert.HeadIdeal.Facts) (hHeadRefIdeal : Cert.HeadRefIdeal.Facts) (hMix : Cert.Mix.Facts) (hMixIdeal : Cert.MixIdeal.Facts) (hNorm : Cert.Norm.Facts) (hNormIdeal : Cert.NormIdeal.Facts) (hNormRefIdeal : Cert.NormRefIdeal.Facts) (hMerge : Cert.Merge.Facts) (hMergeIdeal : Cert.MergeIdeal.Facts) (hMergeRefIdeal : Cert.MergeRefIdeal.Facts) (hUpAct : Cert.UpAct.Facts) (hUpActIdeal : Cert.UpActIdeal.Facts) (hUpActRefIdeal : Cert.UpActRefIdeal.Facts) (hDown : Cert.Down.Facts) (hDownIdeal : Cert.DownIdeal.Facts) (hDownRefIdeal : Cert.DownRefIdeal.Facts) (hAdam : Cert.Adam.Facts) (hAdamIdeal : Cert.AdamIdeal.Facts) (hAdamRefIdeal : Cert.AdamRefIdeal.Facts) (hGradMerge : Cert.GradMerge.Facts) (hGradMergeIdeal : Cert.GradMergeIdeal.Facts) (hGradMergeRefIdeal : Cert.GradMergeRefIdeal.Facts) (hGradIn : Cert.GradIn.Facts) (hGradInIdeal : Cert.GradInIdeal.Facts) (hGradInRefIdeal : Cert.GradInRefIdeal.Facts) (hGradUp : Cert.GradUp.Facts) (hGradUpIdeal : Cert.GradUpIdeal.Facts) (hGradUpRefIdeal : Cert.GradUpRefIdeal.Facts) (hGates : Cert.Gates.Facts) (hGatesIdeal : Cert.GatesIdeal.Facts) (hGatesRefIdeal : Cert.GatesRefIdeal.Facts) (hPre_finite : Cert.Pre_finite.Facts),
    quiescent_InProj (hInProj := hInProj)
    ∧ quiescent_InProjIdeal (hInProjIdeal := hInProjIdeal)
    ∧ quiescent_InProjRefIdeal (hInProjRefIdeal := hInProjRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_Head (hHead := hHead)
    ∧ quiescent_HeadIdeal (hHeadIdeal := hHeadIdeal)
    ∧ quiescent_HeadIdeal_pre_finite (hHeadIdeal := hHeadIdeal) (hPre_finite := hPre_finite)
    ∧ quiescent_HeadRefIdeal (hHeadRefIdeal := hHeadRefIdeal)
    ∧ quiescent_HeadRefIdeal_pre_finite (hHeadRefIdeal := hHeadRefIdeal) (hPre_finite := hPre_finite)
    ∧ quiescent_Mix (hMix := hMix)
    ∧ quiescent_MixIdeal (hMixIdeal := hMixIdeal)
    ∧ quiescent_Norm (hNorm := hNorm)
    ∧ quiescent_NormIdeal (hNormIdeal := hNormIdeal)
    ∧ quiescent_NormRefIdeal (hNormRefIdeal := hNormRefIdeal)
    ∧ quiescent_Merge (hMerge := hMerge)
    ∧ quiescent_MergeIdeal (hMergeIdeal := hMergeIdeal)
    ∧ quiescent_MergeRefIdeal (hMergeRefIdeal := hMergeRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_Down (hDown := hDown)
    ∧ quiescent_DownIdeal (hDownIdeal := hDownIdeal)
    ∧ quiescent_DownRefIdeal (hDownRefIdeal := hDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_GradMerge (hGradMerge := hGradMerge)
    ∧ quiescent_GradMergeIdeal (hGradMergeIdeal := hGradMergeIdeal)
    ∧ quiescent_GradMergeRefIdeal (hGradMergeRefIdeal := hGradMergeRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_Gates (hGates := hGates)
    ∧ quiescent_GatesIdeal (hGatesIdeal := hGatesIdeal)
    ∧ quiescent_GatesRefIdeal (hGatesRefIdeal := hGatesRefIdeal)
    ∧ preserves_InProj_InProjIdeal
    ∧ algebraic_InProjIdeal_InProjRefIdeal (hInProjIdeal := hInProjIdeal) (hInProjRefIdeal := hInProjRefIdeal)
    ∧ preserves_UpBwd_UpBwdIdeal
    ∧ algebraic_UpBwdIdeal_UpBwdRefIdeal (hUpBwdIdeal := hUpBwdIdeal) (hUpBwdRefIdeal := hUpBwdRefIdeal)
    ∧ preserves_Head_HeadIdeal
    ∧ algebraic_HeadIdeal_HeadRefIdeal_pre_finite (hHeadIdeal := hHeadIdeal) (hHeadRefIdeal := hHeadRefIdeal) (hPre_finite := hPre_finite)
    ∧ preserves_Mix_MixIdeal
    ∧ preserves_Norm_NormIdeal
    ∧ algebraic_NormIdeal_NormRefIdeal (hNormIdeal := hNormIdeal) (hNormRefIdeal := hNormRefIdeal)
    ∧ preserves_Merge_MergeIdeal
    ∧ algebraic_MergeIdeal_MergeRefIdeal (hMergeIdeal := hMergeIdeal) (hMergeRefIdeal := hMergeRefIdeal)
    ∧ preserves_UpAct_UpActIdeal
    ∧ algebraic_UpActIdeal_UpActRefIdeal (hUpActIdeal := hUpActIdeal) (hUpActRefIdeal := hUpActRefIdeal)
    ∧ preserves_Down_DownIdeal
    ∧ algebraic_DownIdeal_DownRefIdeal (hDownIdeal := hDownIdeal) (hDownRefIdeal := hDownRefIdeal)
    ∧ preserves_Adam_AdamIdeal
    ∧ algebraic_AdamIdeal_AdamRefIdeal (hAdamIdeal := hAdamIdeal) (hAdamRefIdeal := hAdamRefIdeal)
    ∧ preserves_GradMerge_GradMergeIdeal
    ∧ algebraic_GradMergeIdeal_GradMergeRefIdeal (hGradMergeIdeal := hGradMergeIdeal) (hGradMergeRefIdeal := hGradMergeRefIdeal)
    ∧ preserves_GradIn_GradInIdeal
    ∧ algebraic_GradInIdeal_GradInRefIdeal (hGradInIdeal := hGradInIdeal) (hGradInRefIdeal := hGradInRefIdeal)
    ∧ preserves_GradUp_GradUpIdeal
    ∧ algebraic_GradUpIdeal_GradUpRefIdeal (hGradUpIdeal := hGradUpIdeal) (hGradUpRefIdeal := hGradUpRefIdeal)
    ∧ preserves_Gates_GatesIdeal
    ∧ algebraic_GatesIdeal_GatesRefIdeal (hGatesIdeal := hGatesIdeal) (hGatesRefIdeal := hGatesRefIdeal)
-- ==== Pre_finite.lean ====
abbrev S1x4096x1024 : Shape := ⟨3, ![1, 4096, 1024]⟩
abbrev S1x4096x6144 : Shape := ⟨3, ![1, 4096, 6144]⟩
abbrev S1x3x6144 : Shape := ⟨3, ![1, 3, 6144]⟩
abbrev S1x6144 : Shape := ⟨2, ![1, 6144]⟩
abbrev S1x1x4096x256 : Shape := ⟨4, ![1, 1, 4096, 256]⟩
abbrev S1x3072x1024 : Shape := ⟨3, ![1, 3072, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x4096x6144 : S_.BroadcastsInDim S1x4096x6144 (![] : Fin 0 → Fin S1x4096x6144.rank)
  bcast_S_S1x3x6144 : S_.BroadcastsInDim S1x3x6144 (![] : Fin 0 → Fin S1x3x6144.rank)
  bcast_S_S1x6144 : S_.BroadcastsInDim S1x6144 (![] : Fin 0 → Fin S1x6144.rank)
  bcast_S_S1x1x4096x256 : S_.BroadcastsInDim S1x1x4096x256 (![] : Fin 0 → Fin S1x1x4096x256.rank)
  bcast_S_S1x3072x1024 : S_.BroadcastsInDim S1x3072x1024 (![] : Fin 0 → Fin S1x3072x1024.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part3 {F : FTy → Type} [FloatOps F] (main_arg10 : FVec F S1024 .f32) (main_v4 : IVec S1x4096x1024 1) (main_v9 : IVec S1x4096x6144 1) (main_v14 : IVec S1x3x6144 1) (main_v19 : IVec S1x6144 1) (main_v24 : IVec S1x1x4096x256 1) (main_v29 : IVec S1x4096x1024 1) (main_v34 : IVec S1x3072x1024 1) (main_v39 : IVec S1x1024x1024 1) (main_v44 : IVec S1x256x1024 1) (main_v49 : IVec S1x1024 1) (main_v50 : FVec F S1024 .f32) : IVec S1x4096x1024 1 × IVec S1x4096x6144 1 × IVec S1x3x6144 1 × IVec S1x6144 1 × IVec S1x1x4096x256 1 × IVec S1x4096x1024 1 × IVec S1x3072x1024 1 × IVec S1x1024x1024 1 × IVec S1x256x1024 1 × IVec S1x1024 1 × IVec S1024 1 :=
  let main_v51 : IVec S1024 1 := cmpf .ogt main_arg10 main_v50
  let main_cst_20 : FVec F S_ .f32 := constant S_ .f32 0x7F800000#32
  let main_v52 : FVec F S1024 .f32 := broadcastInDim S1024 ![] bcast_S_S1024 main_cst_20
  let main_v53 : IVec S1024 1 := cmpf .olt main_arg10 main_v52
  let main_v54 : IVec S1024 1 := andi main_v51 main_v53
  (main_v4, main_v9, main_v14, main_v19, main_v24, main_v29, main_v34, main_v39, main_v44, main_v49, main_v54)

def fn_part2 {F : FTy → Type} [FloatOps F] (main_arg7 : FVec F S1x1024x1024 .f32) (main_arg8 : FVec F S1x256x1024 .f32) (main_arg9 : FVec F S1x1024 .f32) (main_arg10 : FVec F S1024 .f32) (main_v4 : IVec S1x4096x1024 1) (main_v9 : IVec S1x4096x6144 1) (main_v14 : IVec S1x3x6144 1) (main_v19 : IVec S1x6144 1) (main_v24 : IVec S1x1x4096x256 1) (main_v29 : IVec S1x4096x1024 1) (main_v31 : IVec S1x3072x1024 1) (main_v33 : IVec S1x3072x1024 1) : IVec S1x4096x1024 1 × IVec S1x4096x6144 1 × IVec S1x3x6144 1 × IVec S1x6144 1 × IVec S1x1x4096x256 1 × IVec S1x4096x1024 1 × IVec S1x3072x1024 1 × IVec S1x1024x1024 1 × IVec S1x256x1024 1 × IVec S1x1024 1 × IVec S1024 1 :=
  let main_v34 : IVec S1x3072x1024 1 := andi main_v31 main_v33
  let main_cst_13 : FVec F S_ .f32 := constant S_ .f32 0xFF800000#32
  let main_v35 : FVec F S1x1024x1024 .f32 := broadcastInDim S1x1024x1024 ![] bcast_S_S1x1024x1024 main_cst_13
  let main_v36 : IVec S1x1024x1024 1 := cmpf .ogt main_arg7 main_v35
  let main_cst_14 : FVec F S_ .f32 := constant S_ .f32 0x7F800000#32
  let main_v37 : FVec F S1x1024x1024 .f32 := broadcastInDim S1x1024x1024 ![] bcast_S_S1x1024x1024 main_cst_14
  let main_v38 : IVec S1x1024x1024 1 := cmpf .olt main_arg7 main_v37
  let main_v39 : IVec S1x1024x1024 1 := andi main_v36 main_v38
  let main_cst_15 : FVec F S_ .f32 := constant S_ .f32 0xFF800000#32
  let main_v40 : FVec F S1x256x1024 .f32 := broadcastInDim S1x256x1024 ![] bcast_S_S1x256x1024 main_cst_15
  let main_v41 : IVec S1x256x1024 1 := cmpf .ogt main_arg8 main_v40
  let main_cst_16 : FVec F S_ .f32 := constant S_ .f32 0x7F800000#32
  let main_v42 : FVec F S1x256x1024 .f32 := broadcastInDim S1x256x1024 ![] bcast_S_S1x256x1024 main_cst_16
  let main_v43 : IVec S1x256x1024 1 := cmpf .olt main_arg8 main_v42
  let main_v44 : IVec S1x256x1024 1 := andi main_v41 main_v43
  let main_cst_17 : FVec F S_ .f32 := constant S_ .f32 0xFF800000#32
  let main_v45 : FVec F S1x1024 .f32 := broadcastInDim S1x1024 ![] bcast_S_S1x1024 main_cst_17
  let main_v46 : IVec S1x1024 1 := cmpf .ogt main_arg9 main_v45
  let main_cst_18 : FVec F S_ .f32 := constant S_ .f32 0x7F800000#32
  let main_v47 : FVec F S1x1024 .f32 := broadcastInDim S1x1024 ![] bcast_S_S1x1024 main_cst_18
  let main_v48 : IVec S1x1024 1 := cmpf .olt main_arg9 main_v47
  let main_v49 : IVec S1x1024 1 := andi main_v46 main_v48
  let main_cst_19 : FVec F S_ .f32 := constant S_ .f32 0xFF800000#32
  let main_v50 : FVec F S1024 .f32 := broadcastInDim S1024 ![] bcast_S_S1024 main_cst_19
  fn_part3 (F := F) main_arg10 main_v4 main_v9 main_v14 main_v19 main_v24 main_v29 main_v34 main_v39 main_v44 main_v49 main_v50

def fn_part1 {F : FTy → Type} [FloatOps F] (main_arg3 : FVec F S1x6144 .f32) (main_arg4 : FVec F S1x1x4096x256 .f32) (main_arg5 : FVec F S1x4096x1024 .f32) (main_arg6 : FVec F S1x3072x1024 .f32) (main_arg7 : FVec F S1x1024x1024 .f32) (main_arg8 : FVec F S1x256x1024 .f32) (main_arg9 : FVec F S1x1024 .f32) (main_arg10 : FVec F S1024 .f32) (main_v4 : IVec S1x4096x1024 1) (main_v9 : IVec S1x4096x6144 1) (main_v14 : IVec S1x3x6144 1) (main_v16 : IVec S1x6144 1) : IVec S1x4096x1024 1 × IVec S1x4096x6144 1 × IVec S1x3x6144 1 × IVec S1x6144 1 × IVec S1x1x4096x256 1 × IVec S1x4096x1024 1 × IVec S1x3072x1024 1 × IVec S1x1024x1024 1 × IVec S1x256x1024 1 × IVec S1x1024 1 × IVec S1024 1 :=
  let main_cst_6 : FVec F S_ .f32 := constant S_ .f32 0x7F800000#32
  let main_v17 : FVec F S1x6144 .f32 := broadcastInDim S1x6144 ![] bcast_S_S1x6144 main_cst_6
  let main_v18 : IVec S1x6144 1 := cmpf .olt main_arg3 main_v17
  let main_v19 : IVec S1x6144 1 := andi main_v16 main_v18
  let main_cst_7 : FVec F S_ .f32 := constant S_ .f32 0xFF800000#32
  let main_v20 : FVec F S1x1x4096x256 .f32 := broadcastInDim S1x1x4096x256 ![] bcast_S_S1x1x4096x256 main_cst_7
  let main_v21 : IVec S1x1x4096x256 1 := cmpf .ogt main_arg4 main_v20
  let main_cst_8 : FVec F S_ .f32 := constant S_ .f32 0x7F800000#32
  let main_v22 : FVec F S1x1x4096x256 .f32 := broadcastInDim S1x1x4096x256 ![] bcast_S_S1x1x4096x256 main_cst_8
  let main_v23 : IVec S1x1x4096x256 1 := cmpf .olt main_arg4 main_v22
  let main_v24 : IVec S1x1x4096x256 1 := andi main_v21 main_v23
  let main_cst_9 : FVec F S_ .f32 := constant S_ .f32 0xFF800000#32
  let main_v25 : FVec F S1x4096x1024 .f32 := broadcastInDim S1x4096x1024 ![] bcast_S_S1x4096x1024 main_cst_9
  let main_v26 : IVec S1x4096x1024 1 := cmpf .ogt main_arg5 main_v25
  let main_cst_10 : FVec F S_ .f32 := constant S_ .f32 0x7F800000#32
  let main_v27 : FVec F S1x4096x1024 .f32 := broadcastInDim S1x4096x1024 ![] bcast_S_S1x4096x1024 main_cst_10
  let main_v28 : IVec S1x4096x1024 1 := cmpf .olt main_arg5 main_v27
  let main_v29 : IVec S1x4096x1024 1 := andi main_v26 main_v28
  let main_cst_11 : FVec F S_ .f32 := constant S_ .f32 0xFF800000#32
  let main_v30 : FVec F S1x3072x1024 .f32 := broadcastInDim S1x3072x1024 ![] bcast_S_S1x3072x1024 main_cst_11
  let main_v31 : IVec S1x3072x1024 1 := cmpf .ogt main_arg6 main_v30
  let main_cst_12 : FVec F S_ .f32 := constant S_ .f32 0x7F800000#32
  let main_v32 : FVec F S1x3072x1024 .f32 := broadcastInDim S1x3072x1024 ![] bcast_S_S1x3072x1024 main_cst_12
  let main_v33 : IVec S1x3072x1024 1 := cmpf .olt main_arg6 main_v32
  fn_part2 (F := F) main_arg7 main_arg8 main_arg9 main_arg10 main_v4 main_v9 main_v14 main_v19 main_v24 main_v29 main_v31 main_v33

def fn {F : FTy → Type} [FloatOps F] (main_arg0 : FVec F S1x4096x1024 .f32) (main_arg1 : FVec F S1x4096x6144 .f32) (main_arg2 : FVec F S1x3x6144 .f32) (main_arg3 : FVec F S1x6144 .f32) (main_arg4 : FVec F S1x1x4096x256 .f32) (main_arg5 : FVec F S1x4096x1024 .f32) (main_arg6 : FVec F S1x3072x1024 .f32) (main_arg7 : FVec F S1x1024x1024 .f32) (main_arg8 : FVec F S1x256x1024 .f32) (main_arg9 : FVec F S1x1024 .f32) (main_arg10 : FVec F S1024 .f32) : IVec S1x4096x1024 1 × IVec S1x4096x6144 1 × IVec S1x3x6144 1 × IVec S1x6144 1 × IVec S1x1x4096x256 1 × IVec S1x4096x1024 1 × IVec S1x3072x1024 1 × IVec S1x1024x1024 1 × IVec S1x256x1024 1 × IVec S1x1024 1 × IVec S1024 1 :=
  let main_cst : FVec F S_ .f32 := constant S_ .f32 0xFF800000#32
  let main_v0 : FVec F S1x4096x1024 .f32 := broadcastInDim S1x4096x1024 ![] bcast_S_S1x4096x1024 main_cst
  let main_v1 : IVec S1x4096x1024 1 := cmpf .ogt main_arg0 main_v0
  let main_cst_0 : FVec F S_ .f32 := constant S_ .f32 0x7F800000#32
  let main_v2 : FVec F S1x4096x1024 .f32 := broadcastInDim S1x4096x1024 ![] bcast_S_S1x4096x1024 main_cst_0
  let main_v3 : IVec S1x4096x1024 1 := cmpf .olt main_arg0 main_v2
  let main_v4 : IVec S1x4096x1024 1 := andi main_v1 main_v3
  let main_cst_1 : FVec F S_ .f32 := constant S_ .f32 0xFF800000#32
  let main_v5 : FVec F S1x4096x6144 .f32 := broadcastInDim S1x4096x6144 ![] bcast_S_S1x4096x6144 main_cst_1
  let main_v6 : IVec S1x4096x6144 1 := cmpf .ogt main_arg1 main_v5
  let main_cst_2 : FVec F S_ .f32 := constant S_ .f32 0x7F800000#32
  let main_v7 : FVec F S1x4096x6144 .f32 := broadcastInDim S1x4096x6144 ![] bcast_S_S1x4096x6144 main_cst_2
  let main_v8 : IVec S1x4096x6144 1 := cmpf .olt main_arg1 main_v7
  let main_v9 : IVec S1x4096x6144 1 := andi main_v6 main_v8
  let main_cst_3 : FVec F S_ .f32 := constant S_ .f32 0xFF800000#32
  let main_v10 : FVec F S1x3x6144 .f32 := broadcastInDim S1x3x6144 ![] bcast_S_S1x3x6144 main_cst_3
  let main_v11 : IVec S1x3x6144 1 := cmpf .ogt main_arg2 main_v10
  let main_cst_4 : FVec F S_ .f32 := constant S_ .f32 0x7F800000#32
  let main_v12 : FVec F S1x3x6144 .f32 := broadcastInDim S1x3x6144 ![] bcast_S_S1x3x6144 main_cst_4
  let main_v13 : IVec S1x3x6144 1 := cmpf .olt main_arg2 main_v12
  let main_v14 : IVec S1x3x6144 1 := andi main_v11 main_v13
  let main_cst_5 : FVec F S_ .f32 := constant S_ .f32 0xFF800000#32
  let main_v15 : FVec F S1x6144 .f32 := broadcastInDim S1x6144 ![] bcast_S_S1x6144 main_cst_5
  let main_v16 : IVec S1x6144 1 := cmpf .ogt main_arg3 main_v15
  fn_part1 (F := F) main_arg3 main_arg4 main_arg5 main_arg6 main_arg7 main_arg8 main_arg9 main_arg10 main_v4 main_v9 main_v14 main_v16
-- ==== InProj.lean ====
abbrev S1x4096x1024 : Shape := ⟨3, ![1, 4096, 1024]⟩
abbrev S1x1024 : Shape := ⟨2, ![1, 1024]⟩
abbrev S1x1024x7168 : Shape := ⟨3, ![1, 1024, 7168]⟩
abbrev S4096x1024 : Shape := ⟨2, ![4096, 1024]⟩
abbrev S5x4096x1024 : Shape := ⟨3, ![5, 4096, 1024]⟩
abbrev S2x4096x1024 : Shape := ⟨3, ![2, 4096, 1024]⟩
abbrev S1024x7168 : Shape := ⟨2, ![1024, 7168]⟩
abbrev S8x1024 : Shape := ⟨2, ![8, 1024]⟩
abbrev S5x256x1024 : Shape := ⟨3, ![5, 256, 1024]⟩
abbrev S2x256x1024 : Shape := ⟨3, ![2, 256, 1024]⟩
abbrev S256x1024 : Shape := ⟨2, ![256, 1024]⟩
abbrev S1x256x1024 : Shape := ⟨3, ![1, 256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S4096x1024, .f32⟩
  | .hbm, ⟨4, _⟩ => ⟨S5x4096x1024, .bf16⟩
  | .hbm, ⟨5, _⟩ => ⟨S2x4096x1024, .bf16⟩
  | .hbm, ⟨6, _⟩ => ⟨S1024x7168, .f32⟩
  | .hbm, ⟨7, _⟩ => ⟨S1024x7168, .bf16⟩
  | .hbm, ⟨8, _⟩ => ⟨S4096x1024, .f32⟩
  | .hbm, ⟨9, _⟩ => ⟨S4096x1024, .f32⟩
  | .hbm, ⟨10, _⟩ => ⟨S8x1024, .f32⟩
  | .local _ .vmem, ⟨0, _⟩ => ⟨S5x256x1024, .bf16⟩
  | .local _ .vmem, ⟨1, _⟩ => ⟨S5x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S1024x7168, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S1x4096x1024 : Shape := ⟨3, ![1, 4096, 1024]⟩
abbrev S1x1024 : Shape := ⟨2, ![1, 1024]⟩
abbrev S1x1024x7168 : Shape := ⟨3, ![1, 1024, 7168]⟩
abbrev S4096x1024 : Shape := ⟨2, ![4096, 1024]⟩
abbrev S5x4096x1024 : Shape := ⟨3, ![5, 4096, 1024]⟩
abbrev S2x4096x1024 : Shape := ⟨3, ![2, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x7168 : Shape := ⟨2, ![1024, 7168]⟩
abbrev S1x4096x7168 : Shape := ⟨3, ![1, 4096, 7168]⟩
abbrev S7168x1024 : Shape := ⟨2, ![7168, 1024]⟩
abbrev S4096 : Shape := ⟨1, ![4096]⟩
abbrev S8x1024 : Shape := ⟨2, ![8, 1024]⟩

abbrev nBuf : Space → Nat
  | .hbm => 88
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S4096x1024, .f32⟩
  | .hbm, ⟨4, _⟩ => ⟨S5x4096x1024, .bf16⟩
  | .hbm, ⟨5, _⟩ => ⟨S2x4096x1024, .bf16⟩
  | .hbm, ⟨6, _⟩ => ⟨S1x4096x1024, .bf16⟩
  | .hbm, ⟨7, _⟩ => ⟨S1x4096x1024, .f32⟩
  | .hbm, ⟨8, _⟩ => ⟨S1x4096x1024, .bf16⟩
  | .hbm, ⟨9, _⟩ => ⟨S1x4096x1024, .f32⟩
  | .hbm, ⟨10, _⟩ => ⟨S1x4096x1024, .bf16⟩
  | .hbm, ⟨11, _⟩ => ⟨S1x4096x1024, .f32⟩
  | .hbm, ⟨12, _⟩ => ⟨S1x4096x1024, .bf16⟩
  | .hbm, ⟨13, _⟩ => ⟨S1x4096x1024, .f32⟩
  | .hbm, ⟨14, _⟩ => ⟨S1x4096x1024, .bf16⟩
  | .hbm, ⟨15, _⟩ => ⟨S1x4096x1024, .f32⟩
  | .hbm, ⟨16, _⟩ => ⟨S1x4096x1024, .bf16⟩
  | .hbm, ⟨17, _⟩ => ⟨S1x4096x1024, .f32⟩
  | .hbm, ⟨18, _⟩ => ⟨S1x4096x1024, .bf16⟩
  | .hbm, ⟨19, _⟩ => ⟨S1x4096x1024, .f32⟩
  | .hbm, ⟨20, _⟩ => ⟨S1024, .f32⟩
  | .hbm, ⟨21, _⟩ => ⟨S1x4096x1024, .f32⟩
  | .hbm, ⟨22, _⟩ => ⟨S_, .f32⟩
  | .hbm, ⟨23, _⟩ => ⟨S1x4096, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x1024, .f32⟩
  | .hbm, ⟨37, _⟩ => ⟨S1x4096x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S1024x7168, .f32⟩
  | .hbm, ⟨42, _⟩ => ⟨S1x4096x7168, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x7168, .f32⟩
  | .hbm, ⟨52, _⟩ => ⟨S7168x1024, .f32⟩
  | .hbm, ⟨53, _⟩ => ⟨S1024x7168, .f32⟩
  | .hbm, ⟨54, _⟩ => ⟨S1x4096x1024, .f32⟩
  | .hbm, ⟨55, _⟩ => ⟨S1x1024x7168, .f32⟩
  | .hbm, ⟨56, _⟩ => ⟨S1x4096x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x4096x1024, .f32⟩
  | .hbm, ⟨61, _⟩ => ⟨S1x4096x1024, .f32⟩
  | .hbm, ⟨62, _⟩ => ⟨S_, .f32⟩
  | .hbm, ⟨63, _⟩ => ⟨S1024, .f32⟩
  | .hbm, ⟨64, _⟩ => ⟨S1x4096x1024, .f32⟩
  | .hbm, ⟨65, _⟩ => ⟨S_, .f32⟩
  | .hbm, ⟨66, _⟩ => ⟨S1x4096, .f32⟩
  | .hbm, ⟨67, _⟩ => ⟨S1x4096x1, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1, .f32⟩
  | .hbm, ⟨72, _⟩ => ⟨S_, .f32⟩
  | .hbm, ⟨73, _⟩ => ⟨S1x4096x1, .f32⟩
  | .hbm, ⟨74, _⟩ => ⟨S1x4096x1, .f32⟩
  | .hbm, ⟨75, _⟩ => ⟨S_, .f32⟩
  | .hbm, ⟨76, _⟩ => ⟨S4096, .f32⟩
  | .hbm, ⟨77, _⟩ => ⟨S1x4096, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x1024, .f32⟩
  | .hbm, ⟨84, _⟩ => ⟨S4096x1024, .f32⟩
  | .hbm, ⟨85, _⟩ => ⟨S_, .i32⟩
  | .hbm, ⟨86, _⟩ => ⟨S_, .f32⟩
  | .hbm, ⟨87, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c : Ref sig .tc := ⟨.hbm, 85, rfl⟩
abbrev main_call0_v0 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== UpBwd.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S4096x1024 : Shape := ⟨2, ![4096, 1024]⟩
abbrev S2x4096x3072 : Shape := ⟨3, ![2, 4096, 3072]⟩
abbrev S1024x1024 : Shape := ⟨2, ![1024, 1024]⟩
abbrev S_ : Shape := ⟨0, ![]⟩
abbrev S4096x5120 : Shape := ⟨2, ![4096, 5120]⟩
abbrev S4096x2048 : Shape := ⟨2, ![4096, 2048]⟩
abbrev S4096x7168 : Shape := ⟨2, ![4096, 7168]⟩
abbrev S1024x6144 : Shape := ⟨2, ![1024, 6144]⟩
abbrev S1024x8x768 : Shape := ⟨3, ![1024, 8, 768]⟩
abbrev S8x1024x768 : Shape := ⟨3, ![8, 1024, 768]⟩
abbrev S3x6144 : Shape := ⟨2, ![3, 6144]⟩
abbrev S3x2x3072 : Shape := ⟨3, ![3, 2, 3072]⟩
abbrev S2x3x3072 : Shape := ⟨3, ![2, 3, 3072]⟩
abbrev S2x4096x1024 : Shape := ⟨3, ![2, 4096, 1024]⟩
abbrev S8x1024 : Shape := ⟨2, ![8, 1024]⟩
abbrev S2x256x3072 : Shape := ⟨3, ![2, 256, 3072]⟩
abbrev S2x16x3072 : Shape := ⟨3, ![2, 16, 3072]⟩
abbrev S256x1024 : Shape := ⟨2, ![256, 1024]⟩
abbrev S2x256x1024 : Shape := ⟨3, ![2, 256, 1024]⟩
abbrev S1x16x768 : Shape := ⟨3, ![1, 16, 768]⟩
abbrev S16x768 : Shape := ⟨2, ![16, 768]⟩
abbrev S1x256x768 : Shape := ⟨3, ![1, 256, 768]⟩
abbrev S256x768 : Shape := ⟨2, ![256, 768]⟩
abbrev S272x768 : Shape := ⟨2, ![272, 768]⟩
abbrev S1x3x3072 : Shape := ⟨3, ![1, 3, 3072]⟩
abbrev S3x3072 : Shape := ⟨2, ![3, 3072]⟩
abbrev S1x768 : Shape := ⟨2, ![1, 768]⟩
abbrev S1x1024x768 : Shape := ⟨3, ![1, 1024, 768]⟩
abbrev S1024x768 : Shape := ⟨2, ![1024, 768]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩

abbrev nBuf : Space → Nat
  | .hbm => 76
  | .vmem => 37
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x6144, .f32⟩
  | .hbm, ⟨10, _⟩ => ⟨S1x3x6144, .f32⟩
  | .hbm, ⟨11, _⟩ => ⟨S1x6144, .f32⟩
  | .hbm, ⟨12, _⟩ => ⟨S4096x1024, .f32⟩
  | .hbm, ⟨13, _⟩ => ⟨S2x4096x3072, .bf16⟩
  | .hbm, ⟨14, _⟩ => ⟨S4096x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S_, .bf16⟩
  | .hbm, ⟨46, _⟩ => ⟨S4096x5120, .bf16⟩
  | .hbm, ⟨47, _⟩ => ⟨S4096x1024, .f32⟩
  | .hbm, ⟨48, _⟩ => ⟨S4096x1024, .bf16⟩
  | .hbm, ⟨49, _⟩ => ⟨S4096x1024, .f32⟩
  | .hbm, ⟨50, _⟩ => ⟨S4096x1024, .bf16⟩
  | .hbm, ⟨51, _⟩ => ⟨S4096x2048, .bf16⟩
  | .hbm, ⟨52, _⟩ => ⟨S4096x7168, .bf16⟩
  | .hbm, ⟨53, _⟩ => ⟨S1024x6144, .f32⟩
  | .hbm, ⟨54, _⟩ => ⟨S1024x6144, .bf16⟩
  | .hbm, ⟨55, _⟩ => ⟨S1024x8x768, .bf16⟩
  | .hbm, ⟨56, _⟩ => ⟨S8x1024x768, .bf16⟩
  | .hbm, ⟨57, _⟩ => ⟨S3x6144, .f32⟩
  | .hbm, ⟨58, _⟩ => ⟨S3x2x3072, .f32⟩
  | .hbm, ⟨59, _⟩ => ⟨S2x3x3072, .f32⟩
  | .hbm, ⟨60, _⟩ => ⟨S4096x1024, .bf16⟩
  | .hbm, ⟨61, _⟩ => ⟨S4096x1024, .bf16⟩
  | .hbm, ⟨62, _⟩ => ⟨S1024x1024, .f32⟩
  | .hbm, ⟨63, _⟩ => ⟨S1024x1024, .bf16⟩
  | .hbm, ⟨64, _⟩ => ⟨S1024x1024, .f32⟩
  | .hbm, ⟨65, _⟩ => ⟨S1024x1024, .bf16⟩
  | .hbm, ⟨66, _⟩ => ⟨S1024x1024, .f32⟩
  | .hbm, ⟨67, _⟩ => ⟨S1024x1024, .bf16⟩
  | .hbm, ⟨68, _⟩ => ⟨S4096x1024, .f32⟩
  | .hbm, ⟨69, _⟩ => ⟨S2x4096x1024, .bf16⟩
  | .hbm, ⟨70, _⟩ => ⟨S4096x1024, .bf16⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S2x4096x3072, .bf16⟩
  | .hbm, ⟨75, _⟩ => ⟨S8x1024, .f32⟩
  | .local _ .vmem, ⟨0, _⟩ => ⟨S2x256x3072, .bf16⟩
  | .local _ .vmem, ⟨1, _⟩ => ⟨S2x256x3072, .bf16⟩
  | .local _ .vmem, ⟨2, _⟩ => ⟨S2x16x3072, .bf16⟩
  | .local _ .vmem, ⟨3, _⟩ => ⟨S2x16x3072, .bf16⟩
  | .local _ .vmem, ⟨4, _⟩ => ⟨S2x3x3072, .f32⟩
  | .local _ .vmem, ⟨5, _⟩ => ⟨S8x1024x768, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S2x256x1024, .bf16⟩
  | .local _ .vmem, ⟨25, _⟩ => ⟨S2x256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S2x256x3072, .bf16⟩
  | .local _ .vmem, ⟨35, _⟩ => ⟨S2x256x3072, .bf16⟩
  | .local _ .vmem, ⟨36, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev main_v49_3 : Ref sig .tc := ⟨.hbm, 71, rfl⟩
abbrev main_v49_4 : Ref sig .tc := ⟨.hbm, 72, rfl⟩
abbrev main_v49_5 : Ref sig .tc := ⟨.hbm, 73, rfl⟩
abbrev main_v49_6 : Ref sig .tc := ⟨.hbm, 74, rfl⟩
abbrev main_v49_7 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== UpBwdRefIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S4096x1024 : Shape := ⟨2, ![4096, 1024]⟩
abbrev S2x4096x3072 : Shape := ⟨3, ![2, 4096, 3072]⟩
abbrev S_ : Shape := ⟨0, ![]⟩
abbrev S1x4096x6144 : Shape := ⟨3, ![1, 4096, 6144]⟩
abbrev S1x4096x3072 : Shape := ⟨3, ![1, 4096, 3072]⟩
abbrev S1024x1024 : Shape := ⟨2, ![1024, 1024]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S3x6144 : Shape := ⟨2, ![3, 6144]⟩
abbrev S1x2x6144 : Shape := ⟨3, ![1, 2, 6144]⟩
abbrev S1x4098x6144 : Shape := ⟨3, ![1, 4098, 6144]⟩
abbrev S6144 : Shape := ⟨1, ![6144]⟩
abbrev S1x1x6144 : Shape := ⟨3, ![1, 1, 6144]⟩
abbrev S6144x1024 : Shape := ⟨2, ![6144, 1024]⟩
abbrev S4096 : Shape := ⟨1, ![4096]⟩
abbrev S2x4096x1024 : Shape := ⟨3, ![2, 4096, 1024]⟩
abbrev S8x1024 : Shape := ⟨2, ![8, 1024]⟩

abbrev nBuf : Space → Nat
  | .hbm => 233
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x4096x1024, .f32⟩
  | 4 => ⟨S1x4096x1024, .f32⟩
  | 5 => ⟨S1x1024x1024, .f32⟩
  | 6 => ⟨S1x1024x1024, .f32⟩
  | 7 => ⟨S1x1024x1024, .f32⟩
  | 8 => ⟨S1x1024, .f32⟩
  | 9 => ⟨S1x1024x6144, .f32⟩
  | 10 => ⟨S1x3x6144, .f32⟩
  | 11 => ⟨S1x6144, .f32⟩
  | 12 => ⟨S4096x1024, .f32⟩
  | 13 => ⟨S2x4096x3072, .bf16⟩
  | 14 => ⟨S_, .f32⟩
  | 15 => ⟨S1x4096x1024, .f32⟩
  | 16 => ⟨S_, .f32⟩
  | 17 => ⟨S1x4096x6144, .f32⟩
  | 18 => ⟨S1x4096x3072, .bf16⟩
  | 19 => ⟨S1x4096x3072, .bf16⟩
  | 20 => ⟨S1x4096x6144, .bf16⟩
  | 21 => ⟨S1x4096x6144, .f32⟩
  | 22 => ⟨S1024x1024, .f32⟩
  | 23 => ⟨S1x4096x1024, .f32⟩
  | 24 => ⟨S1x4096x1024, .f32⟩
  | 25 => ⟨S1024x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S_, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1024x1024, .f32⟩
  | 56 => ⟨S1x4096x1024, .f32⟩
  | 57 => ⟨S1x4096x1024, .f32⟩
  | 58 => ⟨S1024, .f32⟩
  | 59 => ⟨S1x4096x1024, .f32⟩
  | 60 => ⟨S_, .f32⟩
  | 61 => ⟨S1x4096, .f32⟩
  | 62 => ⟨S1x4096x1, .f32⟩
  | 63 => ⟨S_, .f32⟩
  | 64 => ⟨S1x4096x1, .f32⟩
  | 65 => ⟨S1x4096x1, .f32⟩
  | 66 => ⟨S_, .f32⟩
  | 67 => ⟨S1x4096x1, .f32⟩
  | 68 => ⟨S1x4096x1, .f32⟩
  | 69 => ⟨S1x4096x1, .f32⟩
  | 70 => ⟨S1x4096x1, .f32⟩
  | 71 => ⟨S_, .f32⟩
  | 72 => ⟨S1x4096x1, .f32⟩
  | 73 => ⟨S1x4096x1, .f32⟩
  | 74 => ⟨S1x4096x1024, .f32⟩
  | 75 => ⟨S1x4096x1024, .f32⟩
  | 76 => ⟨S1x1x1024, .f32⟩
  | 77 => ⟨S1x4096x1024, .f32⟩
  | 78 => ⟨S1x4096x1024, .f32⟩
  | 79 => ⟨S1024x6144, .f32⟩
  | 80 => ⟨S1x4096x6144, .f32⟩
  | 81 => ⟨S1x4096x6144, .f32⟩
  | 82 => ⟨S3x6144, .f32⟩
  | 83 => ⟨S_, .f32⟩
  | 84 => ⟨S1x2x6144, .f32⟩
  | 85 => ⟨S1x4098x6144, .f32⟩
  | 86 => ⟨S_, .f32⟩
  | 87 => ⟨S1x2x6144, .f32⟩
  | 88 => ⟨S1x4096x6144, .f32⟩
  | 89 => ⟨S1x6144, .f32⟩
  | 90 => ⟨S6144, .f32⟩
  | 91 => ⟨S1x1x6144, .f32⟩
  | 92 => ⟨S1x4096x6144, .f32⟩
  | 93 => ⟨S1x4096x6144, .f32⟩
  | 94 => ⟨S1x4096x6144, .f32⟩
  | 95 => ⟨S1x6144, .f32⟩
  | 96 => ⟨S6144, .f32⟩
  | 97 => ⟨S1x1x6144, .f32⟩
  | 98 => ⟨S1x4096x6144, .f32⟩
  | 99 => ⟨S1x4096x6144, .f32⟩
  | 100 => ⟨S1x4096x6144, .f32⟩
  | 101 => ⟨S1x4096x6144, .f32⟩
  | 102 => ⟨S1x6144, .f32⟩
  | 103 => ⟨S6144, .f32⟩
  | 104 => ⟨S1x1x6144, .f32⟩
  | 105 => ⟨S1x4096x6144, .f32⟩
  | 106 => ⟨S1x4096x6144, .f32⟩
  | 107 => ⟨S1x4096x6144, .f32⟩
  | 108 => ⟨S6144, .f32⟩
  | 109 => ⟨S1x1x6144, .f32⟩
  | 110 => ⟨S1x4096x6144, .f32⟩
  | 111 => ⟨S1x4096x6144, .f32⟩
  | 112 => ⟨S1x4096x1024, .f32⟩
  | 113 => ⟨S_, .f32⟩
  | 114 => ⟨S1x6144, .f32⟩
  | 115 => ⟨S1x1x6144, .f32⟩
  | 116 => ⟨S_, .f32⟩
  | 117 => ⟨S6144, .f32⟩
  | 118 => ⟨S1x6144, .f32⟩
  | 119 => ⟨S1x4096x6144, .f32⟩
  | 120 => ⟨S_, .f32⟩
  | 121 => ⟨S1x6144, .f32⟩
  | 122 => ⟨S1x1x6144, .f32⟩
  | 123 => ⟨S1x4096x6144, .f32⟩
  | 124 => ⟨S1x4096x6144, .f32⟩
  | 125 => ⟨S_, .f32⟩
  | 126 => ⟨S6144, .f32⟩
  | 127 => ⟨S1x6144, .f32⟩
  | _ => ⟨S1x4096x1024, .f32⟩

abbrev hbmTy0_1 (i : Nat) : BufTy := match i % 128 with
  | 0 => ⟨S_, .f32⟩
  | 1 => ⟨S3x6144, .f32⟩
  | 2 => ⟨S_, .f32⟩
  | 3 => ⟨S1x4098x6144, .f32⟩
  | 4 => ⟨S1x4096x6144, .f32⟩
  | 5 => ⟨S_, .f32⟩
  | 6 => ⟨S1x6144, .f32⟩
  | 7 => ⟨S1x1x6144, .f32⟩
  | 8 => ⟨S1x4096x6144, .f32⟩
  | 9 => ⟨S1x4096x6144, .f32⟩
  | 10 => ⟨S_, .f32⟩
  | 11 => ⟨S6144, .f32⟩
  | 12 => ⟨S1x6144, .f32⟩
  | 13 => ⟨S_, .f32⟩
  | 14 => ⟨S3x6144, .f32⟩
  | 15 => ⟨S3x6144, .f32⟩
  | 16 => ⟨S_, .f32⟩
  | 17 => ⟨S1x4098x6144, .f32⟩
  | 18 => ⟨S1x4098x6144, .f32⟩
  | 19 => ⟨S1x4096x6144, .f32⟩
  | 20 => ⟨S_, .f32⟩
  | 21 => ⟨S1x6144, .f32⟩
  | 22 => ⟨S1x1x6144, .f32⟩
  | 23 => ⟨S1x4096x6144, .f32⟩
  | 24 => ⟨S1x4096x6144, .f32⟩
  | 25 => ⟨S_, .f32⟩
  | 26 => ⟨S6144, .f32⟩
  | 27 => ⟨S1x6144, .f32⟩
  | 28 => ⟨S_, .f32⟩
  | 29 => ⟨S3x6144, .f32⟩
  | 30 => ⟨S3x6144, .f32⟩
  | 31 => ⟨S_, .f32⟩
  | 32 => ⟨S1x4098x6144, .f32⟩
  | 33 => ⟨S1x4098x6144, .f32⟩
  | 34 => ⟨S1x2x6144, .f32⟩
  | 35 => ⟨S1x4096x6144, .f32⟩
  | 36 => ⟨S1x3x6144, .f32⟩
  | 37 => ⟨S6144x1024, .f32⟩
  | 38 => ⟨S1024x6144, .f32⟩
  | 39 => ⟨S1x4096x1024, .f32⟩
  | 40 => ⟨S1x1024x6144, .f32⟩
  | 41 => ⟨S1x4096x1024, .f32⟩
  | 42 => ⟨S_, .f32⟩
  | 43 => ⟨S1x1024, .f32⟩
  | 44 => ⟨S1x1x1024, .f32⟩
  | 45 => ⟨S1x4096x1024, .f32⟩
  | 46 => ⟨S1x4096x1024, .f32⟩
  | 47 => ⟨S_, .f32⟩
  | 48 => ⟨S1024, .f32⟩
  | 49 => ⟨S1x4096x1024, .f32⟩
  | 50 => ⟨S_, .f32⟩
  | 51 => ⟨S1x4096, .f32⟩
  | 52 => ⟨S1x4096x1, .f32⟩
  | 53 => ⟨S1x4096x1024, .f32⟩
  | 54 => ⟨S1x4096x1024, .f32⟩
  | 55 => ⟨S1x4096x1024, .f32⟩
  | 56 => ⟨S1x4096x1, .f32⟩
  | 57 => ⟨S_, .f32⟩
  | 58 => ⟨S1x4096x1, .f32⟩
  | 59 => ⟨S1x4096x1, .f32⟩
  | 60 => ⟨S_, .f32⟩
  | 61 => ⟨S4096, .f32⟩
  | 62 => ⟨S1x4096, .f32⟩
  | 63 => ⟨S1x4096x1024, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x1024, .f32⟩
  | 69 => ⟨S1024x1024, .f32⟩
  | 70 => ⟨S1024x1024, .f32⟩
  | 71 => ⟨S1x4096x1024, .f32⟩
  | 72 => ⟨S1x1024x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1024x1024, .f32⟩
  | 80 => ⟨S1024x1024, .f32⟩
  | 81 => ⟨S1x4096x1024, .f32⟩
  | 82 => ⟨S1x1024x1024, .f32⟩
  | 83 => ⟨S1024x1024, .f32⟩
  | 84 => ⟨S1024x1024, .f32⟩
  | 85 => ⟨S1x4096x1024, .f32⟩
  | 86 => ⟨S1x1024x1024, .f32⟩
  | 87 => ⟨S2x4096x1024, .f32⟩
  | 88 => ⟨S1x4096x3072, .f32⟩
  | 89 => ⟨S1x4096x3072, .f32⟩
  | 90 => ⟨S2x4096x3072, .f32⟩
  | 91 => ⟨S4096x1024, .f32⟩
  | 92 => ⟨S4096x1024, .f32⟩
  | 93 => ⟨S4096x1024, .f32⟩
  | 94 => ⟨S4096x1024, .f32⟩
  | 95 => ⟨S2x4096x1024, .bf16⟩
  | 96 => ⟨S4096x1024, .bf16⟩
  | 97 => ⟨S4096x1024, .bf16⟩
  | 98 => ⟨S4096x1024, .bf16⟩
  | 99 => ⟨S4096x1024, .bf16⟩
  | 100 => ⟨S2x4096x3072, .bf16⟩
  | 101 => ⟨S4096x1024, .f32⟩
  | 102 => ⟨S_, .i32⟩
  | 103 => ⟨S_, .f32⟩
  | 104 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_cst_18 : Ref sig .tc := ⟨.hbm, 130, rfl⟩
abbrev main_v97 : Ref sig .tc := ⟨.hbm, 131, rfl⟩
abbrev main_v98 : Ref sig .tc := ⟨.hbm, 132, rfl⟩
abbrev main_cst_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_cst_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_v115 : Ref sig .tc := ⟨.hbm, 155, rfl⟩
abbrev main_cst_25 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_27 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_28 : Ref sig .tc := ⟨.hbm, 175, rfl⟩
abbrev main_v132 : Ref sig .tc := ⟨.hbm, 176, rfl⟩
abbrev main_v133 : Ref sig .tc := ⟨.hbm, 177, rfl⟩
abbrev main_cst_29 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_30 : Ref sig .tc := ⟨.hbm, 185, rfl⟩
abbrev main_v140 : Ref sig .tc := ⟨.hbm, 186, rfl⟩
abbrev main_v141 : Ref sig .tc := ⟨.hbm, 187, rfl⟩
abbrev main_cst_31 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_c : Ref sig .tc := ⟨.hbm, 230, rfl⟩
abbrev main_call0_v0 : Ref sig .tc := ⟨.hbm, 231, rfl⟩
abbrev main_v183 : Ref sig .tc := ⟨.hbm, 232, rfl⟩

abbrev nD : Nat := 1
abbrev τ : Topo := Topo.v7x

variable {F : FTy → Type} [FloatOps F]
-- ==== Head.lean ====
abbrev S1x4096x1024 : Shape := ⟨3, ![1, 4096, 1024]⟩
abbrev S1x4096x6144 : Shape := ⟨3, ![1, 4096, 6144]⟩
abbrev S1x3x6144 : Shape := ⟨3, ![1, 3, 6144]⟩
abbrev S1x6144 : Shape := ⟨2, ![1, 6144]⟩
abbrev S1x1x4096x256 : Shape := ⟨4, ![1, 1, 4096, 256]⟩
abbrev S1x3072x1024 : Shape := ⟨3, ![1, 3072, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S3x6144 : Shape := ⟨2, ![3, 6144]⟩
abbrev S_ : Shape := ⟨0, ![]⟩
abbrev S1x2x6144 : Shape := ⟨3, ![1, 2, 6144]⟩
abbrev S1x4098x6144 : Shape := ⟨3, ![1, 4098, 6144]⟩
abbrev S6144 : Shape := ⟨1, ![6144]⟩
abbrev S1x1x6144 : Shape := ⟨3, ![1, 1, 6144]⟩
abbrev S1x4096x3072 : Shape := ⟨3, ![1, 4096, 3072]⟩
abbrev S2x4096x3072 : Shape := ⟨3, ![2, 4096, 3072]⟩
abbrev S4096x1024 : Shape := ⟨2, ![4096, 1024]⟩
abbrev S4096x3072 : Shape := ⟨2, ![4096, 3072]⟩
abbrev S3x2x3072 : Shape := ⟨3, ![3, 2, 3072]⟩
abbrev S2x3x3072 : Shape := ⟨3, ![2, 3, 3072]⟩
abbrev S2x1x3072 : Shape := ⟨3, ![2, 1, 3072]⟩
abbrev S4096x256 : Shape := ⟨2, ![4096, 256]⟩
abbrev S3072x1024 : Shape := ⟨2, ![3072, 1024]⟩
abbrev S1024x1024 : Shape := ⟨2, ![1024, 1024]⟩
abbrev S256x1024 : Shape := ⟨2, ![256, 1024]⟩
abbrev S8x1024 : Shape := ⟨2, ![8, 1024]⟩
abbrev S256x3072 : Shape := ⟨2, ![256, 3072]⟩
abbrev S2x256x3072 : Shape := ⟨3, ![2, 256, 3072]⟩
abbrev S2x16x3072 : Shape := ⟨3, ![2, 16, 3072]⟩
abbrev S256x256 : Shape := ⟨2, ![256, 256]⟩
abbrev S256 : Shape := ⟨1, ![256]⟩
abbrev S256x1 : Shape := ⟨2, ![256, 1]⟩
abbrev S1x16x256 : Shape := ⟨3, ![1, 16, 256]⟩
abbrev S16x256 : Shape := ⟨2, ![16, 256]⟩
abbrev S1x256x256 : Shape := ⟨3, ![1, 256, 256]⟩
abbrev S272x256 : Shape := ⟨2, ![272, 256]⟩
abbrev S1x1x256 : Shape := ⟨3, ![1, 1, 256]⟩
abbrev S1x256 : Shape := ⟨2, ![1, 256]⟩
abbrev S1x3x3072 : Shape := ⟨3, ![1, 3, 3072]⟩
abbrev S3x3072 : Shape := ⟨2, ![3, 3072]⟩

abbrev nBuf : Space → Nat
  | .hbm => 89
  | .vmem => 32
  | .smem => 0
  | _ => 0

abbrev bufTy : (tb : Table) → Fin (tcTables nBuf tb) → BufTy
  | .hbm, ⟨0, _⟩ => ⟨S1x4096x1024, .f32⟩
  | .hbm, ⟨1, _⟩ => ⟨S1x4096x6144, .f32⟩
  | .hbm, ⟨2, _⟩ => ⟨S1x3x6144, .f32⟩
  | .hbm, ⟨3, _⟩ => ⟨S1x6144, .f32⟩
  | .hbm, ⟨4, _⟩ => ⟨S1x1x4096x256, .f32⟩
  | .hbm, ⟨5, _⟩ => ⟨S1x4096x1024, .f32⟩
  | .hbm, ⟨6, _⟩ => ⟨S1x3072x1024, .f32⟩
  | .hbm, ⟨7, _⟩ => ⟨S1x1024x1024, .f32⟩
  | .hbm, ⟨8, _⟩ => ⟨S1x256x1024, .f32⟩
  | .hbm, ⟨9, _⟩ => ⟨S1x1024, .f32⟩
  | .hbm, ⟨10, _⟩ => ⟨S1024, .f32⟩
  | .hbm, ⟨11, _⟩ => ⟨S3x6144, .f32⟩
  | .hbm, ⟨12, _⟩ => ⟨S_, .f32⟩
  | .hbm, ⟨13, _⟩ => ⟨S1x2x6144, .f32⟩
  | .hbm, ⟨14, _⟩ => ⟨S1x4098x6144, .f32⟩
  | .hbm, ⟨15, _⟩ => ⟨S1x4096x6144, .f32⟩
  | .hbm, ⟨16, _⟩ => ⟨S1x6144, .f32⟩
  | .hbm, ⟨17, _⟩ => ⟨S6144, .f32⟩
  | .hbm, ⟨18, _⟩ => ⟨S1x1x6144, .f32⟩
  | .hbm, ⟨19, _⟩ => ⟨S1x4096x6144, .f32⟩
  | .hbm, ⟨20, _⟩ => ⟨S1x4096x6144, .f32⟩
  | .hbm, ⟨21, _⟩ => ⟨S1x4096x6144, .f32⟩
  | .hbm, ⟨22, _⟩ => ⟨S1x6144, .f32⟩
  | .hbm, ⟨23, _⟩ => ⟨S6144, .f32⟩
  | .hbm, ⟨24, _⟩ => ⟨S1x1x6144, .f32⟩
  | .hbm, ⟨25, _⟩ => ⟨S1x4096x6144, .f32⟩
  | .hbm, ⟨26, _⟩ => ⟨S1x4096x6144, .f32⟩
  | .hbm, ⟨27, _⟩ => ⟨S1x4096x6144, .f32⟩
  | .hbm, ⟨28, _⟩ => ⟨S1x4096x6144, .f32⟩
  | .hbm, ⟨29, _⟩ => ⟨S1x6144, .f32⟩
  | .hbm, ⟨30, _⟩ => ⟨S6144, .f32⟩
  | .hbm, ⟨31, _⟩ => ⟨S1x1x6144, .f32⟩
  | .hbm, ⟨32, _⟩ => ⟨S1x4096x6144, .f32⟩
  | .hbm, ⟨33, _⟩ => ⟨S1x4096x6144, .f32⟩
  | .hbm, ⟨34, _⟩ => ⟨S1x4096x6144, .f32⟩
  | .hbm, ⟨35, _⟩ => ⟨S6144, .f32⟩
  | .hbm, ⟨36, _⟩ => ⟨S1x1x6144, .f32⟩
  | .hbm, ⟨37, _⟩ => ⟨S1x4096x6144, .f32⟩
  | .hbm, ⟨38, _⟩ => ⟨S1x4096x6144, .f32⟩
  | .hbm, ⟨39, _⟩ => ⟨S1x4096x3072, .f32⟩
  | .hbm, ⟨40, _⟩ => ⟨S1x4096x3072, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x4096x3072, .f32⟩
  | .hbm, ⟨45, _⟩ => ⟨S1x4096x3072, .f32⟩
  | .hbm, ⟨46, _⟩ => ⟨S1x4096x3072, .f32⟩
  | .hbm, ⟨47, _⟩ => ⟨S1x4096x3072, .f32⟩
  | .hbm, ⟨48, _⟩ => ⟨S1x4096x3072, .f32⟩
  | .hbm, ⟨49, _⟩ => ⟨S_, .f32⟩
  | .hbm, ⟨50, _⟩ => ⟨S1x4096x3072, .f32⟩
  | .hbm, ⟨51, _⟩ => ⟨S1x4096x3072, .f32⟩
  | .hbm, ⟨52, _⟩ => ⟨S1x4096x3072, .f32⟩
  | .hbm, ⟨53, _⟩ => ⟨S_, .f32⟩
  | .hbm, ⟨54, _⟩ => ⟨S1x4096x3072, .f32⟩
  | .hbm, ⟨55, _⟩ => ⟨S1x4096x3072, .f32⟩
  | .hbm, ⟨56, _⟩ => ⟨S_, .f32⟩
  | .hbm, ⟨57, _⟩ => ⟨S1x4096x3072, .f32⟩
  | .hbm, ⟨58, _⟩ => ⟨S1x4096x3072, .f32⟩
  | .hbm, ⟨59, _⟩ => ⟨S1x4096x3072, .f32⟩
  | .hbm, ⟨60, _⟩ => ⟨S1x4096x3072, .f32⟩
  | .hbm, ⟨61, _⟩ => ⟨S1x4096x3072, .f32⟩
  | .hbm, ⟨62, _⟩ => ⟨S1x4096x3072, .f32⟩
  | .hbm, ⟨63, _⟩ => ⟨S2x4096x3072, .f32⟩
  | .hbm, ⟨64, _⟩ => ⟨S4096x1024, .f32⟩
  | .hbm, ⟨65, _⟩ => ⟨S4096x3072, .f32⟩
  | .hbm, ⟨66, _⟩ => ⟨S4096x3072, .bf16⟩
  | .hbm, ⟨67, _⟩ => ⟨S2x4096x3072, .bf16⟩
  | .hbm, ⟨68, _⟩ => ⟨S3x6144, .f32⟩
  | .hbm, ⟨69, _⟩ => ⟨S3x2x3072, .f32⟩
  | .hbm, ⟨70, _⟩ => ⟨S2x3x3072, .f32⟩
  | .hbm, ⟨71, _⟩ => ⟨S2x1x3072, .f32⟩
  | .hbm, ⟨72, _⟩ => ⟨S4096x256, .f32⟩
  | .hbm, ⟨73, _⟩ => ⟨S4096x1024, .f32⟩
  | .hbm, ⟨74, _⟩ => ⟨S3072x1024, .f32⟩
  | .hbm, ⟨75, _⟩ => ⟨S3072x1024, .bf16⟩
  | .hbm, ⟨76, _⟩ => ⟨S1024x1024, .f32⟩
  | .hbm, ⟨77, _⟩ => ⟨S1024x1024, .bf16⟩
  | .hbm, ⟨78, _⟩ => ⟨S256x1024, .f32⟩
  | .hbm, ⟨79, _⟩ => ⟨S256x1024, .bf16⟩
  | .hbm, ⟨80, _⟩ => ⟨S1x1024, .f32⟩
  | .hbm, ⟨81, _⟩ => ⟨S4096x1024, .bf16⟩
  | .hbm, ⟨82, _⟩ => ⟨S4096x1024, .bf16⟩
  | .hbm, ⟨83, _⟩ => ⟨S4096x1024, .bf16⟩
  | .hbm, ⟨84, _⟩ => ⟨S4096x1024, .f32⟩
  | .hbm, ⟨85, _⟩ => ⟨S2x4096x3072, .bf16⟩
  | .hbm, ⟨86, _⟩ => ⟨S8x1024, .f32⟩
  | .hbm, ⟨87, _⟩ => ⟨S2x3x3072, .f32⟩
  | .hbm, ⟨88, _⟩ => ⟨S2x1x3072, .f32⟩
  | .local _ .vmem, ⟨0, _⟩ => ⟨S256x1024, .f32⟩
  | .local _ .vmem, ⟨1, _⟩ => ⟨S256x1024, .f32⟩
  | .local _ .vmem, ⟨2, _⟩ => ⟨S256x3072, .bf16⟩
  | .local _ .vmem, ⟨3, _⟩ => ⟨S256x3072, .bf16⟩
  | .local _ .vmem, ⟨4, _⟩ => ⟨S2x256x3072, .bf16⟩
  | .local _ .vmem, ⟨5, _⟩ => ⟨S2x256x3072, .bf16⟩
  | .local _ .vmem, ⟨6, _⟩ => ⟨S2x16x3072, .bf16⟩
  | .local _ .vmem, ⟨7, _⟩ => ⟨S2x16x3072, .bf16⟩
  | .local _ .vmem, ⟨8, _⟩ => ⟨S2x3x3072, .f32⟩
  | .local _ .vmem, ⟨9, _⟩ => ⟨S2x1x3072, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S3072x1024, .bf16⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .f32⟩
  | .local _ .vmem, ⟨26, _⟩ => ⟨S256x1024, .f32⟩
  | .local _ .vmem, ⟨27, _⟩ => ⟨S2x256x3072, .bf16⟩
  | .local _ .vmem, ⟨28, _⟩ => ⟨S2x256x3072, .bf16⟩
  | .local _ .vmem, ⟨29, _⟩ => ⟨S8x1024, .f32⟩
  | .local _ .vmem, ⟨30, _⟩ => ⟨S2x3x3072, .f32⟩
  | .local _ .vmem, ⟨31, _⟩ => ⟨S2x1x3072, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64_0 : Ref sig .tc := ⟨.hbm, 81, rfl⟩
abbrev main_v64_1 : Ref sig .tc := ⟨.hbm, 82, rfl⟩
abbrev main_v64_2 : Ref sig .tc := ⟨.hbm, 83, rfl⟩
abbrev main_v64_3 : Ref sig .tc := ⟨.hbm, 84, rfl⟩
abbrev main_v64_4 : Ref sig .tc := ⟨.hbm, 85, rfl⟩
abbrev main_v64_5 : Ref sig .tc := ⟨.hbm, 86, rfl⟩
abbrev main_v64_6 : Ref sig .tc := ⟨.hbm, 87, rfl⟩
abbrev main_v64_7 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x3x3072 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x1x3072 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== HeadIdeal.lean ====
variable {F : FTy → Type} [FloatOps F] [Named F]
def κ : String → Option EReal := fun
  | "k" => some ((8943 / 200000 : ℝ) : EReal)
  | "k3" => some ((26829 / 200000 : ℝ) : EReal)
  | _ => none
-- ==== HeadRefIdeal.lean ====
abbrev S1x4096x1024 : Shape := ⟨3, ![1, 4096, 1024]⟩
abbrev S1x4096x6144 : Shape := ⟨3, ![1, 4096, 6144]⟩
abbrev S1x3x6144 : Shape := ⟨3, ![1, 3, 6144]⟩
abbrev S1x6144 : Shape := ⟨2, ![1, 6144]⟩
abbrev S1x1x4096x256 : Shape := ⟨4, ![1, 1, 4096, 256]⟩
abbrev S1x3072x1024 : Shape := ⟨3, ![1, 3072, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S3x6144 : Shape := ⟨2, ![3, 6144]⟩
abbrev S1x2x6144 : Shape := ⟨3, ![1, 2, 6144]⟩
abbrev S1x4098x6144 : Shape := ⟨3, ![1, 4098, 6144]⟩
abbrev S6144 : Shape := ⟨1, ![6144]⟩
abbrev S1x1x6144 : Shape := ⟨3, ![1, 1, 6144]⟩
abbrev S1x4096x3072 : Shape := ⟨3, ![1, 4096, 3072]⟩
abbrev S3072x1024 : Shape := ⟨2, ![3072, 1024]⟩
abbrev S1x4096x256 : Shape := ⟨3, ![1, 4096, 256]⟩
abbrev S256x1024 : Shape := ⟨2, ![256, 1024]⟩
abbrev S1x4096 : Shape := ⟨2, ![1, 4096]⟩
abbrev S1x4096x1 : Shape := ⟨3, ![1, 4096, 1]⟩
abbrev S1x1x1024 : Shape := ⟨3, ![1, 1, 1024]⟩
abbrev S1024x1024 : Shape := ⟨2, ![1024, 1024]⟩
abbrev S4096x1024 : Shape := ⟨2, ![4096, 1024]⟩
abbrev S4096 : Shape := ⟨1, ![4096]⟩
abbrev S1024x256 : Shape := ⟨2, ![1024, 256]⟩
abbrev S1024x3072 : Shape := ⟨2, ![1024, 3072]⟩
abbrev S5x1024 : Shape := ⟨2, ![5, 1024]⟩
abbrev S8x1024 : Shape := ⟨2, ![8, 1024]⟩
abbrev S2x4096x3072 : Shape := ⟨3, ![2, 4096, 3072]⟩
abbrev S1x3x3072 : Shape := ⟨3, ![1, 3, 3072]⟩
abbrev S2x3x3072 : Shape := ⟨3, ![2, 3, 3072]⟩
abbrev S1x3072 : Shape := ⟨2, ![1, 3072]⟩
abbrev S1x1x3072 : Shape := ⟨3, ![1, 1, 3072]⟩
abbrev S2x1x3072 : Shape := ⟨3, ![2, 1, 3072]⟩

abbrev nBuf : Space → Nat
  | .hbm => 334
  | .vmem => 0
  | .smem => 0
  | _ => 0

abbrev hbmTy0_0 (i : Nat) : BufTy := match i % 128 with
  | 0 => ⟨S1x4096x1024, .f32⟩
  | 1 => ⟨S1x4096x6144, .f32⟩
  | 2 => ⟨S1x3x6144, .f32⟩
  | 3 => ⟨S1x6144, .f32⟩
  | 4 => ⟨S1x1x4096x256, .f32⟩
  | 5 => ⟨S1x4096x1024, .f32⟩
  | 6 => ⟨S1x3072x1024, .f32⟩
  | 7 => ⟨S1x1024x1024, .f32⟩
  | 8 => ⟨S1x256x1024, .f32⟩
  | 9 => ⟨S1x1024, .f32⟩
  | 10 => ⟨S1024, .f32⟩
  | 11 => ⟨S_, .f32⟩
  | 12 => ⟨S1x4096x1024, .f32⟩
  | 13 => ⟨S_, .f32⟩
  | 14 => ⟨S1x4096x6144, .f32⟩
  | 15 => ⟨S3x6144, .f32⟩
  | 16 => ⟨S_, .f32⟩
  | 17 => ⟨S1x2x6144, .f32⟩
  | 18 => ⟨S1x4098x6144, .f32⟩
  | 19 => ⟨S_, .f32⟩
  | 20 => ⟨S1x2x6144, .f32⟩
  | 21 => ⟨S1x4096x6144, .f32⟩
  | 22 => ⟨S1x6144, .f32⟩
  | 23 => ⟨S6144, .f32⟩
  | 24 => ⟨S1x1x6144, .f32⟩
  | 25 => ⟨S1x4096x6144, .f32⟩
  | 26 => ⟨S1x4096x6144, .f32⟩
  | 27 => ⟨S1x4096x6144, .f32⟩
  | 28 => ⟨S1x6144, .f32⟩
  | 29 => ⟨S6144, .f32⟩
  | 30 => ⟨S1x1x6144, .f32⟩
  | 31 => ⟨S1x4096x6144, .f32⟩
  | 32 => ⟨S1x4096x6144, .f32⟩
  | 33 => ⟨S1x4096x6144, .f32⟩
  | 34 => ⟨S1x4096x6144, .f32⟩
  | 35 => ⟨S1x6144, .f32⟩
  | 36 => ⟨S6144, .f32⟩
  | 37 => ⟨S1x1x6144, .f32⟩
  | 38 => ⟨S1x4096x6144, .f32⟩
  | 39 => ⟨S1x4096x6144, .f32⟩
  | 40 => ⟨S1x4096x6144, .f32⟩
  | 41 => ⟨S6144, .f32⟩
  | 42 => ⟨S1x1x6144, .f32⟩
  | 43 => ⟨S1x4096x6144, .f32⟩
  | 44 => ⟨S1x4096x6144, .f32⟩
  | 45 => ⟨S1x4096x6144, .f32⟩
  | 46 => ⟨S1x4096x3072, .f32⟩
  | 47 => ⟨S1x4096x3072, .f32⟩
  | 48 => ⟨S_, .f32⟩
  | 49 => ⟨S_, .f32⟩
  | 50 => ⟨S_, .f32⟩
  | 51 => ⟨S1x4096x3072, .f32⟩
  | 52 => ⟨S1x4096x3072, .f32⟩
  | 53 => ⟨S1x4096x3072, .f32⟩
  | 54 => ⟨S_, .f32⟩
  | 55 => ⟨S1x4096x3072, .f32⟩
  | 56 => ⟨S1x4096x3072, .f32⟩
  | 57 => ⟨S1x4096x3072, .f32⟩
  | 58 => ⟨S1x4096x3072, .f32⟩
  | 59 => ⟨S1x4096x3072, .f32⟩
  | 60 => ⟨S_, .f32⟩
  | 61 => ⟨S1x4096x3072, .f32⟩
  | 62 => ⟨S1x4096x3072, .f32⟩
  | 63 => ⟨S1x4096x3072, .f32⟩
  | 64 => ⟨S_, .f32⟩
  | 65 => ⟨S1x4096x3072, .f32⟩
  | 66 => ⟨S1x4096x3072, .f32⟩
  | 67 => ⟨S_, .f32⟩
  | 68 => ⟨S1x4096x3072, .f32⟩
  | 69 => ⟨S1x4096x3072, .f32⟩
  | 70 => ⟨S1x4096x3072, .f32⟩
  | 71 => ⟨S_, .f32⟩
  | 72 => ⟨S1x4096x3072, .f32⟩
  | 73 => ⟨S1x4096x3072, .f32⟩
  | 74 => ⟨S_, .f32⟩
  | 75 => ⟨S1x4096x3072, .f32⟩
  | 76 => ⟨S1x4096x3072, .f32⟩
  | 77 => ⟨S1x4096x3072, .f32⟩
  | 78 => ⟨S1x4096x3072, .f32⟩
  | 79 => ⟨S3072x1024, .f32⟩
  | 80 => ⟨S1x4096x1024, .f32⟩
  | 81 => ⟨S1x4096x1024, .f32⟩
  | 82 => ⟨S1x4096x256, .f32⟩
  | 83 => ⟨S256x1024, .f32⟩
  | 84 => ⟨S1x4096x1024, .f32⟩
  | 85 => ⟨S1x4096x1024, .f32⟩
  | 86 => ⟨S1024, .f32⟩
  | 87 => ⟨S1x4096x1024, .f32⟩
  | 88 => ⟨S_, .f32⟩
  | 89 => ⟨S1x4096, .f32⟩
  | 90 => ⟨S1x4096x1, .f32⟩
  | 91 => ⟨S_, .f32⟩
  | 92 => ⟨S1x4096x1, .f32⟩
  | 93 => ⟨S1x4096x1, .f32⟩
  | 94 => ⟨S_, .f32⟩
  | 95 => ⟨S1x4096x1, .f32⟩
  | 96 => ⟨S1x4096x1, .f32⟩
  | 97 => ⟨S1x4096x1, .f32⟩
  | 98 => ⟨S1x4096x1, .f32⟩
  | 99 => ⟨S_, .f32⟩
  | 100 => ⟨S1x4096x1, .f32⟩
  | 101 => ⟨S1x4096x1, .f32⟩
  | 102 => ⟨S1x4096x1024, .f32⟩
  | 103 => ⟨S1x4096x1024, .f32⟩
  | 104 => ⟨S1x1x1024, .f32⟩
  | 105 => ⟨S1x4096x1024, .f32⟩
  | 106 => ⟨S1x4096x1024, .f32⟩
  | 107 => ⟨S1024x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S_, .f32⟩
  | 113 => ⟨S1x4096x1024, .f32⟩
  | 114 => ⟨S1x4096x1024, .f32⟩
  | 115 => ⟨S_, .f32⟩
  | 116 => ⟨S1x4096x1024, .f32⟩
  | 117 => ⟨S1x4096x1024, .f32⟩
  | 118 => ⟨S_, .f32⟩
  | 119 => ⟨S1x4096x1024, .f32⟩
  | 120 => ⟨S1x4096x1024, .f32⟩
  | 121 => ⟨S1x4096x1024, .f32⟩
  | 122 => ⟨S1x4096x1024, .f32⟩
  | 123 => ⟨S1x4096x1024, .f32⟩
  | 124 => ⟨S1x4096x1024, .f32⟩
  | 125 => ⟨S_, .f32⟩
  | 126 => ⟨S1x4096, .f32⟩
  | 127 => ⟨S1x4096x1, .f32⟩
  | _ => ⟨S1x4096x1024, .f32⟩

abbrev hbmTy0_1 (i : Nat) : BufTy := match i % 128 with
  | 0 => ⟨S_, .f32⟩
  | 1 => ⟨S1x4096x1, .f32⟩
  | 2 => ⟨S1x4096x1, .f32⟩
  | 3 => ⟨S_, .f32⟩
  | 4 => ⟨S1x4096x1, .f32⟩
  | 5 => ⟨S1x4096x1, .f32⟩
  | 6 => ⟨S1x4096x1, .f32⟩
  | 7 => ⟨S1x4096x1, .f32⟩
  | 8 => ⟨S_, .f32⟩
  | 9 => ⟨S1x4096x1, .f32⟩
  | 10 => ⟨S1x4096x1, .f32⟩
  | 11 => ⟨S1x4096x1024, .f32⟩
  | 12 => ⟨S1x4096x1024, .f32⟩
  | 13 => ⟨S1x1x1024, .f32⟩
  | 14 => ⟨S1x4096x1024, .f32⟩
  | 15 => ⟨S1x4096x1024, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S_, .f32⟩
  | 22 => ⟨S1x4096, .f32⟩
  | 23 => ⟨S_, .f32⟩
  | 24 => ⟨S1x4096, .f32⟩
  | 25 => ⟨S1x4096, .f32⟩
  | 26 => ⟨S_, .f32⟩
  | 27 => ⟨S_, .f32⟩
  | 28 => ⟨S_, .f32⟩
  | 29 => ⟨S_, .f32⟩
  | 30 => ⟨S4096x1024, .f32⟩
  | 31 => ⟨S_, .f32⟩
  | 32 => ⟨S1024, .f32⟩
  | 33 => ⟨S_, .f32⟩
  | 34 => ⟨S_, .f32⟩
  | 35 => ⟨S_, .f32⟩
  | 36 => ⟨S1x4096, .f32⟩
  | 37 => ⟨S_, .f32⟩
  | 38 => ⟨S1x4096, .f32⟩
  | 39 => ⟨S1x4096, .f32⟩
  | 40 => ⟨S1x4096x1024, .f32⟩
  | 41 => ⟨S1x4096x1024, .f32⟩
  | 42 => ⟨S1x4096x1024, .f32⟩
  | 43 => ⟨S1x4096x1024, .f32⟩
  | 44 => ⟨S_, .f32⟩
  | 45 => ⟨S1x1024, .f32⟩
  | 46 => ⟨S1x1x1024, .f32⟩
  | 47 => ⟨S1x4096x1024, .f32⟩
  | 48 => ⟨S1x4096x1024, .f32⟩
  | 49 => ⟨S_, .f32⟩
  | 50 => ⟨S1024, .f32⟩
  | 51 => ⟨S1x4096x1024, .f32⟩
  | 52 => ⟨S_, .f32⟩
  | 53 => ⟨S1x4096, .f32⟩
  | 54 => ⟨S1x4096x1, .f32⟩
  | 55 => ⟨S1x4096x1024, .f32⟩
  | 56 => ⟨S1x4096x1024, .f32⟩
  | 57 => ⟨S1x4096x1, .f32⟩
  | 58 => ⟨S_, .f32⟩
  | 59 => ⟨S1x4096x1, .f32⟩
  | 60 => ⟨S1x4096x1, .f32⟩
  | 61 => ⟨S_, .f32⟩
  | 62 => ⟨S4096, .f32⟩
  | 63 => ⟨S1x4096, .f32⟩
  | 64 => ⟨S1x4096x1024, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1024x1024, .f32⟩
  | 73 => ⟨S1024x1024, .f32⟩
  | 74 => ⟨S1x4096x1024, .f32⟩
  | 75 => ⟨S1x4096x1024, .f32⟩
  | 76 => ⟨S1x1024x1024, .f32⟩
  | 77 => ⟨S1x4096x1024, .f32⟩
  | 78 => ⟨S_, .f32⟩
  | 79 => ⟨S1x1024, .f32⟩
  | 80 => ⟨S1x1x1024, .f32⟩
  | 81 => ⟨S1x4096x1024, .f32⟩
  | 82 => ⟨S1x4096x1024, .f32⟩
  | 83 => ⟨S_, .f32⟩
  | 84 => ⟨S1024, .f32⟩
  | 85 => ⟨S1x4096x1024, .f32⟩
  | 86 => ⟨S_, .f32⟩
  | 87 => ⟨S1x4096, .f32⟩
  | 88 => ⟨S1x4096x1, .f32⟩
  | 89 => ⟨S1x4096x1024, .f32⟩
  | 90 => ⟨S1x4096x1024, .f32⟩
  | 91 => ⟨S1x4096x1, .f32⟩
  | 92 => ⟨S_, .f32⟩
  | 93 => ⟨S1x4096x1, .f32⟩
  | 94 => ⟨S1x4096x1, .f32⟩
  | 95 => ⟨S_, .f32⟩
  | 96 => ⟨S4096, .f32⟩
  | 97 => ⟨S1x4096, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x1024, .f32⟩
  | 104 => ⟨S1024x256, .f32⟩
  | 105 => ⟨S256x1024, .f32⟩
  | 106 => ⟨S1x4096x256, .f32⟩
  | 107 => ⟨S1x256x1024, .f32⟩
  | 108 => ⟨S1x1x4096x256, .f32⟩
  | 109 => ⟨S1024x3072, .f32⟩
  | 110 => ⟨S3072x1024, .f32⟩
  | 111 => ⟨S1x4096x3072, .f32⟩
  | 112 => ⟨S1x3072x1024, .f32⟩
  | 113 => ⟨S1x4096x3072, .f32⟩
  | 114 => ⟨S1x4096x3072, .f32⟩
  | 115 => ⟨S1x4096x3072, .f32⟩
  | 116 => ⟨S1x4096x3072, .f32⟩
  | 117 => ⟨S_, .f32⟩
  | 118 => ⟨S1x4096x3072, .f32⟩
  | 119 => ⟨S1x4096x3072, .f32⟩
  | 120 => ⟨S1x4096x3072, .f32⟩
  | 121 => ⟨S_, .f32⟩
  | 122 => ⟨S1x4096x3072, .f32⟩
  | 123 => ⟨S1x4096x3072, .f32⟩
  | 124 => ⟨S1x4096x3072, .f32⟩
  | 125 => ⟨S1x4096x3072, .f32⟩
  | 126 => ⟨S1x4096x3072, .f32⟩
  | 127 => ⟨S1x4096x3072, .f32⟩
  | _ => ⟨S1x4096x1024, .f32⟩

abbrev hbmTy0_2 (i : Nat) : BufTy := match i % 128 with
  | 0 => ⟨S1x4096x3072, .f32⟩
  | 1 => ⟨S1x4096x6144, .f32⟩
  | 2 => ⟨S_, .f32⟩
  | 3 => ⟨S1x6144, .f32⟩
  | 4 => ⟨S1x1x6144, .f32⟩
  | 5 => ⟨S_, .f32⟩
  | 6 => ⟨S6144, .f32⟩
  | 7 => ⟨S1x6144, .f32⟩
  | 8 => ⟨S1x4096x6144, .f32⟩
  | 9 => ⟨S_, .f32⟩
  | 10 => ⟨S1x6144, .f32⟩
  | 11 => ⟨S1x1x6144, .f32⟩
  | 12 => ⟨S1x4096x6144, .f32⟩
  | 13 => ⟨S1x4096x6144, .f32⟩
  | 14 => ⟨S_, .f32⟩
  | 15 => ⟨S6144, .f32⟩
  | 16 => ⟨S1x6144, .f32⟩
  | 17 => ⟨S_, .f32⟩
  | 18 => ⟨S3x6144, .f32⟩
  | 19 => ⟨S_, .f32⟩
  | 20 => ⟨S1x4098x6144, .f32⟩
  | 21 => ⟨S1x4096x6144, .f32⟩
  | 22 => ⟨S_, .f32⟩
  | 23 => ⟨S1x6144, .f32⟩
  | 24 => ⟨S1x1x6144, .f32⟩
  | 25 => ⟨S1x4096x6144, .f32⟩
  | 26 => ⟨S1x4096x6144, .f32⟩
  | 27 => ⟨S_, .f32⟩
  | 28 => ⟨S6144, .f32⟩
  | 29 => ⟨S1x6144, .f32⟩
  | 30 => ⟨S_, .f32⟩
  | 31 => ⟨S3x6144, .f32⟩
  | 32 => ⟨S3x6144, .f32⟩
  | 33 => ⟨S_, .f32⟩
  | 34 => ⟨S1x4098x6144, .f32⟩
  | 35 => ⟨S1x4098x6144, .f32⟩
  | 36 => ⟨S1x4096x6144, .f32⟩
  | 37 => ⟨S_, .f32⟩
  | 38 => ⟨S1x6144, .f32⟩
  | 39 => ⟨S1x1x6144, .f32⟩
  | 40 => ⟨S1x4096x6144, .f32⟩
  | 41 => ⟨S1x4096x6144, .f32⟩
  | 42 => ⟨S_, .f32⟩
  | 43 => ⟨S6144, .f32⟩
  | 44 => ⟨S1x6144, .f32⟩
  | 45 => ⟨S_, .f32⟩
  | 46 => ⟨S3x6144, .f32⟩
  | 47 => ⟨S3x6144, .f32⟩
  | 48 => ⟨S_, .f32⟩
  | 49 => ⟨S1x4098x6144, .f32⟩
  | 50 => ⟨S1x4098x6144, .f32⟩
  | 51 => ⟨S1x2x6144, .f32⟩
  | 52 => ⟨S1x4096x6144, .f32⟩
  | 53 => ⟨S1x3x6144, .f32⟩
  | 54 => ⟨S1x1024, .f32⟩
  | 55 => ⟨S1x1024, .f32⟩
  | 56 => ⟨S_, .f32⟩
  | 57 => ⟨S5x1024, .f32⟩
  | 58 => ⟨S8x1024, .f32⟩
  | 59 => ⟨S1x4096x3072, .f32⟩
  | 60 => ⟨S1x4096x3072, .f32⟩
  | 61 => ⟨S2x4096x3072, .f32⟩
  | 62 => ⟨S1x3x3072, .f32⟩
  | 63 => ⟨S1x3x3072, .f32⟩
  | 64 => ⟨S2x3x3072, .f32⟩
  | 65 => ⟨S1x3072, .f32⟩
  | 66 => ⟨S1x1x3072, .f32⟩
  | 67 => ⟨S1x3072, .f32⟩
  | 68 => ⟨S1x1x3072, .f32⟩
  | 69 => ⟨S2x1x3072, .f32⟩
  | 70 => ⟨S4096x1024, .f32⟩
  | 71 => ⟨S4096x1024, .bf16⟩
  | 72 => ⟨S4096x1024, .f32⟩
  | 73 => ⟨S4096x1024, .bf16⟩
  | 74 => ⟨S4096x1024, .f32⟩
  | 75 => ⟨S4096x1024, .bf16⟩
  | 76 => ⟨S4096x1024, .f32⟩
  | 77 => ⟨S2x4096x3072, .bf16⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_21 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_22 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_cst_24 : Ref sig .tc := ⟨.hbm, 151, rfl⟩
abbrev main_v115 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_cst_28 : Ref sig .tc := ⟨.hbm, 161, rfl⟩
abbrev main_cst_29 : Ref sig .tc := ⟨.hbm, 162, rfl⟩
abbrev main_v121 : Ref sig .tc := ⟨.hbm, 163, rfl⟩
abbrev main_v122 : Ref sig .tc := ⟨.hbm, 164, rfl⟩
abbrev main_cst_30 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_31 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_32 : Ref sig .tc := ⟨.hbm, 177, rfl⟩
abbrev main_v133 : Ref sig .tc := ⟨.hbm, 178, rfl⟩
abbrev main_v134 : Ref sig .tc := ⟨.hbm, 179, rfl⟩
abbrev main_cst_33 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_34 : Ref sig .tc := ⟨.hbm, 186, rfl⟩
abbrev main_v140 : Ref sig .tc := ⟨.hbm, 187, rfl⟩
abbrev main_v141 : Ref sig .tc := ⟨.hbm, 188, rfl⟩
abbrev main_cst_35 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_37 : Ref sig .tc := ⟨.hbm, 211, rfl⟩
abbrev main_v162 : Ref sig .tc := ⟨.hbm, 212, rfl⟩
abbrev main_v163 : Ref sig .tc := ⟨.hbm, 213, rfl⟩
abbrev main_cst_38 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_39 : Ref sig .tc := ⟨.hbm, 220, rfl⟩
abbrev main_v169 : Ref sig .tc := ⟨.hbm, 221, rfl⟩
abbrev main_v170 : Ref sig .tc := ⟨.hbm, 222, rfl⟩
abbrev main_cst_40 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_41 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_42 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_43 : Ref sig .tc := ⟨.hbm, 258, rfl⟩
abbrev main_v203 : Ref sig .tc := ⟨.hbm, 259, rfl⟩
abbrev main_v204 : Ref sig .tc := ⟨.hbm, 260, rfl⟩
abbrev main_cst_44 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_cst_45 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_cst_46 : Ref sig .tc := ⟨.hbm, 270, rfl⟩
abbrev main_v212 : Ref sig .tc := ⟨.hbm, 271, rfl⟩
abbrev main_v213 : Ref sig .tc := ⟨.hbm, 272, rfl⟩
abbrev main_cst_47 : Ref sig .tc := ⟨.hbm, 273, rfl⟩
abbrev main_v214 : Ref sig .tc := ⟨.hbm, 274, rfl⟩
abbrev main_cst_48 : Ref sig .tc := ⟨.hbm, 275, rfl⟩
abbrev main_v215 : Ref sig .tc := ⟨.hbm, 276, rfl⟩
abbrev main_v216 : Ref sig .tc := ⟨.hbm, 277, rfl⟩
abbrev main_cst_49 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_cst_50 : Ref sig .tc := ⟨.hbm, 283, rfl⟩
abbrev main_v221 : Ref sig .tc := ⟨.hbm, 284, rfl⟩
abbrev main_v222 : Ref sig .tc := ⟨.hbm, 285, rfl⟩
abbrev main_cst_51 : Ref sig .tc := ⟨.hbm, 286, rfl⟩
abbrev main_v223 : Ref sig .tc := ⟨.hbm, 287, rfl⟩
abbrev main_v224 : Ref sig .tc := ⟨.hbm, 288, rfl⟩
abbrev main_cst_52 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_53 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_cst_54 : Ref sig .tc := ⟨.hbm, 298, rfl⟩
abbrev main_v232 : Ref sig .tc := ⟨.hbm, 299, rfl⟩
abbrev main_v233 : Ref sig .tc := ⟨.hbm, 300, rfl⟩
abbrev main_cst_55 : Ref sig .tc := ⟨.hbm, 301, rfl⟩
abbrev main_v234 : Ref sig .tc := ⟨.hbm, 302, rfl⟩
abbrev main_v235 : Ref sig .tc := ⟨.hbm, 303, rfl⟩
abbrev main_cst_56 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_cst_57 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩

abbrev nD : Nat := 1
abbrev τ : Topo := Topo.v7x

variable {F : FTy → Type} [FloatOps F]

def κ : String → Option EReal := fun
  | "k" => some ((8943 / 200000 : ℝ) : EReal)
  | "k3" => some ((26829 / 200000 : ℝ) : EReal)
  | _ => none
-- ==== Mix.lean ====
abbrev S4096x7168 : Shape := ⟨2, ![4096, 7168]⟩
abbrev S4096x1024 : Shape := ⟨2, ![4096, 1024]⟩
abbrev S4x1024 : Shape := ⟨2, ![4, 1024]⟩
abbrev S1x1024 : Shape := ⟨2, ![1, 1024]⟩
abbrev S8x128x128 : Shape := ⟨3, ![8, 128, 128]⟩
abbrev S3x1024 : Shape := ⟨2, ![3, 1024]⟩
abbrev S5x4096x1024 : Shape := ⟨3, ![5, 4096, 1024]⟩
abbrev S4096x128 : Shape := ⟨2, ![4096, 128]⟩
abbrev S4x128 : Shape := ⟨2, ![4, 128]⟩
abbrev S1x128 : Shape := ⟨2, ![1, 128]⟩
abbrev S1x128x128 : Shape := ⟨3, ![1, 128, 128]⟩
abbrev S3x128 : Shape := ⟨2, ![3, 128]⟩
abbrev S5x4096x128 : Shape := ⟨3, ![5, 4096, 128]⟩
abbrev S128x128 : Shape := ⟨2, ![128, 128]⟩
abbrev S16x128 : Shape := ⟨2, ![16, 128]⟩
abbrev S512x128 : Shape := ⟨2, ![512, 128]⟩
abbrev S528x128 : Shape := ⟨2, ![528, 128]⟩
abbrev S1x512x128 : Shape := ⟨3, ![1, 512, 128]⟩
abbrev S128 : Shape := ⟨1, ![128]⟩
abbrev S8x128 : Shape := ⟨2, ![8, 128]⟩
abbrev S1024x128 : Shape := ⟨2, ![1024, 128]⟩
abbrev S1040x128 : Shape := ⟨2, ![1040, 128]⟩
abbrev S256x128 : Shape := ⟨2, ![256, 128]⟩
abbrev S272x128 : Shape := ⟨2, ![272, 128]⟩
abbrev S1x256x128 : Shape := ⟨3, ![1, 256, 128]⟩

abbrev nBuf : Space → Nat
  | .hbm => 21
  | .vmem => 57
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x1024, .f32⟩
  | .hbm, ⟨5, _⟩ => ⟨S1x1024, .f32⟩
  | .hbm, ⟨6, _⟩ => ⟨S8x128x128, .f32⟩
  | .hbm, ⟨7, _⟩ => ⟨S1x1024, .f32⟩
  | .hbm, ⟨8, _⟩ => ⟨S8x128x128, .f32⟩
  | .hbm, ⟨9, _⟩ => ⟨S1x1024, .f32⟩
  | .hbm, ⟨10, _⟩ => ⟨S1x1024, .f32⟩
  | .hbm, ⟨11, _⟩ => ⟨S3x1024, .f32⟩
  | .hbm, ⟨12, _⟩ => ⟨S5x4096x1024, .bf16⟩
  | .hbm, ⟨13, _⟩ => ⟨S4x1024, .f32⟩
  | .hbm, ⟨14, _⟩ => ⟨S1x1024, .f32⟩
  | .hbm, ⟨15, _⟩ => ⟨S8x128x128, .f32⟩
  | .hbm, ⟨16, _⟩ => ⟨S1x1024, .f32⟩
  | .hbm, ⟨17, _⟩ => ⟨S8x128x128, .f32⟩
  | .hbm, ⟨18, _⟩ => ⟨S1x1024, .f32⟩
  | .hbm, ⟨19, _⟩ => ⟨S1x1024, .f32⟩
  | .hbm, ⟨20, _⟩ => ⟨S3x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4x128, .f32⟩
  | .local _ .vmem, ⟨17, _⟩ => ⟨S4x128, .f32⟩
  | .local _ .vmem, ⟨18, _⟩ => ⟨S1x128, .f32⟩
  | .local _ .vmem, ⟨19, _⟩ => ⟨S1x128, .f32⟩
  | .local _ .vmem, ⟨20, _⟩ => ⟨S1x128x128, .f32⟩
  | .local _ .vmem, ⟨21, _⟩ => ⟨S1x128x128, .f32⟩
  | .local _ .vmem, ⟨22, _⟩ => ⟨S1x128, .f32⟩
  | .local _ .vmem, ⟨23, _⟩ => ⟨S1x128, .f32⟩
  | .local _ .vmem, ⟨24, _⟩ => ⟨S1x128x128, .f32⟩
  | .local _ .vmem, ⟨25, _⟩ => ⟨S1x128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S3x128, .f32⟩
  | .local _ .vmem, ⟨31, _⟩ => ⟨S3x128, .f32⟩
  | .local _ .vmem, ⟨32, _⟩ => ⟨S5x4096x128, .bf16⟩
  | .local _ .vmem, ⟨33, _⟩ => ⟨S5x4096x128, .bf16⟩
  | .local _ .vmem, ⟨34, _⟩ => ⟨S4x128, .f32⟩
  | .local _ .vmem, ⟨35, _⟩ => ⟨S4x128, .f32⟩
  | .local _ .vmem, ⟨36, _⟩ => ⟨S1x128, .f32⟩
  | .local _ .vmem, ⟨37, _⟩ => ⟨S1x128, .f32⟩
  | .local _ .vmem, ⟨38, _⟩ => ⟨S1x128x128, .f32⟩
  | .local _ .vmem, ⟨39, _⟩ => ⟨S1x128x128, .f32⟩
  | .local _ .vmem, ⟨40, _⟩ => ⟨S1x128, .f32⟩
  | .local _ .vmem, ⟨41, _⟩ => ⟨S1x128, .f32⟩
  | .local _ .vmem, ⟨42, _⟩ => ⟨S1x128x128, .f32⟩
  | .local _ .vmem, ⟨43, _⟩ => ⟨S1x128x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S3x128, .f32⟩
  | .local _ .vmem, ⟨49, _⟩ => ⟨S3x128, .f32⟩
  | .local _ .vmem, ⟨50, _⟩ => ⟨S4096x128, .f32⟩
  | .local _ .vmem, ⟨51, _⟩ => ⟨S4096x128, .f32⟩
  | .local _ .vmem, ⟨52, _⟩ => ⟨S4096x128, .f32⟩
  | .local _ .vmem, ⟨53, _⟩ => ⟨S4096x128, .f32⟩
  | .local _ .vmem, ⟨54, _⟩ => ⟨S4096x128, .f32⟩
  | .local _ .vmem, ⟨55, _⟩ => ⟨S4096x128, .f32⟩
  | .local _ .vmem, ⟨56, _⟩ => ⟨S4096x128, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_scratch4 : Ref sig .tc := ⟨.vmem, 54, rfl⟩
abbrev cc0_scratch5 : Ref sig .tc := ⟨.vmem, 55, rfl⟩
abbrev cc0_scratch6 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v33 : BitVec 32 := Scalar.addi c0_i32 c8_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32 : BitVec 32 := 512#32
  let v56 : BitVec 32 := Scalar.muli arg33 c512_i32
  v56
def k0_mult2 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_57 : BitVec 32 := 512#32
  let v58 : BitVec 32 := Scalar.muli arg33 c512_i32_57
  let c16_i32_58 : BitVec 32 := 16#32
  let v59 : BitVec 32 := Scalar.subi v58 c16_i32_58
  let c0_i32_59 : BitVec 32 := 0#32
  let v60 : BitVec 32 := Scalar.maxsi v59 c0_i32_59
  v60
def k0_off1 (k0_t1 : Fin k0_t1_loop.trips) : Fin 2 → Nat :=
  let c0_i32 : BitVec 32 := 0#32
  let c1_i32 : BitVec 32 := 1#32
  let arg33 : BitVec 32 := Scf.iv c0_i32 c1_i32 k0_t1
  let c512_i32_57 : BitVec 32 := 512#32
  let v58 : BitVec 32 := Scalar.muli arg33 c512_i32_57
  let c16_i32_58 : BitVec 32 := 16#32
  let v59 : BitVec 32 := Scalar.subi v58 c16_i32_58
  let c0_i32_59 : BitVec 32 := 0#32
  let v60 : BitVec 32 := Scalar.maxsi v59 c0_i32_59
  let v61 : BitVec 32 := v60
  let v63 : Index := Scalar.indexCast v61
  let c0_61 : Index := 0#32
  ![v63.toNat, 0]
def k0_mult3 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_57 : BitVec 32 := 512#32
  let v58 : BitVec 32 := Scalar.muli arg33 c512_i32_57
  v58
def k0_off2 (k0_t1 : Fin k0_t1_loop.trips) : Fin 2 → Nat :=
  let c0_i32 : BitVec 32 := 0#32
  let c1_i32 : BitVec 32 := 1#32
  let arg33 : BitVec 32 := Scf.iv c0_i32 c1_i32 k0_t1
  let c512_i32_57 : BitVec 32 := 512#32
  let v58 : BitVec 32 := Scalar.muli arg33 c512_i32_57
  let v68 : BitVec 32 := v58
  let v69 : Index := Scalar.indexCast v68
  let c0_63 : Index := 0#32
  ![v69.toNat, 0]
def k0_off3 (k0_t1 : Fin k0_t1_loop.trips) : Fin 3 → Nat :=
  let c1_104 : Index := 1#32
  let c0_i32 : BitVec 32 := 0#32
  let c1_i32 : BitVec 32 := 1#32
  let arg33 : BitVec 32 := Scf.iv c0_i32 c1_i32 k0_t1
  let c512_i32 : BitVec 32 := 512#32
  let v56 : BitVec 32 := Scalar.muli arg33 c512_i32
  let v57 : BitVec 32 := v56
  let v189 : Index := Scalar.indexCast v57
  let c0_105 : Index := 0#32
  ![1, v189.toNat, 0]
def k0_mult4 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_106 : BitVec 32 := 512#32
  let v193 : BitVec 32 := Scalar.muli arg33 c512_i32_106
  let c16_i32_107 : BitVec 32 := 16#32
  let v194 : BitVec 32 := Scalar.subi v193 c16_i32_107
  let c0_i32_108 : BitVec 32 := 0#32
  let v195 : BitVec 32 := Scalar.maxsi v194 c0_i32_108
  v195
def k0_mult5 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_106 : BitVec 32 := 512#32
  let v193 : BitVec 32 := Scalar.muli arg33 c512_i32_106
  v193
def k0_mult6 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_113 : BitVec 32 := 512#32
  let v208 : BitVec 32 := Scalar.muli arg33 c512_i32_113
  let c16_i32_114 : BitVec 32 := 16#32
  let v209 : BitVec 32 := Scalar.subi v208 c16_i32_114
  let c0_i32_115 : BitVec 32 := 0#32
  let v210 : BitVec 32 := Scalar.maxsi v209 c0_i32_115
  v210
def k0_mult7 (k0_t1 : Fin k0_t1_loop.trips) : BitVec 32 :=
  let c0_i32 : BitVec 32 := 0#32
  let c1_i32 : BitVec 32 := 1#32
  let arg33 : BitVec 32 := Scf.iv c0_i32 c1_i32 k0_t1
  let c512_i32_113 : BitVec 32 := 512#32
  let v208 : BitVec 32 := Scalar.muli arg33 c512_i32_113
  v208
def k0_off4 (k0_t1 : Fin k0_t1_loop.trips) : Fin 3 → Nat :=
  let c2_129 : Index := 2#32
  let c0_i32 : BitVec 32 := 0#32
  let c1_i32 : BitVec 32 := 1#32
  let arg33 : BitVec 32 := Scf.iv c0_i32 c1_i32 k0_t1
  let c512_i32 : BitVec 32 := 512#32
  let v56 : BitVec 32 := Scalar.muli arg33 c512_i32
  let v57 : BitVec 32 := v56
  let v245 : Index := Scalar.indexCast v57
  let c0_130 : Index := 0#32
  ![2, v245.toNat, 0]
@[reducible] def k0_t2_loop : Scf.Loop 32 :=
  let c0_i32_37 : BitVec 32 := 0#32
  let c32_i32 : BitVec 32 := 32#32
  let v36 : BitVec 32 := Scalar.addi c0_i32_37 c32_i32
  let c1_i32_38 : BitVec 32 := 1#32
  ⟨c0_i32_37, v36, c1_i32_38⟩
def k0_mult8 (k0_t2 : Fin k0_t2_loop.trips) : BitVec 32 :=
  let c511_i32 : BitVec 32 := 511#32
  let c0_i32_37 : BitVec 32 := 0#32
  let c1_i32_38 : BitVec 32 := 1#32
  let arg33 : BitVec 32 := Scf.iv c0_i32_37 c1_i32_38 k0_t2
  let c16_i32_57 : BitVec 32 := 16#32
  let v56 : BitVec 32 := Scalar.muli arg33 c16_i32_57
  let c0_i32_58 : BitVec 32 := 0#32
  let v57 : BitVec 32 := Scalar.addi v56 c0_i32_58
  let v58 : BitVec 32 := Scalar.subi c511_i32 v57
  let c8_i32_59 : BitVec 32 := 8#32
  let v59 : BitVec 32 := Scalar.muli v58 c8_i32_59
  v59
def k0_off5 (k0_t2 : Fin k0_t2_loop.trips) (c0_i32_58 : BitVec 32) : Fin 2 → Nat :=
  let c511_i32 : BitVec 32 := 511#32
  let c0_i32_37 : BitVec 32 := 0#32
  let c1_i32_38 : BitVec 32 := 1#32
  let arg33 : BitVec 32 := Scf.iv c0_i32_37 c1_i32_38 k0_t2
  let c16_i32_57 : BitVec 32 := 16#32
  let v56 : BitVec 32 := Scalar.muli arg33 c16_i32_57
  let v57 : BitVec 32 := Scalar.addi v56 c0_i32_58
  let v58 : BitVec 32 := Scalar.subi c511_i32 v57
  let c8_i32_59 : BitVec 32 := 8#32
  let v59 : BitVec 32 := Scalar.muli v58 c8_i32_59
  let v60 : BitVec 32 := v59
  let v61 : Index := Scalar.indexCast v60
  let c0_60 : Index := 0#32
  ![v61.toNat, 0]
def k0_mult9 (k0_t2 : Fin k0_t2_loop.trips) : BitVec 32 :=
  let c511_i32_74 : BitVec 32 := 511#32
  let c0_i32_37 : BitVec 32 := 0#32
  let c1_i32_38 : BitVec 32 := 1#32
  let arg33 : BitVec 32 := Scf.iv c0_i32_37 c1_i32_38 k0_t2
  let c16_i32_72 : BitVec 32 := 16#32
  let v113 : BitVec 32 := Scalar.muli arg33 c16_i32_72
  let c1_i32_73 : BitVec 32 := 1#32
  let v114 : BitVec 32 := Scalar.addi v113 c1_i32_73
  let v115 : BitVec 32 := Scalar.subi c511_i32_74 v114
  let c8_i32_75 : BitVec 32 := 8#32
  let v116 : BitVec 32 := Scalar.muli v115 c8_i32_75
  v116
def k0_mult10 (k0_t2 : Fin k0_t2_loop.trips) : BitVec 32 :=
  let c511_i32_91 : BitVec 32 := 511#32
  let c0_i32_37 : BitVec 32 := 0#32
  let c1_i32_38 : BitVec 32 := 1#32
  let arg33 : BitVec 32 := Scf.iv c0_i32_37 c1_i32_38 k0_t2
  let c16_i32_90 : BitVec 32 := 16#32
  let v170 : BitVec 32 := Scalar.muli arg33 c16_i32_90
  let c2_i32 : BitVec 32 := 2#32
  let v171 : BitVec 32 := Scalar.addi v170 c2_i32
  let v172 : BitVec 32 := Scalar.subi c511_i32_91 v171
  let c8_i32_92 : BitVec 32 := 8#32
  let v173 : BitVec 32 := Scalar.muli v172 c8_i32_92
  v173
def k0_mult11 (k0_t2 : Fin k0_t2_loop.trips) : BitVec 32 :=
  let c511_i32_108 : BitVec 32 := 511#32
  let c0_i32_37 : BitVec 32 := 0#32
  let c1_i32_38 : BitVec 32 := 1#32
  let arg33 : BitVec 32 := Scf.iv c0_i32_37 c1_i32_38 k0_t2
  let c16_i32_107 : BitVec 32 := 16#32
  let v227 : BitVec 32 := Scalar.muli arg33 c16_i32_107
  let c3_i32 : BitVec 32 := 3#32
  let v228 : BitVec 32 := Scalar.addi v227 c3_i32
  let v229 : BitVec 32 := Scalar.subi c511_i32_108 v228
  let c8_i32_109 : BitVec 32 := 8#32
  let v230 : BitVec 32 := Scalar.muli v229 c8_i32_109
  v230
def k0_mult12 (k0_t2 : Fin k0_t2_loop.trips) : BitVec 32 :=
  let c511_i32_126 : BitVec 32 := 511#32
  let c0_i32_37 : BitVec 32 := 0#32
  let c1_i32_38 : BitVec 32 := 1#32
  let arg33 : BitVec 32 := Scf.iv c0_i32_37 c1_i32_38 k0_t2
  let c16_i32_124 : BitVec 32 := 16#32
  let v284 : BitVec 32 := Scalar.muli arg33 c16_i32_124
  let c4_i32_125 : BitVec 32 := 4#32
  let v285 : BitVec 32 := Scalar.addi v284 c4_i32_125
  let v286 : BitVec 32 := Scalar.subi c511_i32_126 v285
  let c8_i32_127 : BitVec 32 := 8#32
  let v287 : BitVec 32 := Scalar.muli v286 c8_i32_127
  v287
def k0_mult13 (k0_t2 : Fin k0_t2_loop.trips) : BitVec 32 :=
  let c511_i32_143 : BitVec 32 := 511#32
  let c0_i32_37 : BitVec 32 := 0#32
  let c1_i32_38 : BitVec 32 := 1#32
  let arg33 : BitVec 32 := Scf.iv c0_i32_37 c1_i32_38 k0_t2
  let c16_i32_142 : BitVec 32 := 16#32
  let v341 : BitVec 32 := Scalar.muli arg33 c16_i32_142
  let c5_i32 : BitVec 32 := 5#32
  let v342 : BitVec 32 := Scalar.addi v341 c5_i32
  let v343 : BitVec 32 := Scalar.subi c511_i32_143 v342
  let c8_i32_144 : BitVec 32 := 8#32
  let v344 : BitVec 32 := Scalar.muli v343 c8_i32_144
  v344
def k0_mult14 (k0_t2 : Fin k0_t2_loop.trips) : BitVec 32 :=
  let c511_i32_161 : BitVec 32 := 511#32
  let c0_i32_37 : BitVec 32 := 0#32
  let c1_i32_38 : BitVec 32 := 1#32
  let arg33 : BitVec 32 := Scf.iv c0_i32_37 c1_i32_38 k0_t2
  let c16_i32_159 : BitVec 32 := 16#32
  let v398 : BitVec 32 := Scalar.muli arg33 c16_i32_159
  let c6_i32_160 : BitVec 32 := 6#32
  let v399 : BitVec 32 := Scalar.addi v398 c6_i32_160
  let v400 : BitVec 32 := Scalar.subi c511_i32_161 v399
  let c8_i32_162 : BitVec 32 := 8#32
  let v401 : BitVec 32 := Scalar.muli v400 c8_i32_162
  v401
def k0_mult15 (k0_t2 : Fin k0_t2_loop.trips) : BitVec 32 :=
  let c511_i32_179 : BitVec 32 := 511#32
  let c0_i32_37 : BitVec 32 := 0#32
  let c1_i32_38 : BitVec 32 := 1#32
  let arg33 : BitVec 32 := Scf.iv c0_i32_37 c1_i32_38 k0_t2
  let c16_i32_177 : BitVec 32 := 16#32
  let v455 : BitVec 32 := Scalar.muli arg33 c16_i32_177
  let c7_i32_178 : BitVec 32 := 7#32
  let v456 : BitVec 32 := Scalar.addi v455 c7_i32_178
  let v457 : BitVec 32 := Scalar.subi c511_i32_179 v456
  let c8_i32_180 : BitVec 32 := 8#32
  let v458 : BitVec 32 := Scalar.muli v457 c8_i32_180
  v458
def k0_mult16 (k0_t2 : Fin k0_t2_loop.trips) : BitVec 32 :=
  let c511_i32_197 : BitVec 32 := 511#32
  let c0_i32_37 : BitVec 32 := 0#32
  let c1_i32_38 : BitVec 32 := 1#32
  let arg33 : BitVec 32 := Scf.iv c0_i32_37 c1_i32_38 k0_t2
  let c16_i32_195 : BitVec 32 := 16#32
  let v512 : BitVec 32 := Scalar.muli arg33 c16_i32_195
  let c8_i32_196 : BitVec 32 := 8#32
  let v513 : BitVec 32 := Scalar.addi v512 c8_i32_196
  let v514 : BitVec 32 := Scalar.subi c511_i32_197 v513
  let c8_i32_198 : BitVec 32 := 8#32
  let v515 : BitVec 32 := Scalar.muli v514 c8_i32_198
  v515
def k0_mult17 (k0_t2 : Fin k0_t2_loop.trips) : BitVec 32 :=
  let c511_i32_214 : BitVec 32 := 511#32
  let c0_i32_37 : BitVec 32 := 0#32
  let c1_i32_38 : BitVec 32 := 1#32
  let arg33 : BitVec 32 := Scf.iv c0_i32_37 c1_i32_38 k0_t2
  let c16_i32_213 : BitVec 32 := 16#32
  let v569 : BitVec 32 := Scalar.muli arg33 c16_i32_213
  let c9_i32 : BitVec 32 := 9#32
  let v570 : BitVec 32 := Scalar.addi v569 c9_i32
  let v571 : BitVec 32 := Scalar.subi c511_i32_214 v570
  let c8_i32_215 : BitVec 32 := 8#32
  let v572 : BitVec 32 := Scalar.muli v571 c8_i32_215
  v572
def k0_mult18 (k0_t2 : Fin k0_t2_loop.trips) : BitVec 32 :=
  let c511_i32_231 : BitVec 32 := 511#32
  let c0_i32_37 : BitVec 32 := 0#32
  let c1_i32_38 : BitVec 32 := 1#32
  let arg33 : BitVec 32 := Scf.iv c0_i32_37 c1_i32_38 k0_t2
  let c16_i32_230 : BitVec 32 := 16#32
  let v626 : BitVec 32 := Scalar.muli arg33 c16_i32_230
  let c10_i32 : BitVec 32 := 10#32
  let v627 : BitVec 32 := Scalar.addi v626 c10_i32
  let v628 : BitVec 32 := Scalar.subi c511_i32_231 v627
  let c8_i32_232 : BitVec 32 := 8#32
  let v629 : BitVec 32 := Scalar.muli v628 c8_i32_232
  v629
def k0_mult19 (k0_t2 : Fin k0_t2_loop.trips) : BitVec 32 :=
  let c511_i32_248 : BitVec 32 := 511#32
  let c0_i32_37 : BitVec 32 := 0#32
  let c1_i32_38 : BitVec 32 := 1#32
  let arg33 : BitVec 32 := Scf.iv c0_i32_37 c1_i32_38 k0_t2
  let c16_i32_247 : BitVec 32 := 16#32
  let v683 : BitVec 32 := Scalar.muli arg33 c16_i32_247
  let c11_i32 : BitVec 32 := 11#32
  let v684 : BitVec 32 := Scalar.addi v683 c11_i32
  let v685 : BitVec 32 := Scalar.subi c511_i32_248 v684
  let c8_i32_249 : BitVec 32 := 8#32
  let v686 : BitVec 32 := Scalar.muli v685 c8_i32_249
  v686
def k0_mult20 (k0_t2 : Fin k0_t2_loop.trips) : BitVec 32 :=
  let c511_i32_265 : BitVec 32 := 511#32
  let c0_i32_37 : BitVec 32 := 0#32
  let c1_i32_38 : BitVec 32 := 1#32
  let arg33 : BitVec 32 := Scf.iv c0_i32_37 c1_i32_38 k0_t2
  let c16_i32_264 : BitVec 32 := 16#32
  let v740 : BitVec 32 := Scalar.muli arg33 c16_i32_264
  let c12_i32 : BitVec 32 := 12#32
  let v741 : BitVec 32 := Scalar.addi v740 c12_i32
  let v742 : BitVec 32 := Scalar.subi c511_i32_265 v741
  let c8_i32_266 : BitVec 32 := 8#32
  let v743 : BitVec 32 := Scalar.muli v742 c8_i32_266
  v743
def k0_mult21 (k0_t2 : Fin k0_t2_loop.trips) : BitVec 32 :=
  let c511_i32_282 : BitVec 32 := 511#32
  let c0_i32_37 : BitVec 32 := 0#32
  let c1_i32_38 : BitVec 32 := 1#32
  let arg33 : BitVec 32 := Scf.iv c0_i32_37 c1_i32_38 k0_t2
  let c16_i32_281 : BitVec 32 := 16#32
  let v797 : BitVec 32 := Scalar.muli arg33 c16_i32_281
  let c13_i32 : BitVec 32 := 13#32
  let v798 : BitVec 32 := Scalar.addi v797 c13_i32
  let v799 : BitVec 32 := Scalar.subi c511_i32_282 v798
  let c8_i32_283 : BitVec 32 := 8#32
  let v800 : BitVec 32 := Scalar.muli v799 c8_i32_283
  v800
def k0_mult22 (k0_t2 : Fin k0_t2_loop.trips) : BitVec 32 :=
  let c511_i32_299 : BitVec 32 := 511#32
  let c0_i32_37 : BitVec 32 := 0#32
  let c1_i32_38 : BitVec 32 := 1#32
  let arg33 : BitVec 32 := Scf.iv c0_i32_37 c1_i32_38 k0_t2
  let c16_i32_298 : BitVec 32 := 16#32
  let v854 : BitVec 32 := Scalar.muli arg33 c16_i32_298
  let c14_i32 : BitVec 32 := 14#32
  let v855 : BitVec 32 := Scalar.addi v854 c14_i32
  let v856 : BitVec 32 := Scalar.subi c511_i32_299 v855
  let c8_i32_300 : BitVec 32 := 8#32
  let v857 : BitVec 32 := Scalar.muli v856 c8_i32_300
  v857
def k0_mult23 (k0_t2 : Fin k0_t2_loop.trips) : BitVec 32 :=
  let c511_i32_316 : BitVec 32 := 511#32
  let c0_i32_37 : BitVec 32 := 0#32
  let c1_i32_38 : BitVec 32 := 1#32
  let arg33 : BitVec 32 := Scf.iv c0_i32_37 c1_i32_38 k0_t2
  let c16_i32_315 : BitVec 32 := 16#32
  let v911 : BitVec 32 := Scalar.muli arg33 c16_i32_315
  let c15_i32 : BitVec 32 := 15#32
  let v912 : BitVec 32 := Scalar.addi v911 c15_i32
  let v913 : BitVec 32 := Scalar.subi c511_i32_316 v912
  let c8_i32_317 : BitVec 32 := 8#32
  let v914 : BitVec 32 := Scalar.muli v913 c8_i32_317
  v914
@[reducible] def k0_t3_loop : Scf.Loop 32 :=
  let c0_i32_40 : BitVec 32 := 0#32
  let c4_i32 : BitVec 32 := 4#32
  let v38 : BitVec 32 := Scalar.addi c0_i32_40 c4_i32
  let c1_i32_41 : BitVec 32 := 1#32
  ⟨c0_i32_40, v38, c1_i32_41⟩
def k0_mult24 (k0_t3 : Fin k0_t3_loop.trips) : BitVec 32 :=
  let c0_i32_40 : BitVec 32 := 0#32
  let c1_i32_41 : BitVec 32 := 1#32
  let arg33 : BitVec 32 := Scf.iv c0_i32_40 c1_i32_41 k0_t3
  let c1024_i32 : BitVec 32 := 1024#32
  let v56 : BitVec 32 := Scalar.muli arg33 c1024_i32
  v56
def k0_off6 (k0_t3 : Fin k0_t3_loop.trips) : Fin 2 → Nat :=
  let c0_i32_40 : BitVec 32 := 0#32
  let c1_i32_41 : BitVec 32 := 1#32
  let arg33 : BitVec 32 := Scf.iv c0_i32_40 c1_i32_41 k0_t3
  let c1024_i32 : BitVec 32 := 1024#32
  let v56 : BitVec 32 := Scalar.muli arg33 c1024_i32
  let v57 : BitVec 32 := v56
  let v58 : Index := Scalar.indexCast v57
  let c0_57 : Index := 0#32
  ![v58.toNat, 0]
def k0_mult25 (k0_t3 : Fin k0_t3_loop.trips) : BitVec 32 :=
  let c0_i32_40 : BitVec 32 := 0#32
  let c1_i32_41 : BitVec 32 := 1#32
  let arg33 : BitVec 32 := Scf.iv c0_i32_40 c1_i32_41 k0_t3
  let c1024_i32_69 : BitVec 32 := 1024#32
  let v90 : BitVec 32 := Scalar.muli arg33 c1024_i32_69
  let c16_i32_70 : BitVec 32 := 16#32
  let v91 : BitVec 32 := Scalar.subi v90 c16_i32_70
  let c0_i32_71 : BitVec 32 := 0#32
  let v92 : BitVec 32 := Scalar.maxsi v91 c0_i32_71
  v92
def k0_off7 (k0_t3 : Fin k0_t3_loop.trips) : Fin 2 → Nat :=
  let c0_i32_40 : BitVec 32 := 0#32
  let c1_i32_41 : BitVec 32 := 1#32
  let arg33 : BitVec 32 := Scf.iv c0_i32_40 c1_i32_41 k0_t3
  let c1024_i32_69 : BitVec 32 := 1024#32
  let v90 : BitVec 32 := Scalar.muli arg33 c1024_i32_69
  let c16_i32_70 : BitVec 32 := 16#32
  let v91 : BitVec 32 := Scalar.subi v90 c16_i32_70
  let c0_i32_71 : BitVec 32 := 0#32
  let v92 : BitVec 32 := Scalar.maxsi v91 c0_i32_71
  let v93 : BitVec 32 := v92
  let v95 : Index := Scalar.indexCast v93
  let c0_73 : Index := 0#32
  ![v95.toNat, 0]
def k0_mult26 (k0_t3 : Fin k0_t3_loop.trips) : BitVec 32 :=
  let c0_i32_40 : BitVec 32 := 0#32
  let c1_i32_41 : BitVec 32 := 1#32
  let arg33 : BitVec 32 := Scf.iv c0_i32_40 c1_i32_41 k0_t3
  let c1024_i32_69 : BitVec 32 := 1024#32
  let v90 : BitVec 32 := Scalar.muli arg33 c1024_i32_69
  v90
@[reducible] def k0_t4_loop : Scf.Loop 32 :=
  let c0_i32_54 : BitVec 32 := 0#32
  let c16_i32 : BitVec 32 := 16#32
  let v55 : BitVec 32 := Scalar.addi c0_i32_54 c16_i32
  let c1_i32_55 : BitVec 32 := 1#32
  ⟨c0_i32_54, v55, c1_i32_55⟩
def k0_mult27 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32 : BitVec 32 := 256#32
  let v56 : BitVec 32 := Scalar.muli arg33 c256_i32
  v56
def k0_mult28 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_57 : BitVec 32 := 256#32
  let v58 : BitVec 32 := Scalar.muli arg33 c256_i32_57
  let c256_i32_58 : BitVec 32 := 256#32
  let v59 : BitVec 32 := Scalar.addi v58 c256_i32_58
  let c4080_i32 : BitVec 32 := 4080#32
  let v60 : BitVec 32 := Scalar.minsi v59 c4080_i32
  v60
def k0_off8 (k0_t4 : Fin k0_t4_loop.trips) : Fin 2 → Nat :=
  let c0_i32_54 : BitVec 32 := 0#32
  let c1_i32_55 : BitVec 32 := 1#32
  let arg33 : BitVec 32 := Scf.iv c0_i32_54 c1_i32_55 k0_t4
  let c256_i32_57 : BitVec 32 := 256#32
  let v58 : BitVec 32 := Scalar.muli arg33 c256_i32_57
  let c256_i32_58 : BitVec 32 := 256#32
  let v59 : BitVec 32 := Scalar.addi v58 c256_i32_58
  let c4080_i32 : BitVec 32 := 4080#32
  let v60 : BitVec 32 := Scalar.minsi v59 c4080_i32
  let v61 : BitVec 32 := v60
  let v63 : Index := Scalar.indexCast v61
  let c0_59 : Index := 0#32
  ![v63.toNat, 0]
def k0_mult29 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_57 : BitVec 32 := 256#32
  let v58 : BitVec 32 := Scalar.muli arg33 c256_i32_57
  v58
def k0_off9 (k0_t4 : Fin k0_t4_loop.trips) : Fin 2 → Nat :=
  let c0_i32_54 : BitVec 32 := 0#32
  let c1_i32_55 : BitVec 32 := 1#32
  let arg33 : BitVec 32 := Scf.iv c0_i32_54 c1_i32_55 k0_t4
  let c256_i32_57 : BitVec 32 := 256#32
  let v58 : BitVec 32 := Scalar.muli arg33 c256_i32_57
  let v67 : BitVec 32 := v58
  let v68 : Index := Scalar.indexCast v67
  let c0_61 : Index := 0#32
  ![v68.toNat, 0]
def k0_mult30 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_62 : BitVec 32 := 256#32
  let v72 : BitVec 32 := Scalar.muli arg33 c256_i32_62
  let c16_i32_63 : BitVec 32 := 16#32
  let v73 : BitVec 32 := Scalar.subi v72 c16_i32_63
  let c0_i32_64 : BitVec 32 := 0#32
  let v74 : BitVec 32 := Scalar.maxsi v73 c0_i32_64
  v74
def k0_off10 (k0_t4 : Fin k0_t4_loop.trips) : Fin 2 → Nat :=
  let c0_i32_54 : BitVec 32 := 0#32
  let c1_i32_55 : BitVec 32 := 1#32
  let arg33 : BitVec 32 := Scf.iv c0_i32_54 c1_i32_55 k0_t4
  let c256_i32_62 : BitVec 32 := 256#32
  let v72 : BitVec 32 := Scalar.muli arg33 c256_i32_62
  let c16_i32_63 : BitVec 32 := 16#32
  let v73 : BitVec 32 := Scalar.subi v72 c16_i32_63
  let c0_i32_64 : BitVec 32 := 0#32
  let v74 : BitVec 32 := Scalar.maxsi v73 c0_i32_64
  let v75 : BitVec 32 := v74
  let v77 : Index := Scalar.indexCast v75
  let c0_66 : Index := 0#32
  ![v77.toNat, 0]
def k0_mult31 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_62 : BitVec 32 := 256#32
  let v72 : BitVec 32 := Scalar.muli arg33 c256_i32_62
  v72
def k0_off11 (k0_t4 : Fin k0_t4_loop.trips) : Fin 3 → Nat :=
  let c0_100 : Index := 0#32
  let c0_i32_54 : BitVec 32 := 0#32
  let c1_i32_55 : BitVec 32 := 1#32
  let arg33 : BitVec 32 := Scf.iv c0_i32_54 c1_i32_55 k0_t4
  let c256_i32 : BitVec 32 := 256#32
  let v56 : BitVec 32 := Scalar.muli arg33 c256_i32
  let v57 : BitVec 32 := v56
  let v150 : Index := Scalar.indexCast v57
  let c0_101 : Index := 0#32
  ![0, v150.toNat, 0]
def k0_mult32 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_102 : BitVec 32 := 256#32
  let v154 : BitVec 32 := Scalar.muli arg33 c256_i32_102
  let c256_i32_103 : BitVec 32 := 256#32
  let v155 : BitVec 32 := Scalar.addi v154 c256_i32_103
  let c4080_i32_104 : BitVec 32 := 4080#32
  let v156 : BitVec 32 := Scalar.minsi v155 c4080_i32_104
  v156
def k0_mult33 (k0_t4 : Fin k0_t4_loop.trips) : BitVec 32 :=
  let c0_i32_54 : BitVec 32 := 0#32
  let c1_i32_55 : BitVec 32 := 1#32
  let arg33 : BitVec 32 := Scf.iv c0_i32_54 c1_i32_55 k0_t4
  let c256_i32_102 : BitVec 32 := 256#32
  let v154 : BitVec 32 := Scalar.muli arg33 c256_i32_102
  v154
def k0_off12 (k0_t4 : Fin k0_t4_loop.trips) : Fin 3 → Nat :=
  let c3_118 : Index := 3#32
  let c0_i32_54 : BitVec 32 := 0#32
  let c1_i32_55 : BitVec 32 := 1#32
  let arg33 : BitVec 32 := Scf.iv c0_i32_54 c1_i32_55 k0_t4
  let c256_i32 : BitVec 32 := 256#32
  let v56 : BitVec 32 := Scalar.muli arg33 c256_i32
  let v57 : BitVec 32 := v56
  let v188 : Index := Scalar.indexCast v57
  let c0_119 : Index := 0#32
  ![3, v188.toNat, 0]
def k0_off13 (k0_t4 : Fin k0_t4_loop.trips) : Fin 3 → Nat :=
  let c4 : Index := 4#32
  let c0_i32_54 : BitVec 32 := 0#32
  let c1_i32_55 : BitVec 32 := 1#32
  let arg33 : BitVec 32 := Scf.iv c0_i32_54 c1_i32_55 k0_t4
  let c256_i32 : BitVec 32 := 256#32
  let v56 : BitVec 32 := Scalar.muli arg33 c256_i32
  let v57 : BitVec 32 := v56
  let v197 : Index := Scalar.indexCast v57
  let c0_121 : Index := 0#32
  ![4, v197.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5x4096x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S3x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Norm.lean ====
abbrev S1x4096x1024 : Shape := ⟨3, ![1, 4096, 1024]⟩
abbrev S1x1024 : Shape := ⟨2, ![1, 1024]⟩
abbrev S1x1024x7168 : Shape := ⟨3, ![1, 1024, 7168]⟩
abbrev S4096x1024 : Shape := ⟨2, ![4096, 1024]⟩
abbrev S1024x7168 : Shape := ⟨2, ![1024, 7168]⟩
abbrev S4096x7168 : Shape := ⟨2, ![4096, 7168]⟩
abbrev S512x1024 : Shape := ⟨2, ![512, 1024]⟩
abbrev S512x7168 : Shape := ⟨2, ![512, 7168]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S4096x1024, .f32⟩
  | .hbm, ⟨4, _⟩ => ⟨S1024x7168, .f32⟩
  | .hbm, ⟨5, _⟩ => ⟨S1024x7168, .bf16⟩
  | .hbm, ⟨6, _⟩ => ⟨S4096x7168, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7168, .bf16⟩
  | .local _ .vmem, ⟨4, _⟩ => ⟨S512x7168, .bf16⟩
  | .local _ .vmem, ⟨5, _⟩ => ⟨S512x7168, .bf16⟩
  | .local _ .vmem, ⟨6, _⟩ => ⟨S512x1024, .bf16⟩
  | .local _ .vmem, ⟨7, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S1x4096x1024 : Shape := ⟨3, ![1, 4096, 1024]⟩
abbrev S1x1024 : Shape := ⟨2, ![1, 1024]⟩
abbrev S1x1024x7168 : Shape := ⟨3, ![1, 1024, 7168]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x7168 : Shape := ⟨2, ![1024, 7168]⟩
abbrev S1x4096x7168 : Shape := ⟨3, ![1, 4096, 7168]⟩
abbrev S4096x7168 : Shape := ⟨2, ![4096, 7168]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x7168, .f32⟩
  | .hbm, ⟨21, _⟩ => ⟨S1x4096x7168, .f32⟩
  | .hbm, ⟨22, _⟩ => ⟨S4096x7168, .f32⟩
  | .hbm, ⟨23, _⟩ => ⟨S4096x7168, .bf16⟩
  | .hbm, ⟨24, _⟩ => ⟨S4096x1024, .f32⟩
  | .hbm, ⟨25, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Merge.lean ====
abbrev S1x4096x1024 : Shape := ⟨3, ![1, 4096, 1024]⟩
abbrev S1x1024x1024 : Shape := ⟨3, ![1, 1024, 1024]⟩
abbrev S1x1024 : Shape := ⟨2, ![1, 1024]⟩
abbrev S_ : Shape := ⟨0, ![]⟩
abbrev S4096x5120 : Shape := ⟨2, ![4096, 5120]⟩
abbrev S4096x1024 : Shape := ⟨2, ![4096, 1024]⟩
abbrev S4096x2048 : Shape := ⟨2, ![4096, 2048]⟩
abbrev S4096x7168 : Shape := ⟨2, ![4096, 7168]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 33
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S_, .bf16⟩
  | .hbm, ⟨10, _⟩ => ⟨S4096x5120, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x2048, .bf16⟩
  | .hbm, ⟨16, _⟩ => ⟨S4096x7168, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | .hbm, ⟨31, _⟩ => ⟨S4096x1024, .f32⟩
  | .hbm, ⟨32, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1024x1024, .f32⟩
  | .hbm, ⟨10, _⟩ => ⟨S1x4096x1024, .f32⟩
  | .hbm, ⟨11, _⟩ => ⟨S1024x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1024x1024, .f32⟩
  | .hbm, ⟨33, _⟩ => ⟨S1x4096x1024, .f32⟩
  | .hbm, ⟨34, _⟩ => ⟨S1x4096x1024, .f32⟩
  | .hbm, ⟨35, _⟩ => ⟨S1024, .f32⟩
  | .hbm, ⟨36, _⟩ => ⟨S1x4096x1024, .f32⟩
  | .hbm, ⟨37, _⟩ => ⟨S_, .f32⟩
  | .hbm, ⟨38, _⟩ => ⟨S1x4096, .f32⟩
  | .hbm, ⟨39, _⟩ => ⟨S1x4096x1, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S4096x1024, .f32⟩
  | .hbm, ⟨53, _⟩ => ⟨S4096x1024, .bf16⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== UpAct.lean ====
abbrev S1x4096x1024 : Shape := ⟨3, ![1, 4096, 1024]⟩
abbrev S1x1024 : Shape := ⟨2, ![1, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S3x6144 : Shape := ⟨2, ![3, 6144]⟩
abbrev S3x2x3072 : Shape := ⟨3, ![3, 2, 3072]⟩
abbrev S2x3x3072 : Shape := ⟨3, ![2, 3, 3072]⟩
abbrev S2x1x3072 : Shape := ⟨3, ![2, 1, 3072]⟩
abbrev S2x4096x3072 : Shape := ⟨3, ![2, 4096, 3072]⟩
abbrev S4096x3072 : Shape := ⟨2, ![4096, 3072]⟩
abbrev S256x1024 : Shape := ⟨2, ![256, 1024]⟩
abbrev S2x256x3072 : Shape := ⟨3, ![2, 256, 3072]⟩
abbrev S256x3072 : Shape := ⟨2, ![256, 3072]⟩
abbrev S2x16x3072 : Shape := ⟨3, ![2, 16, 3072]⟩
abbrev S1x1024x768 : Shape := ⟨3, ![1, 1024, 768]⟩
abbrev S1024x768 : Shape := ⟨2, ![1024, 768]⟩
abbrev S256x768 : Shape := ⟨2, ![256, 768]⟩
abbrev S1x256x768 : Shape := ⟨3, ![1, 256, 768]⟩
abbrev S1x16x768 : Shape := ⟨3, ![1, 16, 768]⟩
abbrev S16x768 : Shape := ⟨2, ![16, 768]⟩
abbrev S272x768 : Shape := ⟨2, ![272, 768]⟩
abbrev S1x1x768 : Shape := ⟨3, ![1, 1, 768]⟩
abbrev S1x768 : Shape := ⟨2, ![1, 768]⟩
abbrev S1x3x3072 : Shape := ⟨3, ![1, 3, 3072]⟩
abbrev S3x3072 : Shape := ⟨2, ![3, 3072]⟩

abbrev nBuf : Space → Nat
  | .hbm => 34
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6144, .f32⟩
  | .hbm, ⟨3, _⟩ => ⟨S1x3x6144, .f32⟩
  | .hbm, ⟨4, _⟩ => ⟨S1x6144, .f32⟩
  | .hbm, ⟨5, _⟩ => ⟨S1024x6144, .f32⟩
  | .hbm, ⟨6, _⟩ => ⟨S1024x6144, .bf16⟩
  | .hbm, ⟨7, _⟩ => ⟨S1024x8x768, .bf16⟩
  | .hbm, ⟨8, _⟩ => ⟨S8x1024x768, .bf16⟩
  | .hbm, ⟨9, _⟩ => ⟨S1024, .f32⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S4096x1024, .f32⟩
  | .hbm, ⟨27, _⟩ => ⟨S4096x1024, .bf16⟩
  | .hbm, ⟨28, _⟩ => ⟨S3x6144, .f32⟩
  | .hbm, ⟨29, _⟩ => ⟨S3x2x3072, .f32⟩
  | .hbm, ⟨30, _⟩ => ⟨S2x3x3072, .f32⟩
  | .hbm, ⟨31, _⟩ => ⟨S2x1x3072, .f32⟩
  | .hbm, ⟨32, _⟩ => ⟨S2x4096x3072, .bf16⟩
  | .hbm, ⟨33, _⟩ => ⟨S4096x3072, .bf16⟩
  | .local _ .vmem, ⟨0, _⟩ => ⟨S256x1024, .bf16⟩
  | .local _ .vmem, ⟨1, _⟩ => ⟨S256x1024, .bf16⟩
  | .local _ .vmem, ⟨2, _⟩ => ⟨S8x1024x768, .bf16⟩
  | .local _ .vmem, ⟨3, _⟩ => ⟨S2x3x3072, .f32⟩
  | .local _ .vmem, ⟨4, _⟩ => ⟨S2x1x3072, .f32⟩
  | .local _ .vmem, ⟨5, _⟩ => ⟨S2x256x3072, .bf16⟩
  | .local _ .vmem, ⟨6, _⟩ => ⟨S2x256x3072, .bf16⟩
  | .local _ .vmem, ⟨7, _⟩ => ⟨S256x3072, .bf16⟩
  | .local _ .vmem, ⟨8, _⟩ => ⟨S256x3072, .bf16⟩
  | .local _ .vmem, ⟨9, _⟩ => ⟨S2x16x3072, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpActRefIdeal.lean ====
abbrev S1x4096x1024 : Shape := ⟨3, ![1, 4096, 1024]⟩
abbrev S1x1024 : Shape := ⟨2, ![1, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S1x4096x6144 : Shape := ⟨3, ![1, 4096, 6144]⟩
abbrev S3x6144 : Shape := ⟨2, ![3, 6144]⟩
abbrev S1x2x6144 : Shape := ⟨3, ![1, 2, 6144]⟩
abbrev S1x4098x6144 : Shape := ⟨3, ![1, 4098, 6144]⟩
abbrev S6144 : Shape := ⟨1, ![6144]⟩
abbrev S1x1x6144 : Shape := ⟨3, ![1, 1, 6144]⟩
abbrev S1x4096x3072 : Shape := ⟨3, ![1, 4096, 3072]⟩
abbrev S2x4096x3072 : Shape := ⟨3, ![2, 4096, 3072]⟩
abbrev S4096x3072 : Shape := ⟨2, ![4096, 3072]⟩

abbrev nBuf : Space → Nat
  | .hbm => 78
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6144, .f32⟩
  | .hbm, ⟨3, _⟩ => ⟨S1x3x6144, .f32⟩
  | .hbm, ⟨4, _⟩ => ⟨S1x6144, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1024x6144, .f32⟩
  | .hbm, ⟨23, _⟩ => ⟨S1x4096x6144, .f32⟩
  | .hbm, ⟨24, _⟩ => ⟨S3x6144, .f32⟩
  | .hbm, ⟨25, _⟩ => ⟨S_, .f32⟩
  | .hbm, ⟨26, _⟩ => ⟨S1x2x6144, .f32⟩
  | .hbm, ⟨27, _⟩ => ⟨S1x4098x6144, .f32⟩
  | .hbm, ⟨28, _⟩ => ⟨S1x4096x6144, .f32⟩
  | .hbm, ⟨29, _⟩ => ⟨S1x6144, .f32⟩
  | .hbm, ⟨30, _⟩ => ⟨S6144, .f32⟩
  | .hbm, ⟨31, _⟩ => ⟨S1x1x6144, .f32⟩
  | .hbm, ⟨32, _⟩ => ⟨S1x4096x6144, .f32⟩
  | .hbm, ⟨33, _⟩ => ⟨S1x4096x6144, .f32⟩
  | .hbm, ⟨34, _⟩ => ⟨S1x4096x6144, .f32⟩
  | .hbm, ⟨35, _⟩ => ⟨S1x6144, .f32⟩
  | .hbm, ⟨36, _⟩ => ⟨S6144, .f32⟩
  | .hbm, ⟨37, _⟩ => ⟨S1x1x6144, .f32⟩
  | .hbm, ⟨38, _⟩ => ⟨S1x4096x6144, .f32⟩
  | .hbm, ⟨39, _⟩ => ⟨S1x4096x6144, .f32⟩
  | .hbm, ⟨40, _⟩ => ⟨S1x4096x6144, .f32⟩
  | .hbm, ⟨41, _⟩ => ⟨S1x4096x6144, .f32⟩
  | .hbm, ⟨42, _⟩ => ⟨S1x6144, .f32⟩
  | .hbm, ⟨43, _⟩ => ⟨S6144, .f32⟩
  | .hbm, ⟨44, _⟩ => ⟨S1x1x6144, .f32⟩
  | .hbm, ⟨45, _⟩ => ⟨S1x4096x6144, .f32⟩
  | .hbm, ⟨46, _⟩ => ⟨S1x4096x6144, .f32⟩
  | .hbm, ⟨47, _⟩ => ⟨S1x4096x6144, .f32⟩
  | .hbm, ⟨48, _⟩ => ⟨S6144, .f32⟩
  | .hbm, ⟨49, _⟩ => ⟨S1x1x6144, .f32⟩
  | .hbm, ⟨50, _⟩ => ⟨S1x4096x6144, .f32⟩
  | .hbm, ⟨51, _⟩ => ⟨S1x4096x6144, .f32⟩
  | .hbm, ⟨52, _⟩ => ⟨S1x4096x3072, .f32⟩
  | .hbm, ⟨53, _⟩ => ⟨S1x4096x3072, .f32⟩
  | .hbm, ⟨54, _⟩ => ⟨S1x4096x3072, .f32⟩
  | .hbm, ⟨55, _⟩ => ⟨S1x4096x3072, .f32⟩
  | .hbm, ⟨56, _⟩ => ⟨S2x4096x3072, .f32⟩
  | .hbm, ⟨57, _⟩ => ⟨S2x4096x3072, .bf16⟩
  | .hbm, ⟨58, _⟩ => ⟨S1x4096x3072, .f32⟩
  | .hbm, ⟨59, _⟩ => ⟨S1x4096x3072, .f32⟩
  | .hbm, ⟨60, _⟩ => ⟨S_, .f32⟩
  | .hbm, ⟨61, _⟩ => ⟨S1x4096x3072, .f32⟩
  | .hbm, ⟨62, _⟩ => ⟨S1x4096x3072, .f32⟩
  | .hbm, ⟨63, _⟩ => ⟨S1x4096x3072, .f32⟩
  | .hbm, ⟨64, _⟩ => ⟨S_, .f32⟩
  | .hbm, ⟨65, _⟩ => ⟨S1x4096x3072, .f32⟩
  | .hbm, ⟨66, _⟩ => ⟨S1x4096x3072, .f32⟩
  | .hbm, ⟨67, _⟩ => ⟨S1x4096x3072, .f32⟩
  | .hbm, ⟨68, _⟩ => ⟨S_, .f32⟩
  | .hbm, ⟨69, _⟩ => ⟨S1x4096x3072, .f32⟩
  | .hbm, ⟨70, _⟩ => ⟨S1x4096x3072, .f32⟩
  | .hbm, ⟨71, _⟩ => ⟨S_, .f32⟩
  | .hbm, ⟨72, _⟩ => ⟨S1x4096x3072, .f32⟩
  | .hbm, ⟨73, _⟩ => ⟨S1x4096x3072, .f32⟩
  | .hbm, ⟨74, _⟩ => ⟨S1x4096x3072, .f32⟩
  | .hbm, ⟨75, _⟩ => ⟨S1x4096x3072, .f32⟩
  | .hbm, ⟨76, _⟩ => ⟨S4096x3072, .f32⟩
  | .hbm, ⟨77, _⟩ => ⟨S4096x3072, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Down.lean ====
abbrev S1x4096x3072 : Shape := ⟨3, ![1, 4096, 3072]⟩
abbrev S1x4096x1024 : Shape := ⟨3, ![1, 4096, 1024]⟩
abbrev S4096x3072 : Shape := ⟨2, ![4096, 3072]⟩
abbrev S4096x1024 : Shape := ⟨2, ![4096, 1024]⟩
abbrev S3072x1024 : Shape := ⟨2, ![3072, 1024]⟩
abbrev S512x3072 : Shape := ⟨2, ![512, 3072]⟩
abbrev S512x1024 : Shape := ⟨2, ![512, 1024]⟩
abbrev S3072x512 : Shape := ⟨2, ![3072, 512]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x3072, .f32⟩
  | .hbm, ⟨1, _⟩ => ⟨S1x4096x1024, .f32⟩
  | .hbm, ⟨2, _⟩ => ⟨S4096x3072, .f32⟩
  | .hbm, ⟨3, _⟩ => ⟨S4096x3072, .bf16⟩
  | .hbm, ⟨4, _⟩ => ⟨S4096x1024, .f32⟩
  | .hbm, ⟨5, _⟩ => ⟨S3072x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S3072x1024, .bf16⟩
  | .local _ .vmem, ⟨5, _⟩ => ⟨S3072x1024, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DownRefIdeal.lean ====
abbrev S1x4096x3072 : Shape := ⟨3, ![1, 4096, 3072]⟩
abbrev S1x4096x1024 : Shape := ⟨3, ![1, 4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S1x4096x1024, .f32⟩
  | .hbm, ⟨2, _⟩ => ⟨S_, .f32⟩
  | .hbm, ⟨3, _⟩ => ⟨S3072x1024, .f32⟩
  | .hbm, ⟨4, _⟩ => ⟨S1x4096x1024, .f32⟩
  | .hbm, ⟨5, _⟩ => ⟨S1024x3072, .f32⟩
  | .hbm, ⟨6, _⟩ => ⟨S3072x1024, .f32⟩
  | .hbm, ⟨7, _⟩ => ⟨S3072x1024, .bf16⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S8x384x1024 : Shape := ⟨3, ![8, 384, 1024]⟩
abbrev S1x384x1024 : Shape := ⟨3, ![1, 384, 1024]⟩
abbrev S384x1024 : Shape := ⟨2, ![384, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x384x1024, .f32⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S8x384x1024, .bf16⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S384x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x384x1024 : Shape := ⟨3, ![8, 384, 1024]⟩
abbrev S1x384x1024 : Shape := ⟨3, ![1, 384, 1024]⟩
abbrev S_ : Shape := ⟨0, ![]⟩
abbrev S384x1024 : Shape := ⟨2, ![384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x384x1024, .f32⟩
  | .hbm, ⟨1, _⟩ => ⟨S1x384x1024, .f32⟩
  | .hbm, ⟨2, _⟩ => ⟨S1x384x1024, .f32⟩
  | .hbm, ⟨3, _⟩ => ⟨S1x384x1024, .f32⟩
  | .hbm, ⟨4, _⟩ => ⟨S_, .f32⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .hbm, ⟨9, _⟩ => ⟨S_, .f32⟩
  | .hbm, ⟨10, _⟩ => ⟨S384x1024, .f32⟩
  | .hbm, ⟨11, _⟩ => ⟨S384x1024, .f32⟩
  | .hbm, ⟨12, _⟩ => ⟨S_, .f32⟩
  | .hbm, ⟨13, _⟩ => ⟨S384x1024, .f32⟩
  | .hbm, ⟨14, _⟩ => ⟨S384x1024, .f32⟩
  | .hbm, ⟨15, _⟩ => ⟨S384x1024, .f32⟩
  | .hbm, ⟨16, _⟩ => ⟨S_, .f32⟩
  | .hbm, ⟨17, _⟩ => ⟨S384x1024, .f32⟩
  | .hbm, ⟨18, _⟩ => ⟨S384x1024, .f32⟩
  | .hbm, ⟨19, _⟩ => ⟨S384x1024, .f32⟩
  | .hbm, ⟨20, _⟩ => ⟨S_, .f32⟩
  | .hbm, ⟨21, _⟩ => ⟨S384x1024, .f32⟩
  | .hbm, ⟨22, _⟩ => ⟨S384x1024, .f32⟩
  | .hbm, ⟨23, _⟩ => ⟨S384x1024, .f32⟩
  | .hbm, ⟨24, _⟩ => ⟨S_, .f32⟩
  | .hbm, ⟨25, _⟩ => ⟨S384x1024, .f32⟩
  | .hbm, ⟨26, _⟩ => ⟨S384x1024, .f32⟩
  | .hbm, ⟨27, _⟩ => ⟨S_, .f32⟩
  | .hbm, ⟨28, _⟩ => ⟨S384x1024, .f32⟩
  | .hbm, ⟨29, _⟩ => ⟨S384x1024, .f32⟩
  | .hbm, ⟨30, _⟩ => ⟨S384x1024, .f32⟩
  | .hbm, ⟨31, _⟩ => ⟨S_, .f32⟩
  | .hbm, ⟨32, _⟩ => ⟨S384x1024, .f32⟩
  | .hbm, ⟨33, _⟩ => ⟨S384x1024, .f32⟩
  | .hbm, ⟨34, _⟩ => ⟨S384x1024, .f32⟩
  | .hbm, ⟨35, _⟩ => ⟨S_, .f32⟩
  | .hbm, ⟨36, _⟩ => ⟨S384x1024, .f32⟩
  | .hbm, ⟨37, _⟩ => ⟨S384x1024, .f32⟩
  | .hbm, ⟨38, _⟩ => ⟨S384x1024, .f32⟩
  | .hbm, ⟨39, _⟩ => ⟨S_, .f32⟩
  | .hbm, ⟨40, _⟩ => ⟨S384x1024, .f32⟩
  | .hbm, ⟨41, _⟩ => ⟨S384x1024, .f32⟩
  | _, _ => ⟨S8x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== GradMerge.lean ====
abbrev S1x4096x1024 : Shape := ⟨3, ![1, 4096, 1024]⟩
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 20
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c7_i32_20 : BitVec 32 := 7#32
  let v32 : BitVec 1 := Scalar.cmpi .eq arg0 c7_i32_20
  let v33 : BitVec 32 := Scalar.extui v32
  let c0_i32_21 : BitVec 32 := 0#32
  let v34 : BitVec 1 := Scalar.cmpi .ne v33 c0_i32_21
  v34

def k0_cond6 (i : grid0.Coords) : BitVec 1 :=
  let arg0 : BitVec 32 := BitVec.ofNat 32 (i 0).val
  let c7_i32_33 : BitVec 32 := 7#32
  let v49 : BitVec 1 := Scalar.cmpi .eq arg0 c7_i32_33
  let v50 : BitVec 32 := Scalar.extui v49
  let c0_i32_34 : BitVec 32 := 0#32
  let v51 : BitVec 1 := Scalar.cmpi .ne v50 c0_i32_34
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GradMergeRefIdeal.lean ====
abbrev S1x4096x1024 : Shape := ⟨3, ![1, 4096, 1024]⟩
abbrev S_ : Shape := ⟨0, ![]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1024x1024, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .bf16⟩
  | .hbm, ⟨19, _⟩ => ⟨S1024x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== GradIn.lean ====
abbrev S1x4096x1024 : Shape := ⟨3, ![1, 4096, 1024]⟩
abbrev S1x4096x7168 : Shape := ⟨3, ![1, 4096, 7168]⟩
abbrev S4096x7168 : Shape := ⟨2, ![4096, 7168]⟩
abbrev S4096x7x1024 : Shape := ⟨3, ![4096, 7, 1024]⟩
abbrev S7x4096x1024 : Shape := ⟨3, ![7, 4096, 1024]⟩
abbrev S4096x1024 : Shape := ⟨2, ![4096, 1024]⟩
abbrev S5x4096x1024 : Shape := ⟨3, ![5, 4096, 1024]⟩
abbrev S2x4096x1024 : Shape := ⟨3, ![2, 4096, 1024]⟩
abbrev S1024x7168 : Shape := ⟨2, ![1024, 7168]⟩
abbrev S512x512 : Shape := ⟨2, ![512, 512]⟩
abbrev S5x512x1024 : Shape := ⟨3, ![5, 512, 1024]⟩
abbrev S2x512x1024 : Shape := ⟨3, ![2, 512, 1024]⟩
abbrev S512x7168 : Shape := ⟨2, ![512, 7168]⟩
abbrev S1x512x1024 : Shape := ⟨3, ![1, 512, 1024]⟩
abbrev S512x1024 : Shape := ⟨2, ![512, 1024]⟩

abbrev nBuf : Space → Nat
  | .hbm => 11
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x4096x7168, .f32⟩
  | .hbm, ⟨2, _⟩ => ⟨S4096x7168, .f32⟩
  | .hbm, ⟨3, _⟩ => ⟨S4096x7168, .bf16⟩
  | .hbm, ⟨4, _⟩ => ⟨S4096x7x1024, .bf16⟩
  | .hbm, ⟨5, _⟩ => ⟨S7x4096x1024, .bf16⟩
  | .hbm, ⟨6, _⟩ => ⟨S4096x1024, .f32⟩
  | .hbm, ⟨7, _⟩ => ⟨S4096x1024, .bf16⟩
  | .hbm, ⟨8, _⟩ => ⟨S5x4096x1024, .bf16⟩
  | .hbm, ⟨9, _⟩ => ⟨S2x4096x1024, .bf16⟩
  | .hbm, ⟨10, _⟩ => ⟨S1024x7168, .bf16⟩
  | .local _ .vmem, ⟨0, _⟩ => ⟨S512x512, .bf16⟩
  | .local _ .vmem, ⟨1, _⟩ => ⟨S512x512, .bf16⟩
  | .local _ .vmem, ⟨2, _⟩ => ⟨S5x512x1024, .bf16⟩
  | .local _ .vmem, ⟨3, _⟩ => ⟨S5x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S512x7168, .bf16⟩
  | .local _ .vmem, ⟨7, _⟩ => ⟨S512x7168, .bf16⟩
  | .local _ .vmem, ⟨8, _⟩ => ⟨S512x7168, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_47 : BitVec 32 := 0#32
  let v64 : BitVec 1 := Scalar.cmpi .ne v63 c0_i32_47
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradInRefIdeal.lean ====
abbrev S1x4096x1024 : Shape := ⟨3, ![1, 4096, 1024]⟩
abbrev S1x4096x7168 : Shape := ⟨3, ![1, 4096, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x7168, .f32⟩
  | .hbm, ⟨2, _⟩ => ⟨S_, .f32⟩
  | .hbm, ⟨3, _⟩ => ⟨S1024x7168, .f32⟩
  | .hbm, ⟨4, _⟩ => ⟨S1x4096x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradUp.lean ====
abbrev S1x4096x1024 : Shape := ⟨3, ![1, 4096, 1024]⟩
abbrev S1x4096x6144 : Shape := ⟨3, ![1, 4096, 6144]⟩
abbrev S4096x6144 : Shape := ⟨2, ![4096, 6144]⟩
abbrev S4096x2x3072 : Shape := ⟨3, ![4096, 2, 3072]⟩
abbrev S2x4096x3072 : Shape := ⟨3, ![2, 4096, 3072]⟩
abbrev S4096x1024 : Shape := ⟨2, ![4096, 1024]⟩
abbrev S8x1024x768 : Shape := ⟨3, ![8, 1024, 768]⟩
abbrev S512x1024 : Shape := ⟨2, ![512, 1024]⟩
abbrev S1x512x3072 : Shape := ⟨3, ![1, 512, 3072]⟩
abbrev S4x1024x768 : Shape := ⟨3, ![4, 1024, 768]⟩
abbrev S1024x3072 : Shape := ⟨2, ![1024, 3072]⟩
abbrev S1024x512 : Shape := ⟨2, ![1024, 512]⟩
abbrev S1024x768 : Shape := ⟨2, ![1024, 768]⟩
abbrev S1x512x768 : Shape := ⟨3, ![1, 512, 768]⟩
abbrev S512x768 : Shape := ⟨2, ![512, 768]⟩
abbrev S1x1024x768 : Shape := ⟨3, ![1, 1024, 768]⟩

abbrev nBuf : Space → Nat
  | .hbm => 9
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x6144, .f32⟩
  | .hbm, ⟨2, _⟩ => ⟨S4096x6144, .f32⟩
  | .hbm, ⟨3, _⟩ => ⟨S4096x6144, .bf16⟩
  | .hbm, ⟨4, _⟩ => ⟨S4096x2x3072, .bf16⟩
  | .hbm, ⟨5, _⟩ => ⟨S2x4096x3072, .bf16⟩
  | .hbm, ⟨6, _⟩ => ⟨S4096x1024, .f32⟩
  | .hbm, ⟨7, _⟩ => ⟨S4096x1024, .bf16⟩
  | .hbm, ⟨8, _⟩ => ⟨S8x1024x768, .bf16⟩
  | .local _ .vmem, ⟨0, _⟩ => ⟨S512x1024, .bf16⟩
  | .local _ .vmem, ⟨1, _⟩ => ⟨S512x1024, .bf16⟩
  | .local _ .vmem, ⟨2, _⟩ => ⟨S1x512x3072, .bf16⟩
  | .local _ .vmem, ⟨3, _⟩ => ⟨S1x512x3072, .bf16⟩
  | .local _ .vmem, ⟨4, _⟩ => ⟨S4x1024x768, .bf16⟩
  | .local _ .vmem, ⟨5, _⟩ => ⟨S4x1024x768, .bf16⟩
  | .local _ .vmem, ⟨6, _⟩ => ⟨S1024x3072, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_30 : BitVec 32 := 0#32
  let v40 : BitVec 1 := Scalar.cmpi .ne v39 c0_i32_30
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GradUpRefIdeal.lean ====
abbrev S1x4096x1024 : Shape := ⟨3, ![1, 4096, 1024]⟩
abbrev S1x4096x6144 : Shape := ⟨3, ![1, 4096, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x6144, .f32⟩
  | .hbm, ⟨2, _⟩ => ⟨S_, .f32⟩
  | .hbm, ⟨3, _⟩ => ⟨S1024x6144, .f32⟩
  | .hbm, ⟨4, _⟩ => ⟨S1x4096x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | .hbm, ⟨9, _⟩ => ⟨S8x1024x768, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gates.lean ====
abbrev S1x8x128x128 : Shape := ⟨4, ![1, 8, 128, 128]⟩
abbrev S1024x128 : Shape := ⟨2, ![1024, 128]⟩
abbrev S2048x128 : Shape := ⟨2, ![2048, 128]⟩

abbrev nBuf : Space → Nat
  | .hbm => 27
  | .vmem => 16
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1x8x128x128, .f32⟩
  | .hbm, ⟨5, _⟩ => ⟨S1x8x128x128, .f32⟩
  | .hbm, ⟨6, _⟩ => ⟨S1x8x128x128, .f32⟩
  | .hbm, ⟨7, _⟩ => ⟨S1x8x128x128, .f32⟩
  | .hbm, ⟨8, _⟩ => ⟨S1024x128, .f32⟩
  | .hbm, ⟨9, _⟩ => ⟨S1024x128, .f32⟩
  | .hbm, ⟨10, _⟩ => ⟨S2048x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== GatesRefIdeal.lean ====
abbrev S1x8x128x128 : Shape := ⟨4, ![1, 8, 128, 128]⟩
abbrev S_ : Shape := ⟨0, ![]⟩
abbrev S1024x128 : Shape := ⟨2, ![1024, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1x8x128x128, .f32⟩
  | .hbm, ⟨5, _⟩ => ⟨S1x8x128x128, .f32⟩
  | .hbm, ⟨6, _⟩ => ⟨S1x8x128x128, .f32⟩
  | .hbm, ⟨7, _⟩ => ⟨S1x8x128x128, .f32⟩
  | .hbm, ⟨8, _⟩ => ⟨S_, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S1x8x128x128, .f32⟩
  | .hbm, ⟨23, _⟩ => ⟨S_, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | .hbm, ⟨37, _⟩ => ⟨S1x8x128x128, .f32⟩
  | .hbm, ⟨38, _⟩ => ⟨S_, .f32⟩
  | .hbm, ⟨39, _⟩ => ⟨S1x8x128x128, .f32⟩
  | .hbm, ⟨40, _⟩ => ⟨S1x8x128x128, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S_, .f32⟩
  | .hbm, ⟨46, _⟩ => ⟨S1x8x128x128, .f32⟩
  | .hbm, ⟨47, _⟩ => ⟨S1x8x128x128, .f32⟩
  | .hbm, ⟨48, _⟩ => ⟨S_, .f32⟩
  | .hbm, ⟨49, _⟩ => ⟨S1x8x128x128, .f32⟩
  | .hbm, ⟨50, _⟩ => ⟨S1x8x128x128, .f32⟩
  | .hbm, ⟨51, _⟩ => ⟨S1x8x128x128, .f32⟩
  | .hbm, ⟨52, _⟩ => ⟨S_, .f32⟩
  | .hbm, ⟨53, _⟩ => ⟨S1x8x128x128, .f32⟩
  | .hbm, ⟨54, _⟩ => ⟨S1x8x128x128, .f32⟩
  | .hbm, ⟨55, _⟩ => ⟨S1x8x128x128, .f32⟩
  | .hbm, ⟨56, _⟩ => ⟨S_, .f32⟩
  | .hbm, ⟨57, _⟩ => ⟨S1x8x128x128, .f32⟩
  | .hbm, ⟨58, _⟩ => ⟨S1x8x128x128, .f32⟩
  | .hbm, ⟨59, _⟩ => ⟨S1x8x128x128, .f32⟩
  | .hbm, ⟨60, _⟩ => ⟨S_, .f32⟩
  | .hbm, ⟨61, _⟩ => ⟨S1x8x128x128, .f32⟩
  | .hbm, ⟨62, _⟩ => ⟨S1x8x128x128, .f32⟩
  | .hbm, ⟨63, _⟩ => ⟨S_, .f32⟩
  | .hbm, ⟨64, _⟩ => ⟨S1x8x128x128, .f32⟩
  | .hbm, ⟨65, _⟩ => ⟨S1x8x128x128, .f32⟩
  | .hbm, ⟨66, _⟩ => ⟨S1x8x128x128, .f32⟩
  | .hbm, ⟨67, _⟩ => ⟨S_, .f32⟩
  | .hbm, ⟨68, _⟩ => ⟨S1x8x128x128, .f32⟩
  | .hbm, ⟨69, _⟩ => ⟨S1x8x128x128, .f32⟩
  | .hbm, ⟨70, _⟩ => ⟨S1x8x128x128, .f32⟩
  | .hbm, ⟨71, _⟩ => ⟨S_, .f32⟩
  | .hbm, ⟨72, _⟩ => ⟨S1x8x128x128, .f32⟩
  | .hbm, ⟨73, _⟩ => ⟨S1x8x128x128, .f32⟩
  | .hbm, ⟨74, _⟩ => ⟨S1x8x128x128, .f32⟩
  | .hbm, ⟨75, _⟩ => ⟨S_, .f32⟩
  | .hbm, ⟨76, _⟩ => ⟨S1x8x128x128, .f32⟩
  | .hbm, ⟨77, _⟩ => ⟨S1x8x128x128, .f32⟩
  | .hbm, ⟨78, _⟩ => ⟨S1024x128, .f32⟩
  | .hbm, ⟨79, _⟩ => ⟨S1024x128, .f32⟩
  | .hbm, ⟨80, _⟩ => ⟨S1024x128, .f32⟩
  | .hbm, ⟨81, _⟩ => ⟨S1024x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_v40 : Ref sig .tc := ⟨.hbm, 62, rfl⟩
abbrev main_cst_13 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_16 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Proof.Rms.lean ====
module

public import Idealize.ShloMosaic.PureOps.Ideal
public import Idealize.ShloMosaic.Lib.IdealHost

/-! The derivative of a root-mean-square norm on one row, over the extended reals.

A row `x` has the scale `r = 1 / √(mean(x²) + ε)`. The hand-written gradient and the derivative
that follows the chain rule through the reciprocal root are one value for every row: a row of reals has a real
positive scale, and a row with an infinite entry has the scale zero. -/

@[expose] public section

noncomputable section

namespace Cert.Rms

open Idealize.ShloMosaic

/-- A nonnegative real factor goes inside a finite sum of extended reals. -/
theorem sum_mul_coe {ι : Type} (s : Finset ι) (f : ι → EReal) {r : EReal} (h0 : 0 ≤ r) (ht : r ≠ ⊤) :
    ∑ k ∈ s, f k * r = (∑ k ∈ s, f k) * r := by
  classical
  induction s using Finset.induction_on with
  | empty => simp
  | insert a s ha ih =>
    rw [Finset.sum_insert ha, Finset.sum_insert ha, ih, EReal.right_distrib_of_nonneg_of_ne_top h0 ht]

/-- Twice a value is its sum with itself. -/
theorem add_self (x : EReal) : x + x = ((2 : ℝ) : EReal) * x := by
  have h : ((2 : ℝ) : EReal) = 1 + 1 := by
    show ((2 : ℝ) : EReal) = ((1 : ℝ) : EReal) + ((1 : ℝ) : EReal)
    rw [← EReal.coe_add]; norm_num
  rw [h, EReal.right_distrib_of_nonneg zero_le_one zero_le_one, one_mul]

/-- A square is never negative. -/
theorem mul_self_nonneg' (x : EReal) : 0 ≤ x * x := by
  induction x with
  | bot => simp
  | top => simp
  | coe r => rw [← EReal.coe_mul]; exact_mod_cast mul_self_nonneg r

/-- The scale of a row: the reciprocal root of its mean square plus `e`. -/
def meanSq {n : ℕ} (N e : EReal) (x : Fin n → EReal) : EReal := Ideal.div (∑ k, x k * x k) N + e

/-- The square of an infinite entry is infinite, and so is the sum of squares. -/
theorem sum_sq_top {n : ℕ} (x : Fin n → EReal) (h : ∃ k, x k = ⊤ ∨ x k = ⊥) : ∑ k, x k * x k = ⊤ := by
  obtain ⟨k, hk⟩ := h
  have h1 : x k * x k = ⊤ := by rcases hk with hk | hk <;> rw [hk] <;> simp
  have h2 := Finset.single_le_sum (f := fun k => x k * x k) (fun i _ => mul_self_nonneg' (x i)) (Finset.mem_univ k)
  exact top_le_iff.mp (h1 ▸ h2)

/-- Division by a positive real is multiplication by its reciprocal. -/
theorem div_coe_pos (x : EReal) {N : ℝ} (hN : 0 < N) : Ideal.div x (N : EReal) = x * ((N⁻¹ : ℝ) : EReal) := by
  rw [Ideal.div, if_neg (by exact_mod_cast hN.ne'), EReal.coe_inv]

/-- The mean square plus `e` is a positive real, or infinite. -/
theorem meanSq_cases {n : ℕ} {N e : ℝ} (hN : 0 < N) (he : 0 < e) (x : Fin n → EReal) :
    (∃ v : ℝ, 0 < v ∧ meanSq N e x = v) ∨ meanSq N e x = ⊤ := by
  by_cases h : ∃ k, x k = ⊤ ∨ x k = ⊥
  · right
    rw [meanSq, sum_sq_top x h, div_coe_pos _ hN, EReal.top_mul_coe_of_pos (by positivity), EReal.top_add_coe]
  · left
    push Not at h
    have hx : ∀ k, x k = ((x k).toReal : EReal) := fun k => (EReal.coe_toReal (h k).1 (h k).2).symm
    refine ⟨(∑ k, (x k).toReal * (x k).toReal) * N⁻¹ + e, ?_, ?_⟩
    · have : 0 ≤ ∑ k, (x k).toReal * (x k).toReal := Finset.sum_nonneg fun k _ => mul_self_nonneg _
      positivity
    · rw [meanSq, div_coe_pos _ hN, EReal.coe_add, EReal.coe_mul]
      congr 2
      have hs : ∀ s : Finset (Fin n), ∑ k ∈ s, x k * x k = ((∑ k ∈ s, (x k).toReal * (x k).toReal : ℝ) : EReal) := by
        classical
        intro s
        induction s using Finset.induction_on with
        | empty => simp
        | insert a s ha ih => rw [Finset.sum_insert ha, Finset.sum_insert ha, ih, EReal.coe_add, EReal.coe_mul, ← hx a]
      exact hs _

/-- THE NORM'S DERIVATIVE. With `r` the row's scale and `d` the cotangent of the scaled row: the hand-written
    form `r · (d − x·r · mean(d · x·r))` added to `a` is the chain rule's, in which the row enters the mean square twice. -/
theorem bwd_eq {n : ℕ} {N e : ℝ} (hN : 0 < N) (he : 0 < e) (a : EReal) (x d : Fin n → EReal) (i : Fin n) :
    a + Ideal.rsqrt (meanSq N e x) * (d i - x i * Ideal.rsqrt (meanSq N e x) *
        Ideal.div (∑ k, d k * (x k * Ideal.rsqrt (meanSq N e x))) N)
      = ((a + d i * Ideal.rsqrt (meanSq N e x))
          + x i * Ideal.div ((∑ k, x k * d k) * (((-(1 / 2) : ℝ) : EReal) * Ideal.div (Ideal.rsqrt (meanSq N e x)) (meanSq N e x))) N)
        + Ideal.div ((∑ k, x k * d k) * (((-(1 / 2) : ℝ) : EReal) * Ideal.div (Ideal.rsqrt (meanSq N e x)) (meanSq N e x))) N * x i := by
  rcases meanSq_cases hN he x with ⟨v, hv, hm⟩ | hm
  · rw [hm]
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (not_lt.mpr hv.le), if_neg hv.ne']
    have hr0 : (0 : ℝ) < (Real.sqrt v)⁻¹ := by positivity
    have hrr : (Real.sqrt v)⁻¹ * (Real.sqrt v)⁻¹ = v⁻¹ := by
      rw [← mul_inv, Real.mul_self_sqrt hv.le]
    rw [hr]
    generalize (Real.sqrt v)⁻¹ = r at hr0 hrr ⊢
    have hS : ∑ k, d k * (x k * (r : EReal)) = (∑ k, x k * d k) * (r : EReal) := by
      rw [← sum_mul_coe _ _ (by exact_mod_cast hr0.le) (EReal.coe_ne_top r)]
      exact Finset.sum_congr rfl fun k _ => by rw [mul_left_comm, mul_assoc]
    rw [hS]
    generalize (∑ k, x k * d k) = S
    simp only [div_coe_pos _ hN, div_coe_pos _ hv]
    rw [sub_eq_add_neg, EReal.left_distrib_of_nonneg_of_ne_top (by exact_mod_cast hr0.le) (EReal.coe_ne_top r),
      mul_comm (_ * _) (x i), add_assoc (a + _), add_self, mul_comm (r : EReal) (d i), ← add_assoc]
    congr 1
    rw [← EReal.coe_mul, ← EReal.coe_mul]
    have e1 : x i * (r : EReal) * (S * r * ((N⁻¹ : ℝ) : EReal)) = (x i * S) * ((r * r * N⁻¹ : ℝ) : EReal) := by
      push_cast; ac_rfl
    have e2 : (2 : ℝ) * (x i * (S * ((-(1 / 2) * (r * v⁻¹) : ℝ) : EReal) * ((N⁻¹ : ℝ) : EReal)))
        = (x i * S) * ((2 * (-(1 / 2) * (r * v⁻¹)) * N⁻¹ : ℝ) : EReal) := by
      rw [EReal.coe_mul (2 * _), EReal.coe_mul 2]; ac_rfl
    rw [e1, e2, ← mul_neg, ← EReal.coe_neg, mul_left_comm, ← EReal.coe_mul, ← hrr]
    congr 2; ring
  · rw [hm]
    have hr : Ideal.rsqrt ⊤ = 0 := rfl
    have hd : Ideal.div 0 (⊤ : EReal) = 0 := by simp [Ideal.div]
    rw [hr, hd]
    simp [div_coe_pos _ hN]

end Cert.Rms

end
-- ==== Proof.InProj.lean ====
module

public import Idealize.ShloMosaic.Lib.Pointwise
public import proofs.«01_k».proof.Proof.Rms

@[expose] public section

set_option maxRecDepth 16384

noncomputable section

/-! The two gradients of the first normalisation and the input projection, as functions of the arrays they depend on. -/

namespace Cert.InProjMath

open Idealize.ShloMosaic

/-- The three literals that both programs use: the number of channels, the constant under the root, and minus one half. -/
theorem lit_channels : Ideal.ofBits .f32 0x44800000#32 = ((1024 : ℝ) : EReal) := by
  simp [Ideal.ofBits, Ideal.ieee, -EReal.coe_mul]; norm_num

theorem lit_eps : Ideal.ofBits .f32 0x358637BD#32 = ((8796093 / 8796093022208 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The integer zero as a number. -/
theorem lit_zero : FloatOps.sitofp (F := Ideal) .f32 (0#32) = (0 : EReal) := by
  show ((((0#32 : BitVec 32).toInt : ℤ) : ℝ) : EReal) = 0
  simp

/-- A sum over seven segments of 1024 columns, the first factor chosen by the segment, is the sum of the seven sums. -/
theorem ladder (a0 a1 a2 a3 a4 a5 a6 : Fin 1024 → EReal) (w : Fin 7168 → EReal) :
    (∑ x : Fin 7168, (if h : (x : ℕ) < 1024 then a0 ⟨x, h⟩
      else if h : (x : ℕ) - 1024 < 1024 then a1 ⟨x - 1024, h⟩
      else if h : (x : ℕ) - 1024 - 1024 < 1024 then a2 ⟨x - 1024 - 1024, h⟩
      else if h : (x : ℕ) - 1024 - 1024 - 1024 < 1024 then a3 ⟨x - 1024 - 1024 - 1024, h⟩
      else if h : (x : ℕ) - 1024 - 1024 - 1024 - 1024 < 1024 then a4 ⟨x - 1024 - 1024 - 1024 - 1024, h⟩
      else if h : (x : ℕ) - 1024 - 1024 - 1024 - 1024 - 1024 < 1024 then a5 ⟨x - 1024 - 1024 - 1024 - 1024 - 1024, h⟩
      else a6 ⟨x - 1024 - 1024 - 1024 - 1024 - 1024 - 1024, by omega⟩) * w x)
    = ∑ t, a0 t * w ⟨t, by omega⟩ + ∑ t, a1 t * w ⟨1024 + t, by omega⟩ + ∑ t, a2 t * w ⟨2048 + t, by omega⟩
      + ∑ t, a3 t * w ⟨3072 + t, by omega⟩ + ∑ t, a4 t * w ⟨4096 + t, by omega⟩ + ∑ t, a5 t * w ⟨5120 + t, by omega⟩
      + ∑ t, a6 t * w ⟨6144 + t, by omega⟩ := by
  rw [Fin.sum_univ_tiles 7 1024 rfl, Fin.sum_univ_seven]
  have e : ∀ (a b : Fin 1024 → EReal), (∀ t, a t = b t) → ∑ t, a t = ∑ t, b t := fun a b h => Finset.sum_congr rfl fun t _ => h t
  refine congrArg₂ _ (congrArg₂ _ (congrArg₂ _ (congrArg₂ _ (congrArg₂ _ (congrArg₂ _ ?_ ?_) ?_) ?_) ?_) ?_) ?_ <;> refine e _ _ fun t => ?_
  · rw [dif_pos (by simp <;> omega)]
    exact congrArg₂ (· * ·) (congrArg a0 (Fin.ext (by simp <;> omega))) (congrArg w (Fin.ext (by simp)))
  · rw [dif_neg (by simp <;> omega), dif_pos (by simp <;> omega)]
    exact congrArg₂ (· * ·) (congrArg a1 (Fin.ext (by simp <;> omega))) (congrArg w (Fin.ext (by simp)))
  · rw [dif_neg (by simp <;> omega), dif_neg (by simp <;> omega), dif_pos (by simp <;> omega)]
    exact congrArg₂ (· * ·) (congrArg a2 (Fin.ext (by simp <;> omega))) (congrArg w (Fin.ext (by simp)))
  · rw [dif_neg (by simp <;> omega), dif_neg (by simp <;> omega), dif_neg (by simp <;> omega), dif_pos (by simp <;> omega)]
    exact congrArg₂ (· * ·) (congrArg a3 (Fin.ext (by simp <;> omega))) (congrArg w (Fin.ext (by simp)))
  · rw [dif_neg (by simp <;> omega), dif_neg (by simp <;> omega), dif_neg (by simp <;> omega), dif_neg (by simp <;> omega), dif_pos (by simp <;> omega)]
    exact congrArg₂ (· * ·) (congrArg a4 (Fin.ext (by simp <;> omega))) (congrArg w (Fin.ext (by simp)))
  · rw [dif_neg (by simp <;> omega), dif_neg (by simp <;> omega), dif_neg (by simp <;> omega), dif_neg (by simp <;> omega), dif_neg (by simp <;> omega), dif_pos (by simp <;> omega)]
    exact congrArg₂ (· * ·) (congrArg a5 (Fin.ext (by simp <;> omega))) (congrArg w (Fin.ext (by simp)))
  · rw [dif_neg (by simp <;> omega), dif_neg (by simp <;> omega), dif_neg (by simp <;> omega), dif_neg (by simp <;> omega), dif_neg (by simp <;> omega), dif_neg (by simp <;> omega)]
    exact congrArg₂ (· * ·) (congrArg a6 (Fin.ext (by simp <;> omega))) (congrArg w (Fin.ext (by simp)))

variable (x : (⟨3, ![1, 4096, 1024]⟩ : Shape).Idx → EReal) (g : (⟨2, ![1, 1024]⟩ : Shape).Idx → EReal)
  (w : (⟨3, ![1, 1024, 7168]⟩ : Shape).Idx → EReal) (dx2 : (⟨2, ![4096, 1024]⟩ : Shape).Idx → EReal)
  (dz5 : (⟨3, ![5, 4096, 1024]⟩ : Shape).Idx → EReal) (dzg : (⟨3, ![2, 4096, 1024]⟩ : Shape).Idx → EReal)

/-- The gradient of the projection's input at row `n` and channel `i`: the seven segments' cotangents by the transposed weight. -/
def dh (n : Fin 4096) (i : Fin 1024) : EReal :=
  ∑ t, dz5 (ix3 0 n t) * w (ix3 0 i ⟨(t : ℕ), by omega⟩) + ∑ t, dz5 (ix3 1 n t) * w (ix3 0 i ⟨1024 + (t : ℕ), by omega⟩)
    + ∑ t, dz5 (ix3 2 n t) * w (ix3 0 i ⟨2048 + (t : ℕ), by omega⟩) + ∑ t, dz5 (ix3 3 n t) * w (ix3 0 i ⟨3072 + (t : ℕ), by omega⟩)
    + ∑ t, dz5 (ix3 4 n t) * w (ix3 0 i ⟨4096 + (t : ℕ), by omega⟩) + ∑ t, dzg (ix3 0 n t) * w (ix3 0 i ⟨5120 + (t : ℕ), by omega⟩)
    + ∑ t, dzg (ix3 1 n t) * w (ix3 0 i ⟨6144 + (t : ℕ), by omega⟩)

/-- The reciprocal root of the mean square of row `n`. -/
def root (n : Fin 4096) : EReal := Ideal.rsqrt (Rms.meanSq ((1024 : ℝ) : EReal) ((8796093 / 8796093022208 : ℝ) : EReal) fun k => x (ix3 0 n k))

/-- The gradient of the layer's input. -/
def dx (n : Fin 4096) (i : Fin 1024) : EReal :=
  dx2 (ix2 n i) + root x n * (dh w dz5 dzg n i * g (ix2 0 i) - x (ix3 0 n i) * root x n
    * Ideal.div (∑ k, dh w dz5 dzg n k * g (ix2 0 k) * (x (ix3 0 n k) * root x n)) ((1024 : ℝ) : EReal))

/-- What row `n` adds to the gradient of the scale. -/
def dgTerm (n : Fin 4096) (i : Fin 1024) : EReal := dh w dz5 dzg n i * (x (ix3 0 n i) * root x n)

/-- The sums' array: the gradient of the scale in row 0, zero in the seven others. -/
def sums (k : Fin 8) (i : Fin 1024) : EReal := if (k : ℕ) = 0 then ∑ n, dgTerm x w dz5 dzg n i else 0

end Cert.InProjMath

end
-- ==== Proof.RowWrites.lean ====
module

public import Idealize.ShloMosaic.Lib.WritesUnit
public import Idealize.ShloMosaic.Lib.Pipeline.ReadBack
public import Idealize.ShloMosaic.Lib.Pointwise

@[expose] public section

set_option maxRecDepth 16384

noncomputable section

/-! A block of several rows, one row of which was stored last. -/

namespace Cert.RowWrites

open Idealize.ShloMosaic

variable {R C : ℕ} {e : EltTy} {Val : EltTy → Type}

/-- Over any earlier stores: the stored row holds what was stored, every other row what it held. -/
theorem canon_row [∀ e, Nonempty (Val e)] {o : ℕ} (inb : ∀ a : Fin 2, (![o, 0] : Fin 2 → ℕ) a + (![1, C] : Fin 2 → ℕ) a ≤ (![R, C] : Fin 2 → ℕ) a)
    (w : (Rect.unit (s := (⟨2, ![R, C]⟩ : Shape)) ![o, 0] ![1, C] inb).shape.Idx → Val e) (L : List (View.Piece Val (⟨2, ![R, C]⟩ : Shape) e)) (k : Fin R) (i : Fin C) :
    View.canon ((⟨Rect.unit (s := (⟨2, ![R, C]⟩ : Shape)) ![o, 0] ![1, C] inb, w⟩ : View.Piece Val (⟨2, ![R, C]⟩ : Shape) e) :: L) (ix2 k i)
      = if (k : ℕ) = o then w (ix2 (0 : Fin 1) i) else View.canon L (ix2 k i) := by
  by_cases h : (k : ℕ) = o
  · rw [if_pos h]
    have hy : (Rect.unit (s := (⟨2, ![R, C]⟩ : Shape)) ![o, 0] ![1, C] inb).emb (ix2 (0 : Fin 1) i) = ix2 k i := by
      funext a
      refine Fin.ext ?_
      fin_cases a
      · show o + 1 * 0 = (k : ℕ)
        omega
      · show 0 + 1 * (i : ℕ) = (i : ℕ)
        omega
    exact (congrArg _ hy.symm).trans (View.canon_cons_emb _ w L _)
  · rw [if_neg h]
    refine View.canon_cons_of_not_mem _ L ?_
    rw [Rect.mem_set_unit]
    intro hall
    have := hall 0
    change o ≤ (k : ℕ) ∧ (k : ℕ) < o + 1 at this
    omega

/-- Over any earlier contents: the stored row holds what was stored, every other row what it held. -/
theorem read_row {sig : RefSig} {κ : Kind} {sp : Space} (v : View sig κ sp (⟨2, ![R, C]⟩ : Shape) e) (f : v.ty.Contents Val) {o : ℕ}
    (inb : ∀ a : Fin 2, (![o, 0] : Fin 2 → ℕ) a + (![1, C] : Fin 2 → ℕ) a ≤ (![R, C] : Fin 2 → ℕ) a)
    (w : (Rect.unit (s := (⟨2, ![R, C]⟩ : Shape)) ![o, 0] ![1, C] inb).shape.Idx → Val e) (L : List (View.Piece Val (⟨2, ![R, C]⟩ : Shape) e)) (k : Fin R) (i : Fin C) :
    v.read Val (v.writes Val f ((⟨Rect.unit (s := (⟨2, ![R, C]⟩ : Shape)) ![o, 0] ![1, C] inb, w⟩ : View.Piece Val (⟨2, ![R, C]⟩ : Shape) e) :: L)) (ix2 k i)
      = if (k : ℕ) = o then w (ix2 (0 : Fin 1) i) else v.read Val (v.writes Val f L) (ix2 k i) := by
  by_cases h : (k : ℕ) = o
  · rw [if_pos h]
    exact View.read_writes_cons_rows_of_mem v f inb w L _ (ix2 (0 : Fin 1) i) rfl (by show (k : ℕ) = o + 0; omega) rfl
  · rw [if_neg h]
    exact View.read_writes_cons_rows_of_not_mem (W := 1) v f inb w L _ rfl rfl (by show (k : ℕ) < o ∨ o + 1 ≤ (k : ℕ); omega)

end Cert.RowWrites
end
-- ==== Proof.InProjK.lean ====
module

public import proofs.«01_k».proof.Proof.Gen.InProjIdeal.Frame
public import Idealize.ShloMosaic.Lib.Pipeline.ValueKit
public import Idealize.ShloMosaic.Lib.Pointwise
public import proofs.«01_k».proof.Proof.InProj
public import proofs.«01_k».proof.Proof.RowWrites

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![0, t.val, 0] ∧ win0_1.index t = ![0, t.val, 0] ∧ win0_2.index t = ![0, 0]
    ∧ win0_3.index t = ![t.val, 0] ∧ win0_4.index t = ![t.val, 0] ∧ win0_5.index t = ![0, 0] ∧ win0_6.index t = ![t.val, 0] ∧ win0_7.index t = ![0, 0] :=
  (by decide +kernel : ∀ t : Fin grid0.N, _)

/-- Row `a` of the block of point `t`. -/
abbrev row (t : Fin cfg0.N) (a : Fin 256) : Fin 4096 := ⟨t.val * 256 + a.val, by have h : t.val < 16 := lt_of_lt_of_eq t.isLt N_0; omega⟩

/-! What the windows' blocks hold of the arrays. -/

theorem at0 (c : Dev nD) (t : Fin cfg0.N) (s : Fin 5) (a : Fin 256) (i : Fin 1024) : iblk m c 0 t (ix3 s a i) = m ((c.tc : Thread nD τ).loc main_arg4) (ix3 s (row t a) i) := by
  blk_point [iblk, V, index_eq t]
theorem at1 (c : Dev nD) (t : Fin cfg0.N) (s : Fin 2) (a : Fin 256) (i : Fin 1024) : iblk m c 1 t (ix3 s a i) = m ((c.tc : Thread nD τ).loc main_arg5) (ix3 s (row t a) i) := by
  blk_point [iblk, V, index_eq t]
theorem at2 (c : Dev nD) (t : Fin cfg0.N) (a : Fin 1024) (i : Fin 7168) : iblk m c 2 t (ix2 a i) = m ((c.tc : Thread nD τ).loc main_arg2) (ix3 0 a i) := by
  blk_simp [iblk]
  entry_read
  pointwise
  blk_point [index_eq t]
theorem at3 (c : Dev nD) (t : Fin cfg0.N) (a : Fin 256) (i : Fin 1024) : iblk m c 3 t (ix2 a i) = m ((c.tc : Thread nD τ).loc main_arg0) (ix3 0 (row t a) i) := by
  blk_simp [iblk]
  entry_read
  pointwise
  blk_point [index_eq t]
theorem at4 (c : Dev nD) (t : Fin cfg0.N) (a : Fin 256) (i : Fin 1024) : iblk m c 4 t (ix2 a i) = m ((c.tc : Thread nD τ).loc main_arg3) (ix2 (row t a) i) := by
  blk_point [iblk, V, index_eq t]
theorem at5 (c : Dev nD) (t : Fin cfg0.N) (i : Fin 1024) : iblk m c 5 t (ix2 0 i) = m ((c.tc : Thread nD τ).loc main_arg1) (ix2 0 i) := by
  blk_point [iblk, V, index_eq t]

/-- The first result: the gradient of the layer's input. -/
theorem final6 (c : Dev nD) : (dats m 0 c).arrAt 6 (cfgs 0).N = fun j => InProjMath.dx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (j 0) (j 1) := by
  refine (dats m 0 c).arrAt_eq_of_covers 6 _ (by decide +kernel) fun t hf y => ?_
  blk_simp
  rw [after0_6]
  idx_vars y
  have e : (win0_6.blk t).view.emb (ix2 y0 y1) = ix2 (row t y0) y1 := by blk_ext [index_eq t]
  refine Eq.trans ?_ (congrArg (fun j : S4096x1024.Idx => InProjMath.dx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (j 0) (j 1)) e.symm)
  by_cases h : t.val % 16 = 0
  · rw [outsAt0_A m c t h]
    frame_out
    pointwise [k0_pay1, k0_pay3, k0_pay4, k0_pay5, k0_pay6, k0_pay7, k0_pay8, InProjMath.lit_channels, InProjMath.lit_eps, at0 m c t, at1 m c t, at2 m c t, at3 m c t, at4 m c t, at5 m c t]
    rfl
  · rw [outsAt0_B m c t h]
    frame_out
    pointwise [k0_pay1, k0_pay3, k0_pay4, k0_pay5, k0_pay6, k0_pay7, k0_pay8, InProjMath.lit_channels, InProjMath.lit_eps, at0 m c t, at1 m c t, at2 m c t, at3 m c t, at4 m c t, at5 m c t]
    rfl

/-- What point `t` adds to column `i` of the first row of the sums. -/
def added (c : Dev nD) (t : Fin cfg0.N) (i : Fin 1024) : EReal :=
  ∑ k : Fin 256, InProjMath.dgTerm (m ((c.tc : Thread nD τ).loc main_arg0)) (m ((c.tc : Thread nD τ).loc main_arg2))
    (m ((c.tc : Thread nD τ).loc main_arg4)) (m ((c.tc : Thread nD τ).loc main_arg5)) (row t k) i

theorem step_first (c : Dev nD) (t : Fin cfg0.N) (h : t.val % 16 = 0) (j : S8x1024.Idx) :
    (outsAt0 m c t.val t.isLt).2 j = (0 : EReal) + if (j 0 : ℕ) = 0 then added m c t (j 1) else 0 := by
  rw [outsAt0_A m c t h]
  frame_out
  idx_vars j
  rw [RowWrites.canon_row, View.canon_cons_unit_lit' _ _ _ (by decide), View.readCov_fill _ _ _ _ _ (by decide)]
  pointwise [k0_pay2, k0_pay3, k0_pay4, k0_pay5, k0_pay6, k0_pay7, k0_pay8, k0_pay9, InProjMath.lit_channels, InProjMath.lit_eps, at0 m c t, at1 m c t, at2 m c t, at3 m c t]
  rfl

theorem step_next (c : Dev nD) (t : Fin cfg0.N) (h : ¬ t.val % 16 = 0) (j : S8x1024.Idx) :
    (outsAt0 m c t.val t.isLt).2 j = (show EReal from (outsAt0 m c (t.val - 1) (by omega)).2 j) + if (j 0 : ℕ) = 0 then added m c t (j 1) else 0 := by
  rw [outsAt0_B m c t h]
  frame_out
  idx_vars j
  rw [RowWrites.read_row, View.writes_nil, Memref.IsWhole.read_unread]
  pointwise [k0_pay2, k0_pay3, k0_pay4, k0_pay5, k0_pay6, k0_pay7, k0_pay8, k0_pay9, InProjMath.lit_channels, InProjMath.lit_eps, at0 m c t, at1 m c t, at2 m c t, at3 m c t]
  by_cases hj : (j0 : ℕ) = 0
  · obtain rfl : j0 = 0 := Fin.ext hj
    rfl
  · exact (if_neg hj).trans ((congrArg _ (if_neg hj)).trans (add_zero _)).symm

/-- The second result: the gradient of the scale, over seven rows of zeros. -/
theorem final7 (c : Dev nD) : (dats m 0 c).arrAt 7 (cfgs 0).N = fun j => InProjMath.sums (m ((c.tc : Thread nD τ).loc main_arg0))
        (m ((c.tc : Thread nD τ).loc main_arg2)) (m ((c.tc : Thread nD τ).loc main_arg4)) (m ((c.tc : Thread nD τ).loc main_arg5)) (j 0) (j 1) := by
  refine (dats m 0 c).arrAt_eq_of_covers 7 _ (by decide +kernel) fun t hf y => ?_
  blk_simp
  idx_vars y
  have e : (win0_7.blk t).view.emb (ix2 y0 y1) = ix2 y0 y1 := by blk_ext [index_eq t]
  refine Eq.trans ?_ (congrArg (fun j : S8x1024.Idx => InProjMath.sums (m ((c.tc : Thread nD τ).loc main_arg0))
        (m ((c.tc : Thread nD τ).loc main_arg2)) (m ((c.tc : Thread nD τ).loc main_arg4)) (m ((c.tc : Thread nD τ).loc main_arg5)) (j 0) (j 1)) e.symm)
  have ht : t.val = 15 := by have := (flush0_7 t).mp hf; have : t.val < 16 := lt_of_lt_of_eq t.isLt N_0; omega
  rw [after0_7, Pipeline.eq_sum_fin_of_reset_step_apply_of_flush (fun n h => (outsAt0 m c n h).2) 16 (fun _ => 0)
    (fun t j => if (j 0 : ℕ) = 0 then added m c t (j 1) else 0) (step_first m c) (step_next m c) t ((flush0_7 t).mp hf) _, zero_add]
  show _ = if (y0 : ℕ) = 0 then _ else _
  by_cases hk : (y0 : ℕ) = 0
  · refine Eq.trans (Fin.sum_fin_congr fun s => if_pos hk) ?_
    rw [if_pos hk]
    unfold added
    refine Fin.sum_mul_add_congr fun s k hl => ?_
    exact congrArg (fun n => InProjMath.dgTerm _ _ _ _ n y1) (Fin.ext (by simp only [ht]; omega))
  · refine Eq.trans (Fin.sum_fin_congr fun s => if_neg hk) ?_
    rw [if_neg hk]
    exact (Finset.sum_const_zero : ∑ _s : Fin 16, (0 : EReal) = 0)

end Cert.InProjIdeal.Hand
end
-- ==== Proof.HostReduce.lean ====
module

public import Idealize.ShloMosaic.Lib.Pointwise
public import Idealize.ShloMosaic.PureOps.Ideal

@[expose] public section

noncomputable section

/-! Sums of the reference programs that run over two axes at once, at least one of them of size one. -/

namespace Cert.HostReduce

open Idealize.ShloMosaic

/-- A sum over the first and the last axis of an array `1 × n × 1` is the initial value plus the one entry of the row. -/
theorem unit_ends {n : ℕ} (h : (⟨3, ![1, n, 1]⟩ : Shape).ReducesTo [0, 2] (⟨1, ![n]⟩ : Shape)) (v : (⟨3, ![1, n, 1]⟩ : Shape).Idx → EReal)
    (init : EReal) (i : Fin n) : Ideal.hostReduceAdd h v init (ix1 i) = init + v (ix3 0 i 0) := by
  unfold Ideal.hostReduceAdd
  rw [Finset.sum_filter_eq_sum_of_fiber _ (fun k : Fin 1 => ix3 (n0 := 1) (n1 := n) (n2 := 1) k i 0) (fun _ _ _ => Subsingleton.elim _ _) ?_]
  · simp
  · intro k
    constructor
    · intro e
      refine ⟨k 0, ?_⟩
      funext a; apply Fin.ext
      match a with
      | ⟨0, _⟩ => rfl
      | ⟨1, _⟩ => exact (congrArg Fin.val (congrFun e 0)).symm
      | ⟨2, _⟩ => exact congrArg Fin.val (Subsingleton.elim (0 : Fin 1) (k 2))
    · rintro ⟨k, rfl⟩
      funext b
      match b with
      | ⟨0, _⟩ => rfl

/-- A sum over the first two axes of an array `1 × n × c` is the initial value plus the sum of the column. -/
theorem columns {n c : ℕ} (h : (⟨3, ![1, n, c]⟩ : Shape).ReducesTo [0, 1] (⟨1, ![c]⟩ : Shape)) (v : (⟨3, ![1, n, c]⟩ : Shape).Idx → EReal)
    (init : EReal) (i : Fin c) : Ideal.hostReduceAdd h v init (ix1 i) = init + ∑ k : Fin n, v (ix3 0 k i) := by
  unfold Ideal.hostReduceAdd
  rw [Finset.sum_filter_eq_sum_of_fiber _ (fun k : Fin n => ix3 (n0 := 1) (n1 := n) (n2 := c) 0 k i) (fun _ _ e => congrFun e 1) ?_]
  intro k
  constructor
  · intro e
    refine ⟨k 1, ?_⟩
    funext a; apply Fin.ext
    match a with
    | ⟨0, _⟩ => exact congrArg Fin.val (Subsingleton.elim (0 : Fin 1) (k 0))
    | ⟨1, _⟩ => rfl
    | ⟨2, _⟩ => exact (congrArg Fin.val (congrFun e 0)).symm
  · rintro ⟨k, rfl⟩
    funext b
    match b with
    | ⟨0, _⟩ => rfl

end Cert.HostReduce

end
-- ==== Proof.InProjR.lean ====
module

public import proofs.«01_k».proof.Proof.Gen.InProjRefIdeal.Run
public import Idealize.ShloMosaic.Lib.Pointwise
public import Idealize.ShloMosaic.Lib.Tactic.CleanTypes
public import proofs.«01_k».proof.Proof.InProj
public import proofs.«01_k».proof.Proof.HostReduce

@[expose] public section

set_option maxRecDepth 100000

noncomputable section

/-! What the derivative of the forward lines leaves in its two results. -/

namespace Cert.InProjRefIdeal.Hand

open Cert.InProjRefIdeal Cert.InProjRefIdeal.Gen Cert.InProjRefIdeal.Value Idealize.ShloMosaic Idealize.ShloMosaic.TcCoe Idealize.SL.Sem

variable (m : (ℓ : Loc nD τ sig) → Buf (Elt Ideal) ℓ)

set_option maxHeartbeats 2000000 in
/-- The first result is the gradient of the layer's input. -/
theorem out0 (c : Dev nD) (n : Fin 4096) (i : Fin 1024) : res_out0 m c (ix2 n i)
    = InProjMath.dx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) n i := by
  unfold res_out0 res_main_v69
  clean_types
  pointwise [HostReduce.unit_ends, InProjMath.lit_channels, InProjMath.lit_eps, InProjMath.lit_neg_half]
  have hd := fun i => InProjMath.ladder (fun t => m ((c.tc : Thread nD τ).loc main_arg4) (ix3 0 n t)) (fun t => m ((c.tc : Thread nD τ).loc main_arg4) (ix3 1 n t))
    (fun t => m ((c.tc : Thread nD τ).loc main_arg4) (ix3 2 n t)) (fun t => m ((c.tc : Thread nD τ).loc main_arg4) (ix3 3 n t))
    (fun t => m ((c.tc : Thread nD τ).loc main_arg4) (ix3 4 n t)) (fun t => m ((c.tc : Thread nD τ).loc main_arg5) (ix3 0 n t))
    (fun t => m ((c.tc : Thread nD τ).loc main_arg5) (ix3 1 n t)) (fun x => m ((c.tc : Thread nD τ).loc main_arg2) (ix3 0 i x))
  beta_reduce at hd
  simp only [hd]
  exact (Rms.bwd_eq (by norm_num) (by norm_num) _ _ (fun i => InProjMath.dh (m ((c.tc : Thread nD τ).loc main_arg2)) (m ((c.tc : Thread nD τ).loc main_arg4)) (m ((c.tc : Thread nD τ).loc main_arg5)) n i * m ((c.tc : Thread nD τ).loc main_arg1) (ix2 0 i)) i).symm

set_option maxHeartbeats 2000000 in
/-- The reference's two results: the gradient of the layer's input, and the gradient of the scale over seven rows of zeros. -/
theorem run (g : Dev nD → PrngReg) : θ_run defs (onTc (τ := τ) (main (F := Ideal))) ⟨m, fun _ => 0, g⟩ fun r => ∀ c : Dev nD,
    (r.2.mem ((c.tc : Thread nD τ).loc main_v69) = fun j : S4096x1024.Idx => InProjMath.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0) (j 1))
      ∧ (r.2.mem ((c.tc : Thread nD τ).loc main_v70) = fun j : S8x1024.Idx => InProjMath.sums (m ((c.tc : Thread nD τ).loc main_arg0)) (m ((c.tc : Thread nD τ).loc main_arg2)) (m ((c.tc : Thread nD τ).loc main_arg4)) (m ((c.tc : Thread nD τ).loc main_arg5)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun j => ?_), (h c).2.1.trans (funext fun j => ?_), (h c).2.2⟩) (Value.run m g)
  · idx_vars j
    exact out0 m c j0 j1
  · idx_vars j
    show _ = InProjMath.sums (m ((c.tc : Thread nD τ).loc main_arg0)) (m ((c.tc : Thread nD τ).loc main_arg2)) (m ((c.tc : Thread nD τ).loc main_arg4)) (m ((c.tc : Thread nD τ).loc main_arg5)) j0 j1
    clean_types
    pointwise [HostReduce.columns, InProjMath.lit_channels, InProjMath.lit_eps]
    have hd := fun n => InProjMath.ladder (fun t => m ((c.tc : Thread nD τ).loc main_arg4) (ix3 0 n t)) (fun t => m ((c.tc : Thread nD τ).loc main_arg4) (ix3 1 n t))
      (fun t => m ((c.tc : Thread nD τ).loc main_arg4) (ix3 2 n t)) (fun t => m ((c.tc : Thread nD τ).loc main_arg4) (ix3 3 n t))
      (fun t => m ((c.tc : Thread nD τ).loc main_arg4) (ix3 4 n t)) (fun t => m ((c.tc : Thread nD τ).loc main_arg5) (ix3 0 n t))
      (fun t => m ((c.tc : Thread nD τ).loc main_arg5) (ix3 1 n t)) (fun x => m ((c.tc : Thread nD τ).loc main_arg2) (ix3 0 j1 x))
    beta_reduce at hd
    unfold InProjMath.sums
    by_cases hk : (j0 : ℕ) = 0
    · rw [dif_pos (by omega), if_pos hk, Fin.sum_univ_one]
      refine Finset.sum_congr rfl fun n _ => ?_
      rw [hd n, mul_comm]
      rfl
    · rw [dif_neg (by omega), if_neg hk]
      exact InProjMath.lit_zero

end Cert.InProjRefIdeal.Hand
end
-- ==== Proof.InProjClaim.lean ====
module

public import proofs.«01_k».proof.Defs
public import proofs.«01_k».proof.Proof.InProjK
public import proofs.«01_k».proof.Proof.InProjR
public import Idealize.ShloMosaic.Lib.Claim
public import proofs.«01_k».proof.Proof.Gen.InProjIdeal
public import proofs.«01_k».proof.Proof.Gen.InProjRefIdeal

@[expose] public section

noncomputable section

namespace Cert.InProjClaim

open Idealize.ShloMosaic Idealize.SL.Sem

/-- Kernel and derivative of the forward lines leave the same two arrays. -/
theorem algebraic : Cert.algebraic_InProjIdeal_InProjRefIdeal (hInProjIdeal := Cert.InProjIdeal.Gen.facts) (hInProjRefIdeal := Cert.InProjRefIdeal.Gen.facts) := by
  pair_intro
  · run_from Cert.InProjIdeal.Gen.run_main m g
  · run_from Cert.InProjRefIdeal.Hand.run m' g'
    · exact (Cert.InProjIdeal.Hand.final6 m c).symm
    · exact (Cert.InProjIdeal.Hand.final7 m c).symm

end Cert.InProjClaim

end
-- ==== Proof.UpBwd.lean ====
module

public import Idealize.ShloMosaic.Lib.Pointwise
public import proofs.«01_k».proof.Proof.Rms

@[expose] public section

set_option maxRecDepth 16384

noncomputable section

/-! The eight results of the backward pass from the gated unit's first projection to the two mixers' outputs, as functions of the arrays they depend on. -/

namespace Cert.UpBwdMath

open Idealize.ShloMosaic

/-- One half, as both programs' words write it. -/
theorem lit_half : Ideal.ofBits .f32 0x3F000000#32 = (((1 / 2 : ℝ)) : EReal) := by
  simp [Ideal.ofBits, Ideal.ieee, -EReal.coe_mul]; norm_num

/-- The logistic function. -/
def logistic (x : EReal) : EReal := Ideal.div 1 (1 + Ideal.exp (-x))

/-- The logistic function by the hyperbolic tangent of half the argument: equal at every extended real. -/
theorem logistic_tanh (x : EReal) : ((1 / 2 : ℝ) : EReal) * Ideal.tanh (((1 / 2 : ℝ) : EReal) * x) + ((1 / 2 : ℝ) : EReal) = logistic x := by
  have hc : ((1 / 2 : ℝ) : EReal) + ((1 / 2 : ℝ) : EReal) = 1 := by rw [← EReal.coe_add]; norm_num
  induction x with
  | bot =>
    rw [logistic, EReal.coe_mul_bot_of_pos (by norm_num), EReal.neg_bot]
    show ((1 / 2 : ℝ) : EReal) * -1 + _ = Ideal.div 1 (1 + ⊤)
    rw [show (1 : EReal) + ⊤ = ⊤ from EReal.coe_add_top 1, Ideal.div, if_neg (by simp), EReal.inv_top, mul_zero, mul_neg, mul_one, ← EReal.coe_neg, ← EReal.coe_add]
    norm_num
  | top =>
    rw [logistic, EReal.coe_mul_top_of_pos (by norm_num), EReal.neg_top]
    show ((1 / 2 : ℝ) : EReal) * 1 + _ = Ideal.div 1 (1 + 0)
    rw [mul_one, hc, add_zero, Ideal.div, if_neg one_ne_zero, one_mul]
    exact (EReal.coe_inv 1).symm.trans (by norm_num) |>.symm
  | coe r =>
    have hp : (0 : ℝ) < 1 + Real.exp (-r) := by positivity
    rw [logistic, ← EReal.coe_mul, ← EReal.coe_neg]
    show ((1 / 2 : ℝ) : EReal) * ((Real.tanh (1 / 2 * r) : ℝ) : EReal) + _ = Ideal.div ((1 : ℝ) : EReal) (((1 : ℝ) : EReal) + ((Real.exp (-r) : ℝ) : EReal))
    rw [← EReal.coe_add, Rms.div_coe_pos _ hp, ← EReal.coe_mul, ← EReal.coe_mul, ← EReal.coe_add, Real.tanh_eq_sinh_div_cosh, Real.sinh_eq, Real.cosh_eq]
    refine congrArg _ ?_
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have h3 := Real.exp_pos (1 / 2 * r)
    have h4 := Real.exp_pos (-(1 / 2 * r))
    rw [h1]
    generalize Real.exp (1 / 2 * r) = a at *
    generalize Real.exp (-(1 / 2 * r)) = b at *
    field_simp
    nlinarith

/-- The arrays: the mixers' outputs, the gates before the logistic, the layer's input, the three square weights, the scale, the unit's weight, its taps and offset, and the two cotangents. -/
structure Arrays where
  ya : (⟨3, ![1, 4096, 1024]⟩ : Shape).Idx → EReal
  yb : (⟨3, ![1, 4096, 1024]⟩ : Shape).Idx → EReal
  ga : (⟨3, ![1, 4096, 1024]⟩ : Shape).Idx → EReal
  gb : (⟨3, ![1, 4096, 1024]⟩ : Shape).Idx → EReal
  x : (⟨3, ![1, 4096, 1024]⟩ : Shape).Idx → EReal
  wa : (⟨3, ![1, 1024, 1024]⟩ : Shape).Idx → EReal
  wb : (⟨3, ![1, 1024, 1024]⟩ : Shape).Idx → EReal
  wo : (⟨3, ![1, 1024, 1024]⟩ : Shape).Idx → EReal
  g : (⟨2, ![1, 1024]⟩ : Shape).Idx → EReal
  wu : (⟨3, ![1, 1024, 6144]⟩ : Shape).Idx → EReal
  wc : (⟨3, ![1, 3, 6144]⟩ : Shape).Idx → EReal
  d3 : (⟨2, ![4096, 1024]⟩ : Shape).Idx → EReal
  du : (⟨3, ![2, 4096, 3072]⟩ : Shape).Idx → EReal

variable (A : Arrays)

/-- The two projected branches, their gated sum, and the layer's state after it. -/
def pa (n : Fin 4096) (i : Fin 1024) : EReal := ∑ k, A.ya (ix3 0 n k) * A.wa (ix3 0 k i)
def pb (n : Fin 4096) (i : Fin 1024) : EReal := ∑ k, A.yb (ix3 0 n k) * A.wb (ix3 0 k i)
def mix (n : Fin 4096) (i : Fin 1024) : EReal := logistic (A.ga (ix3 0 n i)) * pa A n i + logistic (A.gb (ix3 0 n i)) * pb A n i
def x2 (n : Fin 4096) (i : Fin 1024) : EReal := A.x (ix3 0 n i) + ∑ k, mix A n k * A.wo (ix3 0 k i)

/-- The cotangent `k` rows further down, zero past the last row. -/
def later (h : Fin 2) (n : Fin 4096) (c : Fin 3072) (k : ℕ) : EReal := if hk : n.val + k < 4096 then A.du (ix3 h ⟨n.val + k, hk⟩ c) else 0

/-- The taps of half `h`'s column `c`. -/
def tap (k : Fin 3) (h : Fin 2) (c : Fin 3072) : EReal := A.wc (ix3 0 k ⟨h.val * 3072 + c.val, by omega⟩)

/-- The cotangent of the unit's values before the convolution over time. -/
def du0 (h : Fin 2) (n : Fin 4096) (c : Fin 3072) : EReal :=
  tap A 2 h c * A.du (ix3 h n c) + tap A 0 h c * later A h n c 2 + tap A 1 h c * later A h n c 1

/-- The cotangent of the normalised state: eight blocks of 768 columns. -/
def dh2 (n : Fin 4096) (i : Fin 1024) : EReal :=
  ∑ t : Fin 768, du0 A 0 n ⟨t.val, by omega⟩ * A.wu (ix3 0 i ⟨t.val, by omega⟩)
  + ∑ t : Fin 768, du0 A 0 n ⟨768 + t.val, by omega⟩ * A.wu (ix3 0 i ⟨768 + t.val, by omega⟩)
  + ∑ t : Fin 768, du0 A 0 n ⟨1536 + t.val, by omega⟩ * A.wu (ix3 0 i ⟨1536 + t.val, by omega⟩)
  + ∑ t : Fin 768, du0 A 0 n ⟨2304 + t.val, by omega⟩ * A.wu (ix3 0 i ⟨2304 + t.val, by omega⟩)
  + ∑ t : Fin 768, du0 A 1 n ⟨t.val, by omega⟩ * A.wu (ix3 0 i ⟨3072 + t.val, by omega⟩)
  + ∑ t : Fin 768, du0 A 1 n ⟨768 + t.val, by omega⟩ * A.wu (ix3 0 i ⟨3840 + t.val, by omega⟩)
  + ∑ t : Fin 768, du0 A 1 n ⟨1536 + t.val, by omega⟩ * A.wu (ix3 0 i ⟨4608 + t.val, by omega⟩)
  + ∑ t : Fin 768, du0 A 1 n ⟨2304 + t.val, by omega⟩ * A.wu (ix3 0 i ⟨5376 + t.val, by omega⟩)

/-- The same as one sum over the 6144 columns, for any values whose halves these are. -/
theorem dh2_eq (v : Fin 6144 → EReal) (n : Fin 4096) (i : Fin 1024)
    (hv : ∀ (h : Fin 2) (c : Fin 3072), v ⟨h.val * 3072 + c.val, by omega⟩ = du0 A h n c) :
    ∑ k, v k * A.wu (ix3 0 i k) = dh2 A n i := by
  rw [Fin.sum_univ_tiles 8 768 rfl, Fin.sum_univ_eight, dh2]
  have e : ∀ (a b : Fin 768 → EReal), (∀ t, a t = b t) → ∑ t, a t = ∑ t, b t := fun a b h => Finset.sum_congr rfl fun t _ => h t
  refine congrArg₂ _ (congrArg₂ _ (congrArg₂ _ (congrArg₂ _ (congrArg₂ _ (congrArg₂ _ (congrArg₂ _ ?_ ?_) ?_) ?_) ?_) ?_) ?_) ?_ <;>
    refine e _ _ fun t => ?_ <;> rw [← hv] <;>
    exact congrArg₂ (fun a b => v a * A.wu (ix3 0 i b)) (Fin.ext (by simp <;> omega)) (Fin.ext (by simp <;> omega))

/-- The reciprocal root of the mean square of row `n`. -/
def root (n : Fin 4096) : EReal := Ideal.rsqrt (Rms.meanSq ((1024 : ℝ) : EReal) ((8796093 / 8796093022208 : ℝ) : EReal) fun k => x2 A n k)

/-- The cotangent of the state. -/
def dx2 (n : Fin 4096) (i : Fin 1024) : EReal :=
  A.d3 (ix2 n i) + root A n * (dh2 A n i * A.g (ix2 0 i) - x2 A n i * root A n
    * Ideal.div (∑ k, dh2 A n k * A.g (ix2 0 k) * (x2 A n k * root A n)) ((1024 : ℝ) : EReal))

/-- The cotangents of the gated sum, of the two branches, of the gates, and of the mixers' outputs. -/
def dm (n : Fin 4096) (i : Fin 1024) : EReal := ∑ k, dx2 A n k * A.wo (ix3 0 i k)
def dpa (n : Fin 4096) (i : Fin 1024) : EReal := dm A n i * logistic (A.ga (ix3 0 n i))
def dpb (n : Fin 4096) (i : Fin 1024) : EReal := dm A n i * logistic (A.gb (ix3 0 n i))
def dga (n : Fin 4096) (i : Fin 1024) : EReal := dm A n i * pa A n i * (logistic (A.ga (ix3 0 n i)) * (1 - logistic (A.ga (ix3 0 n i))))
def dgb (n : Fin 4096) (i : Fin 1024) : EReal := dm A n i * pb A n i * (logistic (A.gb (ix3 0 n i)) * (1 - logistic (A.gb (ix3 0 n i))))
def dzg (s : Fin 2) (n : Fin 4096) (i : Fin 1024) : EReal := if s.val = 0 then dga A n i else dgb A n i
def dya (n : Fin 4096) (i : Fin 1024) : EReal := ∑ k, dpa A n k * A.wa (ix3 0 i k)
def dyb (n : Fin 4096) (i : Fin 1024) : EReal := ∑ k, dpb A n k * A.wb (ix3 0 i k)

/-- What row `n` adds to the gradient of the scale, and the sums' array. -/
def dgTerm (n : Fin 4096) (i : Fin 1024) : EReal := dh2 A n i * (x2 A n i * root A n)
def sums (k : Fin 8) (i : Fin 1024) : EReal := if (k : ℕ) = 0 then ∑ n, dgTerm A n i else 0

end Cert.UpBwdMath

end
-- ==== Proof.UpBwdB.lean ====
module

public import proofs.«01_k».proof.Proof.Gen.UpBwdIdeal.Frame
public import Idealize.ShloMosaic.Lib.Pipeline.ValueKit
public import Idealize.ShloMosaic.Lib.Pointwise
public import proofs.«01_k».proof.Proof.InProj
public import proofs.«01_k».proof.Proof.UpBwd
public import proofs.«01_k».proof.Proof.RowWrites

@[expose] public section

set_option maxRecDepth 16384

noncomputable section

/-! What the windows' blocks hold of the arrays. -/

namespace Cert.UpBwdIdeal.Hand

open Cert.UpBwdIdeal Cert.UpBwdIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![0, t.val, 0] ∧ win0_1.index t = ![0, min ((t.val + 1) * 16) 255, 0] ∧ win0_2.index t = ![0, 0, 0]
    ∧ win0_3.index t = ![0, 0, 0] ∧ win0_4.index t = ![t.val, 0] ∧ win0_5.index t = ![t.val, 0] ∧ win0_6.index t = ![t.val, 5] ∧ win0_7.index t = ![t.val, 6]
    ∧ win0_8.index t = ![t.val, 0] ∧ win0_9.index t = ![t.val, 0] ∧ win0_10.index t = ![0, 0] ∧ win0_11.index t = ![0, 0] ∧ win0_12.index t = ![0, 0]
    ∧ win0_13.index t = ![0, 0] ∧ win0_14.index t = ![t.val, 0] ∧ win0_15.index t = ![0, t.val, 0] ∧ win0_16.index t = ![t.val, 0] ∧ win0_17.index t = ![t.val, 0]
    ∧ win0_18.index t = ![t.val, 0] ∧ win0_19.index t = ![t.val, 0] ∧ win0_20.index t = ![0, t.val, 0] ∧ win0_21.index t = ![0, 0] :=
  (by decide +kernel : ∀ t : Fin grid0.N, _)

/-- The arrays as the program's arguments hold them on device `c`. -/
abbrev args (c : Dev nD) : UpBwdMath.Arrays where
  ya := m ((c.tc : Thread nD τ).loc main_arg0)
  yb := m ((c.tc : Thread nD τ).loc main_arg1)
  ga := m ((c.tc : Thread nD τ).loc main_arg2)
  gb := m ((c.tc : Thread nD τ).loc main_arg3)
  x := m ((c.tc : Thread nD τ).loc main_arg4)
  wa := m ((c.tc : Thread nD τ).loc main_arg5)
  wb := m ((c.tc : Thread nD τ).loc main_arg6)
  wo := m ((c.tc : Thread nD τ).loc main_arg7)
  g := m ((c.tc : Thread nD τ).loc main_arg8)
  wu := m ((c.tc : Thread nD τ).loc main_arg9)
  wc := m ((c.tc : Thread nD τ).loc main_arg10)
  d3 := m ((c.tc : Thread nD τ).loc main_arg12)
  du := m ((c.tc : Thread nD τ).loc main_arg13)

theorem val_lt (t : Fin cfg0.N) : t.val < 16 := lt_of_lt_of_eq t.isLt N_0

/-- Row `a` of the block of point `t`. -/
abbrev row (t : Fin cfg0.N) (a : Fin 256) : Fin 4096 := ⟨t.val * 256 + a.val, by have := val_lt t; omega⟩

/-- Two arrays side by side. -/
def beside {n a b r : ℕ} {φ : EltTy} (h : Shape.Concatenates [(⟨2, ![n, a]⟩ : Shape), ⟨2, ![n, b]⟩] (⟨2, ![n, r]⟩ : Shape) 1) (x : Vec Ideal ⟨2, ![n, a]⟩ φ) (y : Vec Ideal ⟨2, ![n, b]⟩ φ) : Vec Ideal ⟨2, ![n, r]⟩ φ :=
  concatenate ⟨2, ![n, r]⟩ 1 [⟨⟨2, ![n, a]⟩, x⟩, ⟨⟨2, ![n, b]⟩, y⟩] h

theorem at0 (c : Dev nD) (t : Fin cfg0.N) (s : Fin 2) (a : Fin 256) (i : Fin 3072) : iblk m c 0 t (ix3 s a i) = (args m c).du (ix3 s (row t a) i) := by
  blk_point [iblk, V, index_eq t]
/-- The rows after the tile: those of the next tile, where there is one. -/
theorem at1 (c : Dev nD) (t : Fin cfg0.N) (ht : t.val < 15) (s : Fin 2) (a : Fin 16) (i : Fin 3072) :
    iblk m c 1 t (ix3 s a i) = (args m c).du (ix3 s ⟨t.val * 256 + 256 + a.val, by omega⟩ i) := by
  have e : min ((t.val + 1) * 16) 255 = (t.val + 1) * 16 := by omega
  have h := index_eq t
  rw [e] at h
  blk_point [iblk, V, h]
theorem at2 (c : Dev nD) (t : Fin cfg0.N) (s : Fin 2) (k : Fin 3) (i : Fin 3072) : iblk m c 2 t (ix3 s k i) = UpBwdMath.tap (args m c) k s i := by
  have e : (win0_2.blk t).view.emb (ix3 s k i) = ix3 s k i := by blk_ext [index_eq t]
  blk_simp [iblk]
  rw [e]
  entry_read
  pointwise
  rfl
theorem at3 (c : Dev nD) (t : Fin cfg0.N) (s : Fin 8) (a : Fin 1024) (i : Fin 768) : iblk m c 3 t (ix3 s a i) = (args m c).wu (ix3 0 a ⟨s.val * 768 + i.val, by omega⟩) := by
  have e : (win0_3.blk t).view.emb (ix3 s a i) = ix3 s a i := by blk_ext [index_eq t]
  blk_simp [iblk]
  rw [e]
  entry_read
  pointwise
theorem at4 (c : Dev nD) (t : Fin cfg0.N) (a : Fin 256) (i : Fin 1024) : iblk m c 4 t (ix2 a i) = UpBwdMath.x2 (args m c) (row t a) i := by
  have e : (win0_4.blk t).view.emb (ix2 a i) = ix2 (row t a) i := by blk_ext [index_eq t]
  blk_simp [iblk]
  rw [e]
  entry_read
  pointwise
  rfl
theorem at5 (c : Dev nD) (t : Fin cfg0.N) (a : Fin 256) (i : Fin 1024) : iblk m c 5 t (ix2 a i) = (args m c).d3 (ix2 (row t a) i) := by
  blk_point [iblk, V, index_eq t]
theorem at6 (c : Dev nD) (t : Fin cfg0.N) (a : Fin 256) (i : Fin 1024) : iblk m c 6 t (ix2 a i) = (args m c).ga (ix3 0 (row t a) i) := by
  have e : (win0_6.blk t).view.emb (ix2 a i) = ix2 (row t a) ⟨5120 + i.val, by omega⟩ := by blk_ext [index_eq t]
  blk_simp [iblk]
  rw [e]
  unfold V hostOps0
  rw [show (fun (a : (⟨S4096x5120, .bf16⟩ : BufTy).Contents (Elt Ideal)) (b : (⟨S4096x2048, .bf16⟩ : BufTy).Contents (Elt Ideal)) => concatenate S4096x7168 1 [⟨S4096x5120, a⟩, ⟨S4096x2048, b⟩] concatenates_S4096x5120_S4096x2048_S4096x7168_d1)
      = beside concatenates_S4096x5120_S4096x2048_S4096x7168_d1 from rfl,
    show (fun (a : (⟨S4096x1024, .bf16⟩ : BufTy).Contents (Elt Ideal)) (b : (⟨S4096x1024, .bf16⟩ : BufTy).Contents (Elt Ideal)) => concatenate S4096x2048 1 [⟨S4096x1024, a⟩, ⟨S4096x1024, b⟩] concatenates_S4096x1024_S4096x1024_S4096x2048_d1)
      = beside concatenates_S4096x1024_S4096x1024_S4096x2048_d1 from rfl]
  entry_read
  unfold beside
  pointwise
theorem at7 (c : Dev nD) (t : Fin cfg0.N) (a : Fin 256) (i : Fin 1024) : iblk m c 7 t (ix2 a i) = (args m c).gb (ix3 0 (row t a) i) := by
  have e : (win0_7.blk t).view.emb (ix2 a i) = ix2 (row t a) ⟨6144 + i.val, by omega⟩ := by blk_ext [index_eq t]
  blk_simp [iblk]
  rw [e]
  unfold V hostOps0
  rw [show (fun (a : (⟨S4096x5120, .bf16⟩ : BufTy).Contents (Elt Ideal)) (b : (⟨S4096x2048, .bf16⟩ : BufTy).Contents (Elt Ideal)) => concatenate S4096x7168 1 [⟨S4096x5120, a⟩, ⟨S4096x2048, b⟩] concatenates_S4096x5120_S4096x2048_S4096x7168_d1)
      = beside concatenates_S4096x5120_S4096x2048_S4096x7168_d1 from rfl,
    show (fun (a : (⟨S4096x1024, .bf16⟩ : BufTy).Contents (Elt Ideal)) (b : (⟨S4096x1024, .bf16⟩ : BufTy).Contents (Elt Ideal)) => concatenate S4096x2048 1 [⟨S4096x1024, a⟩, ⟨S4096x1024, b⟩] concatenates_S4096x1024_S4096x1024_S4096x2048_d1)
      = beside concatenates_S4096x1024_S4096x1024_S4096x2048_d1 from rfl]
  entry_read
  unfold beside
  pointwise
  rw [dif_neg (by omega), dif_neg (by omega)]
  exact congrArg (m ((c.tc : Thread nD τ).loc main_arg3)) (congrArg (ix3 0 (row t a)) (Fin.ext (by simp only; omega)))
theorem at8 (c : Dev nD) (t : Fin cfg0.N) (a : Fin 256) (i : Fin 1024) : iblk m c 8 t (ix2 a i) = UpBwdMath.pa (args m c) (row t a) i := by
  have e : (win0_8.blk t).view.emb (ix2 a i) = ix2 (row t a) i := by blk_ext [index_eq t]
  blk_simp [iblk]
  rw [e]
  entry_read
  pointwise
  rfl
theorem at9 (c : Dev nD) (t : Fin cfg0.N) (a : Fin 256) (i : Fin 1024) : iblk m c 9 t (ix2 a i) = UpBwdMath.pb (args m c) (row t a) i := by
  have e : (win0_9.blk t).view.emb (ix2 a i) = ix2 (row t a) i := by blk_ext [index_eq t]
  blk_simp [iblk]
  rw [e]
  entry_read
  pointwise
  rfl
theorem at10 (c : Dev nD) (t : Fin cfg0.N) (a i : Fin 1024) : iblk m c 10 t (ix2 a i) = (args m c).wo (ix3 0 a i) := by
  blk_simp [iblk]
  entry_read
  pointwise
  blk_point [index_eq t]
theorem at11 (c : Dev nD) (t : Fin cfg0.N) (a i : Fin 1024) : iblk m c 11 t (ix2 a i) = (args m c).wa (ix3 0 a i) := by
  blk_simp [iblk]
  entry_read
  pointwise
  blk_point [index_eq t]
theorem at12 (c : Dev nD) (t : Fin cfg0.N) (a i : Fin 1024) : iblk m c 12 t (ix2 a i) = (args m c).wb (ix3 0 a i) := by
  blk_simp [iblk]
  entry_read
  pointwise
  blk_point [index_eq t]
theorem at13 (c : Dev nD) (t : Fin cfg0.N) (i : Fin 1024) : iblk m c 13 t (ix2 0 i) = (args m c).g (ix2 0 i) := by
  blk_point [iblk, V, index_eq t]

end Cert.UpBwdIdeal.Hand
end
-- ==== Proof.UpBwdS.lean ====
module

public import proofs.«01_k».proof.Proof.UpBwdB

/-! The convolution's transpose, tile by tile, and its product with the up-projection, as the call of the up-projection's backward computes them. -/

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.Pipeline (Dat)

variable (m : (ℓ : Loc nD τ sig) → Buf (Elt Ideal) ℓ)

/-- A tap read through the slice and the reshape that take one half out of the stack. -/
theorem half_at (c : Dev nD) (t : Fin cfg0.N) (s : Fin 2) (k : Fin 3) (j : Fin 3072) (hi : ∀ a, ![s.val, 0, 0] a + S1x3x3072.size a ≤ S2x3x3072.size a) (hr) :
    View.read (Elt Ideal) (((ms0_2 t).view.slice (Rect.unit ![s.val, 0, 0] S1x3x3072.size hi)).reshape S3x3072 hr) ((hs0_2 t).unread (iblk m c 2 t)) (ix2 k j)
      = UpBwdMath.tap (args m c) k s j := by
  rw [← at2 m c t]
  refine (congrFun ((hs0_2 t).read_unread (iblk m c 2 t)) ((Rect.unit (s := S2x3x3072) ![s.val, 0, 0] S1x3x3072.size hi).emb (Shape.reshapeEquiv hr (ix2 k j)))).trans ?_
  rw [show Shape.reshapeEquiv hr (ix2 k j) = ix3 (0 : Fin 1) k j from
    Shape.reshapeEquiv_eq_of_rowMajor hr (by rw [Shape.rowMajor_val_three, Shape.rowMajor_val_two]; show ((0 : ℕ) * 3 + k.val) * 3072 + j.val = k.val * 3072 + j.val; omega)]
  refine congrArg (iblk m c 2 t) (funext fun a => Fin.ext ?_)
  fin_cases a
  · show s.val + 0 * 1 = s.val; omega
  · show 0 + 1 * k.val = k.val; omega
  · show 0 + 1 * j.val = j.val; omega

/-- A tap of the gate half, as the body reads it. -/
theorem half_zero (c : Dev nD) (t : Fin cfg0.N) (k : Fin 3) (j : Fin 3072) (hi) (hr) :
    View.read (Elt Ideal) (((ms0_2 t).view.slice (Rect.unit ![0, 0, 0] ![1, 3, 3072] hi)).reshape S3x3072 hr) ((hs0_2 t).unread (iblk m c 2 t)) (ix2 k j)
      = UpBwdMath.tap (args m c) k 0 j :=
  half_at m c t 0 k j hi hr

/-- A tap of the value half, as the body reads it. -/
theorem half_one (c : Dev nD) (t : Fin cfg0.N) (k : Fin 3) (j : Fin 3072) (hi) (hr) :
    View.read (Elt Ideal) (((ms0_2 t).view.slice (Rect.unit ![1, 0, 0] ![1, 3, 3072] hi)).reshape S3x3072 hr) ((hs0_2 t).unread (iblk m c 2 t)) (ix2 k j)
      = UpBwdMath.tap (args m c) k 1 j :=
  half_at m c t 1 k j hi hr

/-- The body's test of the last block. -/
theorem gap (t : Fin cfg0.N) : Scalar.cmpi .slt (BitVec.ofNat 32 ↑(grid0.coords t 0)) 15#32 = if t.val < 15 then 1#1 else 0#1 :=
  (by decide +kernel : ∀ t : Fin grid0.N, Scalar.cmpi .slt (BitVec.ofNat 32 ↑(grid0.coords t 0)) 15#32 = if t.val < 15 then 1#1 else 0#1) t

/-- A later row of a tile: it lies in the tile, in the rows read after the tile, or past the end. -/
theorem later_at (c : Dev nD) (t : Fin cfg0.N) (h : Fin 2) (a : Fin 256) (j : Fin 3072) (k : ℕ) (hk : 0 < k ∧ k < 16) (n : ℕ) (hn : n = a.val + k)
    (h16 : ∀ _ : ¬ n < 256, n - 256 < 16) :
    (if h' : n < 256 then (args m c).du (ix3 h (row t ⟨n, h'⟩) j)
      else Scalar.select (Scalar.cmpi .slt (BitVec.ofNat 32 ↑(grid0.coords t 0)) 15#32) (iblk m c 1 t (ix3 h ⟨n - 256, h16 h'⟩ j)) (0 : EReal))
    = UpBwdMath.later (args m c) h (row t a) j k := by
  subst hn
  have ht := val_lt t
  rw [gap, UpBwdMath.later]
  by_cases h1 : a.val + k < 256
  · rw [dif_pos h1, dif_pos (by simp only; omega)]
    exact congrArg _ (congrArg (ix3 h · j) (Fin.ext (by simp only; omega)))
  · rw [dif_neg h1]
    by_cases h2 : t.val < 15
    · rw [if_pos h2, dif_pos (by simp only; omega)]
      refine (at1 m c t h2 h _ j).trans ?_
      exact congrArg _ (congrArg (ix3 h · j) (Fin.ext (by simp only; omega)))
    · rw [if_neg h2, dif_neg (by simp only; omega)]
      rfl

/-- The five loads of one tile of 768 columns: the rows after the block, the block, and the three taps. -/
structure Loads (c : Dev nD) (t : Fin cfg0.N) (s : Fin 2) (col : Fin 768 → Fin 3072) (u : Vec Ideal S1x16x768 .bf16) (v : Vec Ideal S1x256x768 .bf16) (w2 w0 w1 : Vec Ideal S1x768 .f32) : Prop where
  next : ∀ a i, u (ix3 (0 : Fin 1) (a : Fin 16) (i : Fin 768)) = iblk m c 1 t (ix3 s a (col i))
  here : ∀ a i, v (ix3 (0 : Fin 1) (a : Fin 256) (i : Fin 768)) = (args m c).du (ix3 s (row t a) (col i))
  two : ∀ i, w2 (ix2 (0 : Fin 1) (i : Fin 768)) = UpBwdMath.tap (args m c) 2 s (col i)
  zero : ∀ i, w0 (ix2 (0 : Fin 1) (i : Fin 768)) = UpBwdMath.tap (args m c) 0 s (col i)
  one : ∀ i, w1 (ix2 (0 : Fin 1) (i : Fin 768)) = UpBwdMath.tap (args m c) 1 s (col i)

/-- A tile of the convolution's transpose. -/
theorem tile (c : Dev nD) (t : Fin cfg0.N) {s : Fin 2} {col : Fin 768 → Fin 3072} {u : Vec Ideal S1x16x768 .bf16} {v : Vec Ideal S1x256x768 .bf16} {w2 w0 w1 : Vec Ideal S1x768 .f32}
    (L : Loads m c t s col u v w2 w0 w1) :
    k0_pay34 (Scalar.cmpi .slt (BitVec.ofNat 32 ↑(grid0.coords t 0)) 15#32) u v w2 w0 w1 = fun y => UpBwdMath.du0 (args m c) s (row t (y 0)) (col (y 1)) := by
  funext y
  idx_vars y
  pointwise [k0_pay34, L.next, L.here, L.two, L.zero, L.one]
  exact congrArg₂ _ (congrArg₂ _ rfl (congrArg _ (later_at m c t s y0 (col y1) 2 (by omega) _ (by omega) (by omega))))
    (congrArg _ (later_at m c t s y0 (col y1) 1 (by omega) _ (by omega) (by omega)))

/-- One block of the up-projection's columns, read as its transpose's rows. -/
def Weights (c : Dev nD) (wcol : Fin 768 → Fin 6144) (W : Vec Ideal S1x1024x768 .bf16) : Prop :=
  ∀ a i, W (ix3 (0 : Fin 1) (a : Fin 1024) (i : Fin 768)) = (args m c).wu (ix3 0 a (wcol i))

/-- A product with a tile added to what is there, at an entry. -/
theorem product (c : Dev nD) (t : Fin cfg0.N) {s : Fin 2} {col : Fin 768 → Fin 3072} {wcol : Fin 768 → Fin 6144} {u : Vec Ideal S1x16x768 .bf16} {v : Vec Ideal S1x256x768 .bf16}
    {w2 w0 w1 : Vec Ideal S1x768 .f32} {W : Vec Ideal S1x1024x768 .bf16} (L : Loads m c t s col u v w2 w0 w1)
    (R : Weights m c wcol W) (acc : FVec Ideal S256x1024 .f32) :
    k0_pay36 acc (k0_pay34 (Scalar.cmpi .slt (BitVec.ofNat 32 ↑(grid0.coords t 0)) 15#32) u v w2 w0 w1) W
      = fun y => acc y + ∑ i : Fin 768, UpBwdMath.du0 (args m c) s (row t (y 0)) (col i) * (args m c).wu (ix3 0 (y 1) (wcol i)) := by
  rw [tile m c t L]
  funext y
  idx_vars y
  pointwise [k0_pay36, R _ _]

/-- The first product has nothing before it. -/
theorem product_first (c : Dev nD) (t : Fin cfg0.N) {s : Fin 2} {col : Fin 768 → Fin 3072} {wcol : Fin 768 → Fin 6144} {u : Vec Ideal S1x16x768 .bf16} {v : Vec Ideal S1x256x768 .bf16}
    {w2 w0 w1 : Vec Ideal S1x768 .f32} {W : Vec Ideal S1x1024x768 .bf16} (L : Loads m c t s col u v w2 w0 w1)
    (R : Weights m c wcol W) :
    matmul (φ₂ := .bf16) dot_S256x768_S1024x768_S256x1024_1_1_0_0_n_n none (k0_pay34 (Scalar.cmpi .slt (BitVec.ofNat 32 ↑(grid0.coords t 0)) 15#32) u v w2 w0 w1) (shapeCast S1024x768 W shapeCasts_S1x1024x768_S1024x768) (constant S256x1024 .f32 0x00000000#32)
      = fun y => ∑ i : Fin 768, UpBwdMath.du0 (args m c) s (row t (y 0)) (col i) * (args m c).wu (ix3 0 (y 1) (wcol i)) := by
  rw [tile m c t L]
  funext y
  idx_vars y
  pointwise [R _ _]

/-- The eight tiles are one function of their loads, in eight spellings. -/
theorem spell5 (t : Fin cfg0.N) (u : Vec Ideal S1x16x768 .bf16) (v : Vec Ideal S1x256x768 .bf16) (w2 w0 w1 : Vec Ideal S1x768 .f32) :
    k0_pay5 (k0_pay3 (grid0.coords t) u v) (k0_pay4 (grid0.coords t) u v w2 w0) w1 = k0_pay34 (Scalar.cmpi .slt (BitVec.ofNat 32 ↑(grid0.coords t 0)) 15#32) u v w2 w0 w1 := rfl
theorem spell10 (t : Fin cfg0.N) (u : Vec Ideal S1x16x768 .bf16) (v : Vec Ideal S1x256x768 .bf16) (w2 w0 w1 : Vec Ideal S1x768 .f32) :
    k0_pay10 (k0_pay8 (BitVec.ofNat 32 ↑(grid0.coords t 0)) u v) (k0_pay9 (BitVec.ofNat 32 ↑(grid0.coords t 0)) u v w2) w0 w1 = k0_pay34 (Scalar.cmpi .slt (BitVec.ofNat 32 ↑(grid0.coords t 0)) 15#32) u v w2 w0 w1 := rfl
theorem spell14 (t : Fin cfg0.N) (u : Vec Ideal S1x16x768 .bf16) (v : Vec Ideal S1x256x768 .bf16) (w2 w0 w1 : Vec Ideal S1x768 .f32) :
    k0_pay14 (k0_pay13 (BitVec.ofNat 32 ↑(grid0.coords t 0)) u v) w2 w0 w1 = k0_pay34 (Scalar.cmpi .slt (BitVec.ofNat 32 ↑(grid0.coords t 0)) 15#32) u v w2 w0 w1 := rfl
theorem spell17 (t : Fin cfg0.N) (u : Vec Ideal S1x16x768 .bf16) (v : Vec Ideal S1x256x768 .bf16) (w2 w0 w1 : Vec Ideal S1x768 .f32) :
    k0_pay17 (Scalar.cmpi .slt (BitVec.ofNat 32 ↑(grid0.coords t 0)) 15#32) u v w2 w0 w1 = k0_pay34 (Scalar.cmpi .slt (BitVec.ofNat 32 ↑(grid0.coords t 0)) 15#32) u v w2 w0 w1 := rfl
theorem spell22 (t : Fin cfg0.N) (u : Vec Ideal S1x16x768 .bf16) (v : Vec Ideal S1x256x768 .bf16) (w2 w0 w1 : Vec Ideal S1x768 .f32) :
    k0_pay22 (k0_pay20 (BitVec.ofNat 32 ↑(grid0.coords t 0)) u v) (k0_pay21 (BitVec.ofNat 32 ↑(grid0.coords t 0)) u v w2 w0) w1 = k0_pay34 (Scalar.cmpi .slt (BitVec.ofNat 32 ↑(grid0.coords t 0)) 15#32) u v w2 w0 w1 := rfl
theorem spell27 (t : Fin cfg0.N) (u : Vec Ideal S1x16x768 .bf16) (v : Vec Ideal S1x256x768 .bf16) (w2 w0 w1 : Vec Ideal S1x768 .f32) :
    k0_pay27 (k0_pay25 (BitVec.ofNat 32 ↑(grid0.coords t 0)) u v) (k0_pay26 (BitVec.ofNat 32 ↑(grid0.coords t 0)) u v w2) w0 w1 = k0_pay34 (Scalar.cmpi .slt (BitVec.ofNat 32 ↑(grid0.coords t 0)) 15#32) u v w2 w0 w1 := rfl
theorem spell31 (t : Fin cfg0.N) (u : Vec Ideal S1x16x768 .bf16) (v : Vec Ideal S1x256x768 .bf16) (w2 w0 w1 : Vec Ideal S1x768 .f32) :
    k0_pay31 (k0_pay30 (BitVec.ofNat 32 ↑(grid0.coords t 0)) u v) w2 w0 w1 = k0_pay34 (Scalar.cmpi .slt (BitVec.ofNat 32 ↑(grid0.coords t 0)) 15#32) u v w2 w0 w1 := rfl

/-- The products over the tiles, in the same way. -/
theorem spell7 (t : Fin cfg0.N) (u : Vec Ideal S1x16x768 .bf16) (v : Vec Ideal S1x256x768 .bf16) (w2 w0 w1 : Vec Ideal S1x768 .f32) (W : Vec Ideal S1x1024x768 .bf16) :
    k0_pay7 (k0_pay3 (grid0.coords t) u v) (k0_pay4 (grid0.coords t) u v w2 w0) w1 W
      = matmul (φ₂ := .bf16) dot_S256x768_S1024x768_S256x1024_1_1_0_0_n_n none (k0_pay34 (Scalar.cmpi .slt (BitVec.ofNat 32 ↑(grid0.coords t 0)) 15#32) u v w2 w0 w1) (shapeCast S1024x768 W shapeCasts_S1x1024x768_S1024x768) (constant S256x1024 .f32 0x00000000#32) := rfl
theorem spell12 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay12 acc (k0_pay8 (BitVec.ofNat 32 ↑(grid0.coords t 0)) u v) (k0_pay9 (BitVec.ofNat 32 ↑(grid0.coords t 0)) u v w2) w0 w1 W = k0_pay36 acc (k0_pay34 (Scalar.cmpi .slt (BitVec.ofNat 32 ↑(grid0.coords t 0)) 15#32) u v w2 w0 w1) W := rfl
theorem spell16 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay16 acc (k0_pay13 (BitVec.ofNat 32 ↑(grid0.coords t 0)) u v) w2 w0 w1 W = k0_pay36 acc (k0_pay34 (Scalar.cmpi .slt (BitVec.ofNat 32 ↑(grid0.coords t 0)) 15#32) u v w2 w0 w1) W := rfl
theorem spell19 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay19 acc (k0_pay17 (Scalar.cmpi .slt (BitVec.ofNat 32 ↑(grid0.coords t 0)) 15#32) u v w2 w0 w1) W = k0_pay36 acc (k0_pay34 (Scalar.cmpi .slt (BitVec.ofNat 32 ↑(grid0.coords t 0)) 15#32) u v w2 w0 w1) W := rfl
theorem spell24 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay24 acc (k0_pay20 (BitVec.ofNat 32 ↑(grid0.coords t 0)) u v) (k0_pay21 (BitVec.ofNat 32 ↑(grid0.coords t 0)) u v w2 w0) w1 W = k0_pay36 acc (k0_pay34 (Scalar.cmpi .slt (BitVec.ofNat 32 ↑(grid0.coords t 0)) 15#32) u v w2 w0 w1) W := rfl
theorem spell29 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay29 acc (k0_pay25 (BitVec.ofNat 32 ↑(grid0.coords t 0)) u v) (k0_pay26 (BitVec.ofNat 32 ↑(grid0.coords t 0)) u v w2) w0 w1 W = k0_pay36 acc (k0_pay34 (Scalar.cmpi .slt (BitVec.ofNat 32 ↑(grid0.coords t 0)) 15#32) u v w2 w0 w1) W := rfl
theorem spell33 (t : Fin cfg0.N) (acc : FVec Ideal S256x1024 .f32) (u : Vec Ideal S1x16x768 .bf16) (v : Vec Ideal S1x256x768 .bf16) (w2 w0 w1 : Vec Ideal S1x768 .f32) (W : Vec Ideal S1x1024x768 .bf16) :
    k0_pay33 acc (k0_pay30 (BitVec.ofNat 32 ↑(grid0.coords t 0)) u v) w2 w0 w1 W = k0_pay36 acc (k0_pay34 (Scalar.cmpi .slt (BitVec.ofNat 32 ↑(grid0.coords t 0)) 15#32) u v w2 w0 w1) W := rfl
set_option maxHeartbeats 4000000 in
/-- The first seven of the eight products, added up, whatever the spelling. -/
theorem first_seven (c : Dev nD) (t : Fin cfg0.N) {u0 u1 u2 u3 u4 u5 u6 : Vec Ideal S1x16x768 .bf16} {v0 v1 v2 v3 v4 v5 v6 : Vec Ideal S1x256x768 .bf16}
    {w02 w00 w01 w12 w10 w11 w22 w20 w21 w32 w30 w31 w42 w40 w41 w52 w50 w51 w62 w60 w61 : Vec Ideal S1x768 .f32} {W0 W1 W2 W3 W4 W5 W6 : Vec Ideal S1x1024x768 .bf16}
    (L0 : Loads m c t 0 (fun i => ⟨i.val, by omega⟩) u0 v0 w02 w00 w01) (R0 : Weights m c (fun i => ⟨i.val, by omega⟩) W0)
    (L1 : Loads m c t 0 (fun i => ⟨768 + i.val, by omega⟩) u1 v1 w12 w10 w11) (R1 : Weights m c (fun i => ⟨768 + i.val, by omega⟩) W1)
    (L2 : Loads m c t 0 (fun i => ⟨1536 + i.val, by omega⟩) u2 v2 w22 w20 w21) (R2 : Weights m c (fun i => ⟨1536 + i.val, by omega⟩) W2)
    (L3 : Loads m c t 0 (fun i => ⟨2304 + i.val, by omega⟩) u3 v3 w32 w30 w31) (R3 : Weights m c (fun i => ⟨2304 + i.val, by omega⟩) W3)
    (L4 : Loads m c t 1 (fun i => ⟨i.val, by omega⟩) u4 v4 w42 w40 w41) (R4 : Weights m c (fun i => ⟨3072 + i.val, by omega⟩) W4)
    (L5 : Loads m c t 1 (fun i => ⟨768 + i.val, by omega⟩) u5 v5 w52 w50 w51) (R5 : Weights m c (fun i => ⟨3840 + i.val, by omega⟩) W5)
    (L6 : Loads m c t 1 (fun i => ⟨1536 + i.val, by omega⟩) u6 v6 w62 w60 w61) (R6 : Weights m c (fun i => ⟨4608 + i.val, by omega⟩) W6) :
    k0_pay33 (k0_pay29 (k0_pay24 (k0_pay19 (k0_pay16 (k0_pay12 (k0_pay7 (k0_pay3 (grid0.coords t) u0 v0) (k0_pay4 (grid0.coords t) u0 v0 w02 w00) w01 W0)
      (k0_pay8 (BitVec.ofNat 32 ↑(grid0.coords t 0)) u1 v1) (k0_pay9 (BitVec.ofNat 32 ↑(grid0.coords t 0)) u1 v1 w12) w10 w11 W1)
      (k0_pay13 (BitVec.ofNat 32 ↑(grid0.coords t 0)) u2 v2) w22 w20 w21 W2)
      (k0_pay17 (Scalar.cmpi .slt (BitVec.ofNat 32 ↑(grid0.coords t 0)) 15#32) u3 v3 w32 w30 w31) W3)
      (k0_pay20 (BitVec.ofNat 32 ↑(grid0.coords t 0)) u4 v4) (k0_pay21 (BitVec.ofNat 32 ↑(grid0.coords t 0)) u4 v4 w42 w40) w41 W4)
      (k0_pay25 (BitVec.ofNat 32 ↑(grid0.coords t 0)) u5 v5) (k0_pay26 (BitVec.ofNat 32 ↑(grid0.coords t 0)) u5 v5 w52) w50 w51 W5)
      (k0_pay30 (BitVec.ofNat 32 ↑(grid0.coords t 0)) u6 v6) w62 w60 w61 W6
      = fun y => ∑ i : Fin 768, UpBwdMath.du0 (args m c) 0 (row t (y 0)) ⟨i.val, by omega⟩ * (args m c).wu (ix3 0 (y 1) ⟨i.val, by omega⟩)
        + ∑ i : Fin 768, UpBwdMath.du0 (args m c) 0 (row t (y 0)) ⟨768 + i.val, by omega⟩ * (args m c).wu (ix3 0 (y 1) ⟨768 + i.val, by omega⟩)
        + ∑ i : Fin 768, UpBwdMath.du0 (args m c) 0 (row t (y 0)) ⟨1536 + i.val, by omega⟩ * (args m c).wu (ix3 0 (y 1) ⟨1536 + i.val, by omega⟩)
        + ∑ i : Fin 768, UpBwdMath.du0 (args m c) 0 (row t (y 0)) ⟨2304 + i.val, by omega⟩ * (args m c).wu (ix3 0 (y 1) ⟨2304 + i.val, by omega⟩)
        + ∑ i : Fin 768, UpBwdMath.du0 (args m c) 1 (row t (y 0)) ⟨i.val, by omega⟩ * (args m c).wu (ix3 0 (y 1) ⟨3072 + i.val, by omega⟩)
        + ∑ i : Fin 768, UpBwdMath.du0 (args m c) 1 (row t (y 0)) ⟨768 + i.val, by omega⟩ * (args m c).wu (ix3 0 (y 1) ⟨3840 + i.val, by omega⟩)
        + ∑ i : Fin 768, UpBwdMath.du0 (args m c) 1 (row t (y 0)) ⟨1536 + i.val, by omega⟩ * (args m c).wu (ix3 0 (y 1) ⟨4608 + i.val, by omega⟩) := by
  rw [spell7 t, product_first m c t L0 R0, spell12 t, product m c t L1 R1, spell16 t, product m c t L2 R2, spell19 t, product m c t L3 R3, spell24 t, product m c t L4 R4, spell29 t, product m c t L5 R5, spell33 t, product m c t L6 R6]

end Cert.UpBwdIdeal.Hand
end
-- ==== Proof.UpBwdK.lean ====
module

public import proofs.«01_k».proof.Proof.UpBwdS

/-! What the call of the up-projection's backward writes into each of its results. -/

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1000000 in
/-- The cotangent of the state. -/
theorem final14 (c : Dev nD) : (dats m 0 c).arrAt 14 (cfgs 0).N = fun j => UpBwdMath.dx2 (args m c) (j 0) (j 1) := by
  refine (dats m 0 c).arrAt_eq_of_covers 14 _ (by decide +kernel) fun t hf y => ?_
  blk_simp
  rw [after0_14]
  idx_vars y
  have e : (win0_14.blk t).view.emb (ix2 y0 y1) = ix2 (row t y0) y1 := by blk_ext [index_eq t]
  refine Eq.trans ?_ (congrArg (fun j : S4096x1024.Idx => UpBwdMath.dx2 (args m c) (j 0) (j 1)) e.symm)
  by_cases h : t.val % 16 = 0
  on_goal 1 => rw [outsAt0_A m c t h]; frame_out
  on_goal 2 => rw [outsAt0_B m c t h]; frame_out
  all_goals
    rw [first_seven m c t, tile m c t (s := 1) (col := fun i => ⟨2304 + i.val, by omega⟩)]
    on_goal 1 =>
      pointwise [k0_pay43, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t]
      rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

set_option maxHeartbeats 1000000 in
/-- The cotangent of the first branch. -/
theorem final16 (c : Dev nD) : (dats m 0 c).arrAt 16 (cfgs 0).N = fun j => UpBwdMath.dpa (args m c) (j 0) (j 1) := by
  refine (dats m 0 c).arrAt_eq_of_covers 16 _ (by decide +kernel) fun t hf y => ?_
  blk_simp
  rw [after0_16]
  idx_vars y
  have e : (win0_16.blk t).view.emb (ix2 y0 y1) = ix2 (row t y0) y1 := by blk_ext [index_eq t]
  refine Eq.trans ?_ (congrArg (fun j : S4096x1024.Idx => UpBwdMath.dpa (args m c) (j 0) (j 1)) e.symm)
  by_cases h : t.val % 16 = 0
  on_goal 1 => rw [outsAt0_A m c t h]; frame_out
  on_goal 2 => rw [outsAt0_B m c t h]; frame_out
  all_goals
    rw [first_seven m c t, tile m c t (s := 1) (col := fun i => ⟨2304 + i.val, by omega⟩)]
    on_goal 1 =>
      pointwise [k0_pay50, k0_pay44, k0_pay45, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t, at6 m c t, at10 m c t]
      rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

set_option maxHeartbeats 1000000 in
/-- The cotangent of the second branch. -/
theorem final17 (c : Dev nD) : (dats m 0 c).arrAt 17 (cfgs 0).N = fun j => UpBwdMath.dpb (args m c) (j 0) (j 1) := by
  refine (dats m 0 c).arrAt_eq_of_covers 17 _ (by decide +kernel) fun t hf y => ?_
  blk_simp
  rw [after0_17]
  idx_vars y
  have e : (win0_17.blk t).view.emb (ix2 y0 y1) = ix2 (row t y0) y1 := by blk_ext [index_eq t]
  refine Eq.trans ?_ (congrArg (fun j : S4096x1024.Idx => UpBwdMath.dpb (args m c) (j 0) (j 1)) e.symm)
  by_cases h : t.val % 16 = 0
  on_goal 1 => rw [outsAt0_A m c t h]; frame_out
  on_goal 2 => rw [outsAt0_B m c t h]; frame_out
  all_goals
    rw [first_seven m c t, tile m c t (s := 1) (col := fun i => ⟨2304 + i.val, by omega⟩)]
    on_goal 1 =>
      pointwise [k0_pay51, k0_pay44, k0_pay46, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t, at7 m c t, at10 m c t]
      rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

set_option maxHeartbeats 2000000 in
/-- The cotangent of the unit's values before the convolution, in two halves. -/
theorem final20 (c : Dev nD) : (dats m 0 c).arrAt 20 (cfgs 0).N = fun j => UpBwdMath.du0 (args m c) (j 0) (j 1) (j 2) := by
  refine (dats m 0 c).arrAt_eq_of_covers 20 _ (by decide +kernel) fun t hf y => ?_
  blk_simp
  rw [after0_20]
  idx_vars y
  have e : (win0_20.blk t).view.emb (ix3 y0 y1 y2) = ix3 y0 (row t y1) y2 := by blk_ext [index_eq t]
  refine Eq.trans ?_ (congrArg (fun j : S2x4096x3072.Idx => UpBwdMath.du0 (args m c) (j 0) (j 1) (j 2)) e.symm)
  clear e hf
  have halves (k : Fin 2) (c0 : Fin 2) (e0 : k = c0) (a : Fin 256) (i j : Fin 3072) (e1 : i = j) :
      UpBwdMath.du0 (args m c) k (row t a) i = UpBwdMath.du0 (args m c) c0 (row t a) j := by rw [e0, e1]
  by_cases a : t.val % 16 = 0
  on_goal 1 => rw [outsAt0_A m c t a]; frame_out
  on_goal 2 => rw [outsAt0_B m c t a]; frame_out
  all_goals
    canon_tiles x h
    all_goals
      change (y0 : ℕ) = _ at h0
      change (y2 : ℕ) = _ at h2
      obtain rfl : y1 = x 1 := Fin.ext h1
      pointwise [k0_pay6, k0_pay11, k0_pay15, k0_pay18, k0_pay23, k0_pay28, k0_pay32, k0_pay35]
      symm
    · refine (halves _ 1 (Fin.ext (h0.trans (by omega))) _ _ ⟨2304 + (x 2).val, by omega⟩ (Fin.ext h2)).trans (congrFun (tile m c t (s := 1) (col := fun i => ⟨2304 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 1 (Fin.ext (h0.trans (by omega))) _ _ ⟨1536 + (x 2).val, by omega⟩ (Fin.ext h2)).trans (congrFun (tile m c t (s := 1) (col := fun i => ⟨1536 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 1 (Fin.ext (h0.trans (by omega))) _ _ ⟨768 + (x 2).val, by omega⟩ (Fin.ext h2)).trans (congrFun (tile m c t (s := 1) (col := fun i => ⟨768 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 1 (Fin.ext (h0.trans (by omega))) _ _ ⟨(x 2).val, by omega⟩ (Fin.ext h2)).trans (congrFun (tile m c t (s := 1) (col := fun i => ⟨i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 0 (Fin.ext (h0.trans (by omega))) _ _ ⟨2304 + (x 2).val, by omega⟩ (Fin.ext h2)).trans (congrFun (tile m c t (s := 0) (col := fun i => ⟨2304 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 0 (Fin.ext (h0.trans (by omega))) _ _ ⟨1536 + (x 2).val, by omega⟩ (Fin.ext h2)).trans (congrFun (tile m c t (s := 0) (col := fun i => ⟨1536 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 0 (Fin.ext (h0.trans (by omega))) _ _ ⟨768 + (x 2).val, by omega⟩ (Fin.ext h2)).trans (congrFun (tile m c t (s := 0) (col := fun i => ⟨768 + i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩
    · refine (halves _ 0 (Fin.ext (h0.trans (by omega))) _ _ ⟨(x 2).val, by omega⟩ (Fin.ext h2)).trans (congrFun (tile m c t (s := 0) (col := fun i => ⟨i.val, by omega⟩) ?_) (ix2 (x 1) (x 2))).symm
      exact ⟨fun a i => by pointwise, fun a i => by pointwise [at0 m c t], fun i => by pointwise [half_zero m c t, half_one m c t], fun i => by pointwise [half_zero m c t, half_one m c t], fun i => by pointwise [half_zero m c t, half_one m c t]⟩

end Cert.UpBwdIdeal.Hand
end
-- ==== Proof.UpBwdL.lean ====
module

public import proofs.«01_k».proof.Proof.UpBwdS
public import proofs.«01_k».proof.Proof.RowWrites

/-! What the call of the up-projection's backward writes into the gates' and mixers' cotangents and into the sums. -/

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- The cotangents of the two gates, one over the other. -/
theorem final15 (c : Dev nD) : (dats m 0 c).arrAt 15 (cfgs 0).N = fun j => UpBwdMath.dzg (args m c) (j 0) (j 1) (j 2) := by
  refine (dats m 0 c).arrAt_eq_of_covers 15 _ (by decide +kernel) fun t hf y => ?_
  blk_simp
  rw [after0_15]
  idx_vars y
  have e : (win0_15.blk t).view.emb (ix3 y0 y1 y2) = ix3 y0 (row t y1) y2 := by blk_ext [index_eq t]
  refine Eq.trans ?_ (congrArg (fun j : S2x4096x1024.Idx => UpBwdMath.dzg (args m c) (j 0) (j 1) (j 2)) e.symm)
  clear e hf
  by_cases a : t.val % 16 = 0
  on_goal 1 => rw [outsAt0_A m c t a]; frame_out
  on_goal 2 => rw [outsAt0_B m c t a]; frame_out
  all_goals
    rw [first_seven m c t, tile m c t (s := 1) (col := fun i => ⟨2304 + i.val, by omega⟩)]
    on_goal 1 =>
      canon_tiles x h
      all_goals
        change (y0 : ℕ) = _ at h0
        obtain rfl : y1 = x 1 := Fin.ext h1
        obtain rfl : y2 = x 2 := Fin.ext h2
        pointwise [k0_pay47, k0_pay48, k0_pay49, k0_pay44, k0_pay45, k0_pay46, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t, at6 m c t, at7 m c t, at8 m c t, at9 m c t, at10 m c t]
        first
          | refine Eq.trans ?_ (if_pos (by omega : (y0 : ℕ) = 0)).symm
          | refine Eq.trans ?_ (if_neg (by omega : ¬ (y0 : ℕ) = 0)).symm
        rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

set_option maxHeartbeats 1000000 in
/-- The cotangent of the first mixer's output. -/
theorem final18 (c : Dev nD) : (dats m 0 c).arrAt 18 (cfgs 0).N = fun j => UpBwdMath.dya (args m c) (j 0) (j 1) := by
  refine (dats m 0 c).arrAt_eq_of_covers 18 _ (by decide +kernel) fun t hf y => ?_
  blk_simp
  rw [after0_18]
  idx_vars y
  have e : (win0_18.blk t).view.emb (ix2 y0 y1) = ix2 (row t y0) y1 := by blk_ext [index_eq t]
  refine Eq.trans ?_ (congrArg (fun j : S4096x1024.Idx => UpBwdMath.dya (args m c) (j 0) (j 1)) e.symm)
  by_cases h : t.val % 16 = 0
  on_goal 1 => rw [outsAt0_A m c t h]; frame_out
  on_goal 2 => rw [outsAt0_B m c t h]; frame_out
  all_goals
    rw [first_seven m c t, tile m c t (s := 1) (col := fun i => ⟨2304 + i.val, by omega⟩)]
    on_goal 1 =>
      pointwise [k0_pay52, k0_pay50, k0_pay44, k0_pay45, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t, at6 m c t, at10 m c t, at11 m c t]
      rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

set_option maxHeartbeats 1000000 in
/-- The cotangent of the second mixer's output. -/
theorem final19 (c : Dev nD) : (dats m 0 c).arrAt 19 (cfgs 0).N = fun j => UpBwdMath.dyb (args m c) (j 0) (j 1) := by
  refine (dats m 0 c).arrAt_eq_of_covers 19 _ (by decide +kernel) fun t hf y => ?_
  blk_simp
  rw [after0_19]
  idx_vars y
  have e : (win0_19.blk t).view.emb (ix2 y0 y1) = ix2 (row t y0) y1 := by blk_ext [index_eq t]
  refine Eq.trans ?_ (congrArg (fun j : S4096x1024.Idx => UpBwdMath.dyb (args m c) (j 0) (j 1)) e.symm)
  by_cases h : t.val % 16 = 0
  on_goal 1 => rw [outsAt0_A m c t h]; frame_out
  on_goal 2 => rw [outsAt0_B m c t h]; frame_out
  all_goals
    rw [first_seven m c t, tile m c t (s := 1) (col := fun i => ⟨2304 + i.val, by omega⟩)]
    on_goal 1 =>
      pointwise [k0_pay1, k0_pay51, k0_pay44, k0_pay46, k0_pay43, k0_pay42, k0_pay41, k0_pay36, k0_pay37, k0_pay38, k0_pay39, InProjMath.lit_channels, InProjMath.lit_eps, UpBwdMath.lit_half, UpBwdMath.logistic_tanh, at4 m c t, at5 m c t, at13 m c t, at3 m c t, at7 m c t, at10 m c t, at12 m c t]
      rfl
    all_goals first
      | exact ⟨fun a i => by pointwise, fun a i => by pointwise [at0 m c t], fun i => by pointwise [half_zero m c t, half_one m c t],
          fun i => by pointwise [half_zero m c t, half_one m c t], fun i => by pointwise [half_zero m c t, half_one m c t]⟩
      | (intro a i; pointwise [at3 m c t])

/-- What point `t` adds to column `i` of the first row of the sums. -/
def added (c : Dev nD) (t : Fin cfg0.N) (i : Fin 1024) : EReal := ∑ k : Fin 256, UpBwdMath.dgTerm (args m c) (row t k) i

set_option maxHeartbeats 1000000 in
/-- The first point starts from zero. -/
theorem step_first (c : Dev nD) (t : Fin cfg0.N) (h : t.val % 16 = 0) (j : S8x1024.Idx) :
    (outsAt0 m c t.val t.isLt).2.2.2.2.2.2.2 j = (0 : EReal) + if (j 0 : ℕ) = 0 then added m c t (j 1) else 0 := by
  rw [outsAt0_A m c t h]
  frame_out
  idx_vars j
  rw [RowWrites.canon_row, View.canon_cons_unit_lit' _ _ _ (by decide), View.readCov_fill _ _ _ _ _ (by decide)]
  rw [first_seven m c t, tile m c t (s := 1) (col := fun i => ⟨2304 + i.val, by omega⟩)]
  on_goal 1 =>
    pointwise [k0_pay2, k0_pay40, k0_pay36, k0_pay37, k0_pay38, k0_pay39, InProjMath.lit_channels, InProjMath.lit_eps, UpBwdMath.lit_half, UpBwdMath.logistic_tanh, at4 m c t, at5 m c t, at13 m c t, at3 m c t]
    rfl
  all_goals first
    | exact ⟨fun a i => by pointwise, fun a i => by pointwise [at0 m c t], fun i => by pointwise [half_zero m c t, half_one m c t],
          fun i => by pointwise [half_zero m c t, half_one m c t], fun i => by pointwise [half_zero m c t, half_one m c t]⟩
    | (intro a i; pointwise [at3 m c t])

set_option maxHeartbeats 1000000 in
/-- Every later point adds to the row. -/
theorem step_next (c : Dev nD) (t : Fin cfg0.N) (h : ¬ t.val % 16 = 0) (j : S8x1024.Idx) :
    (outsAt0 m c t.val t.isLt).2.2.2.2.2.2.2 j
      = (show EReal from (outsAt0 m c (t.val - 1) (by omega)).2.2.2.2.2.2.2 j) + if (j 0 : ℕ) = 0 then added m c t (j 1) else 0 := by
  rw [outsAt0_B m c t h]
  frame_out
  idx_vars j
  rw [RowWrites.read_row, View.writes_nil, Memref.IsWhole.read_unread]
  rw [first_seven m c t, tile m c t (s := 1) (col := fun i => ⟨2304 + i.val, by omega⟩)]
  on_goal 1 =>
    pointwise [k0_pay2, k0_pay40, k0_pay36, k0_pay37, k0_pay38, k0_pay39, InProjMath.lit_channels, InProjMath.lit_eps, UpBwdMath.lit_half, UpBwdMath.logistic_tanh, at4 m c t, at5 m c t, at13 m c t, at3 m c t]
    by_cases hj : (j0 : ℕ) = 0
    · obtain rfl : j0 = 0 := Fin.ext hj
      rfl
    · exact (if_neg hj).trans ((congrArg _ (if_neg hj)).trans (add_zero _)).symm
  all_goals first
    | exact ⟨fun a i => by pointwise, fun a i => by pointwise [at0 m c t], fun i => by pointwise [half_zero m c t, half_one m c t],
          fun i => by pointwise [half_zero m c t, half_one m c t], fun i => by pointwise [half_zero m c t, half_one m c t]⟩
    | (intro a i; pointwise [at3 m c t])

/-- The gradient of the scale, over seven rows of zeros. -/
theorem final21 (c : Dev nD) : (dats m 0 c).arrAt 21 (cfgs 0).N = fun j => UpBwdMath.sums (args m c) (j 0) (j 1) := by
  refine (dats m 0 c).arrAt_eq_of_covers 21 _ (by decide +kernel) fun t hf y => ?_
  blk_simp
  idx_vars y
  have e : (win0_21.blk t).view.emb (ix2 y0 y1) = ix2 y0 y1 := by blk_ext [index_eq t]
  refine Eq.trans ?_ (congrArg (fun j : S8x1024.Idx => UpBwdMath.sums (args m c) (j 0) (j 1)) e.symm)
  have ht : t.val = 15 := by have := (flush0_21 t).mp hf; have := val_lt t; omega
  rw [after0_21, Pipeline.eq_sum_fin_of_reset_step_apply_of_flush (fun n h => (outsAt0 m c n h).2.2.2.2.2.2.2) 16 (fun _ => 0)
    (fun t j => if (j 0 : ℕ) = 0 then added m c t (j 1) else 0) (step_first m c) (step_next m c) t ((flush0_21 t).mp hf) _, zero_add]
  show _ = if (y0 : ℕ) = 0 then _ else _
  by_cases hk : (y0 : ℕ) = 0
  · refine Eq.trans (Fin.sum_fin_congr fun s => if_pos hk) ?_
    rw [if_pos hk]
    unfold added
    refine Fin.sum_mul_add_congr fun s k hl => ?_
    exact congrArg (fun n => UpBwdMath.dgTerm (args m c) n y1) (Fin.ext (by simp only [ht]; omega))
  · refine Eq.trans (Fin.sum_fin_congr fun s => if_neg hk) ?_
    rw [if_neg hk]
    exact (Finset.sum_const_zero : ∑ _s : Fin 16, (0 : EReal) = 0)

end Cert.UpBwdIdeal.Hand
end
-- ==== Proof.UpBwdR.lean ====
module

public import proofs.«01_k».proof.Proof.Gen.UpBwdRefIdeal.Run
public import Idealize.ShloMosaic.Lib.Pointwise
public import Idealize.ShloMosaic.Lib.Tactic.CleanTypes
public import proofs.«01_k».proof.Proof.UpBwd
public import proofs.«01_k».proof.Proof.InProj
public import proofs.«01_k».proof.Proof.HostReduce

@[expose] public section

set_option maxRecDepth 100000

noncomputable section

/-! What the derivative of the forward lines of the gated sum and the up-projection leaves in its eight results. -/

namespace Cert.UpBwdRefIdeal.Hand

open Cert.UpBwdRefIdeal Cert.UpBwdRefIdeal.Gen Cert.UpBwdRefIdeal.Value Idealize.ShloMosaic Idealize.ShloMosaic.TcCoe Idealize.SL.Sem Idealize.ShloMosaic.StableHlo

variable (m : (ℓ : Loc nD τ sig) → Buf (Elt Ideal) ℓ)

/-- The arguments, by name. -/
abbrev args (c : Dev nD) : UpBwdMath.Arrays where
  ya := m ((c.tc : Thread nD τ).loc main_arg0)
  yb := m ((c.tc : Thread nD τ).loc main_arg1)
  ga := m ((c.tc : Thread nD τ).loc main_arg2)
  gb := m ((c.tc : Thread nD τ).loc main_arg3)
  x := m ((c.tc : Thread nD τ).loc main_arg4)
  wa := m ((c.tc : Thread nD τ).loc main_arg5)
  wb := m ((c.tc : Thread nD τ).loc main_arg6)
  wo := m ((c.tc : Thread nD τ).loc main_arg7)
  g := m ((c.tc : Thread nD τ).loc main_arg8)
  wu := m ((c.tc : Thread nD τ).loc main_arg9)
  wc := m ((c.tc : Thread nD τ).loc main_arg10)
  d3 := m ((c.tc : Thread nD τ).loc main_arg12)
  du := m ((c.tc : Thread nD τ).loc main_arg13)

/-- The branches. -/
theorem at8 (c : Dev nD) (n : Fin 4096) (i : Fin 1024) : res_main_v8 (launchContents m c) (ix3 0 n i) = UpBwdMath.pa (args m c) n i := by
  unfold res_main_v8 res_main_v6 res_main_v0
  clean_types
  pointwise
  rfl

theorem at11 (c : Dev nD) (n : Fin 4096) (i : Fin 1024) : res_main_v11 (launchContents m c) (ix3 0 n i) = UpBwdMath.pb (args m c) n i := by
  unfold res_main_v11 res_main_v9 res_main_v0
  clean_types
  pointwise
  rfl

/-- The gates. -/
theorem at17 (c : Dev nD) (n : Fin 4096) (i : Fin 1024) : res_main_v17 (launchContents m c) (ix3 0 n i) = UpBwdMath.logistic ((args m c).ga (ix3 0 n i)) := by
  unfold res_main_v17
  clean_types
  pointwise
  rfl

theorem at27 (c : Dev nD) (n : Fin 4096) (i : Fin 1024) : res_main_v27 (launchContents m c) (ix3 0 n i) = UpBwdMath.logistic ((args m c).gb (ix3 0 n i)) := by
  unfold res_main_v27
  clean_types
  pointwise
  rfl

/-- The state after the gated sum. -/
theorem at35 (c : Dev nD) (n : Fin 4096) (i : Fin 1024) : res_main_v35 (launchContents m c) (ix3 0 n i) = UpBwdMath.x2 (args m c) n i := by
  unfold res_main_v35 res_main_v33 res_main_v32
  clean_types
  pointwise [at8 m c, at11 m c, at17 m c, at27 m c]
  rfl

theorem at43 (c : Dev nD) (n : Fin 4096) : res_main_v43 (launchContents m c) (ix3 0 n 0)
    = Rms.meanSq ((1024 : ℝ) : EReal) ((8796093 / 8796093022208 : ℝ) : EReal) (fun k => UpBwdMath.x2 (args m c) n k) := by
  unfold res_main_v43
  clean_types
  pointwise [at35 m c, InProjMath.lit_channels, InProjMath.lit_eps]
  rfl

/-- The incoming cotangent, its halves side by side. -/
theorem at5 (c : Dev nD) (h : Fin 2) (n : Fin 4096) (i : Fin 3072) (j : Fin 6144) (hj : j.val = h.val * 3072 + i.val) :
    res_main_v5 (launchContents m c) (ix3 0 n j) = (args m c).du (ix3 h n i) := by
  unfold res_main_v5
  clean_types
  pointwise
  fin_cases h
  · rw [dif_pos (by simp only [Fin.zero_eta, Fin.isValue, Fin.val_zero] at hj; omega)]
    exact congrArg (fun k => m ((c.tc : Thread nD τ).loc main_arg13) (ix3 0 n k)) (Fin.ext (by simp at hj ⊢; omega))
  · rw [dif_neg (by simp at hj; omega)]
    exact congrArg (fun k => m ((c.tc : Thread nD τ).loc main_arg13) (ix3 1 n k)) (Fin.ext (by simp at hj ⊢; omega))

/-- The cotangent before the convolution, by halves. -/
theorem at121 (c : Dev nD) (h : Fin 2) (n : Fin 4096) (i : Fin 3072) (j : Fin 6144) (hj : j.val = h.val * 3072 + i.val) :
    res_main_v121 (launchContents m c) (ix3 0 n j) = UpBwdMath.du0 (args m c) h n i := by
  unfold res_main_v121 res_main_v119 res_main_v76 res_main_v69 res_main_v63 res_main_v56
  clean_types
  pointwise
  have hb : h.val * 3072 + i.val < 6144 := by
    clear hj
    omega
  obtain rfl : j = ⟨h.val * 3072 + i.val, hb⟩ := Fin.ext hj
  have e (k : Fin 4096) := at5 m c h k i ⟨h.val * 3072 + i.val, hb⟩ rfl
  simp only [e]
  have e1 : 2 + n.val - 1 = n.val + 1 := by omega
  have e2 : 2 + n.val = n.val + 2 := by omega
  rw [UpBwdMath.du0, add_right_comm]
  refine congrArg₂ _ (congrArg₂ _ ?_ ?_) ?_
  · exact mul_comm _ _
  · rw [UpBwdMath.later]
    by_cases h2 : n.val + 2 < 4096
    · rw [dif_pos (by omega), dif_pos h2]
      refine (mul_comm _ _).trans (congrArg₂ _ rfl (congrArg (fun k => (args m c).du (ix3 h k i)) (Fin.ext e2)))
    · rw [dif_neg (by omega), dif_neg h2]
      exact (mul_zero _).symm
  · rw [UpBwdMath.later]
    by_cases h2 : n.val + 1 < 4096
    · rw [dif_pos (by omega), dif_pos h2]
      refine (mul_comm _ _).trans (congrArg₂ _ rfl (congrArg (fun k => (args m c).du (ix3 h k i)) (Fin.ext e1)))
    · rw [dif_neg (by omega), dif_neg h2]
      exact (mul_zero _).symm

/-- The cotangent of the normalised state. -/
theorem at125 (c : Dev nD) (n : Fin 4096) (i : Fin 1024) : res_main_v125 (launchContents m c) (ix3 0 n i) = UpBwdMath.dh2 (args m c) n i := by
  unfold res_main_v125 res_main_v53
  clean_types
  pointwise
  exact UpBwdMath.dh2_eq (args m c) (fun k => res_main_v121 (launchContents m c) (ix3 0 n k)) n i fun h k => at121 m c h n k _ rfl

/-- The cotangent of the state. -/
theorem at148 (c : Dev nD) (n : Fin 4096) (i : Fin 1024) : res_main_v148 (launchContents m c) (ix3 0 n i) = UpBwdMath.dx2 (args m c) n i := by
  unfold res_main_v148 res_main_v144 res_main_v131 res_main_v50 res_main_v44
  clean_types
  pointwise [HostReduce.unit_ends, InProjMath.lit_channels, InProjMath.lit_eps, InProjMath.lit_neg_half, at35 m c, at43 m c, at125 m c]
  exact (Rms.bwd_eq (by norm_num) (by norm_num) _ _ (fun i => UpBwdMath.dh2 (args m c) n i * (args m c).g (ix2 0 i)) i).symm

theorem at152 (c : Dev nD) (n : Fin 4096) (i : Fin 1024) : res_main_v152 (launchContents m c) (ix3 0 n i) = UpBwdMath.dm (args m c) n i := by
  unfold res_main_v152 res_main_v33
  clean_types
  pointwise [at148 m c]
  rfl

/-- The cotangents of the branches. -/
theorem at157 (c : Dev nD) (n : Fin 4096) (i : Fin 1024) : res_main_v157 (launchContents m c) (ix3 0 n i) = UpBwdMath.dpa (args m c) n i := by
  unfold res_main_v157
  clean_types
  pointwise [at152 m c, at17 m c]
  exact mul_comm _ _

theorem at154 (c : Dev nD) (n : Fin 4096) (i : Fin 1024) : res_main_v154 (launchContents m c) (ix3 0 n i) = UpBwdMath.dpb (args m c) n i := by
  unfold res_main_v154
  clean_types
  pointwise [at152 m c, at27 m c]
  exact mul_comm _ _

set_option maxHeartbeats 2000000 in
/-- The reference's eight results. -/
theorem run (g : Dev nD → PrngReg) : θ_run defs (onTc (τ := τ) (main (F := Ideal))) ⟨m, fun _ => 0, g⟩ fun r => ∀ c : Dev nD,
    (r.2.mem ((c.tc : Thread nD τ).loc main_v182) = fun j : S4096x1024.Idx => UpBwdMath.dx2 (args m c) (j 0) (j 1))
      ∧ (r.2.mem ((c.tc : Thread nD τ).loc main_v176) = fun j : S2x4096x1024.Idx => UpBwdMath.dzg (args m c) (j 0) (j 1) (j 2))
      ∧ (r.2.mem ((c.tc : Thread nD τ).loc main_v177) = fun j : S4096x1024.Idx => UpBwdMath.dpa (args m c) (j 0) (j 1))
      ∧ (r.2.mem ((c.tc : Thread nD τ).loc main_v178) = fun j : S4096x1024.Idx => UpBwdMath.dpb (args m c) (j 0) (j 1))
      ∧ (r.2.mem ((c.tc : Thread nD τ).loc main_v179) = fun j : S4096x1024.Idx => UpBwdMath.dya (args m c) (j 0) (j 1))
      ∧ (r.2.mem ((c.tc : Thread nD τ).loc main_v180) = fun j : S4096x1024.Idx => UpBwdMath.dyb (args m c) (j 0) (j 1))
      ∧ (r.2.mem ((c.tc : Thread nD τ).loc main_v181) = fun j : S2x4096x3072.Idx => UpBwdMath.du0 (args m c) (j 0) (j 1) (j 2))
      ∧ (r.2.mem ((c.tc : Thread nD τ).loc main_v183) = fun j : S8x1024.Idx => UpBwdMath.sums (args m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (Value.run m g)
  obtain ⟨h0, h1, h2, h3, h4, h5, h6, h7, hk⟩ := h c
  refine ⟨h0.trans (funext fun j => ?_), h1.trans (funext fun j => ?_), h2.trans (funext fun j => ?_), h3.trans (funext fun j => ?_), h4.trans (funext fun j => ?_),
    h5.trans (funext fun j => ?_), h6.trans (funext fun j => ?_), h7.trans (funext fun j => ?_), hk⟩ <;> idx_vars j <;> clear h0 h1 h2 h3 h4 h5 h6 h7 hk
  · show _ = UpBwdMath.dx2 (args m c) j0 j1
    clean_types
    pointwise [at148 m c]
  · show _ = if j0.val = 0 then UpBwdMath.dga (args m c) j1 j2 else UpBwdMath.dgb (args m c) j1 j2
    clean_types
    pointwise [at152 m c, at8 m c, at11 m c, at17 m c, at27 m c]
    by_cases hk : j0.val = 0
    · rw [dif_pos (by omega), if_pos hk, show (⟨j0.val, by omega⟩ : Fin 1) = 0 from Subsingleton.elim _ _, at152 m c, at8 m c, at17 m c]
      rfl
    · rw [dif_neg (by omega), if_neg hk, show (⟨j0.val - 1, by omega⟩ : Fin 1) = 0 from Subsingleton.elim _ _, at152 m c, at11 m c, at27 m c]
      rfl
  · show _ = UpBwdMath.dpa (args m c) j0 j1
    clean_types
    pointwise [at157 m c]
  · show _ = UpBwdMath.dpb (args m c) j0 j1
    clean_types
    pointwise [at154 m c]
  · show _ = UpBwdMath.dya (args m c) j0 j1
    unfold res_main_v6
    clean_types
    pointwise [at157 m c]
    rfl
  · show _ = UpBwdMath.dyb (args m c) j0 j1
    unfold res_main_v9
    clean_types
    pointwise [at154 m c]
    rfl
  · show _ = UpBwdMath.du0 (args m c) j0 j1 j2
    clean_types
    pointwise
    by_cases hk : j0.val = 0
    · rw [dif_pos (by omega), show (⟨j0.val, by omega⟩ : Fin 1) = 0 from Subsingleton.elim _ _]
      refine at121 m c j0 j1 j2 _ ?_
      simp
      omega
    · rw [dif_neg (by omega), show (⟨j0.val - 1, by omega⟩ : Fin 1) = 0 from Subsingleton.elim _ _]
      refine at121 m c j0 j1 j2 _ ?_
      simp
      omega
  · show _ = if j0.val = 0 then _ else _
    unfold res_main_v49 res_main_v44
    clean_types
    pointwise [HostReduce.columns, at35 m c, at43 m c, at125 m c]
    by_cases hk : j0.val = 0
    · rw [dif_pos (by omega), if_pos hk, Fin.sum_univ_one]
      exact Finset.sum_congr rfl fun n _ => mul_comm _ _
    · rw [dif_neg (by omega), if_neg hk]
      exact InProjMath.lit_zero

end Cert.UpBwdRefIdeal.Hand
end
-- ==== Proof.UpBwdClaim.lean ====
module

public import proofs.«01_k».proof.Defs
public import proofs.«01_k».proof.Proof.UpBwdK
public import proofs.«01_k».proof.Proof.UpBwdL
public import proofs.«01_k».proof.Proof.UpBwdR
public import Idealize.ShloMosaic.Lib.Claim
public import proofs.«01_k».proof.Proof.Gen.UpBwdIdeal
public import proofs.«01_k».proof.Proof.Gen.UpBwdRefIdeal

@[expose] public section

noncomputable section

namespace Cert.UpBwdClaim

open Idealize.ShloMosaic Idealize.SL.Sem

set_option maxHeartbeats 4000000 in
/-- Kernel and derivative of the forward lines leave the same eight arrays. -/
theorem algebraic : Cert.algebraic_UpBwdIdeal_UpBwdRefIdeal (hUpBwdIdeal := Cert.UpBwdIdeal.Gen.facts) (hUpBwdRefIdeal := Cert.UpBwdRefIdeal.Gen.facts) := by
  intro m g m' g' _ agree
  refine ⟨fun c j => UpBwdMath.dx2 (Cert.UpBwdIdeal.Hand.args m c) (j 0) (j 1),
    fun c j => UpBwdMath.dzg (Cert.UpBwdIdeal.Hand.args m c) (j 0) (j 1) (j 2),
    fun c j => UpBwdMath.dpa (Cert.UpBwdIdeal.Hand.args m c) (j 0) (j 1),
    fun c j => UpBwdMath.dpb (Cert.UpBwdIdeal.Hand.args m c) (j 0) (j 1),
    fun c j => UpBwdMath.dya (Cert.UpBwdIdeal.Hand.args m c) (j 0) (j 1),
    fun c j => UpBwdMath.dyb (Cert.UpBwdIdeal.Hand.args m c) (j 0) (j 1),
    fun c j => UpBwdMath.du0 (Cert.UpBwdIdeal.Hand.args m c) (j 0) (j 1) (j 2),
    fun c j => UpBwdMath.sums (Cert.UpBwdIdeal.Hand.args m c) (j 0) (j 1), ?_, ?_⟩
  · refine (θ_run _ _ _).mono (fun r h c => ?_) (θ_run_and (Cert.UpBwdIdeal.Gen.run_main m g) (Cert.UpBwdIdeal.Gen.unchanged m g))
    obtain ⟨h, k⟩ := h
    have h := (h c).1
    exact ⟨(h 14).trans (Cert.UpBwdIdeal.Hand.final14 m c), (h 15).trans (Cert.UpBwdIdeal.Hand.final15 m c), (h 16).trans (Cert.UpBwdIdeal.Hand.final16 m c), (h 17).trans (Cert.UpBwdIdeal.Hand.final17 m c), (h 18).trans (Cert.UpBwdIdeal.Hand.final18 m c), (h 19).trans (Cert.UpBwdIdeal.Hand.final19 m c), (h 20).trans (Cert.UpBwdIdeal.Hand.final20 m c), (h 21).trans (Cert.UpBwdIdeal.Hand.final21 m c), k c⟩
  · refine (θ_run _ _ _).mono (fun r h c => ?_) (Cert.UpBwdRefIdeal.Hand.run m' g')
    have e : Cert.UpBwdRefIdeal.Hand.args m' c = Cert.UpBwdIdeal.Hand.args m c := by
      obtain ⟨a0, a1, a2, a3, a4, a5, a6, a7, a8, a9, a10, a11, a12, a13⟩ := agree c
      unfold Cert.UpBwdRefIdeal.Hand.args Cert.UpBwdIdeal.Hand.args
      congr 1
    have h := h c
    rw [e] at h
    exact h

end Cert.UpBwdClaim

end
-- ==== Proof.Head.lean ====
module

public import Idealize.ShloMosaic.Lib.Pointwise
public import proofs.«01_k».proof.Proof.UpBwd

@[expose] public section

set_option maxRecDepth 16384

noncomputable section

/-! The loss and the backward pass down to the gated unit's values before its convolution, as functions of the arrays they depend on. -/

namespace Cert.HeadMath

open Idealize.ShloMosaic

/-- The arrays: the layer's state, the unit's values before the convolution over time, its taps and offset, the per-layer
    embedding, the target, the weights down, of the gate and of the embedding, and the two scales. -/
structure Arrays where
  x : (⟨3, ![1, 4096, 1024]⟩ : Shape).Idx → EReal
  u0 : (⟨3, ![1, 4096, 6144]⟩ : Shape).Idx → EReal
  wc : (⟨3, ![1, 3, 6144]⟩ : Shape).Idx → EReal
  bc : (⟨2, ![1, 6144]⟩ : Shape).Idx → EReal
  p : (⟨4, ![1, 1, 4096, 256]⟩ : Shape).Idx → EReal
  tg : (⟨3, ![1, 4096, 1024]⟩ : Shape).Idx → EReal
  wd : (⟨3, ![1, 3072, 1024]⟩ : Shape).Idx → EReal
  wg : (⟨3, ![1, 1024, 1024]⟩ : Shape).Idx → EReal
  wp : (⟨3, ![1, 256, 1024]⟩ : Shape).Idx → EReal
  gp : (⟨2, ![1, 1024]⟩ : Shape).Idx → EReal
  gf : (⟨1, ![1024]⟩ : Shape).Idx → EReal

/-- Column `c` of half `h`. -/
def col (h : Fin 2) (c : Fin 3072) : Fin 6144 := ⟨h.val * 3072 + c.val, by omega⟩

/-- The constants of the activation. -/
def C : EReal := ((6693141 / 8388608 : ℝ) : EReal)
def K : EReal := ((8943 / 200000 : ℝ) : EReal)
def K3 : EReal := ((26829 / 200000 : ℝ) : EReal)
def half : EReal := ((1 / 2 : ℝ) : EReal)

theorem lit_C : Ideal.ofBits .f32 0x3F4C422A#32 = C := by
  simp [Ideal.ofBits, Ideal.ieee, -EReal.coe_mul, C]; norm_num

theorem lit_half : Ideal.ofBits .f32 0x3F000000#32 = half := UpBwdMath.lit_half

/-- One part in 1024. -/
theorem lit_tick : Ideal.ofBits .f32 0x3A800000#32 = ((1 / 1024 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

/-- The quotient that the forward lines write for the activation's small constant. -/
theorem lit_K : Ideal.div (Ideal.ofBits .f32 0x472EAB00#32) (Ideal.ofBits .f32 0x49742400#32) = K := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Rms.div_coe_pos _ (by norm_num), K, ← EReal.coe_mul]
  norm_num

/-- The hyperbolic tangent inside the activation, the activation, and its derivative. -/
def th (x : EReal) : EReal := Ideal.tanh (C * (x + K * (x * (x * x))))
def gel (x : EReal) : EReal := half * x * (1 + th x)
def dgel (x : EReal) : EReal := half * (1 + th x) + half * x * (1 - th x * th x) * (C * (1 + K3 * (x * x)))

variable (A : Arrays)

/-- The unit's value `k` tokens before token `n`, zero before the first. -/
def before (h : Fin 2) (n : Fin 4096) (c : Fin 3072) (k : ℕ) : EReal := if hk : k ≤ n.val then A.u0 (ix3 0 ⟨n.val - k, by omega⟩ (col h c)) else 0

def tap (k : Fin 3) (h : Fin 2) (c : Fin 3072) : EReal := A.wc (ix3 0 k (col h c))

/-- The convolution over time, and the unit's product. -/
def conv (h : Fin 2) (n : Fin 4096) (c : Fin 3072) : EReal :=
  A.bc (ix2 0 (col h c)) + tap A 2 h c * before A h n c 0 + tap A 0 h c * before A h n c 2 + tap A 1 h c * before A h n c 1
def f (n : Fin 4096) (c : Fin 3072) : EReal := gel (conv A 0 n c) * conv A 1 n c

/-- The state after the unit, the embedding's projection, its norm, the gate, and the last state. -/
def x3 (n : Fin 4096) (i : Fin 1024) : EReal := A.x (ix3 0 n i) + ∑ c, f A n c * A.wd (ix3 0 c i)
def e0 (n : Fin 4096) (i : Fin 1024) : EReal := ∑ k, A.p (ix4 0 0 n k) * A.wp (ix3 0 k i)
def re (n : Fin 4096) : EReal := Ideal.rsqrt (Rms.meanSq ((1024 : ℝ) : EReal) ((8796093 / 8796093022208 : ℝ) : EReal) fun k => e0 A n k)
def e (n : Fin 4096) (i : Fin 1024) : EReal := e0 A n i * re A n * A.gp (ix2 0 i)
def sg (n : Fin 4096) (i : Fin 1024) : EReal := UpBwdMath.logistic (∑ k, x3 A n k * A.wg (ix3 0 k i))
def x4 (n : Fin 4096) (i : Fin 1024) : EReal := x3 A n i + sg A n i * e A n i
def r4 (n : Fin 4096) : EReal := Ideal.rsqrt (Rms.meanSq ((1024 : ℝ) : EReal) ((8796093 / 8796093022208 : ℝ) : EReal) fun k => x4 A n k)
def un (n : Fin 4096) (i : Fin 1024) : EReal := x4 A n i * r4 A n
def en (n : Fin 4096) (i : Fin 1024) : EReal := e0 A n i * re A n

/-- The error and its cotangent. -/
def diff (n : Fin 4096) (i : Fin 1024) : EReal := un A n i * A.gf (ix1 i) - A.tg (ix3 0 n i)
def dy (n : Fin 4096) (i : Fin 1024) : EReal := diff A n i * ((1 / 1024 : ℝ) : EReal)

/-- Back through the last norm and the gate. -/
def dx4 (n : Fin 4096) (i : Fin 1024) : EReal :=
  r4 A n * (dy A n i * A.gf (ix1 i) - un A n i * Ideal.div (∑ k, dy A n k * A.gf (ix1 k) * un A n k) ((1024 : ℝ) : EReal))
def de (n : Fin 4096) (i : Fin 1024) : EReal := dx4 A n i * sg A n i
def dgt (n : Fin 4096) (i : Fin 1024) : EReal := dx4 A n i * e A n i * (sg A n i * (1 - sg A n i))
def de0 (n : Fin 4096) (i : Fin 1024) : EReal :=
  re A n * (de A n i * A.gp (ix2 0 i) - en A n i * Ideal.div (∑ k, de A n k * A.gp (ix2 0 k) * en A n k) ((1024 : ℝ) : EReal))
def dx3 (n : Fin 4096) (i : Fin 1024) : EReal := dx4 A n i + ∑ k, dgt A n k * A.wg (ix3 0 i k)

/-- Back through the unit. -/
def df (n : Fin 4096) (c : Fin 3072) : EReal := ∑ i, dx3 A n i * A.wd (ix3 0 c i)
def du0 (n : Fin 4096) (c : Fin 3072) : EReal := df A n c * conv A 1 n c * dgel (conv A 0 n c)
def du1 (n : Fin 4096) (c : Fin 3072) : EReal := df A n c * gel (conv A 0 n c)
def du (h : Fin 2) (n : Fin 4096) (c : Fin 3072) : EReal := if h.val = 0 then du0 A n c else du1 A n c

/-- The sums over the tokens: of the squared errors, of the two scales' gradients, of the taps' and of the offset's. -/
def sqTerm (n : Fin 4096) (i : Fin 1024) : EReal := diff A n i * diff A n i
def gfTerm (n : Fin 4096) (i : Fin 1024) : EReal := dy A n i * un A n i
def gpTerm (n : Fin 4096) (i : Fin 1024) : EReal := de A n i * en A n i
def sumTerm (k : Fin 8) (n : Fin 4096) (i : Fin 1024) : EReal :=
  if k.val = 0 then sqTerm A n i else if k.val = 1 then gfTerm A n i else if k.val = 2 then gpTerm A n i else 0
def sums (k : Fin 8) (i : Fin 1024) : EReal := ∑ n, sumTerm A k n i
def wcTerm (h : Fin 2) (k : Fin 3) (n : Fin 4096) (c : Fin 3072) : EReal := du A h n c * before A h n c (2 - k.val)
def dwc (h : Fin 2) (k : Fin 3) (c : Fin 3072) : EReal := ∑ n, wcTerm A h k n c
def dbc (h : Fin 2) (c : Fin 3072) : EReal := ∑ n, du A h n c

/-- The chain rule's factor one half over the mean, times the square's two. -/
theorem dy_eq (x : EReal) : Ideal.div (half * 1) ((1024 : ℝ) : EReal) * (((2 : ℝ) : EReal) * x) = x * ((1 / 1024 : ℝ) : EReal) := by
  rw [mul_one, half, Rms.div_coe_pos _ (by norm_num), ← EReal.coe_mul, ← mul_assoc, ← EReal.coe_mul, mul_comm]
  norm_num

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.sum {n : ℕ} {g : Fin n → EReal} (h : ∀ k, Fin' (g k)) : Fin' (∑ k, g k) := by
  classical
  have : ∀ s : Finset (Fin n), Fin' (∑ k ∈ s, g k) := by
    intro s
    induction s using Finset.induction_on with
    | empty => exact ⟨0, by simp⟩
    | insert a s ha ih => rw [Finset.sum_insert ha]; exact (h a).add ih
  exact this _
theorem Fin'.mean {x : EReal} (hx : Fin' x) : Fin' (Ideal.div x ((1024 : ℝ) : EReal)) := by
  rw [Rms.div_coe_pos _ (by norm_num)]; exact hx.mul (.coe _)
theorem Fin'.tanh {x : EReal} (hx : Fin' x) : Fin' (Ideal.tanh x) := by
  obtain ⟨a, rfl⟩ := hx; exact ⟨Real.tanh a, rfl⟩
theorem Fin'.logistic {x : EReal} (hx : Fin' x) : Fin' (UpBwdMath.logistic x) := by
  rw [← UpBwdMath.logistic_tanh]; exact ((Fin'.coe _).mul ((Fin'.coe _).mul hx).tanh).add (.coe _)
theorem Fin'.scale {n : ℕ} (g : Fin n → EReal) :
    Fin' (Ideal.rsqrt (Rms.meanSq ((1024 : ℝ) : EReal) ((8796093 / 8796093022208 : ℝ) : EReal) g)) := by
  rcases Rms.meanSq_cases (N := 1024) (e := 8796093 / 8796093022208) (by norm_num) (by norm_num) g with ⟨v, hv, h⟩ | h
  · rw [h]
    refine ⟨(Real.sqrt v)⁻¹, ?_⟩
    show (if v < 0 then ⊥ else if v = 0 then ⊤ else (((Real.sqrt v)⁻¹ : ℝ) : EReal)) = _
    rw [if_neg (not_lt.mpr hv.le), if_neg hv.ne']
  · rw [h]; exact ⟨0, rfl⟩

/-- Every entry of every array is a real number. -/
structure Arrays.Finite (A : Arrays) : Prop where
  x : ∀ j, Fin' (A.x j)
  u0 : ∀ j, Fin' (A.u0 j)
  wc : ∀ j, Fin' (A.wc j)
  bc : ∀ j, Fin' (A.bc j)
  p : ∀ j, Fin' (A.p j)
  tg : ∀ j, Fin' (A.tg j)
  wd : ∀ j, Fin' (A.wd j)
  wg : ∀ j, Fin' (A.wg j)
  wp : ∀ j, Fin' (A.wp j)
  gp : ∀ j, Fin' (A.gp j)
  gf : ∀ j, Fin' (A.gf j)

variable {A} (H : A.Finite)
include H

theorem Arrays.Finite.before (h n c k) : Fin' (before A h n c k) := by
  unfold HeadMath.before; split
  · exact H.u0 _
  · exact .zero
theorem Arrays.Finite.conv (h n c) : Fin' (conv A h n c) :=
  (((H.bc _).add ((H.wc _).mul (H.before ..))).add ((H.wc _).mul (H.before ..))).add ((H.wc _).mul (H.before ..))
omit H in
theorem Fin'.th {x : EReal} (h : Fin' x) : Fin' (th x) := ((Fin'.coe _).mul (h.add ((Fin'.coe _).mul (h.mul (h.mul h))))).tanh
omit H in
theorem Fin'.gel {x : EReal} (h : Fin' x) : Fin' (gel x) := ((Fin'.coe _).mul h).mul (Fin'.one.add h.th)
theorem Arrays.Finite.x3 (n i) : Fin' (x3 A n i) := (H.x _).add (.sum fun c => ((H.conv 0 n c).gel.mul (H.conv 1 n c)).mul (H.wd _))
theorem Arrays.Finite.e0 (n i) : Fin' (e0 A n i) := .sum fun k => (H.p _).mul (H.wp _)
theorem Arrays.Finite.e (n i) : Fin' (e A n i) := ((H.e0 n i).mul (.scale _)).mul (H.gp _)
theorem Arrays.Finite.sg (n i) : Fin' (sg A n i) := (Fin'.sum fun k => (H.x3 n k).mul (H.wg _)).logistic
theorem Arrays.Finite.x4 (n i) : Fin' (x4 A n i) := (H.x3 n i).add ((H.sg n i).mul (H.e n i))
theorem Arrays.Finite.un (n i) : Fin' (un A n i) := (H.x4 n i).mul (.scale _)
theorem Arrays.Finite.dy (n i) : Fin' (dy A n i) := (((H.un n i).mul (H.gf _)).sub (H.tg _)).mul (.coe _)
theorem Arrays.Finite.dx4 (n i) : Fin' (dx4 A n i) :=
  (Fin'.scale _).mul (((H.dy n i).mul (H.gf _)).sub ((H.un n i).mul (Fin'.sum fun k => ((H.dy n k).mul (H.gf _)).mul (H.un n k)).mean))
theorem Arrays.Finite.dgt (n i) : Fin' (dgt A n i) := ((H.dx4 n i).mul (H.e n i)).mul ((H.sg n i).mul (Fin'.one.sub (H.sg n i)))
theorem Arrays.Finite.dx3 (n i) : Fin' (dx3 A n i) := (H.dx4 n i).add (.sum fun k => (H.dgt n k).mul (H.wg _))
theorem Arrays.Finite.df (n c) : Fin' (df A n c) := .sum fun i => (H.dx3 n i).mul (H.wd _)

omit H in
/-- The activation's derivative by the chain rule, in which the cube and the tangent are taken apart, for real numbers. -/
theorem dgel_eq {q x : EReal} (hq : Fin' q) (hx : Fin' x) :
    q * (half * (1 + th x)) + C * (half * (x * q) * ((1 + th x) * (1 - th x)))
      + K * (C * (half * (x * q) * ((1 + th x) * (1 - th x)))) * (((3 : ℝ) : EReal) * (x * x)) = q * dgel x := by
  have ht := hx.th
  unfold dgel
  generalize th x = t at ht ⊢
  obtain ⟨q, rfl⟩ := hq
  obtain ⟨x, rfl⟩ := hx
  obtain ⟨t, rfl⟩ := ht
  unfold half C K K3
  rw [show (1 : EReal) = ((1 : ℝ) : EReal) from rfl]
  simp only [← EReal.coe_mul, ← EReal.coe_add, ← EReal.coe_sub]
  refine congrArg _ ?_
  ring

end Cert.HeadMath

end
-- ==== Proof.HeadB.lean ====
module

public import proofs.«01_k».proof.Proof.Gen.HeadIdeal.Frame
public import Idealize.ShloMosaic.Lib.Pipeline.ValueKit
public import Idealize.ShloMosaic.Lib.Pointwise
public import proofs.«01_k».proof.Proof.InProj
public import proofs.«01_k».proof.Proof.Head
public import proofs.«01_k».proof.Proof.RowWrites

@[expose] public section

set_option maxRecDepth 16384

noncomputable section

/-! What the windows' blocks hold of the arrays of the loss and its backward pass. -/

namespace Cert.HeadIdeal.Hand

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![t.val, 0] ∧ win0_2.index t = ![0, t.val, 0] ∧ win0_3.index t = ![0, t.val * 16 - 1, 0]
    ∧ win0_4.index t = ![0, 0, 0] ∧ win0_5.index t = ![0, 0, 0] ∧ win0_6.index t = ![t.val, 0] ∧ win0_7.index t = ![t.val, 0]
    ∧ win0_8.index t = ![0, 0] ∧ win0_9.index t = ![0, 0] ∧ win0_10.index t = ![0, 0] ∧ win0_11.index t = ![0, 0] ∧ win0_12.index t = ![0, 0]
    ∧ win0_13.index t = ![t.val, 0] ∧ win0_14.index t = ![t.val, 0] ∧ win0_15.index t = ![t.val, 0] ∧ win0_16.index t = ![t.val, 0]
    ∧ win0_17.index t = ![0, t.val, 0] ∧ win0_18.index t = ![0, 0] ∧ win0_19.index t = ![0, 0, 0] ∧ win0_20.index t = ![0, 0, 0] :=
  (by decide +kernel : ∀ t : Fin grid0.N, _)

/-- The arrays as the program's arguments hold them on device `c`. -/
abbrev args (c : Dev nD) : HeadMath.Arrays where
  x := m ((c.tc : Thread nD τ).loc main_arg0)
  u0 := m ((c.tc : Thread nD τ).loc main_arg1)
  wc := m ((c.tc : Thread nD τ).loc main_arg2)
  bc := m ((c.tc : Thread nD τ).loc main_arg3)
  p := m ((c.tc : Thread nD τ).loc main_arg4)
  tg := m ((c.tc : Thread nD τ).loc main_arg5)
  wd := m ((c.tc : Thread nD τ).loc main_arg6)
  wg := m ((c.tc : Thread nD τ).loc main_arg7)
  wp := m ((c.tc : Thread nD τ).loc main_arg8)
  gp := m ((c.tc : Thread nD τ).loc main_arg9)
  gf := m ((c.tc : Thread nD τ).loc main_arg10)

theorem val_lt (t : Fin cfg0.N) : t.val < 16 := lt_of_lt_of_eq t.isLt N_0

/-- Row `a` of the block of point `t`. -/
abbrev row (t : Fin cfg0.N) (a : Fin 256) : Fin 4096 := ⟨t.val * 256 + a.val, by have := val_lt t; omega⟩

/-- Two arrays, one after the other along the first axis. -/
def stacked (x y : Vec Ideal S1x4096x3072 .f32) : Vec Ideal S2x4096x3072 .f32 :=
  concatenate S2x4096x3072 0 [⟨S1x4096x3072, x⟩, ⟨S1x4096x3072, y⟩] concatenates_S1x4096x3072_S1x4096x3072_S2x4096x3072_d0

/-- Two rows before an array's. -/
def delayed (x : Vec Ideal S1x2x6144 .f32) (y : Vec Ideal S1x4096x6144 .f32) : Vec Ideal S1x4098x6144 .f32 :=
  concatenate S1x4098x6144 1 [⟨S1x2x6144, x⟩, ⟨S1x4096x6144, y⟩] concatenates_S1x2x6144_S1x4096x6144_S1x4098x6144_d1

theorem stacked_eq : (fun (a : (⟨S1x4096x3072, .f32⟩ : BufTy).Contents (Elt Ideal)) (b : (⟨S1x4096x3072, .f32⟩ : BufTy).Contents (Elt Ideal)) => concatenate S2x4096x3072 0 [⟨S1x4096x3072, a⟩, ⟨S1x4096x3072, b⟩] concatenates_S1x4096x3072_S1x4096x3072_S2x4096x3072_d0) = stacked := rfl
theorem delayed_eq : (fun (a : (⟨S1x2x6144, .f32⟩ : BufTy).Contents (Elt Ideal)) (b : (⟨S1x4096x6144, .f32⟩ : BufTy).Contents (Elt Ideal)) => concatenate S1x4098x6144 1 [⟨S1x2x6144, a⟩, ⟨S1x4096x6144, b⟩] concatenates_S1x2x6144_S1x4096x6144_S1x4098x6144_d1) = delayed := rfl

theorem at0 (c : Dev nD) (t : Fin cfg0.N) (a : Fin 256) (i : Fin 1024) : iblk m c 0 t (ix2 a i) = (args m c).x (ix3 0 (row t a) i) := by
  have e : (win0_0.blk t).view.emb (ix2 a i) = ix2 (row t a) i := by blk_ext [index_eq t]
  blk_simp [iblk]
  rw [e]
  unfold V hostOps0
  rw [stacked_eq, delayed_eq]
  entry_read
  pointwise
/-- The convolution in the order in which the forward lines on the host add it up. -/
theorem conv_host (A : HeadMath.Arrays) (h : Fin 2) (n : Fin 4096) (i : Fin 3072) (j : Fin 6144) (hj : j.val = h.val * 3072 + i.val) (h2 : ¬ n.val < 2 → n.val - 2 < 4096) (h1 : ¬ 1 + n.val < 2 → 1 + n.val - 2 < 4096) :
    (if a : n.val < 2 then 0 else A.u0 (ix3 0 ⟨n.val - 2, h2 a⟩ j)) * A.wc (ix3 0 0 j) + (if a : 1 + n.val < 2 then 0 else A.u0 (ix3 0 ⟨1 + n.val - 2, h1 a⟩ j)) * A.wc (ix3 0 1 j)
      + A.u0 (ix3 0 n j) * A.wc (ix3 0 2 j) + A.bc (ix2 0 j) = HeadMath.conv A h n i := by
  obtain rfl : j = HeadMath.col h i := Fin.ext hj
  have e2 : (if a : n.val < 2 then 0 else A.u0 (ix3 0 ⟨n.val - 2, h2 a⟩ (HeadMath.col h i))) = HeadMath.before A h n i 2 := by
    unfold HeadMath.before
    by_cases a : n.val < 2
    · rw [dif_pos a, dif_neg (by omega)]
    · rw [dif_neg a, dif_pos (by omega)]
  have e1 : (if a : 1 + n.val < 2 then 0 else A.u0 (ix3 0 ⟨1 + n.val - 2, h1 a⟩ (HeadMath.col h i))) = HeadMath.before A h n i 1 := by
    unfold HeadMath.before
    by_cases a : 1 + n.val < 2
    · rw [dif_pos a, dif_neg (by omega)]
    · rw [dif_neg a, dif_pos (by omega)]
      exact congrArg (fun k => A.u0 (ix3 0 k (HeadMath.col h i))) (Fin.ext (by simp only; omega))
  rw [e2, e1, HeadMath.conv, mul_comm (HeadMath.tap A 2 h i), mul_comm (HeadMath.tap A 0 h i), mul_comm (HeadMath.tap A 1 h i)]
  show HeadMath.before A h n i 2 * HeadMath.tap A 0 h i + HeadMath.before A h n i 1 * HeadMath.tap A 1 h i + HeadMath.before A h n i 0 * HeadMath.tap A 2 h i + A.bc (ix2 0 (HeadMath.col h i)) = _
  ac_rfl
/-- The unit's product from its two convolutions. -/
theorem gate_host (A : HeadMath.Arrays) (n : Fin 4096) (i : Fin 3072) {x y : EReal} (hx : x = HeadMath.conv A 0 n i) (hy : y = HeadMath.conv A 1 n i) :
    x * (HeadMath.half * (1 + Ideal.tanh (HeadMath.C * (x + HeadMath.K * (x * x * x))))) * y = HeadMath.f A n i := by
  rw [hx, hy]
  generalize hc : HeadMath.conv A 0 n i = x
  rw [mul_assoc x x x, ← mul_assoc x, mul_comm x, HeadMath.f, hc]
  rfl
/-- Entries of the unit's values at equal places. -/
theorem u_eq (A : HeadMath.Arrays) {s : Fin 1} {n n' : Fin 4096} {j : Fin 6144} {h : Fin 2} {i : Fin 3072} (hn : n.val = n'.val) (hj : j.val = h.val * 3072 + i.val) :
    A.u0 (ix3 s n j) = A.u0 (ix3 0 n' (HeadMath.col h i)) := by
  obtain rfl : s = 0 := Subsingleton.elim _ _
  obtain rfl : n = n' := Fin.ext hn
  exact congrArg (fun j => A.u0 (ix3 0 n j)) (Fin.ext hj)
theorem at1 (c : Dev nD) (t : Fin cfg0.N) (a : Fin 256) (i : Fin 3072) : iblk m c 1 t (ix2 a i) = HeadMath.f (args m c) (row t a) i := by
  have e : (win0_1.blk t).view.emb (ix2 a i) = ix2 (row t a) i := by blk_ext [index_eq t]
  blk_simp [iblk]
  rw [e]
  unfold V hostOps0
  rw [stacked_eq, delayed_eq]
  entry_read
  unfold delayed
  pointwise [HeadMath.lit_K, HeadMath.lit_C, HeadMath.lit_half]
  refine gate_host (args m c) (row t a) i ?_ ?_
  · exact conv_host (args m c) 0 (row t a) i ⟨i.val, by omega⟩ (by simp) (fun _ => lt_of_le_of_lt (Nat.sub_le _ _) (row t a).isLt) (fun _ => by have := val_lt t; simp only; omega)
  · exact conv_host (args m c) 1 (row t a) i ⟨3072 + i.val, by omega⟩ (by simp) (fun _ => lt_of_le_of_lt (Nat.sub_le _ _) (row t a).isLt) (fun _ => by have := val_lt t; simp only; omega)
theorem at2 (c : Dev nD) (t : Fin cfg0.N) (s : Fin 2) (a : Fin 256) (i : Fin 3072) : iblk m c 2 t (ix3 s a i) = (args m c).u0 (ix3 0 (row t a) (HeadMath.col s i)) := by
  have e : (win0_2.blk t).view.emb (ix3 s a i) = ix3 s (row t a) i := by blk_ext [index_eq t]
  blk_simp [iblk]
  rw [e]
  unfold V hostOps0
  rw [stacked_eq, delayed_eq]
  entry_read
  unfold stacked
  pointwise
  split
  · exact u_eq (args m c) (by simp) (by simp only; omega)
  · exact u_eq (args m c) (by simp) (by simp only; omega)
/-- The rows before the tile, where there is a tile before. -/
theorem at3 (c : Dev nD) (t : Fin cfg0.N) (ht : 0 < t.val) (s : Fin 2) (a : Fin 16) (i : Fin 3072) :
    iblk m c 3 t (ix3 s a i) = (args m c).u0 (ix3 0 ⟨t.val * 256 + a.val - 16, by have := val_lt t; omega⟩ (HeadMath.col s i)) := by
  have e : (win0_3.blk t).view.emb (ix3 s a i) = ix3 s ⟨t.val * 256 + a.val - 16, by have := val_lt t; omega⟩ i := by blk_ext [index_eq t]
  blk_simp [iblk]
  rw [e]
  unfold V hostOps0
  rw [stacked_eq, delayed_eq]
  entry_read
  unfold stacked
  pointwise
  split
  · exact u_eq (args m c) rfl (by simp only; omega)
  · exact u_eq (args m c) rfl (by simp only; omega)
theorem at4 (c : Dev nD) (t : Fin cfg0.N) (s : Fin 2) (k : Fin 3) (i : Fin 3072) : iblk m c 4 t (ix3 s k i) = HeadMath.tap (args m c) k s i := by
  have e : (win0_4.blk t).view.emb (ix3 s k i) = ix3 s k i := by blk_ext [index_eq t]
  blk_simp [iblk]
  rw [e]
  unfold V hostOps0
  rw [stacked_eq, delayed_eq]
  entry_read
  pointwise
  rfl
theorem at5 (c : Dev nD) (t : Fin cfg0.N) (s : Fin 2) (i : Fin 3072) : iblk m c 5 t (ix3 s 0 i) = (args m c).bc (ix2 0 (HeadMath.col s i)) := by
  have e : (win0_5.blk t).view.emb (ix3 s (0 : Fin 1) i) = ix3 s 0 i := by blk_ext [index_eq t]
  blk_simp [iblk]
  rw [e]
  unfold V hostOps0
  rw [stacked_eq, delayed_eq]
  entry_read
  pointwise
  rfl
theorem at6 (c : Dev nD) (t : Fin cfg0.N) (a i : Fin 256) : iblk m c 6 t (ix2 a i) = (args m c).p (ix4 0 0 (row t a) i) := by
  have e : (win0_6.blk t).view.emb (ix2 a i) = ix2 (row t a) i := by blk_ext [index_eq t]
  blk_simp [iblk]
  rw [e]
  unfold V hostOps0
  rw [stacked_eq, delayed_eq]
  entry_read
  pointwise
theorem at7 (c : Dev nD) (t : Fin cfg0.N) (a : Fin 256) (i : Fin 1024) : iblk m c 7 t (ix2 a i) = (args m c).tg (ix3 0 (row t a) i) := by
  have e : (win0_7.blk t).view.emb (ix2 a i) = ix2 (row t a) i := by blk_ext [index_eq t]
  blk_simp [iblk]
  rw [e]
  unfold V hostOps0
  rw [stacked_eq, delayed_eq]
  entry_read
  pointwise
theorem at8 (c : Dev nD) (t : Fin cfg0.N) (a : Fin 3072) (i : Fin 1024) : iblk m c 8 t (ix2 a i) = (args m c).wd (ix3 0 a i) := by
  have e : (win0_8.blk t).view.emb (ix2 a i) = ix2 a i := by blk_ext [index_eq t]
  blk_simp [iblk]
  rw [e]
  unfold V hostOps0
  rw [stacked_eq, delayed_eq]
  entry_read
  pointwise
theorem at9 (c : Dev nD) (t : Fin cfg0.N) (a i : Fin 1024) : iblk m c 9 t (ix2 a i) = (args m c).wg (ix3 0 a i) := by
  have e : (win0_9.blk t).view.emb (ix2 a i) = ix2 a i := by blk_ext [index_eq t]
  blk_simp [iblk]
  rw [e]
  unfold V hostOps0
  rw [stacked_eq, delayed_eq]
  entry_read
  pointwise
theorem at10 (c : Dev nD) (t : Fin cfg0.N) (a : Fin 256) (i : Fin 1024) : iblk m c 10 t (ix2 a i) = (args m c).wp (ix3 0 a i) := by
  have e : (win0_10.blk t).view.emb (ix2 a i) = ix2 a i := by blk_ext [index_eq t]
  blk_simp [iblk]
  rw [e]
  unfold V hostOps0
  rw [stacked_eq, delayed_eq]
  entry_read
  pointwise
theorem at11 (c : Dev nD) (t : Fin cfg0.N) (i : Fin 1024) : iblk m c 11 t (ix2 0 i) = (args m c).gp (ix2 0 i) := by
  blk_point [iblk, V, index_eq t]
theorem at12 (c : Dev nD) (t : Fin cfg0.N) (i : Fin 1024) : iblk m c 12 t (ix2 0 i) = (args m c).gf (ix1 i) := by
  have e : (win0_12.blk t).view.emb (ix2 (0 : Fin 1) i) = ix2 0 i := by blk_ext [index_eq t]
  blk_simp [iblk]
  rw [e]
  unfold V hostOps0
  rw [stacked_eq, delayed_eq]
  entry_read
  pointwise

end Cert.HeadIdeal.Hand
end
-- ==== Proof.HeadS.lean ====
module

public import proofs.«01_k».proof.Proof.HeadB

/-! The values of one block of tokens, from the state down to its cotangent, as the call of the loss computes them. -/

@[expose] public section

set_option maxRecDepth 16384

noncomputable section

namespace Cert.HeadIdeal.Hand

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

/-- A load from a whole block. -/
theorem load_at {sp : Space} {s : Shape} {e : EltTy} (M : Memref sig .tc sp s e) (h : M.IsWhole) (x : s.Idx → Elt Ideal e) (R : Rect s) (y : R.shape.Idx) :
    View.readAt (Elt Ideal) M.view R.toLoadRect (h.unread x) y = x (R.emb y) :=
  congrFun (h.read_unread x) (R.emb y)

/-- The state after the unit. -/
theorem x3_eq (c : Dev nD) (t : Fin cfg0.N) : kernelRun0_A.sl.v10 c (ms0_0 t) (hs0_0 t) (ms0_1 t) (hs0_1 t) (ms0_8 t) (hs0_8 t) (iblk m c 0 t) (iblk m c 1 t) (iblk m c 8 t)
    = fun y => HeadMath.x3 (args m c) (row t (y 0)) (y 1) := by
  unfold kernelRun0_A.sl.v10 kernelRun0_A.sl.v9 kernelRun0_A.sl.cst kernelRun0_A.sl.v8 kernelRun0_A.sl.v6 kernelRun0_A.sl.v4
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The embedding's projection. -/
theorem e0_eq (c : Dev nD) (t : Fin cfg0.N) : kernelRun0_A.sl.v18 c (ms0_6 t) (hs0_6 t) (ms0_10 t) (hs0_10 t) (iblk m c 6 t) (iblk m c 10 t)
    = fun y => HeadMath.e0 (args m c) (row t (y 0)) (y 1) := by
  unfold kernelRun0_A.sl.v18 kernelRun0_A.sl.cst kernelRun0_A.sl.v17 kernelRun0_A.sl.v15 kernelRun0_A.sl.v14
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The scale of its norm. -/
theorem re_eq (c : Dev nD) (t : Fin cfg0.N) : kernelRun0_A.sl.v26 c (ms0_6 t) (hs0_6 t) (ms0_10 t) (hs0_10 t) (iblk m c 6 t) (iblk m c 10 t)
    = fun y => HeadMath.re (args m c) (row t (y 0)) := by
  unfold kernelRun0_A.sl.v26 kernelRun0_A.sl.v25 kernelRun0_A.sl.v24 kernelRun0_A.sl.cst_15 kernelRun0_A.sl.v23 kernelRun0_A.sl.v22 kernelRun0_A.sl.cst_14 kernelRun0_A.sl.v21 kernelRun0_A.sl.v20 kernelRun0_A.sl.v19
  rw [e0_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The normalised projection. -/
theorem en_eq (c : Dev nD) (t : Fin cfg0.N) : kernelRun0_A.sl.v28 c (ms0_6 t) (hs0_6 t) (ms0_10 t) (hs0_10 t) (iblk m c 6 t) (iblk m c 10 t)
    = fun y => HeadMath.en (args m c) (row t (y 0)) (y 1) := by
  unfold kernelRun0_A.sl.v28 kernelRun0_A.sl.v27
  rw [e0_eq m c t, re_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The embedding. -/
theorem e_eq (c : Dev nD) (t : Fin cfg0.N) : kernelRun0_A.sl.v31 c (ms0_6 t) (hs0_6 t) (ms0_10 t) (hs0_10 t) (ms0_11 t) (hs0_11 t) (iblk m c 6 t) (iblk m c 10 t) (iblk m c 11 t)
    = fun y => HeadMath.e (args m c) (row t (y 0)) (y 1) := by
  unfold kernelRun0_A.sl.v31 kernelRun0_A.sl.v30
  rw [en_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The gate. -/
theorem sg_eq (c : Dev nD) (t : Fin cfg0.N) : kernelRun0_A.sl.v41 c (ms0_0 t) (hs0_0 t) (ms0_1 t) (hs0_1 t) (ms0_8 t) (hs0_8 t) (ms0_9 t) (hs0_9 t) (iblk m c 0 t) (iblk m c 1 t) (iblk m c 8 t) (iblk m c 9 t)
    = fun y => HeadMath.sg (args m c) (row t (y 0)) (y 1) := by
  unfold kernelRun0_A.sl.v41 kernelRun0_A.sl.v39 kernelRun0_A.sl.v37 kernelRun0_A.sl.v36 kernelRun0_A.sl.v34 kernelRun0_A.sl.cst kernelRun0_A.sl.v33 kernelRun0_A.sl.v11 kernelRun0_A.sl.v35 kernelRun0_A.sl.cst_21
  rw [x3_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  exact UpBwdMath.logistic_tanh _
/-- The last state. -/
theorem x4_eq (c : Dev nD) (t : Fin cfg0.N) : kernelRun0_A.sl.v43 c (ms0_0 t) (hs0_0 t) (ms0_1 t) (hs0_1 t) (ms0_6 t) (hs0_6 t) (ms0_8 t) (hs0_8 t) (ms0_9 t) (hs0_9 t) (ms0_10 t) (hs0_10 t) (ms0_11 t) (hs0_11 t) (iblk m c 0 t) (iblk m c 1 t) (iblk m c 6 t) (iblk m c 8 t) (iblk m c 9 t) (iblk m c 10 t) (iblk m c 11 t)
    = fun y => HeadMath.x4 (args m c) (row t (y 0)) (y 1) := by
  unfold kernelRun0_A.sl.v43 kernelRun0_A.sl.v42
  rw [x3_eq m c t, sg_eq m c t, e_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The scale of its norm. -/
theorem r4_eq (c : Dev nD) (t : Fin cfg0.N) : kernelRun0_A.sl.v51 c (ms0_0 t) (hs0_0 t) (ms0_1 t) (hs0_1 t) (ms0_6 t) (hs0_6 t) (ms0_8 t) (hs0_8 t) (ms0_9 t) (hs0_9 t) (ms0_10 t) (hs0_10 t) (ms0_11 t) (hs0_11 t) (iblk m c 0 t) (iblk m c 1 t) (iblk m c 6 t) (iblk m c 8 t) (iblk m c 9 t) (iblk m c 10 t) (iblk m c 11 t)
    = fun y => HeadMath.r4 (args m c) (row t (y 0)) := by
  unfold kernelRun0_A.sl.v51 kernelRun0_A.sl.v50 kernelRun0_A.sl.v24 kernelRun0_A.sl.cst_15 kernelRun0_A.sl.v48 kernelRun0_A.sl.v22 kernelRun0_A.sl.cst_14 kernelRun0_A.sl.v46 kernelRun0_A.sl.v45 kernelRun0_A.sl.v44
  rw [x4_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The normalised state. -/
theorem un_eq (c : Dev nD) (t : Fin cfg0.N) : kernelRun0_A.sl.v53 c (ms0_0 t) (hs0_0 t) (ms0_1 t) (hs0_1 t) (ms0_6 t) (hs0_6 t) (ms0_8 t) (hs0_8 t) (ms0_9 t) (hs0_9 t) (ms0_10 t) (hs0_10 t) (ms0_11 t) (hs0_11 t) (iblk m c 0 t) (iblk m c 1 t) (iblk m c 6 t) (iblk m c 8 t) (iblk m c 9 t) (iblk m c 10 t) (iblk m c 11 t)
    = fun y => HeadMath.un (args m c) (row t (y 0)) (y 1) := by
  unfold kernelRun0_A.sl.v53 kernelRun0_A.sl.v52
  rw [x4_eq m c t, r4_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The error. -/
theorem diff_eq (c : Dev nD) (t : Fin cfg0.N) : kernelRun0_A.sl.v60 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.diff (args m c) (row t (y 0)) (y 1) := by
  unfold kernelRun0_A.sl.v60 kernelRun0_A.sl.v59 kernelRun0_A.sl.v57 kernelRun0_A.sl.v56 kernelRun0_A.sl.v55
  rw [un_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- Its cotangent. -/
theorem dy_eq (c : Dev nD) (t : Fin cfg0.N) : kernelRun0_A.sl.v69 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.dy (args m c) (row t (y 0)) (y 1) := by
  unfold kernelRun0_A.sl.v69 kernelRun0_A.sl.v68 kernelRun0_A.sl.cst_36
  rw [diff_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- Back through the last norm. -/
theorem dx4_eq (c : Dev nD) (t : Fin cfg0.N) : kernelRun0_A.sl.v90 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.dx4 (args m c) (row t (y 0)) (y 1) := by
  unfold kernelRun0_A.sl.v90 kernelRun0_A.sl.v88 kernelRun0_A.sl.v87 kernelRun0_A.sl.v86 kernelRun0_A.sl.v85 kernelRun0_A.sl.v22 kernelRun0_A.sl.cst_14 kernelRun0_A.sl.v83 kernelRun0_A.sl.v82 kernelRun0_A.sl.v81 kernelRun0_A.sl.v80 kernelRun0_A.sl.v56 kernelRun0_A.sl.v55 kernelRun0_A.sl.v52
  rw [un_eq m c t, dy_eq m c t, r4_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- Back through the gate, to the embedding. -/
theorem de_eq (c : Dev nD) (t : Fin cfg0.N) : kernelRun0_A.sl.v91 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.de (args m c) (row t (y 0)) (y 1) := by
  unfold kernelRun0_A.sl.v91
  rw [dx4_eq m c t, sg_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- Back through the gate, to its argument. -/
theorem dgt_eq (c : Dev nD) (t : Fin cfg0.N) : kernelRun0_A.sl.v96 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.dgt (args m c) (row t (y 0)) (y 1) := by
  unfold kernelRun0_A.sl.v96 kernelRun0_A.sl.v95 kernelRun0_A.sl.v94 kernelRun0_A.sl.v93 kernelRun0_A.sl.cst_45 kernelRun0_A.sl.v92
  rw [sg_eq m c t, dx4_eq m c t, e_eq m c t]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- Back through the norm of the embedding. -/
theorem de0_eq (c : Dev nD) (t : Fin cfg0.N) : kernelRun0_A.sl.v118 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.de0 (args m c) (row t (y 0)) (y 1) := by
  unfold kernelRun0_A.sl.v118 kernelRun0_A.sl.v116 kernelRun0_A.sl.v115 kernelRun0_A.sl.v114 kernelRun0_A.sl.v113 kernelRun0_A.sl.v22 kernelRun0_A.sl.cst_14 kernelRun0_A.sl.v111 kernelRun0_A.sl.v110 kernelRun0_A.sl.v109 kernelRun0_A.sl.v108 kernelRun0_A.sl.v30 kernelRun0_A.sl.v27
  rw [en_eq m c t, de_eq m c t, re_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl
/-- The state's cotangent. -/
theorem dx3_eq (c : Dev nD) (t : Fin cfg0.N) : kernelRun0_A.sl.v124 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)
    = fun y => HeadMath.dx3 (args m c) (row t (y 0)) (y 1) := by
  unfold kernelRun0_A.sl.v124 kernelRun0_A.sl.v123 kernelRun0_A.sl.cst kernelRun0_A.sl.v33 kernelRun0_A.sl.v97
  rw [dx4_eq m c t, dgt_eq m c t]
  simp only [View.readAt_eq_ld, Memref.IsWhole.read_unread]
  funext y
  idx_vars y
  pointwise [HeadMath.lit_half, HeadMath.lit_tick, InProjMath.lit_channels, InProjMath.lit_eps, UpBwdMath.logistic_tanh, at0 m c t, at1 m c t, at2 m c t, at4 m c t, at5 m c t, at6 m c t, at7 m c t, at8 m c t, at9 m c t, at10 m c t, at11 m c t, at12 m c t]
  rfl

end Cert.HeadIdeal.Hand
end
-- ==== Proof.HeadC.lean ====
module

public import Idealize.ShloMosaic.PureOps.IdealRules
public import proofs.«01_k».proof.Proof.HeadS

/-! One chunk of 256 columns of the unit's backward, as the call of the loss computes it, at any column offset. -/

@[expose] public section

set_option maxRecDepth 16384

noncomputable section

namespace Cert.HeadIdeal.Hand

open Cert.HeadIdeal Cert.HeadIdeal.Gen Idealize.ShloMosaic Idealize.ShloMosaic.TcCoe Idealize.SL.Sem
open Idealize.ShloMosaic.Pipeline (Dat)

variable (m : (ℓ : Loc nD τ sig) → Buf (Elt Ideal) ℓ)

/-- The columns of a chunk. -/
abbrev cols (o : ℕ) (ho : o + 256 ≤ 3072) (j : Fin 256) : Fin 3072 := ⟨o + j.val, by omega⟩

/-- The chunk's rows of the weights down. -/
def ldW (c : Dev nD) (t : Fin cfg0.N) (o : ℕ) (ho : o + 256 ≤ 3072) : Vec Ideal S256x1024 .bf16 :=
  View.readAt (Elt Ideal) (ms0_8 t).view (Rect.unit (s := S3072x1024) ![o, 0] S256x1024.size (fun a => by fin_cases a <;> simp <;> omega)).toLoadRect ((hs0_8 t).unread (iblk m c 8 t))

/-- The sixteen rows before the block, and the block, of one half. -/
def ldU (c : Dev nD) (t : Fin cfg0.N) (h : Fin 2) (o : ℕ) (ho : o + 256 ≤ 3072) : Vec Ideal S1x16x256 .bf16 :=
  View.readAt (Elt Ideal) (ms0_3 t).view (Rect.unit (s := S2x16x3072) ![h.val, 0, o] S1x16x256.size (fun a => by fin_cases a <;> simp <;> omega)).toLoadRect ((hs0_3 t).unread (iblk m c 3 t))
def ldV (c : Dev nD) (t : Fin cfg0.N) (h : Fin 2) (o : ℕ) (ho : o + 256 ≤ 3072) : Vec Ideal S1x256x256 .bf16 :=
  View.readAt (Elt Ideal) (ms0_2 t).view (Rect.unit (s := S2x256x3072) ![h.val, 0, o] S1x256x256.size (fun a => by fin_cases a <;> simp <;> omega)).toLoadRect ((hs0_2 t).unread (iblk m c 2 t))

/-- The offset and the taps of one half. -/
def ldB (c : Dev nD) (t : Fin cfg0.N) (h : Fin 2) (o : ℕ) (ho : o + 256 ≤ 3072) : Vec Ideal S1x1x256 .f32 :=
  View.readAt (Elt Ideal) (ms0_5 t).view (Rect.unit (s := S2x1x3072) ![h.val, 0, o] S1x1x256.size (fun a => by fin_cases a <;> simp <;> omega)).toLoadRect ((hs0_5 t).unread (iblk m c 5 t))
theorem half_inb (h : Fin 2) : ∀ a, (![h.val, 0, 0] : Fin 3 → ℕ) a + S1x3x3072.size a ≤ S2x3x3072.size a := fun a => by fin_cases a <;> simp <;> omega
theorem tap_inb (k : Fin 3) (o : ℕ) (ho : o + 256 ≤ 3072) : ∀ a, (![k.val, o] : Fin 2 → ℕ) a + S1x256.size a ≤ S3x3072.size a := fun a => by fin_cases a <;> simp <;> omega
def ldT (c : Dev nD) (t : Fin cfg0.N) (h : Fin 2) (k : Fin 3) (o : ℕ) (ho : o + 256 ≤ 3072) : Vec Ideal S1x256 .f32 :=
  View.readAt (Elt Ideal) (((ms0_4 t).view.slice (Rect.unit (s := S2x3x3072) ![h.val, 0, 0] S1x3x3072.size (half_inb h))).reshape S3x3072 squeezes_S1x3x3072_S3x3072.numel_eq)
    (Rect.unit (s := S3x3072) ![k.val, o] S1x256.size (tap_inb k o ho)).toLoadRect ((hs0_4 t).unread (iblk m c 4 t))

theorem ldW_at (c : Dev nD) (t : Fin cfg0.N) (o : ℕ) (ho : o + 256 ≤ 3072) (a : Fin 256) (i : Fin 1024) :
    ldW m c t o ho (ix2 a i) = (args m c).wd (ix3 0 (cols o ho a) i) := by
  refine (load_at _ (hs0_8 t) (iblk m c 8 t) _ _).trans (Eq.trans (congrArg _ ?_) (at8 m c t (cols o ho a) i))
  funext b; refine Fin.ext ?_; fin_cases b
  · show o + 1 * a.val = o + a.val; omega
  · show 0 + 1 * i.val = i.val; omega
theorem ldV_at (c : Dev nD) (t : Fin cfg0.N) (h : Fin 2) (o : ℕ) (ho : o + 256 ≤ 3072) (a i : Fin 256) :
    ldV m c t h o ho (ix3 0 a i) = (args m c).u0 (ix3 0 (row t a) (HeadMath.col h (cols o ho i))) := by
  refine (load_at _ (hs0_2 t) (iblk m c 2 t) _ _).trans (Eq.trans (congrArg _ ?_) (at2 m c t h a (cols o ho i)))
  funext b; refine Fin.ext ?_; fin_cases b
  · show h.val + 1 * 0 = h.val; omega
  · show 0 + 1 * a.val = a.val; omega
  · show o + 1 * i.val = o + i.val; omega
theorem ldU_at (c : Dev nD) (t : Fin cfg0.N) (h : Fin 2) (o : ℕ) (ho : o + 256 ≤ 3072) (a : Fin 16) (i : Fin 256) :
    ldU m c t h o ho (ix3 0 a i) = iblk m c 3 t (ix3 h a (cols o ho i)) := by
  refine (load_at _ (hs0_3 t) (iblk m c 3 t) _ _).trans (congrArg _ ?_)
  funext b; refine Fin.ext ?_; fin_cases b
  · show h.val + 1 * 0 = h.val; omega
  · show 0 + 1 * a.val = a.val; omega
  · show o + 1 * i.val = o + i.val; omega
theorem ldB_at (c : Dev nD) (t : Fin cfg0.N) (h : Fin 2) (o : ℕ) (ho : o + 256 ≤ 3072) (i : Fin 256) :
    ldB m c t h o ho (ix3 0 0 i) = (args m c).bc (ix2 0 (HeadMath.col h (cols o ho i))) := by
  refine (load_at _ (hs0_5 t) (iblk m c 5 t) _ _).trans (Eq.trans (congrArg _ ?_) (at5 m c t h (cols o ho i)))
  funext b; refine Fin.ext ?_; fin_cases b
  · show h.val + 1 * 0 = h.val; omega
  · rfl
  · show o + 1 * i.val = o + i.val; omega
theorem ldT_at (c : Dev nD) (t : Fin cfg0.N) (h : Fin 2) (k : Fin 3) (o : ℕ) (ho : o + 256 ≤ 3072) (i : Fin 256) :
    ldT m c t h k o ho (ix2 0 i) = HeadMath.tap (args m c) k h (cols o ho i) := by
  rw [← at4 m c t]
  refine (congrFun ((hs0_4 t).read_unread (iblk m c 4 t)) ((Rect.unit (s := S2x3x3072) ![h.val, 0, 0] S1x3x3072.size (half_inb h)).emb
    (Shape.reshapeEquiv squeezes_S1x3x3072_S3x3072.numel_eq ((Rect.unit (s := S3x3072) ![k.val, o] S1x256.size (tap_inb k o ho)).emb (ix2 0 i))))).trans ?_
  rw [show (Rect.unit (s := S3x3072) ![k.val, o] S1x256.size (tap_inb k o ho)).emb (ix2 0 i) = ix2 k (cols o ho i) from by
      funext b; refine Fin.ext ?_; fin_cases b
      · show k.val + 1 * 0 = k.val; omega
      · show o + 1 * i.val = o + i.val; omega,
    show Shape.reshapeEquiv squeezes_S1x3x3072_S3x3072.numel_eq (ix2 k (cols o ho i)) = ix3 (0 : Fin 1) k (cols o ho i) from
    Shape.reshapeEquiv_eq_of_rowMajor _ (by rw [Shape.rowMajor_val_three, Shape.rowMajor_val_two]; show ((0 : ℕ) * 3 + k.val) * 3072 + (o + i.val) = k.val * 3072 + (o + i.val); omega)]
  refine congrArg (iblk m c 4 t) (funext fun a => Fin.ext ?_)
  fin_cases a
  · show h.val + 1 * 0 = h.val; omega
  · show 0 + 1 * k.val = k.val; omega
  · show 0 + 1 * (o + i.val) = o + i.val; omega

/-- The activation's two constants. -/
theorem named_K : Named.named (F := Ideal) κ "k" (φ := .f32) 0x3D372713#32 = HeadMath.K := IdealRules.named_const.ideal_named_scalar κ "k" _ _ rfl
theorem named_K3 : Named.named (F := Ideal) κ "k3" (φ := .f32) 0x3E095D4F#32 = HeadMath.K3 := IdealRules.named_const.ideal_named_scalar κ "k3" _ _ rfl

/-- The body's test of the first block. -/
theorem gap (t : Fin cfg0.N) : Scalar.cmpi .sgt (BitVec.ofNat 32 ↑(grid0.coords t 0)) 0#32 = if 0 < t.val then 1#1 else 0#1 :=
  (by decide +kernel : ∀ t : Fin grid0.N, Scalar.cmpi .sgt (BitVec.ofNat 32 ↑(grid0.coords t 0)) 0#32 = if 0 < t.val then 1#1 else 0#1) t

/-- An earlier row of a chunk: it lies in the block, in the rows read before the block, or before the first token. -/
theorem before_at (c : Dev nD) (t : Fin cfg0.N) (h : Fin 2) (a : Fin 256) (j : Fin 3072) (k : ℕ) (hk : k ≤ 16) (n : ℕ) (hn : n = 16 + a.val - k) (h16 : ¬ n < 16 → n - 16 < 256) :
    (if h' : n < 16 then Scalar.select (Scalar.cmpi .sgt (BitVec.ofNat 32 ↑(grid0.coords t 0)) 0#32) (iblk m c 3 t (ix3 h ⟨n, h'⟩ j)) (0 : EReal)
      else (args m c).u0 (ix3 0 (row t ⟨n - 16, h16 h'⟩) (HeadMath.col h j))) = HeadMath.before (args m c) h (row t a) j k := by
  subst hn
  have ht := val_lt t
  rw [gap, HeadMath.before]
  by_cases h1 : 16 + a.val - k < 16
  · rw [dif_pos h1]
    by_cases h2 : 0 < t.val
    · rw [if_pos h2, dif_pos (by simp only; omega)]
      refine (at3 m c t h2 h _ j).trans (congrArg (fun n => (args m c).u0 (ix3 0 n (HeadMath.col h j))) (Fin.ext (by simp only; omega)))
    · rw [if_neg h2, dif_neg (by simp only; omega)]
      rfl
  · rw [dif_neg h1, dif_pos (by simp only; omega)]
    exact congrArg (fun n => (args m c).u0 (ix3 0 n (HeadMath.col h j))) (Fin.ext (by simp only; omega))

/-- The chunk's rows two tokens, one token and no token earlier. -/
theorem back2 (c : Dev nD) (t : Fin cfg0.N) (h : Fin 2) (o : ℕ) (ho : o + 256 ≤ 3072) :
    k0_pay34 (BitVec.ofNat 32 ↑(grid0.coords t 0)) (ldU m c t h o ho) (ldV m c t h o ho) = fun y => HeadMath.before (args m c) h (row t (y 0)) (cols o ho (y 1)) 2 := by
  funext y
  idx_vars y
  pointwise [k0_pay34, k0_pay33, ldU_at m c t h o ho, ldV_at m c t h o ho]
  exact before_at m c t h y0 (cols o ho y1) 2 (by omega) _ (by omega) (by omega)
theorem back1 (c : Dev nD) (t : Fin cfg0.N) (h : Fin 2) (o : ℕ) (ho : o + 256 ≤ 3072) :
    k0_pay35 (BitVec.ofNat 32 ↑(grid0.coords t 0)) (ldU m c t h o ho) (ldV m c t h o ho) = fun y => HeadMath.before (args m c) h (row t (y 0)) (cols o ho (y 1)) 1 := by
  funext y
  idx_vars y
  pointwise [k0_pay35, k0_pay33, ldU_at m c t h o ho, ldV_at m c t h o ho]
  exact before_at m c t h y0 (cols o ho y1) 1 (by omega) _ (by omega) (by omega)
theorem back0 (c : Dev nD) (t : Fin cfg0.N) (h : Fin 2) (o : ℕ) (ho : o + 256 ≤ 3072) :
    k0_pay36 (BitVec.ofNat 32 ↑(grid0.coords t 0)) (ldU m c t h o ho) (ldV m c t h o ho) = fun y => HeadMath.before (args m c) h (row t (y 0)) (cols o ho (y 1)) 0 := by
  funext y
  idx_vars y
  pointwise [k0_pay36, k0_pay33, ldU_at m c t h o ho, ldV_at m c t h o ho]
  rfl

/-- The convolution over the chunk. -/
def convV (c : Dev nD) (t : Fin cfg0.N) (h : Fin 2) (o : ℕ) (ho : o + 256 ≤ 3072) : FVec Ideal S256x256 .f32 :=
  k0_pay38 (k0_pay34 (BitVec.ofNat 32 ↑(grid0.coords t 0)) (ldU m c t h o ho) (ldV m c t h o ho)) (k0_pay35 (BitVec.ofNat 32 ↑(grid0.coords t 0)) (ldU m c t h o ho) (ldV m c t h o ho))
    (k0_pay36 (BitVec.ofNat 32 ↑(grid0.coords t 0)) (ldU m c t h o ho) (ldV m c t h o ho)) (k0_pay37 (ldB m c t h o ho)) (ldT m c t h 2 o ho) (ldT m c t h 0 o ho) (ldT m c t h 1 o ho)
theorem convV_eq (c : Dev nD) (t : Fin cfg0.N) (h : Fin 2) (o : ℕ) (ho : o + 256 ≤ 3072) :
    convV m c t h o ho = fun y => HeadMath.conv (args m c) h (row t (y 0)) (cols o ho (y 1)) := by
  unfold convV
  rw [back2, back1, back0]
  funext y
  idx_vars y
  pointwise [k0_pay37, k0_pay38, ldB_at m c t h o ho, ldT_at m c t h _ o ho]
  rfl

/-- The cotangent of the unit's product over the chunk. -/
def dfV (c : Dev nD) (t : Fin cfg0.N) (o : ℕ) (ho : o + 256 ≤ 3072) : FVec Ideal S256x256 .f32 :=
  matmul (φ₂ := .bf16) dot_S256x1024_S256x1024_S256x256_1_1_0_0_n_n none (truncf .bf16 (kernelRun0_A.sl.v124 c (ms0_0 t) (hs0_0 t) (ms0_1 t) (hs0_1 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 6 t) (iblk m c 7 t) (iblk m c 8 t) (iblk m c 9 t) (iblk m c 10 t) (iblk m c 11 t) (iblk m c 12 t)) bitsLt_bf16_f32) (shapeCast S256x1024 (ldW m c t o ho) shapeCasts_S256x1024_S256x1024) (constant S256x256 .f32 0x00000000#32)
theorem dfV_eq (c : Dev nD) (t : Fin cfg0.N) (o : ℕ) (ho : o + 256 ≤ 3072) :
    dfV m c t o ho = fun y => HeadMath.df (args m c) (row t (y 0)) (cols o ho (y 1)) := by
  unfold dfV
  rw [dx3_eq]
  funext y
  idx_vars y
  pointwise [ldW_at m c t o ho]
  rfl

/-- The cotangents of the two halves after the convolution. -/
def du0V (c : Dev nD) (t : Fin cfg0.N) (o : ℕ) (ho : o + 256 ≤ 3072) : FVec Ideal S256x256 .f32 :=
  k0_pay49 (dfV m c t o ho) (convV m c t 0 o ho) (convV m c t 1 o ho) (k0_pay45 (convV m c t 0 o ho)) (k0_pay46 (convV m c t 0 o ho))
def du1V (c : Dev nD) (t : Fin cfg0.N) (o : ℕ) (ho : o + 256 ≤ 3072) : FVec Ideal S256x256 .f32 :=
  k0_pay50 (dfV m c t o ho) (k0_pay47 (convV m c t 0 o ho)) (k0_pay48 (convV m c t 0 o ho))
theorem du0V_eq (c : Dev nD) (t : Fin cfg0.N) (o : ℕ) (ho : o + 256 ≤ 3072) :
    du0V m c t o ho = fun y => HeadMath.du (args m c) 0 (row t (y 0)) (cols o ho (y 1)) := by
  unfold du0V
  rw [dfV_eq, convV_eq, convV_eq]
  funext y
  idx_vars y
  pointwise [k0_pay45, k0_pay46, k0_pay49, HeadMath.lit_half, HeadMath.lit_C, named_K, named_K3]
  rfl
theorem du1V_eq (c : Dev nD) (t : Fin cfg0.N) (o : ℕ) (ho : o + 256 ≤ 3072) :
    du1V m c t o ho = fun y => HeadMath.du (args m c) 1 (row t (y 0)) (cols o ho (y 1)) := by
  unfold du1V
  rw [dfV_eq, convV_eq]
  funext y
  idx_vars y
  pointwise [k0_pay45, k0_pay46, k0_pay47, k0_pay48, k0_pay50, HeadMath.lit_half, HeadMath.lit_C, named_K, named_K3]
  rfl

end Cert.HeadIdeal.Hand
end
-- ==== Proof.HeadK.lean ====
module

public import proofs.«01_k».proof.Proof.HeadC

/-! What the call of the loss writes into each of its results by rows. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

set_option maxHeartbeats 2000000 in
/-- The state after the unit. -/
theorem final13 (c : Dev nD) : (dats m 0 c).arrAt 13 (cfgs 0).N = fun j => HeadMath.x3 (args m c) (j 0) (j 1) := by
  refine (dats m 0 c).arrAt_eq_of_covers 13 _ (by decide +kernel) fun t hf y => ?_
  blk_simp
  rw [after0_13]
  idx_vars y
  have e : (win0_13.blk t).view.emb (ix2 y0 y1) = ix2 (row t y0) y1 := by blk_ext [index_eq t]
  refine Eq.trans ?_ (congrArg (fun j : S4096x1024.Idx => HeadMath.x3 (args m c) (j 0) (j 1)) e.symm)
  by_cases h : t.val % 16 = 0
  · rw [outsAt0_A m c t h]
    dsimp only
    unfold out0_A_13 kernelRun0_A
    dsimp only
    rw [View.read_writes_junk_eq_canon, View.canon_cons_unit_lit' _ _ _ (by decide)]
    exact congrFun (x3_eq m c t) _
  · rw [outsAt0_B m c t h]
    dsimp only
    unfold out0_B_13 kernelRun0_B
    dsimp only
    rw [View.read_writes_junk_eq_canon, View.canon_cons_unit_lit' _ _ _ (by decide)]
    exact congrFun (x3_eq m c t) _

set_option maxHeartbeats 2000000 in
/-- The cotangent of the gate. -/
theorem final14 (c : Dev nD) : (dats m 0 c).arrAt 14 (cfgs 0).N = fun j => HeadMath.dgt (args m c) (j 0) (j 1) := by
  refine (dats m 0 c).arrAt_eq_of_covers 14 _ (by decide +kernel) fun t hf y => ?_
  blk_simp
  rw [after0_14]
  idx_vars y
  have e : (win0_14.blk t).view.emb (ix2 y0 y1) = ix2 (row t y0) y1 := by blk_ext [index_eq t]
  refine Eq.trans ?_ (congrArg (fun j : S4096x1024.Idx => HeadMath.dgt (args m c) (j 0) (j 1)) e.symm)
  by_cases h : t.val % 16 = 0
  · rw [outsAt0_A m c t h]
    dsimp only
    unfold out0_A_14 kernelRun0_A
    dsimp only
    rw [View.read_writes_junk_eq_canon, View.canon_cons_unit_lit' _ _ _ (by decide)]
    exact congrFun (dgt_eq m c t) _
  · rw [outsAt0_B m c t h]
    dsimp only
    unfold out0_B_14 kernelRun0_B
    dsimp only
    rw [View.read_writes_junk_eq_canon, View.canon_cons_unit_lit' _ _ _ (by decide)]
    exact congrFun (dgt_eq m c t) _

set_option maxHeartbeats 2000000 in
/-- The cotangent of the embedding before its scaling. -/
theorem final15 (c : Dev nD) : (dats m 0 c).arrAt 15 (cfgs 0).N = fun j => HeadMath.de0 (args m c) (j 0) (j 1) := by
  refine (dats m 0 c).arrAt_eq_of_covers 15 _ (by decide +kernel) fun t hf y => ?_
  blk_simp
  rw [after0_15]
  idx_vars y
  have e : (win0_15.blk t).view.emb (ix2 y0 y1) = ix2 (row t y0) y1 := by blk_ext [index_eq t]
  refine Eq.trans ?_ (congrArg (fun j : S4096x1024.Idx => HeadMath.de0 (args m c) (j 0) (j 1)) e.symm)
  by_cases h : t.val % 16 = 0
  · rw [outsAt0_A m c t h]
    dsimp only
    unfold out0_A_15 kernelRun0_A
    dsimp only
    rw [View.read_writes_junk_eq_canon, View.canon_cons_unit_lit' _ _ _ (by decide)]
    exact congrFun (de0_eq m c t) _
  · rw [outsAt0_B m c t h]
    dsimp only
    unfold out0_B_15 kernelRun0_B
    dsimp only
    rw [View.read_writes_junk_eq_canon, View.canon_cons_unit_lit' _ _ _ (by decide)]
    exact congrFun (de0_eq m c t) _

set_option maxHeartbeats 2000000 in
/-- The cotangent of the state after the unit. -/
theorem final16 (c : Dev nD) : (dats m 0 c).arrAt 16 (cfgs 0).N = fun j => HeadMath.dx3 (args m c) (j 0) (j 1) := by
  refine (dats m 0 c).arrAt_eq_of_covers 16 _ (by decide +kernel) fun t hf y => ?_
  blk_simp
  rw [after0_16]
  idx_vars y
  have e : (win0_16.blk t).view.emb (ix2 y0 y1) = ix2 (row t y0) y1 := by blk_ext [index_eq t]
  refine Eq.trans ?_ (congrArg (fun j : S4096x1024.Idx => HeadMath.dx3 (args m c) (j 0) (j 1)) e.symm)
  by_cases h : t.val % 16 = 0
  · rw [outsAt0_A m c t h]
    dsimp only
    unfold out0_A_16 kernelRun0_A
    dsimp only
    rw [View.read_writes_junk_eq_canon, View.canon_cons_unit_lit' _ _ _ (by decide)]
    exact congrFun (dx3_eq m c t) _
  · rw [outsAt0_B m c t h]
    dsimp only
    unfold out0_B_16 kernelRun0_B
    dsimp only
    rw [View.read_writes_junk_eq_canon, View.canon_cons_unit_lit' _ _ _ (by decide)]
    exact congrFun (dx3_eq m c t) _

end Cert.HeadIdeal.Hand
end
-- ==== Proof.HeadD.lean ====
module

public import proofs.«01_k».proof.Proof.HeadC

/-! The cotangent before the convolution. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

/-- A stored chunk of each half. -/
theorem du0P (c : Dev nD) (t : Fin cfg0.N) (o : ℕ) (ho : o + 256 ≤ 3072) (x : S1x256x256.Idx) :
    (shapeCast S1x256x256 (truncf .bf16 (du0V m c t o ho) bitsLt_bf16_f32) shapeCasts_S256x256_S1x256x256 : Vec Ideal S1x256x256 .bf16) x
      = HeadMath.du (args m c) 0 (row t (x 1)) (cols o ho (x 2)) := by
  rw [du0V_eq]
  idx_vars x
  pointwise
theorem du1P (c : Dev nD) (t : Fin cfg0.N) (o : ℕ) (ho : o + 256 ≤ 3072) (x : S1x256x256.Idx) :
    (shapeCast S1x256x256 (truncf .bf16 (du1V m c t o ho) bitsLt_bf16_f32) shapeCasts_S256x256_S1x256x256 : Vec Ideal S1x256x256 .bf16) x
      = HeadMath.du (args m c) 1 (row t (x 1)) (cols o ho (x 2)) := by
  rw [du1V_eq]
  idx_vars x
  pointwise

set_option maxHeartbeats 4000000 in
/-- The cotangent before the convolution, in two halves. -/
theorem final17 (c : Dev nD) : (dats m 0 c).arrAt 17 (cfgs 0).N = fun j => HeadMath.du (args m c) (j 0) (j 1) (j 2) := by
  refine (dats m 0 c).arrAt_eq_of_covers 17 _ (by decide +kernel) fun t hf y => ?_
  blk_simp
  rw [after0_17]
  idx_vars y
  have e : (win0_17.blk t).view.emb (ix3 y0 y1 y2) = ix3 y0 (row t y1) y2 := by blk_ext [index_eq t]
  refine Eq.trans ?_ (congrArg (fun j : S2x4096x3072.Idx => HeadMath.du (args m c) (j 0) (j 1) (j 2)) e.symm)
  clear e hf
  have halves (k : Fin 2) (e0 : (y0 : ℕ) = k.val + 0) (n : Fin 256) (i : Fin 3072) (e1 : (y2 : ℕ) = i.val) :
      HeadMath.du (args m c) k (row t n) i = HeadMath.du (args m c) y0 (row t n) y2 := by
    rw [show k = y0 from Fin.ext (by omega), show i = y2 from Fin.ext (by omega)]
  by_cases a : t.val % 16 = 0
  on_goal 1 => rw [outsAt0_A m c t a]; dsimp only; unfold out0_A_17 kernelRun0_A; dsimp only
  on_goal 2 => rw [outsAt0_B m c t a]; dsimp only; unfold out0_B_17 kernelRun0_B; dsimp only
  all_goals
    rw [View.read_writes_junk_eq_canon]
    canon_tiles x h
    all_goals
      change (y0 : ℕ) = _ at h0
      change (y2 : ℕ) = _ at h2
      obtain rfl : y1 = x 1 := Fin.ext h1
      have e0 : (x 0).val = 0 := by omega
      rw [e0] at h0
    · exact (du1P m c t 2816 (by omega) x).trans (halves 1 h0 _ _ (h2))
    · exact (du0P m c t 2816 (by omega) x).trans (halves 0 h0 _ _ (h2))
    · exact (du1P m c t 2560 (by omega) x).trans (halves 1 h0 _ _ (h2))
    · exact (du0P m c t 2560 (by omega) x).trans (halves 0 h0 _ _ (h2))
    · exact (du1P m c t 2304 (by omega) x).trans (halves 1 h0 _ _ (h2))
    · exact (du0P m c t 2304 (by omega) x).trans (halves 0 h0 _ _ (h2))
    · exact (du1P m c t 2048 (by omega) x).trans (halves 1 h0 _ _ (h2))
    · exact (du0P m c t 2048 (by omega) x).trans (halves 0 h0 _ _ (h2))
    · exact (du1P m c t 1792 (by omega) x).trans (halves 1 h0 _ _ (h2))
    · exact (du0P m c t 1792 (by omega) x).trans (halves 0 h0 _ _ (h2))
    · exact (du1P m c t 1536 (by omega) x).trans (halves 1 h0 _ _ (h2))
    · exact (du0P m c t 1536 (by omega) x).trans (halves 0 h0 _ _ (h2))
    · exact (du1P m c t 1280 (by omega) x).trans (halves 1 h0 _ _ (h2))
    · exact (du0P m c t 1280 (by omega) x).trans (halves 0 h0 _ _ (h2))
    · exact (du1P m c t 1024 (by omega) x).trans (halves 1 h0 _ _ (h2))
    · exact (du0P m c t 1024 (by omega) x).trans (halves 0 h0 _ _ (h2))
    · exact (du1P m c t 768 (by omega) x).trans (halves 1 h0 _ _ (h2))
    · exact (du0P m c t 768 (by omega) x).trans (halves 0 h0 _ _ (h2))
    · exact (du1P m c t 512 (by omega) x).trans (halves 1 h0 _ _ (h2))
    · exact (du0P m c t 512 (by omega) x).trans (halves 0 h0 _ _ (h2))
    · exact (du1P m c t 256 (by omega) x).trans (halves 1 h0 _ _ (h2))
    · exact (du0P m c t 256 (by omega) x).trans (halves 0 h0 _ _ (h2))
    · exact (du1P m c t 0 (by omega) x).trans (halves 1 h0 _ _ (h2.trans (Nat.zero_add _).symm))
    · exact (du0P m c t 0 (by omega) x).trans (halves 0 h0 _ _ (h2.trans (Nat.zero_add _).symm))

end Cert.HeadIdeal.Hand
end
-- ==== Proof.HeadA.lean ====
module

public import proofs.«01_k».proof.Proof.HeadC
public import Idealize.ShloMosaic.Lib.Pipeline.ReadBack

/-! The running sums of the convolution's gradients: what one chunk of one point adds. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

/-- A load that no store but the last listed one touches. -/
theorem readCov_last {sg : RefSig} {κ' : Kind} {sp : Space} {s : Shape} {e : EltTy} {Val : EltTy → Type} [∀ e, Nonempty (Val e)] (v : View sg κ' sp s e) (B : LoadRect s) (q : View.Piece Val s e) :
    ∀ L : List (View.Piece Val s e), L.getLast? = some q → (L.dropLast.all fun p => LoadRect.disj p.1 B) = true → v.readCov L B = v.readCov [q] B
  | [], h, _ => by simp at h
  | [p], h, _ => by
    obtain rfl : p = q := by simpa using h
    rfl
  | p :: p' :: L, h, hd => by
    rw [List.dropLast_cons₂, List.all_cons, Bool.and_eq_true] at hd
    exact (View.readCov_skip v p.1 p.2 (p' :: L) B hd.1).trans (readCov_last v B q (p' :: L) (by rw [List.getLast?_cons_cons] at h; exact h) hd.2)

/-- Stores over a fill: where a later store covers, the fill, stored first, is not read. -/
theorem canon_dropLast {s : Shape} {e : EltTy} {Val : EltTy → Type} [∀ e, Nonempty (Val e)] : ∀ (L : List (View.Piece Val s e)) (y : s.Idx), (∃ p ∈ L.dropLast, y ∈ p.1.set) → View.canon L y = View.canon L.dropLast y
  | [], _, h => by simp at h
  | [_], _, h => by simp at h
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨r, hr, hy⟩ := h
      rcases List.mem_cons.mp hr with rfl | hr
      · exact absurd hy hm
      · exact ⟨r, hr, hy⟩

/-- The rectangles of the running sums: one tap of a half, and one offset, over a chunk. -/
abbrev wcRect (h : Fin 2) (k : Fin 3) (o : ℕ) (ho : o + 256 ≤ 3072) : Rect S2x3x3072 :=
  Rect.unit ![h.val, k.val, o] ![1, 1, 256] (fun a => by fin_cases a <;> simp <;> omega)
abbrev bcRect (h : Fin 2) (o : ℕ) (ho : o + 256 ≤ 3072) : Rect S2x1x3072 :=
  Rect.unit ![h.val, 0, o] ![1, 1, 256] (fun a => by fin_cases a <;> simp <;> omega)

/-- They are loaded as zeros before the first store into them. -/
theorem wc_fresh (t : Fin cfg0.N) (h : Fin 2) (k : Fin 3) (o : ℕ) (ho : o + 256 ≤ 3072) (L : List (View.Piece (Elt Ideal) S2x3x3072 .f32))
    (hq : L.getLast? = some ⟨Rect.unit (s := S2x3x3072) ![0, 0, 0] S2x3x3072.size inb_S2x3x3072_S2x3x3072_0_0_0, kernelRun0_A.sl.v2445 (F := Ideal)⟩)
    (hd : (L.dropLast.all fun p => LoadRect.disj p.1 (wcRect h k o ho).toLoadRect) = true) (x : (wcRect h k o ho).shape.Idx) :
    (ms0_19 t).view.readCov L (wcRect h k o ho).toLoadRect x = (0 : EReal) := by
  rw [readCov_last _ _ _ L hq hd, View.readCov_fill _ _ _ _ _ (by decide)]
  unfold kernelRun0_A.sl.v2445 kernelRun0_A.sl.cst_1634
  pointwise
theorem bc_fresh (t : Fin cfg0.N) (h : Fin 2) (o : ℕ) (ho : o + 256 ≤ 3072) (L : List (View.Piece (Elt Ideal) S2x1x3072 .f32))
    (hq : L.getLast? = some ⟨Rect.unit (s := S2x1x3072) ![0, 0, 0] S2x1x3072.size inb_S2x1x3072_S2x1x3072_0_0_0, kernelRun0_A.sl.v2447 (F := Ideal)⟩)
    (hd : (L.dropLast.all fun p => LoadRect.disj p.1 (bcRect h o ho).toLoadRect) = true) (x : (bcRect h o ho).shape.Idx) :
    (ms0_20 t).view.readCov L (bcRect h o ho).toLoadRect x = (0 : EReal) := by
  rw [readCov_last _ _ _ L hq hd, View.readCov_fill _ _ _ _ _ (by decide)]
  unfold kernelRun0_A.sl.v2447 kernelRun0_A.sl.cst_1634
  pointwise

/-- A running row of sums: what was loaded, and the sum of the rows of `d`. -/
def accV (w : Vec Ideal S1x1x256 .f32) (d : FVec Ideal S256x256 .f32) : FVec Ideal S1x1x256 .f32 :=
  shapeCast S1x1x256 (addf (shapeCast S1x256 w shapeCasts_S1x1x256_S1x256)
    (shapeCast S1x256 (multiReduction .add [0] S256 d 0x00000000#32 reduces_S256x256_S256 (.inl rfl) rfl) shapeCasts_S256_S1x256)) shapeCasts_S1x256_S1x1x256
theorem accV_at (w : Vec Ideal S1x1x256 .f32) (d : FVec Ideal S256x256 .f32) (x : S1x1x256.Idx) :
    accV w d x = (w x : EReal) + ∑ n : Fin 256, (d (ix2 n (x 2)) : EReal) := by
  unfold accV
  idx_vars x
  obtain rfl : x0 = 0 := Subsingleton.elim _ _
  obtain rfl : x1 = 0 := Subsingleton.elim _ _
  pointwise

/-- What a point adds to a tap's sum and to an offset's. -/
def wcAdd (c : Dev nD) (t : Fin cfg0.N) (h : Fin 2) (k : Fin 3) (j : Fin 3072) : EReal := ∑ n : Fin 256, HeadMath.wcTerm (args m c) h k (row t n) j
def bcAdd (c : Dev nD) (t : Fin cfg0.N) (h : Fin 2) (j : Fin 3072) : EReal := ∑ n : Fin 256, HeadMath.du (args m c) h (row t n) j

theorem wcP (c : Dev nD) (t : Fin cfg0.N) (h : Fin 2) (k : Fin 3) (o : ℕ) (ho : o + 256 ≤ 3072) (w : Vec Ideal S1x1x256 .f32) (D B : FVec Ideal S256x256 .f32)
    (hD : D = fun y => HeadMath.du (args m c) h (row t (y 0)) (cols o ho (y 1)))
    (hB : B = fun y => HeadMath.before (args m c) h (row t (y 0)) (cols o ho (y 1)) (2 - k.val)) (x : S1x1x256.Idx) :
    accV w (mulf D B) x = (w x : EReal) + wcAdd m c t h k (cols o ho (x 2)) := by
  subst hD hB
  rw [accV_at]
  rfl
theorem bcP (c : Dev nD) (t : Fin cfg0.N) (h : Fin 2) (o : ℕ) (ho : o + 256 ≤ 3072) (w : Vec Ideal S1x1x256 .f32) (D : FVec Ideal S256x256 .f32)
    (hD : D = fun y => HeadMath.du (args m c) h (row t (y 0)) (cols o ho (y 1))) (x : S1x1x256.Idx) :
    accV w D x = (w x : EReal) + bcAdd m c t h (cols o ho (x 2)) := by
  subst hD
  rw [accV_at]
  rfl

/-- The sum so far, read at the array's own index. -/
theorem wcT (c : Dev nD) (t : Fin cfg0.N) (h : Fin 2) (k : Fin 3) (o : ℕ) (ho : o + 256 ≤ 3072) (w : Vec Ideal S1x1x256 .f32) (P : S2x3x3072.Idx → EReal) (x : S1x1x256.Idx)
    (j0 : Fin 2) (j1 : Fin 3) (j2 : Fin 3072) (e0 : (j0 : ℕ) = h.val + (x 0).val) (e1 : (j1 : ℕ) = k.val + (x 1).val) (e2 : (j2 : ℕ) = o + (x 2).val)
    (hw : w x = P ((wcRect h k o ho).emb x)) : (w x : EReal) + wcAdd m c t h k (cols o ho (x 2)) = P (ix3 j0 j1 j2) + wcAdd m c t j0 j1 j2 := by
  rw [hw]
  have x0 : (x 0).val = 0 := Nat.lt_one_iff.mp (x 0).isLt
  have x1 : (x 1).val = 0 := Nat.lt_one_iff.mp (x 1).isLt
  obtain rfl : j0 = h := Fin.ext (by omega)
  obtain rfl : j1 = k := Fin.ext (by omega)
  obtain rfl : j2 = cols o ho (x 2) := Fin.ext e2
  refine congrArg (fun i => P i + wcAdd m c t j0 j1 (cols o ho (x 2))) (funext fun a => Fin.ext ?_)
  fin_cases a
  · show j0.val + 1 * (x 0).val = j0.val; omega
  · show j1.val + 1 * (x 1).val = j1.val; omega
  · show o + 1 * (x 2).val = o + (x 2).val; omega
theorem bcT (c : Dev nD) (t : Fin cfg0.N) (h : Fin 2) (o : ℕ) (ho : o + 256 ≤ 3072) (w : Vec Ideal S1x1x256 .f32) (P : S2x1x3072.Idx → EReal) (x : S1x1x256.Idx)
    (j0 : Fin 2) (j1 : Fin 1) (j2 : Fin 3072) (e0 : (j0 : ℕ) = h.val + (x 0).val) (e2 : (j2 : ℕ) = o + (x 2).val)
    (hw : w x = P ((bcRect h o ho).emb x)) : (w x : EReal) + bcAdd m c t h (cols o ho (x 2)) = P (ix3 j0 j1 j2) + bcAdd m c t j0 j2 := by
  rw [hw]
  have x0 : (x 0).val = 0 := Nat.lt_one_iff.mp (x 0).isLt
  obtain rfl : j0 = h := Fin.ext (by omega)
  obtain rfl : j1 = x 1 := Subsingleton.elim _ _
  obtain rfl : j2 = cols o ho (x 2) := Fin.ext e2
  refine congrArg (fun i => P i + bcAdd m c t j0 (cols o ho (x 2))) (funext fun a => Fin.ext ?_)
  fin_cases a
  · show j0.val + 1 * (x 0).val = j0.val; omega
  · show 0 + 1 * (x 1).val = (x 1).val; omega
  · show o + 1 * (x 2).val = o + (x 2).val; omega

end Cert.HeadIdeal.Hand
end
-- ==== Proof.HeadL.lean ====
module

public import proofs.«01_k».proof.Proof.HeadA
public import proofs.«01_k».proof.Proof.RowWrites
public import Idealize.ShloMosaic.Lib.Pipeline.ValueKit

/-! The loss and the two scales' gradients, summed over the grid: three rows of the sums, over five rows of zeros. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

/-- A running row: what was loaded, and the sum of the rows of a product. -/
def rowV (w : Vec Ideal S1x1024 .f32) (d : FVec Ideal S256x1024 .f32) : FVec Ideal S1x1024 .f32 :=
  addf (shapeCast S1x1024 w shapeCasts_S1x1024_S1x1024)
    (shapeCast S1x1024 (multiReduction .add [0] S1024 d 0x00000000#32 reduces_S256x1024_S1024 (.inl rfl) rfl) shapeCasts_S1024_S1x1024)
theorem rowP (t : Fin cfg0.N) (f g : Fin 4096 → Fin 1024 → EReal) (w : Vec Ideal S1x1024 .f32) (D B : FVec Ideal S256x1024 .f32)
    (hD : D = fun y => f (row t (y 0)) (y 1)) (hB : B = fun y => g (row t (y 0)) (y 1)) (i : Fin 1024) :
    rowV w (mulf D B) (ix2 0 i) = (w (ix2 0 i) : EReal) + ∑ n : Fin 256, f (row t n) i * g (row t n) i := by
  subst hD hB
  unfold rowV
  pointwise

/-- A row of the sums, and that it is loaded as zeros before the first store into it. -/
abbrev sumRect (k : Fin 8) : Rect S8x1024 := Rect.unit ![k.val, 0] ![1, 1024] (fun a => by fin_cases a <;> simp <;> omega)
theorem sum_fresh (t : Fin cfg0.N) (k : Fin 8) (L : List (View.Piece (Elt Ideal) S8x1024 .f32))
    (hq : L.getLast? = some ⟨Rect.unit (s := S8x1024) ![0, 0] S8x1024.size inb_S8x1024_S8x1024_0_0, kernelRun0_A.sl.v2443 (F := Ideal)⟩)
    (hd : (L.dropLast.all fun p => LoadRect.disj p.1 (sumRect k).toLoadRect) = true) (x : (sumRect k).shape.Idx) :
    (ms0_18 t).view.readCov L (sumRect k).toLoadRect x = (0 : EReal) := by
  rw [readCov_last _ _ _ L hq hd, View.readCov_fill _ _ _ _ _ (by decide)]
  unfold kernelRun0_A.sl.v2443 kernelRun0_A.sl.cst_1634
  pointwise

/-- What a point adds to a row of the sums. -/
def sumAdd (c : Dev nD) (t : Fin cfg0.N) (k : Fin 8) (i : Fin 1024) : EReal := ∑ n : Fin 256, HeadMath.sumTerm (args m c) k (row t n) i

/-- The rows that no sum is kept in. -/
theorem sumAdd_rest (c : Dev nD) (t : Fin cfg0.N) (k : Fin 8) (i : Fin 1024) (h0 : ¬ (k : ℕ) = 0) (h1 : ¬ (k : ℕ) = 1) (h2 : ¬ (k : ℕ) = 2) : sumAdd m c t k i = 0 := by
  refine (Finset.sum_congr rfl fun n _ => ?_).trans Finset.sum_const_zero
  unfold HeadMath.sumTerm
  rw [if_neg h0, if_neg h1, if_neg h2]

set_option maxHeartbeats 2000000 in
/-- The first point starts the rows from zero. -/
theorem sum_first (c : Dev nD) (t : Fin cfg0.N) (h : t.val % 16 = 0) (j : S8x1024.Idx) :
    (outsAt0 m c t.val t.isLt).2.2.2.2.2.1 j = (0 : EReal) + sumAdd m c t (j 0) (j 1) := by
  rw [outsAt0_A m c t h]
  dsimp only
  unfold out0_A_18 kernelRun0_A
  dsimp only
  idx_vars j
  rw [View.read_writes_junk_eq_canon]
  unfold kernelRun0_A.sl.H18_3 kernelRun0_A.sl.H18_2 kernelRun0_A.sl.H18_1
  rw [RowWrites.canon_row, RowWrites.canon_row, RowWrites.canon_row, View.canon_cons_unit_lit' _ _ _ (by decide)]
  by_cases h2 : (j0 : ℕ) = 2
  · rw [if_pos h2]
    obtain rfl : j0 = 2 := Fin.ext h2
    exact (rowP t (HeadMath.de (args m c)) (HeadMath.en (args m c)) _ _ _ (de_eq m c t) (en_eq m c t) j1).trans
      (congrArg (· + _) (sum_fresh t 2 _ rfl rfl (ix2 0 j1)))
  rw [if_neg h2]
  by_cases h1 : (j0 : ℕ) = 1
  · rw [if_pos h1]
    obtain rfl : j0 = 1 := Fin.ext h1
    exact (rowP t (HeadMath.dy (args m c)) (HeadMath.un (args m c)) _ _ _ (dy_eq m c t) (un_eq m c t) j1).trans
      (congrArg (· + _) (sum_fresh t 1 _ rfl rfl (ix2 0 j1)))
  rw [if_neg h1]
  by_cases h0 : (j0 : ℕ) = 0
  · rw [if_pos h0]
    obtain rfl : j0 = 0 := Fin.ext h0
    exact (rowP t (HeadMath.diff (args m c)) (HeadMath.diff (args m c)) _ _ _ (diff_eq m c t) (diff_eq m c t) j1).trans
      (congrArg (· + _) (sum_fresh t 0 _ rfl rfl (ix2 0 j1)))
  rw [if_neg h0]
  refine Eq.trans ?_ (congrArg ((0 : EReal) + ·) (sumAdd_rest m c t j0 j1 h0 h1 h2)).symm
  unfold kernelRun0_A.sl.v2443 kernelRun0_A.sl.cst_1634
  pointwise

set_option maxHeartbeats 2000000 in
/-- Every later point adds to them. -/
theorem sum_next (c : Dev nD) (t : Fin cfg0.N) (h : ¬ t.val % 16 = 0) (j : S8x1024.Idx) :
    (outsAt0 m c t.val t.isLt).2.2.2.2.2.1 j = (show EReal from (outsAt0 m c (t.val - 1) (by omega)).2.2.2.2.2.1 j) + sumAdd m c t (j 0) (j 1) := by
  rw [outsAt0_B m c t h]
  dsimp only
  unfold out0_B_18 kernelRun0_B
  dsimp only
  idx_vars j
  rw [RowWrites.read_row, RowWrites.read_row, RowWrites.read_row, View.writes_nil, Memref.IsWhole.read_unread]
  by_cases h2 : (j0 : ℕ) = 2
  · rw [if_pos h2]
    obtain rfl : j0 = 2 := Fin.ext h2
    refine (rowP t (HeadMath.de (args m c)) (HeadMath.en (args m c)) _ _ _ (de_eq m c t) (en_eq m c t) j1).trans (congrArg (· + _) ((load_at _ (hs0_18 t) _ (sumRect 2) (ix2 0 j1)).trans (congrArg _ ?_)))
    funext a; refine Fin.ext ?_; fin_cases a
    · rfl
    · show 0 + 1 * j1.val = j1.val; omega
  rw [if_neg h2]
  by_cases h1 : (j0 : ℕ) = 1
  · rw [if_pos h1]
    obtain rfl : j0 = 1 := Fin.ext h1
    refine (rowP t (HeadMath.dy (args m c)) (HeadMath.un (args m c)) _ _ _ (dy_eq m c t) (un_eq m c t) j1).trans (congrArg (· + _) ((load_at _ (hs0_18 t) _ (sumRect 1) (ix2 0 j1)).trans (congrArg _ ?_)))
    funext a; refine Fin.ext ?_; fin_cases a
    · rfl
    · show 0 + 1 * j1.val = j1.val; omega
  rw [if_neg h1]
  by_cases h0 : (j0 : ℕ) = 0
  · rw [if_pos h0]
    obtain rfl : j0 = 0 := Fin.ext h0
    refine (rowP t (HeadMath.diff (args m c)) (HeadMath.diff (args m c)) _ _ _ (diff_eq m c t) (diff_eq m c t) j1).trans (congrArg (· + _) ((load_at _ (hs0_18 t) _ (sumRect 0) (ix2 0 j1)).trans (congrArg _ ?_)))
    funext a; refine Fin.ext ?_; fin_cases a
    · rfl
    · show 0 + 1 * j1.val = j1.val; omega
  rw [if_neg h0]
  exact ((congrArg _ (sumAdd_rest m c t j0 j1 h0 h1 h2)).trans (add_zero _)).symm

/-- The loss and the two scales' gradients. -/
theorem final18 (c : Dev nD) : (dats m 0 c).arrAt 18 (cfgs 0).N = fun j => HeadMath.sums (args m c) (j 0) (j 1) := by
  refine (dats m 0 c).arrAt_eq_of_covers 18 _ (by decide +kernel) fun t hf y => ?_
  blk_simp
  idx_vars y
  have e : (win0_18.blk t).view.emb (ix2 y0 y1) = (ix2 y0 y1) := by blk_ext [index_eq t]
  refine Eq.trans ?_ (congrArg (fun j : S8x1024.Idx => HeadMath.sums (args m c) (j 0) (j 1)) e.symm)
  have ht : t.val = 15 := by have := (flush0_18 t).mp hf; have := val_lt t; omega
  rw [after0_18, Pipeline.eq_sum_fin_of_reset_step_apply_of_flush (fun n h => (outsAt0 m c n h).2.2.2.2.2.1) 16 (fun _ => 0)
    (fun t j => sumAdd m c t (j 0) (j 1)) (sum_first m c) (sum_next m c) t ((flush0_18 t).mp hf) _, zero_add]
  unfold sumAdd HeadMath.sums
  refine Fin.sum_mul_add_congr fun s k hl => ?_
  exact congrArg (fun n => HeadMath.sumTerm (args m c) y0 n y1) (Fin.ext (by simp only [ht]; omega))

end Cert.HeadIdeal.Hand
end
-- ==== Proof.HeadT.lean ====
module

public import proofs.«01_k».proof.Proof.HeadA
public import Idealize.ShloMosaic.Lib.Pipeline.ValueKit

/-! The gradient of the taps, summed over the grid. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

set_option maxHeartbeats 16000000 in
/-- The first point starts the taps' sums from zero. -/
theorem wc_first (c : Dev nD) (t : Fin cfg0.N) (h : t.val % 16 = 0) (j : S2x3x3072.Idx) :
    (outsAt0 m c t.val t.isLt).2.2.2.2.2.2.1 j = (0 : EReal) + wcAdd m c t (j 0) (j 1) (j 2) := by
  rw [outsAt0_A m c t h]
  dsimp only
  unfold out0_A_19 kernelRun0_A
  dsimp only
  idx_vars j
  rw [View.read_writes_junk_eq_canon]
  unfold kernelRun0_A.sl.H19_72 kernelRun0_A.sl.H19_71 kernelRun0_A.sl.H19_70 kernelRun0_A.sl.H19_69 kernelRun0_A.sl.H19_68 kernelRun0_A.sl.H19_67 kernelRun0_A.sl.H19_66 kernelRun0_A.sl.H19_65 kernelRun0_A.sl.H19_64 kernelRun0_A.sl.H19_63 kernelRun0_A.sl.H19_62 kernelRun0_A.sl.H19_61 kernelRun0_A.sl.H19_60 kernelRun0_A.sl.H19_59 kernelRun0_A.sl.H19_58 kernelRun0_A.sl.H19_57 kernelRun0_A.sl.H19_56 kernelRun0_A.sl.H19_55 kernelRun0_A.sl.H19_54 kernelRun0_A.sl.H19_53 kernelRun0_A.sl.H19_52 kernelRun0_A.sl.H19_51 kernelRun0_A.sl.H19_50 kernelRun0_A.sl.H19_49 kernelRun0_A.sl.H19_48 kernelRun0_A.sl.H19_47 kernelRun0_A.sl.H19_46 kernelRun0_A.sl.H19_45 kernelRun0_A.sl.H19_44 kernelRun0_A.sl.H19_43 kernelRun0_A.sl.H19_42 kernelRun0_A.sl.H19_41 kernelRun0_A.sl.H19_40 kernelRun0_A.sl.H19_39 kernelRun0_A.sl.H19_38 kernelRun0_A.sl.H19_37 kernelRun0_A.sl.H19_36 kernelRun0_A.sl.H19_35 kernelRun0_A.sl.H19_34 kernelRun0_A.sl.H19_33 kernelRun0_A.sl.H19_32 kernelRun0_A.sl.H19_31 kernelRun0_A.sl.H19_30 kernelRun0_A.sl.H19_29 kernelRun0_A.sl.H19_28 kernelRun0_A.sl.H19_27 kernelRun0_A.sl.H19_26 kernelRun0_A.sl.H19_25 kernelRun0_A.sl.H19_24 kernelRun0_A.sl.H19_23 kernelRun0_A.sl.H19_22 kernelRun0_A.sl.H19_21 kernelRun0_A.sl.H19_20 kernelRun0_A.sl.H19_19 kernelRun0_A.sl.H19_18 kernelRun0_A.sl.H19_17 kernelRun0_A.sl.H19_16 kernelRun0_A.sl.H19_15 kernelRun0_A.sl.H19_14 kernelRun0_A.sl.H19_13 kernelRun0_A.sl.H19_12 kernelRun0_A.sl.H19_11 kernelRun0_A.sl.H19_10 kernelRun0_A.sl.H19_9 kernelRun0_A.sl.H19_8 kernelRun0_A.sl.H19_7 kernelRun0_A.sl.H19_6 kernelRun0_A.sl.H19_5 kernelRun0_A.sl.H19_4 kernelRun0_A.sl.H19_3 kernelRun0_A.sl.H19_2 kernelRun0_A.sl.H19_1
  rw [canon_dropLast _ _ (View.cover_of_tiled _ ![1, 1, 256] rfl _)]
  simp only [List.dropLast_cons₂, List.dropLast_singleton]
  canon_tiles x e
  all_goals
    change (j0 : ℕ) = _ at e0
    change (j1 : ℕ) = _ at e1
    change (j2 : ℕ) = _ at e2
  · exact (wcP m c t 1 2 2816 (by omega) _ _ _ (du1V_eq m c t 2816 (by omega)) (back0 m c t 1 2816 (by omega)) x).trans (wcT m c t 1 2 2816 (by omega) _ (fun _ => 0) x j0 j1 j2 e0 e1 e2 (wc_fresh t 1 2 2816 (by omega) _ rfl rfl x))
  · exact (wcP m c t 1 1 2816 (by omega) _ _ _ (du1V_eq m c t 2816 (by omega)) (back1 m c t 1 2816 (by omega)) x).trans (wcT m c t 1 1 2816 (by omega) _ (fun _ => 0) x j0 j1 j2 e0 e1 e2 (wc_fresh t 1 1 2816 (by omega) _ rfl rfl x))
  · exact (wcP m c t 1 0 2816 (by omega) _ _ _ (du1V_eq m c t 2816 (by omega)) (back2 m c t 1 2816 (by omega)) x).trans (wcT m c t 1 0 2816 (by omega) _ (fun _ => 0) x j0 j1 j2 e0 (e1.trans (Nat.zero_add _).symm) e2 (wc_fresh t 1 0 2816 (by omega) _ rfl rfl x))
  · unfold k0_pay394 kernelRun0_A.sl.r_90 kernelRun0_A.sl.r_91 k0_pay392 k0_pay393
    refine (wcP m c t 0 2 2816 (by omega) _ _ _ ?_ ?_ x).trans (wcT m c t 0 2 2816 (by omega) _ (fun _ => 0) x j0 j1 j2 (e0.trans (Nat.zero_add _).symm) e1 e2 (wc_fresh t 0 2 2816 (by omega) _ rfl rfl x))
    · exact Eq.trans (by rfl) (du0V_eq m c t 2816 (by omega))
    · exact Eq.trans (by rfl) (back0 m c t 0 2816 (by omega))
  · exact (wcP m c t 0 1 2816 (by omega) _ _ _ (du0V_eq m c t 2816 (by omega)) (back1 m c t 0 2816 (by omega)) x).trans (wcT m c t 0 1 2816 (by omega) _ (fun _ => 0) x j0 j1 j2 (e0.trans (Nat.zero_add _).symm) e1 e2 (wc_fresh t 0 1 2816 (by omega) _ rfl rfl x))
  · exact (wcP m c t 0 0 2816 (by omega) _ _ _ (du0V_eq m c t 2816 (by omega)) (back2 m c t 0 2816 (by omega)) x).trans (wcT m c t 0 0 2816 (by omega) _ (fun _ => 0) x j0 j1 j2 (e0.trans (Nat.zero_add _).symm) (e1.trans (Nat.zero_add _).symm) e2 (wc_fresh t 0 0 2816 (by omega) _ rfl rfl x))
  · exact (wcP m c t 1 2 2560 (by omega) _ _ _ (du1V_eq m c t 2560 (by omega)) (back0 m c t 1 2560 (by omega)) x).trans (wcT m c t 1 2 2560 (by omega) _ (fun _ => 0) x j0 j1 j2 e0 e1 e2 (wc_fresh t 1 2 2560 (by omega) _ rfl rfl x))
  · exact (wcP m c t 1 1 2560 (by omega) _ _ _ (du1V_eq m c t 2560 (by omega)) (back1 m c t 1 2560 (by omega)) x).trans (wcT m c t 1 1 2560 (by omega) _ (fun _ => 0) x j0 j1 j2 e0 e1 e2 (wc_fresh t 1 1 2560 (by omega) _ rfl rfl x))
  · exact (wcP m c t 1 0 2560 (by omega) _ _ _ (du1V_eq m c t 2560 (by omega)) (back2 m c t 1 2560 (by omega)) x).trans (wcT m c t 1 0 2560 (by omega) _ (fun _ => 0) x j0 j1 j2 e0 (e1.trans (Nat.zero_add _).symm) e2 (wc_fresh t 1 0 2560 (by omega) _ rfl rfl x))
  · exact (wcP m c t 0 2 2560 (by omega) _ _ _ (du0V_eq m c t 2560 (by omega)) (back0 m c t 0 2560 (by omega)) x).trans (wcT m c t 0 2 2560 (by omega) _ (fun _ => 0) x j0 j1 j2 (e0.trans (Nat.zero_add _).symm) e1 e2 (wc_fresh t 0 2 2560 (by omega) _ rfl rfl x))
  · exact (wcP m c t 0 1 2560 (by omega) _ _ _ (du0V_eq m c t 2560 (by omega)) (back1 m c t 0 2560 (by omega)) x).trans (wcT m c t 0 1 2560 (by omega) _ (fun _ => 0) x j0 j1 j2 (e0.trans (Nat.zero_add _).symm) e1 e2 (wc_fresh t 0 1 2560 (by omega) _ rfl rfl x))
  · exact (wcP m c t 0 0 2560 (by omega) _ _ _ (du0V_eq m c t 2560 (by omega)) (back2 m c t 0 2560 (by omega)) x).trans (wcT m c t 0 0 2560 (by omega) _ (fun _ => 0) x j0 j1 j2 (e0.trans (Nat.zero_add _).symm) (e1.trans (Nat.zero_add _).symm) e2 (wc_fresh t 0 0 2560 (by omega) _ rfl rfl x))
  · exact (wcP m c t 1 2 2304 (by omega) _ _ _ (du1V_eq m c t 2304 (by omega)) (back0 m c t 1 2304 (by omega)) x).trans (wcT m c t 1 2 2304 (by omega) _ (fun _ => 0) x j0 j1 j2 e0 e1 e2 (wc_fresh t 1 2 2304 (by omega) _ rfl rfl x))
  · exact (wcP m c t 1 1 2304 (by omega) _ _ _ (du1V_eq m c t 2304 (by omega)) (back1 m c t 1 2304 (by omega)) x).trans (wcT m c t 1 1 2304 (by omega) _ (fun _ => 0) x j0 j1 j2 e0 e1 e2 (wc_fresh t 1 1 2304 (by omega) _ rfl rfl x))
  · exact (wcP m c t 1 0 2304 (by omega) _ _ _ (du1V_eq m c t 2304 (by omega)) (back2 m c t 1 2304 (by omega)) x).trans (wcT m c t 1 0 2304 (by omega) _ (fun _ => 0) x j0 j1 j2 e0 (e1.trans (Nat.zero_add _).symm) e2 (wc_fresh t 1 0 2304 (by omega) _ rfl rfl x))
  · exact (wcP m c t 0 2 2304 (by omega) _ _ _ (du0V_eq m c t 2304 (by omega)) (back0 m c t 0 2304 (by omega)) x).trans (wcT m c t 0 2 2304 (by omega) _ (fun _ => 0) x j0 j1 j2 (e0.trans (Nat.zero_add _).symm) e1 e2 (wc_fresh t 0 2 2304 (by omega) _ rfl rfl x))
  · exact (wcP m c t 0 1 2304 (by omega) _ _ _ (du0V_eq m c t 2304 (by omega)) (back1 m c t 0 2304 (by omega)) x).trans (wcT m c t 0 1 2304 (by omega) _ (fun _ => 0) x j0 j1 j2 (e0.trans (Nat.zero_add _).symm) e1 e2 (wc_fresh t 0 1 2304 (by omega) _ rfl rfl x))
  · exact (wcP m c t 0 0 2304 (by omega) _ _ _ (du0V_eq m c t 2304 (by omega)) (back2 m c t 0 2304 (by omega)) x).trans (wcT m c t 0 0 2304 (by omega) _ (fun _ => 0) x j0 j1 j2 (e0.trans (Nat.zero_add _).symm) (e1.trans (Nat.zero_add _).symm) e2 (wc_fresh t 0 0 2304 (by omega) _ rfl rfl x))
  · exact (wcP m c t 1 2 2048 (by omega) _ _ _ (du1V_eq m c t 2048 (by omega)) (back0 m c t 1 2048 (by omega)) x).trans (wcT m c t 1 2 2048 (by omega) _ (fun _ => 0) x j0 j1 j2 e0 e1 e2 (wc_fresh t 1 2 2048 (by omega) _ rfl rfl x))
  · exact (wcP m c t 1 1 2048 (by omega) _ _ _ (du1V_eq m c t 2048 (by omega)) (back1 m c t 1 2048 (by omega)) x).trans (wcT m c t 1 1 2048 (by omega) _ (fun _ => 0) x j0 j1 j2 e0 e1 e2 (wc_fresh t 1 1 2048 (by omega) _ rfl rfl x))
  · exact (wcP m c t 1 0 2048 (by omega) _ _ _ (du1V_eq m c t 2048 (by omega)) (back2 m c t 1 2048 (by omega)) x).trans (wcT m c t 1 0 2048 (by omega) _ (fun _ => 0) x j0 j1 j2 e0 (e1.trans (Nat.zero_add _).symm) e2 (wc_fresh t 1 0 2048 (by omega) _ rfl rfl x))
  · exact (wcP m c t 0 2 2048 (by omega) _ _ _ (du0V_eq m c t 2048 (by omega)) (back0 m c t 0 2048 (by omega)) x).trans (wcT m c t 0 2 2048 (by omega) _ (fun _ => 0) x j0 j1 j2 (e0.trans (Nat.zero_add _).symm) e1 e2 (wc_fresh t 0 2 2048 (by omega) _ rfl rfl x))
  · exact (wcP m c t 0 1 2048 (by omega) _ _ _ (du0V_eq m c t 2048 (by omega)) (back1 m c t 0 2048 (by omega)) x).trans (wcT m c t 0 1 2048 (by omega) _ (fun _ => 0) x j0 j1 j2 (e0.trans (Nat.zero_add _).symm) e1 e2 (wc_fresh t 0 1 2048 (by omega) _ rfl rfl x))
  · exact (wcP m c t 0 0 2048 (by omega) _ _ _ (du0V_eq m c t 2048 (by omega)) (back2 m c t 0 2048 (by omega)) x).trans (wcT m c t 0 0 2048 (by omega) _ (fun _ => 0) x j0 j1 j2 (e0.trans (Nat.zero_add _).symm) (e1.trans (Nat.zero_add _).symm) e2 (wc_fresh t 0 0 2048 (by omega) _ rfl rfl x))
  · exact (wcP m c t 1 2 1792 (by omega) _ _ _ (du1V_eq m c t 1792 (by omega)) (back0 m c t 1 1792 (by omega)) x).trans (wcT m c t 1 2 1792 (by omega) _ (fun _ => 0) x j0 j1 j2 e0 e1 e2 (wc_fresh t 1 2 1792 (by omega) _ rfl rfl x))
  · exact (wcP m c t 1 1 1792 (by omega) _ _ _ (du1V_eq m c t 1792 (by omega)) (back1 m c t 1 1792 (by omega)) x).trans (wcT m c t 1 1 1792 (by omega) _ (fun _ => 0) x j0 j1 j2 e0 e1 e2 (wc_fresh t 1 1 1792 (by omega) _ rfl rfl x))
  · exact (wcP m c t 1 0 1792 (by omega) _ _ _ (du1V_eq m c t 1792 (by omega)) (back2 m c t 1 1792 (by omega)) x).trans (wcT m c t 1 0 1792 (by omega) _ (fun _ => 0) x j0 j1 j2 e0 (e1.trans (Nat.zero_add _).symm) e2 (wc_fresh t 1 0 1792 (by omega) _ rfl rfl x))
  · exact (wcP m c t 0 2 1792 (by omega) _ _ _ (du0V_eq m c t 1792 (by omega)) (back0 m c t 0 1792 (by omega)) x).trans (wcT m c t 0 2 1792 (by omega) _ (fun _ => 0) x j0 j1 j2 (e0.trans (Nat.zero_add _).symm) e1 e2 (wc_fresh t 0 2 1792 (by omega) _ rfl rfl x))
  · exact (wcP m c t 0 1 1792 (by omega) _ _ _ (du0V_eq m c t 1792 (by omega)) (back1 m c t 0 1792 (by omega)) x).trans (wcT m c t 0 1 1792 (by omega) _ (fun _ => 0) x j0 j1 j2 (e0.trans (Nat.zero_add _).symm) e1 e2 (wc_fresh t 0 1 1792 (by omega) _ rfl rfl x))
  · exact (wcP m c t 0 0 1792 (by omega) _ _ _ (du0V_eq m c t 1792 (by omega)) (back2 m c t 0 1792 (by omega)) x).trans (wcT m c t 0 0 1792 (by omega) _ (fun _ => 0) x j0 j1 j2 (e0.trans (Nat.zero_add _).symm) (e1.trans (Nat.zero_add _).symm) e2 (wc_fresh t 0 0 1792 (by omega) _ rfl rfl x))
  · exact (wcP m c t 1 2 1536 (by omega) _ _ _ (du1V_eq m c t 1536 (by omega)) (back0 m c t 1 1536 (by omega)) x).trans (wcT m c t 1 2 1536 (by omega) _ (fun _ => 0) x j0 j1 j2 e0 e1 e2 (wc_fresh t 1 2 1536 (by omega) _ rfl rfl x))
  · exact (wcP m c t 1 1 1536 (by omega) _ _ _ (du1V_eq m c t 1536 (by omega)) (back1 m c t 1 1536 (by omega)) x).trans (wcT m c t 1 1 1536 (by omega) _ (fun _ => 0) x j0 j1 j2 e0 e1 e2 (wc_fresh t 1 1 1536 (by omega) _ rfl rfl x))
  · exact (wcP m c t 1 0 1536 (by omega) _ _ _ (du1V_eq m c t 1536 (by omega)) (back2 m c t 1 1536 (by omega)) x).trans (wcT m c t 1 0 1536 (by omega) _ (fun _ => 0) x j0 j1 j2 e0 (e1.trans (Nat.zero_add _).symm) e2 (wc_fresh t 1 0 1536 (by omega) _ rfl rfl x))
  · exact (wcP m c t 0 2 1536 (by omega) _ _ _ (du0V_eq m c t 1536 (by omega)) (back0 m c t 0 1536 (by omega)) x).trans (wcT m c t 0 2 1536 (by omega) _ (fun _ => 0) x j0 j1 j2 (e0.trans (Nat.zero_add _).symm) e1 e2 (wc_fresh t 0 2 1536 (by omega) _ rfl rfl x))
  · exact (wcP m c t 0 1 1536 (by omega) _ _ _ (du0V_eq m c t 1536 (by omega)) (back1 m c t 0 1536 (by omega)) x).trans (wcT m c t 0 1 1536 (by omega) _ (fun _ => 0) x j0 j1 j2 (e0.trans (Nat.zero_add _).symm) e1 e2 (wc_fresh t 0 1 1536 (by omega) _ rfl rfl x))
  · exact (wcP m c t 0 0 1536 (by omega) _ _ _ (du0V_eq m c t 1536 (by omega)) (back2 m c t 0 1536 (by omega)) x).trans (wcT m c t 0 0 1536 (by omega) _ (fun _ => 0) x j0 j1 j2 (e0.trans (Nat.zero_add _).symm) (e1.trans (Nat.zero_add _).symm) e2 (wc_fresh t 0 0 1536 (by omega) _ rfl rfl x))
  · exact (wcP m c t 1 2 1280 (by omega) _ _ _ (du1V_eq m c t 1280 (by omega)) (back0 m c t 1 1280 (by omega)) x).trans (wcT m c t 1 2 1280 (by omega) _ (fun _ => 0) x j0 j1 j2 e0 e1 e2 (wc_fresh t 1 2 1280 (by omega) _ rfl rfl x))
  · exact (wcP m c t 1 1 1280 (by omega) _ _ _ (du1V_eq m c t 1280 (by omega)) (back1 m c t 1 1280 (by omega)) x).trans (wcT m c t 1 1 1280 (by omega) _ (fun _ => 0) x j0 j1 j2 e0 e1 e2 (wc_fresh t 1 1 1280 (by omega) _ rfl rfl x))
  · exact (wcP m c t 1 0 1280 (by omega) _ _ _ (du1V_eq m c t 1280 (by omega)) (back2 m c t 1 1280 (by omega)) x).trans (wcT m c t 1 0 1280 (by omega) _ (fun _ => 0) x j0 j1 j2 e0 (e1.trans (Nat.zero_add _).symm) e2 (wc_fresh t 1 0 1280 (by omega) _ rfl rfl x))
  · exact (wcP m c t 0 2 1280 (by omega) _ _ _ (du0V_eq m c t 1280 (by omega)) (back0 m c t 0 1280 (by omega)) x).trans (wcT m c t 0 2 1280 (by omega) _ (fun _ => 0) x j0 j1 j2 (e0.trans (Nat.zero_add _).symm) e1 e2 (wc_fresh t 0 2 1280 (by omega) _ rfl rfl x))
  · exact (wcP m c t 0 1 1280 (by omega) _ _ _ (du0V_eq m c t 1280 (by omega)) (back1 m c t 0 1280 (by omega)) x).trans (wcT m c t 0 1 1280 (by omega) _ (fun _ => 0) x j0 j1 j2 (e0.trans (Nat.zero_add _).symm) e1 e2 (wc_fresh t 0 1 1280 (by omega) _ rfl rfl x))
  · exact (wcP m c t 0 0 1280 (by omega) _ _ _ (du0V_eq m c t 1280 (by omega)) (back2 m c t 0 1280 (by omega)) x).trans (wcT m c t 0 0 1280 (by omega) _ (fun _ => 0) x j0 j1 j2 (e0.trans (Nat.zero_add _).symm) (e1.trans (Nat.zero_add _).symm) e2 (wc_fresh t 0 0 1280 (by omega) _ rfl rfl x))
  · exact (wcP m c t 1 2 1024 (by omega) _ _ _ (du1V_eq m c t 1024 (by omega)) (back0 m c t 1 1024 (by omega)) x).trans (wcT m c t 1 2 1024 (by omega) _ (fun _ => 0) x j0 j1 j2 e0 e1 e2 (wc_fresh t 1 2 1024 (by omega) _ rfl rfl x))
  · exact (wcP m c t 1 1 1024 (by omega) _ _ _ (du1V_eq m c t 1024 (by omega)) (back1 m c t 1 1024 (by omega)) x).trans (wcT m c t 1 1 1024 (by omega) _ (fun _ => 0) x j0 j1 j2 e0 e1 e2 (wc_fresh t 1 1 1024 (by omega) _ rfl rfl x))
  · exact (wcP m c t 1 0 1024 (by omega) _ _ _ (du1V_eq m c t 1024 (by omega)) (back2 m c t 1 1024 (by omega)) x).trans (wcT m c t 1 0 1024 (by omega) _ (fun _ => 0) x j0 j1 j2 e0 (e1.trans (Nat.zero_add _).symm) e2 (wc_fresh t 1 0 1024 (by omega) _ rfl rfl x))
  · exact (wcP m c t 0 2 1024 (by omega) _ _ _ (du0V_eq m c t 1024 (by omega)) (back0 m c t 0 1024 (by omega)) x).trans (wcT m c t 0 2 1024 (by omega) _ (fun _ => 0) x j0 j1 j2 (e0.trans (Nat.zero_add _).symm) e1 e2 (wc_fresh t 0 2 1024 (by omega) _ rfl rfl x))
  · exact (wcP m c t 0 1 1024 (by omega) _ _ _ (du0V_eq m c t 1024 (by omega)) (back1 m c t 0 1024 (by omega)) x).trans (wcT m c t 0 1 1024 (by omega) _ (fun _ => 0) x j0 j1 j2 (e0.trans (Nat.zero_add _).symm) e1 e2 (wc_fresh t 0 1 1024 (by omega) _ rfl rfl x))
  · exact (wcP m c t 0 0 1024 (by omega) _ _ _ (du0V_eq m c t 1024 (by omega)) (back2 m c t 0 1024 (by omega)) x).trans (wcT m c t 0 0 1024 (by omega) _ (fun _ => 0) x j0 j1 j2 (e0.trans (Nat.zero_add _).symm) (e1.trans (Nat.zero_add _).symm) e2 (wc_fresh t 0 0 1024 (by omega) _ rfl rfl x))
  · exact (wcP m c t 1 2 768 (by omega) _ _ _ (du1V_eq m c t 768 (by omega)) (back0 m c t 1 768 (by omega)) x).trans (wcT m c t 1 2 768 (by omega) _ (fun _ => 0) x j0 j1 j2 e0 e1 e2 (wc_fresh t 1 2 768 (by omega) _ rfl rfl x))
  · exact (wcP m c t 1 1 768 (by omega) _ _ _ (du1V_eq m c t 768 (by omega)) (back1 m c t 1 768 (by omega)) x).trans (wcT m c t 1 1 768 (by omega) _ (fun _ => 0) x j0 j1 j2 e0 e1 e2 (wc_fresh t 1 1 768 (by omega) _ rfl rfl x))
  · exact (wcP m c t 1 0 768 (by omega) _ _ _ (du1V_eq m c t 768 (by omega)) (back2 m c t 1 768 (by omega)) x).trans (wcT m c t 1 0 768 (by omega) _ (fun _ => 0) x j0 j1 j2 e0 (e1.trans (Nat.zero_add _).symm) e2 (wc_fresh t 1 0 768 (by omega) _ rfl rfl x))
  · exact (wcP m c t 0 2 768 (by omega) _ _ _ (du0V_eq m c t 768 (by omega)) (back0 m c t 0 768 (by omega)) x).trans (wcT m c t 0 2 768 (by omega) _ (fun _ => 0) x j0 j1 j2 (e0.trans (Nat.zero_add _).symm) e1 e2 (wc_fresh t 0 2 768 (by omega) _ rfl rfl x))
  · unfold kernelRun0_A.sl.v850 kernelRun0_A.sl.v847 kernelRun0_A.sl.r_31 k0_pay151 kernelRun0_A.sl.v846 kernelRun0_A.sl.v845 kernelRun0_A.sl.v844
    refine (wcP m c t 0 1 768 (by omega) _ _ _ ?_ ?_ x).trans (wcT m c t 0 1 768 (by omega) _ (fun _ => 0) x j0 j1 j2 (e0.trans (Nat.zero_add _).symm) e1 e2 (wc_fresh t 0 1 768 (by omega) _ rfl rfl x))
    · exact Eq.trans (by rfl) (du0V_eq m c t 768 (by omega))
    · exact Eq.trans (by rfl) (back1 m c t 0 768 (by omega))
  · exact (wcP m c t 0 0 768 (by omega) _ _ _ (du0V_eq m c t 768 (by omega)) (back2 m c t 0 768 (by omega)) x).trans (wcT m c t 0 0 768 (by omega) _ (fun _ => 0) x j0 j1 j2 (e0.trans (Nat.zero_add _).symm) (e1.trans (Nat.zero_add _).symm) e2 (wc_fresh t 0 0 768 (by omega) _ rfl rfl x))
  · exact (wcP m c t 1 2 512 (by omega) _ _ _ (du1V_eq m c t 512 (by omega)) (back0 m c t 1 512 (by omega)) x).trans (wcT m c t 1 2 512 (by omega) _ (fun _ => 0) x j0 j1 j2 e0 e1 e2 (wc_fresh t 1 2 512 (by omega) _ rfl rfl x))
  · exact (wcP m c t 1 1 512 (by omega) _ _ _ (du1V_eq m c t 512 (by omega)) (back1 m c t 1 512 (by omega)) x).trans (wcT m c t 1 1 512 (by omega) _ (fun _ => 0) x j0 j1 j2 e0 e1 e2 (wc_fresh t 1 1 512 (by omega) _ rfl rfl x))
  · exact (wcP m c t 1 0 512 (by omega) _ _ _ (du1V_eq m c t 512 (by omega)) (back2 m c t 1 512 (by omega)) x).trans (wcT m c t 1 0 512 (by omega) _ (fun _ => 0) x j0 j1 j2 e0 (e1.trans (Nat.zero_add _).symm) e2 (wc_fresh t 1 0 512 (by omega) _ rfl rfl x))
  · exact (wcP m c t 0 2 512 (by omega) _ _ _ (du0V_eq m c t 512 (by omega)) (back0 m c t 0 512 (by omega)) x).trans (wcT m c t 0 2 512 (by omega) _ (fun _ => 0) x j0 j1 j2 (e0.trans (Nat.zero_add _).symm) e1 e2 (wc_fresh t 0 2 512 (by omega) _ rfl rfl x))
  · exact (wcP m c t 0 1 512 (by omega) _ _ _ (du0V_eq m c t 512 (by omega)) (back1 m c t 0 512 (by omega)) x).trans (wcT m c t 0 1 512 (by omega) _ (fun _ => 0) x j0 j1 j2 (e0.trans (Nat.zero_add _).symm) e1 e2 (wc_fresh t 0 1 512 (by omega) _ rfl rfl x))
  · exact (wcP m c t 0 0 512 (by omega) _ _ _ (du0V_eq m c t 512 (by omega)) (back2 m c t 0 512 (by omega)) x).trans (wcT m c t 0 0 512 (by omega) _ (fun _ => 0) x j0 j1 j2 (e0.trans (Nat.zero_add _).symm) (e1.trans (Nat.zero_add _).symm) e2 (wc_fresh t 0 0 512 (by omega) _ rfl rfl x))
  · exact (wcP m c t 1 2 256 (by omega) _ _ _ (du1V_eq m c t 256 (by omega)) (back0 m c t 1 256 (by omega)) x).trans (wcT m c t 1 2 256 (by omega) _ (fun _ => 0) x j0 j1 j2 e0 e1 e2 (wc_fresh t 1 2 256 (by omega) _ rfl rfl x))
  · exact (wcP m c t 1 1 256 (by omega) _ _ _ (du1V_eq m c t 256 (by omega)) (back1 m c t 1 256 (by omega)) x).trans (wcT m c t 1 1 256 (by omega) _ (fun _ => 0) x j0 j1 j2 e0 e1 e2 (wc_fresh t 1 1 256 (by omega) _ rfl rfl x))
  · exact (wcP m c t 1 0 256 (by omega) _ _ _ (du1V_eq m c t 256 (by omega)) (back2 m c t 1 256 (by omega)) x).trans (wcT m c t 1 0 256 (by omega) _ (fun _ => 0) x j0 j1 j2 e0 (e1.trans (Nat.zero_add _).symm) e2 (wc_fresh t 1 0 256 (by omega) _ rfl rfl x))
  · exact (wcP m c t 0 2 256 (by omega) _ _ _ (du0V_eq m c t 256 (by omega)) (back0 m c t 0 256 (by omega)) x).trans (wcT m c t 0 2 256 (by omega) _ (fun _ => 0) x j0 j1 j2 (e0.trans (Nat.zero_add _).symm) e1 e2 (wc_fresh t 0 2 256 (by omega) _ rfl rfl x))
  · exact (wcP m c t 0 1 256 (by omega) _ _ _ (du0V_eq m c t 256 (by omega)) (back1 m c t 0 256 (by omega)) x).trans (wcT m c t 0 1 256 (by omega) _ (fun _ => 0) x j0 j1 j2 (e0.trans (Nat.zero_add _).symm) e1 e2 (wc_fresh t 0 1 256 (by omega) _ rfl rfl x))
  · exact (wcP m c t 0 0 256 (by omega) _ _ _ (du0V_eq m c t 256 (by omega)) (back2 m c t 0 256 (by omega)) x).trans (wcT m c t 0 0 256 (by omega) _ (fun _ => 0) x j0 j1 j2 (e0.trans (Nat.zero_add _).symm) (e1.trans (Nat.zero_add _).symm) e2 (wc_fresh t 0 0 256 (by omega) _ rfl rfl x))
  · exact (wcP m c t 1 2 0 (by omega) _ _ _ (du1V_eq m c t 0 (by omega)) (back0 m c t 1 0 (by omega)) x).trans (wcT m c t 1 2 0 (by omega) _ (fun _ => 0) x j0 j1 j2 e0 e1 (e2.trans (Nat.zero_add _).symm) (wc_fresh t 1 2 0 (by omega) _ rfl rfl x))
  · exact (wcP m c t 1 1 0 (by omega) _ _ _ (du1V_eq m c t 0 (by omega)) (back1 m c t 1 0 (by omega)) x).trans (wcT m c t 1 1 0 (by omega) _ (fun _ => 0) x j0 j1 j2 e0 e1 (e2.trans (Nat.zero_add _).symm) (wc_fresh t 1 1 0 (by omega) _ rfl rfl x))
  · exact (wcP m c t 1 0 0 (by omega) _ _ _ (du1V_eq m c t 0 (by omega)) (back2 m c t 1 0 (by omega)) x).trans (wcT m c t 1 0 0 (by omega) _ (fun _ => 0) x j0 j1 j2 e0 (e1.trans (Nat.zero_add _).symm) (e2.trans (Nat.zero_add _).symm) (wc_fresh t 1 0 0 (by omega) _ rfl rfl x))
  · exact (wcP m c t 0 2 0 (by omega) _ _ _ (du0V_eq m c t 0 (by omega)) (back0 m c t 0 0 (by omega)) x).trans (wcT m c t 0 2 0 (by omega) _ (fun _ => 0) x j0 j1 j2 (e0.trans (Nat.zero_add _).symm) e1 (e2.trans (Nat.zero_add _).symm) (wc_fresh t 0 2 0 (by omega) _ rfl rfl x))
  · exact (wcP m c t 0 1 0 (by omega) _ _ _ (du0V_eq m c t 0 (by omega)) (back1 m c t 0 0 (by omega)) x).trans (wcT m c t 0 1 0 (by omega) _ (fun _ => 0) x j0 j1 j2 (e0.trans (Nat.zero_add _).symm) e1 (e2.trans (Nat.zero_add _).symm) (wc_fresh t 0 1 0 (by omega) _ rfl rfl x))
  · unfold kernelRun0_A.sl.v262 kernelRun0_A.sl.v259 kernelRun0_A.sl.r_9 k0_pay53 kernelRun0_A.sl.v258 kernelRun0_A.sl.v257 kernelRun0_A.sl.r_10 k0_pay54
    refine (wcP m c t 0 0 0 (by omega) _ _ _ ?_ ?_ x).trans (wcT m c t 0 0 0 (by omega) _ (fun _ => 0) x j0 j1 j2 (e0.trans (Nat.zero_add _).symm) (e1.trans (Nat.zero_add _).symm) (e2.trans (Nat.zero_add _).symm) (wc_fresh t 0 0 0 (by omega) _ rfl rfl x))
    · exact Eq.trans (by rfl) (du0V_eq m c t 0 (by omega))
    · exact Eq.trans (by rfl) (back2 m c t 0 0 (by omega))

set_option maxHeartbeats 16000000 in
/-- Every later point adds to the taps' sums. -/
theorem wc_next (c : Dev nD) (t : Fin cfg0.N) (h : ¬ t.val % 16 = 0) (j : S2x3x3072.Idx) :
    (outsAt0 m c t.val t.isLt).2.2.2.2.2.2.1 j = (show EReal from (outsAt0 m c (t.val - 1) (by omega)).2.2.2.2.2.2.1 j) + wcAdd m c t (j 0) (j 1) (j 2) := by
  rw [outsAt0_B m c t h]
  dsimp only
  unfold out0_B_19 kernelRun0_B
  dsimp only
  idx_vars j
  rw [View.read_writes_junk_eq_canon]
  canon_tiles x e
  all_goals
    change (j0 : ℕ) = _ at e0
    change (j1 : ℕ) = _ at e1
    change (j2 : ℕ) = _ at e2
  · exact (wcP m c t 1 2 2816 (by omega) _ _ _ (du1V_eq m c t 2816 (by omega)) (back0 m c t 1 2816 (by omega)) x).trans (wcT m c t 1 2 2816 (by omega) _ (outsAt0 m c (t.val - 1) _).2.2.2.2.2.2.1 x j0 j1 j2 e0 e1 e2 (load_at _ (hs0_19 t) _ (wcRect 1 2 2816 (by omega)) x))
  · exact (wcP m c t 1 1 2816 (by omega) _ _ _ (du1V_eq m c t 2816 (by omega)) (back1 m c t 1 2816 (by omega)) x).trans (wcT m c t 1 1 2816 (by omega) _ (outsAt0 m c (t.val - 1) _).2.2.2.2.2.2.1 x j0 j1 j2 e0 e1 e2 (load_at _ (hs0_19 t) _ (wcRect 1 1 2816 (by omega)) x))
  · exact (wcP m c t 1 0 2816 (by omega) _ _ _ (du1V_eq m c t 2816 (by omega)) (back2 m c t 1 2816 (by omega)) x).trans (wcT m c t 1 0 2816 (by omega) _ (outsAt0 m c (t.val - 1) _).2.2.2.2.2.2.1 x j0 j1 j2 e0 (e1.trans (Nat.zero_add _).symm) e2 (load_at _ (hs0_19 t) _ (wcRect 1 0 2816 (by omega)) x))
  · unfold k0_pay394 kernelRun0_B.sl.r_90 kernelRun0_B.sl.r_91 k0_pay392 k0_pay393
    refine (wcP m c t 0 2 2816 (by omega) _ _ _ ?_ ?_ x).trans (wcT m c t 0 2 2816 (by omega) _ (outsAt0 m c (t.val - 1) _).2.2.2.2.2.2.1 x j0 j1 j2 (e0.trans (Nat.zero_add _).symm) e1 e2 (load_at _ (hs0_19 t) _ (wcRect 0 2 2816 (by omega)) x))
    · exact Eq.trans (by rfl) (du0V_eq m c t 2816 (by omega))
    · exact Eq.trans (by rfl) (back0 m c t 0 2816 (by omega))
  · exact (wcP m c t 0 1 2816 (by omega) _ _ _ (du0V_eq m c t 2816 (by omega)) (back1 m c t 0 2816 (by omega)) x).trans (wcT m c t 0 1 2816 (by omega) _ (outsAt0 m c (t.val - 1) _).2.2.2.2.2.2.1 x j0 j1 j2 (e0.trans (Nat.zero_add _).symm) e1 e2 (load_at _ (hs0_19 t) _ (wcRect 0 1 2816 (by omega)) x))
  · exact (wcP m c t 0 0 2816 (by omega) _ _ _ (du0V_eq m c t 2816 (by omega)) (back2 m c t 0 2816 (by omega)) x).trans (wcT m c t 0 0 2816 (by omega) _ (outsAt0 m c (t.val - 1) _).2.2.2.2.2.2.1 x j0 j1 j2 (e0.trans (Nat.zero_add _).symm) (e1.trans (Nat.zero_add _).symm) e2 (load_at _ (hs0_19 t) _ (wcRect 0 0 2816 (by omega)) x))
  · exact (wcP m c t 1 2 2560 (by omega) _ _ _ (du1V_eq m c t 2560 (by omega)) (back0 m c t 1 2560 (by omega)) x).trans (wcT m c t 1 2 2560 (by omega) _ (outsAt0 m c (t.val - 1) _).2.2.2.2.2.2.1 x j0 j1 j2 e0 e1 e2 (load_at _ (hs0_19 t) _ (wcRect 1 2 2560 (by omega)) x))
  · exact (wcP m c t 1 1 2560 (by omega) _ _ _ (du1V_eq m c t 2560 (by omega)) (back1 m c t 1 2560 (by omega)) x).trans (wcT m c t 1 1 2560 (by omega) _ (outsAt0 m c (t.val - 1) _).2.2.2.2.2.2.1 x j0 j1 j2 e0 e1 e2 (load_at _ (hs0_19 t) _ (wcRect 1 1 2560 (by omega)) x))
  · exact (wcP m c t 1 0 2560 (by omega) _ _ _ (du1V_eq m c t 2560 (by omega)) (back2 m c t 1 2560 (by omega)) x).trans (wcT m c t 1 0 2560 (by omega) _ (outsAt0 m c (t.val - 1) _).2.2.2.2.2.2.1 x j0 j1 j2 e0 (e1.trans (Nat.zero_add _).symm) e2 (load_at _ (hs0_19 t) _ (wcRect 1 0 2560 (by omega)) x))
  · exact (wcP m c t 0 2 2560 (by omega) _ _ _ (du0V_eq m c t 2560 (by omega)) (back0 m c t 0 2560 (by omega)) x).trans (wcT m c t 0 2 2560 (by omega) _ (outsAt0 m c (t.val - 1) _).2.2.2.2.2.2.1 x j0 j1 j2 (e0.trans (Nat.zero_add _).symm) e1 e2 (load_at _ (hs0_19 t) _ (wcRect 0 2 2560 (by omega)) x))
  · exact (wcP m c t 0 1 2560 (by omega) _ _ _ (du0V_eq m c t 2560 (by omega)) (back1 m c t 0 2560 (by omega)) x).trans (wcT m c t 0 1 2560 (by omega) _ (outsAt0 m c (t.val - 1) _).2.2.2.2.2.2.1 x j0 j1 j2 (e0.trans (Nat.zero_add _).symm) e1 e2 (load_at _ (hs0_19 t) _ (wcRect 0 1 2560 (by omega)) x))
  · exact (wcP m c t 0 0 2560 (by omega) _ _ _ (du0V_eq m c t 2560 (by omega)) (back2 m c t 0 2560 (by omega)) x).trans (wcT m c t 0 0 2560 (by omega) _ (outsAt0 m c (t.val - 1) _).2.2.2.2.2.2.1 x j0 j1 j2 (e0.trans (Nat.zero_add _).symm) (e1.trans (Nat.zero_add _).symm) e2 (load_at _ (hs0_19 t) _ (wcRect 0 0 2560 (by omega)) x))
  · exact (wcP m c t 1 2 2304 (by omega) _ _ _ (du1V_eq m c t 2304 (by omega)) (back0 m c t 1 2304 (by omega)) x).trans (wcT m c t 1 2 2304 (by omega) _ (outsAt0 m c (t.val - 1) _).2.2.2.2.2.2.1 x j0 j1 j2 e0 e1 e2 (load_at _ (hs0_19 t) _ (wcRect 1 2 2304 (by omega)) x))
  · exact (wcP m c t 1 1 2304 (by omega) _ _ _ (du1V_eq m c t 2304 (by omega)) (back1 m c t 1 2304 (by omega)) x).trans (wcT m c t 1 1 2304 (by omega) _ (outsAt0 m c (t.val - 1) _).2.2.2.2.2.2.1 x j0 j1 j2 e0 e1 e2 (load_at _ (hs0_19 t) _ (wcRect 1 1 2304 (by omega)) x))
  · exact (wcP m c t 1 0 2304 (by omega) _ _ _ (du1V_eq m c t 2304 (by omega)) (back2 m c t 1 2304 (by omega)) x).trans (wcT m c t 1 0 2304 (by omega) _ (outsAt0 m c (t.val - 1) _).2.2.2.2.2.2.1 x j0 j1 j2 e0 (e1.trans (Nat.zero_add _).symm) e2 (load_at _ (hs0_19 t) _ (wcRect 1 0 2304 (by omega)) x))
  · exact (wcP m c t 0 2 2304 (by omega) _ _ _ (du0V_eq m c t 2304 (by omega)) (back0 m c t 0 2304 (by omega)) x).trans (wcT m c t 0 2 2304 (by omega) _ (outsAt0 m c (t.val - 1) _).2.2.2.2.2.2.1 x j0 j1 j2 (e0.trans (Nat.zero_add _).symm) e1 e2 (load_at _ (hs0_19 t) _ (wcRect 0 2 2304 (by omega)) x))
  · exact (wcP m c t 0 1 2304 (by omega) _ _ _ (du0V_eq m c t 2304 (by omega)) (back1 m c t 0 2304 (by omega)) x).trans (wcT m c t 0 1 2304 (by omega) _ (outsAt0 m c (t.val - 1) _).2.2.2.2.2.2.1 x j0 j1 j2 (e0.trans (Nat.zero_add _).symm) e1 e2 (load_at _ (hs0_19 t) _ (wcRect 0 1 2304 (by omega)) x))
  · exact (wcP m c t 0 0 2304 (by omega) _ _ _ (du0V_eq m c t 2304 (by omega)) (back2 m c t 0 2304 (by omega)) x).trans (wcT m c t 0 0 2304 (by omega) _ (outsAt0 m c (t.val - 1) _).2.2.2.2.2.2.1 x j0 j1 j2 (e0.trans (Nat.zero_add _).symm) (e1.trans (Nat.zero_add _).symm) e2 (load_at _ (hs0_19 t) _ (wcRect 0 0 2304 (by omega)) x))
  · exact (wcP m c t 1 2 2048 (by omega) _ _ _ (du1V_eq m c t 2048 (by omega)) (back0 m c t 1 2048 (by omega)) x).trans (wcT m c t 1 2 2048 (by omega) _ (outsAt0 m c (t.val - 1) _).2.2.2.2.2.2.1 x j0 j1 j2 e0 e1 e2 (load_at _ (hs0_19 t) _ (wcRect 1 2 2048 (by omega)) x))
  · exact (wcP m c t 1 1 2048 (by omega) _ _ _ (du1V_eq m c t 2048 (by omega)) (back1 m c t 1 2048 (by omega)) x).trans (wcT m c t 1 1 2048 (by omega) _ (outsAt0 m c (t.val - 1) _).2.2.2.2.2.2.1 x j0 j1 j2 e0 e1 e2 (load_at _ (hs0_19 t) _ (wcRect 1 1 2048 (by omega)) x))
  · exact (wcP m c t 1 0 2048 (by omega) _ _ _ (du1V_eq m c t 2048 (by omega)) (back2 m c t 1 2048 (by omega)) x).trans (wcT m c t 1 0 2048 (by omega) _ (outsAt0 m c (t.val - 1) _).2.2.2.2.2.2.1 x j0 j1 j2 e0 (e1.trans (Nat.zero_add _).symm) e2 (load_at _ (hs0_19 t) _ (wcRect 1 0 2048 (by omega)) x))
  · exact (wcP m c t 0 2 2048 (by omega) _ _ _ (du0V_eq m c t 2048 (by omega)) (back0 m c t 0 2048 (by omega)) x).trans (wcT m c t 0 2 2048 (by omega) _ (outsAt0 m c (t.val - 1) _).2.2.2.2.2.2.1 x j0 j1 j2 (e0.trans (Nat.zero_add _).symm) e1 e2 (load_at _ (hs0_19 t) _ (wcRect 0 2 2048 (by omega)) x))
  · exact (wcP m c t 0 1 2048 (by omega) _ _ _ (du0V_eq m c t 2048 (by omega)) (back1 m c t 0 2048 (by omega)) x).trans (wcT m c t 0 1 2048 (by omega) _ (outsAt0 m c (t.val - 1) _).2.2.2.2.2.2.1 x j0 j1 j2 (e0.trans (Nat.zero_add _).symm) e1 e2 (load_at _ (hs0_19 t) _ (wcRect 0 1 2048 (by omega)) x))
  · exact (wcP m c t 0 0 2048 (by omega) _ _ _ (du0V_eq m c t 2048 (by omega)) (back2 m c t 0 2048 (by omega)) x).trans (wcT m c t 0 0 2048 (by omega) _ (outsAt0 m c (t.val - 1) _).2.2.2.2.2.2.1 x j0 j1 j2 (e0.trans (Nat.zero_add _).symm) (e1.trans (Nat.zero_add _).symm) e2 (load_at _ (hs0_19 t) _ (wcRect 0 0 2048 (by omega)) x))
  · exact (wcP m c t 1 2 1792 (by omega) _ _ _ (du1V_eq m c t 1792 (by omega)) (back0 m c t 1 1792 (by omega)) x).trans (wcT m c t 1 2 1792 (by omega) _ (outsAt0 m c (t.val - 1) _).2.2.2.2.2.2.1 x j0 j1 j2 e0 e1 e2 (load_at _ (hs0_19 t) _ (wcRect 1 2 1792 (by omega)) x))
  · exact (wcP m c t 1 1 1792 (by omega) _ _ _ (du1V_eq m c t 1792 (by omega)) (back1 m c t 1 1792 (by omega)) x).trans (wcT m c t 1 1 1792 (by omega) _ (outsAt0 m c (t.val - 1) _).2.2.2.2.2.2.1 x j0 j1 j2 e0 e1 e2 (load_at _ (hs0_19 t) _ (wcRect 1 1 1792 (by omega)) x))
  · exact (wcP m c t 1 0 1792 (by omega) _ _ _ (du1V_eq m c t 1792 (by omega)) (back2 m c t 1 1792 (by omega)) x).trans (wcT m c t 1 0 1792 (by omega) _ (outsAt0 m c (t.val - 1) _).2.2.2.2.2.2.1 x j0 j1 j2 e0 (e1.trans (Nat.zero_add _).symm) e2 (load_at _ (hs0_19 t) _ (wcRect 1 0 1792 (by omega)) x))
  · exact (wcP m c t 0 2 1792 (by omega) _ _ _ (du0V_eq m c t 1792 (by omega)) (back0 m c t 0 1792 (by omega)) x).trans (wcT m c t 0 2 1792 (by omega) _ (outsAt0 m c (t.val - 1) _).2.2.2.2.2.2.1 x j0 j1 j2 (e0.trans (Nat.zero_add _).symm) e1 e2 (load_at _ (hs0_19 t) _ (wcRect 0 2 1792 (by omega)) x))
  · exact (wcP m c t 0 1 1792 (by omega) _ _ _ (du0V_eq m c t 1792 (by omega)) (back1 m c t 0 1792 (by omega)) x).trans (wcT m c t 0 1 1792 (by omega) _ (outsAt0 m c (t.val - 1) _).2.2.2.2.2.2.1 x j0 j1 j2 (e0.trans (Nat.zero_add _).symm) e1 e2 (load_at _ (hs0_19 t) _ (wcRect 0 1 1792 (by omega)) x))
  · exact (wcP m c t 0 0 1792 (by omega) _ _ _ (du0V_eq m c t 1792 (by omega)) (back2 m c t 0 1792 (by omega)) x).trans (wcT m c t 0 0 1792 (by omega) _ (outsAt0 m c (t.val - 1) _).2.2.2.2.2.2.1 x j0 j1 j2 (e0.trans (Nat.zero_add _).symm) (e1.trans (Nat.zero_add _).symm) e2 (load_at _ (hs0_19 t) _ (wcRect 0 0 1792 (by omega)) x))
  · exact (wcP m c t 1 2 1536 (by omega) _ _ _ (du1V_eq m c t 1536 (by omega)) (back0 m c t 1 1536 (by omega)) x).trans (wcT m c t 1 2 1536 (by omega) _ (outsAt0 m c (t.val - 1) _).2.2.2.2.2.2.1 x j0 j1 j2 e0 e1 e2 (load_at _ (hs0_19 t) _ (wcRect 1 2 1536 (by omega)) x))
  · exact (wcP m c t 1 1 1536 (by omega) _ _ _ (du1V_eq m c t 1536 (by omega)) (back1 m c t 1 1536 (by omega)) x).trans (wcT m c t 1 1 1536 (by omega) _ (outsAt0 m c (t.val - 1) _).2.2.2.2.2.2.1 x j0 j1 j2 e0 e1 e2 (load_at _ (hs0_19 t) _ (wcRect 1 1 1536 (by omega)) x))
  · exact (wcP m c t 1 0 1536 (by omega) _ _ _ (du1V_eq m c t 1536 (by omega)) (back2 m c t 1 1536 (by omega)) x).trans (wcT m c t 1 0 1536 (by omega) _ (outsAt0 m c (t.val - 1) _).2.2.2.2.2.2.1 x j0 j1 j2 e0 (e1.trans (Nat.zero_add _).symm) e2 (load_at _ (hs0_19 t) _ (wcRect 1 0 1536 (by omega)) x))
  · exact (wcP m c t 0 2 1536 (by omega) _ _ _ (du0V_eq m c t 1536 (by omega)) (back0 m c t 0 1536 (by omega)) x).trans (wcT m c t 0 2 1536 (by omega) _ (outsAt0 m c (t.val - 1) _).2.2.2.2.2.2.1 x j0 j1 j2 (e0.trans (Nat.zero_add _).symm) e1 e2 (load_at _ (hs0_19 t) _ (wcRect 0 2 1536 (by omega)) x))
  · exact (wcP m c t 0 1 1536 (by omega) _ _ _ (du0V_eq m c t 1536 (by omega)) (back1 m c t 0 1536 (by omega)) x).trans (wcT m c t 0 1 1536 (by omega) _ (outsAt0 m c (t.val - 1) _).2.2.2.2.2.2.1 x j0 j1 j2 (e0.trans (Nat.zero_add _).symm) e1 e2 (load_at _ (hs0_19 t) _ (wcRect 0 1 1536 (by omega)) x))
  · exact (wcP m c t 0 0 1536 (by omega) _ _ _ (du0V_eq m c t 1536 (by omega)) (back2 m c t 0 1536 (by omega)) x).trans (wcT m c t 0 0 1536 (by omega) _ (outsAt0 m c (t.val - 1) _).2.2.2.2.2.2.1 x j0 j1 j2 (e0.trans (Nat.zero_add _).symm) (e1.trans (Nat.zero_add _).symm) e2 (load_at _ (hs0_19 t) _ (wcRect 0 0 1536 (by omega)) x))
  · exact (wcP m c t 1 2 1280 (by omega) _ _ _ (du1V_eq m c t 1280 (by omega)) (back0 m c t 1 1280 (by omega)) x).trans (wcT m c t 1 2 1280 (by omega) _ (outsAt0 m c (t.val - 1) _).2.2.2.2.2.2.1 x j0 j1 j2 e0 e1 e2 (load_at _ (hs0_19 t) _ (wcRect 1 2 1280 (by omega)) x))
  · exact (wcP m c t 1 1 1280 (by omega) _ _ _ (du1V_eq m c t 1280 (by omega)) (back1 m c t 1 1280 (by omega)) x).trans (wcT m c t 1 1 1280 (by omega) _ (outsAt0 m c (t.val - 1) _).2.2.2.2.2.2.1 x j0 j1 j2 e0 e1 e2 (load_at _ (hs0_19 t) _ (wcRect 1 1 1280 (by omega)) x))
  · exact (wcP m c t 1 0 1280 (by omega) _ _ _ (du1V_eq m c t 1280 (by omega)) (back2 m c t 1 1280 (by omega)) x).trans (wcT m c t 1 0 1280 (by omega) _ (outsAt0 m c (t.val - 1) _).2.2.2.2.2.2.1 x j0 j1 j2 e0 (e1.trans (Nat.zero_add _).symm) e2 (load_at _ (hs0_19 t) _ (wcRect 1 0 1280 (by omega)) x))
  · exact (wcP m c t 0 2 1280 (by omega) _ _ _ (du0V_eq m c t 1280 (by omega)) (back0 m c t 0 1280 (by omega)) x).trans (wcT m c t 0 2 1280 (by omega) _ (outsAt0 m c (t.val - 1) _).2.2.2.2.2.2.1 x j0 j1 j2 (e0.trans (Nat.zero_add _).symm) e1 e2 (load_at _ (hs0_19 t) _ (wcRect 0 2 1280 (by omega)) x))
  · exact (wcP m c t 0 1 1280 (by omega) _ _ _ (du0V_eq m c t 1280 (by omega)) (back1 m c t 0 1280 (by omega)) x).trans (wcT m c t 0 1 1280 (by omega) _ (outsAt0 m c (t.val - 1) _).2.2.2.2.2.2.1 x j0 j1 j2 (e0.trans (Nat.zero_add _).symm) e1 e2 (load_at _ (hs0_19 t) _ (wcRect 0 1 1280 (by omega)) x))
  · exact (wcP m c t 0 0 1280 (by omega) _ _ _ (du0V_eq m c t 1280 (by omega)) (back2 m c t 0 1280 (by omega)) x).trans (wcT m c t 0 0 1280 (by omega) _ (outsAt0 m c (t.val - 1) _).2.2.2.2.2.2.1 x j0 j1 j2 (e0.trans (Nat.zero_add _).symm) (e1.trans (Nat.zero_add _).symm) e2 (load_at _ (hs0_19 t) _ (wcRect 0 0 1280 (by omega)) x))
  · exact (wcP m c t 1 2 1024 (by omega) _ _ _ (du1V_eq m c t 1024 (by omega)) (back0 m c t 1 1024 (by omega)) x).trans (wcT m c t 1 2 1024 (by omega) _ (outsAt0 m c (t.val - 1) _).2.2.2.2.2.2.1 x j0 j1 j2 e0 e1 e2 (load_at _ (hs0_19 t) _ (wcRect 1 2 1024 (by omega)) x))
  · exact (wcP m c t 1 1 1024 (by omega) _ _ _ (du1V_eq m c t 1024 (by omega)) (back1 m c t 1 1024 (by omega)) x).trans (wcT m c t 1 1 1024 (by omega) _ (outsAt0 m c (t.val - 1) _).2.2.2.2.2.2.1 x j0 j1 j2 e0 e1 e2 (load_at _ (hs0_19 t) _ (wcRect 1 1 1024 (by omega)) x))
  · exact (wcP m c t 1 0 1024 (by omega) _ _ _ (du1V_eq m c t 1024 (by omega)) (back2 m c t 1 1024 (by omega)) x).trans (wcT m c t 1 0 1024 (by omega) _ (outsAt0 m c (t.val - 1) _).2.2.2.2.2.2.1 x j0 j1 j2 e0 (e1.trans (Nat.zero_add _).symm) e2 (load_at _ (hs0_19 t) _ (wcRect 1 0 1024 (by omega)) x))
  · exact (wcP m c t 0 2 1024 (by omega) _ _ _ (du0V_eq m c t 1024 (by omega)) (back0 m c t 0 1024 (by omega)) x).trans (wcT m c t 0 2 1024 (by omega) _ (outsAt0 m c (t.val - 1) _).2.2.2.2.2.2.1 x j0 j1 j2 (e0.trans (Nat.zero_add _).symm) e1 e2 (load_at _ (hs0_19 t) _ (wcRect 0 2 1024 (by omega)) x))
  · exact (wcP m c t 0 1 1024 (by omega) _ _ _ (du0V_eq m c t 1024 (by omega)) (back1 m c t 0 1024 (by omega)) x).trans (wcT m c t 0 1 1024 (by omega) _ (outsAt0 m c (t.val - 1) _).2.2.2.2.2.2.1 x j0 j1 j2 (e0.trans (Nat.zero_add _).symm) e1 e2 (load_at _ (hs0_19 t) _ (wcRect 0 1 1024 (by omega)) x))
  · exact (wcP m c t 0 0 1024 (by omega) _ _ _ (du0V_eq m c t 1024 (by omega)) (back2 m c t 0 1024 (by omega)) x).trans (wcT m c t 0 0 1024 (by omega) _ (outsAt0 m c (t.val - 1) _).2.2.2.2.2.2.1 x j0 j1 j2 (e0.trans (Nat.zero_add _).symm) (e1.trans (Nat.zero_add _).symm) e2 (load_at _ (hs0_19 t) _ (wcRect 0 0 1024 (by omega)) x))
  · exact (wcP m c t 1 2 768 (by omega) _ _ _ (du1V_eq m c t 768 (by omega)) (back0 m c t 1 768 (by omega)) x).trans (wcT m c t 1 2 768 (by omega) _ (outsAt0 m c (t.val - 1) _).2.2.2.2.2.2.1 x j0 j1 j2 e0 e1 e2 (load_at _ (hs0_19 t) _ (wcRect 1 2 768 (by omega)) x))
  · exact (wcP m c t 1 1 768 (by omega) _ _ _ (du1V_eq m c t 768 (by omega)) (back1 m c t 1 768 (by omega)) x).trans (wcT m c t 1 1 768 (by omega) _ (outsAt0 m c (t.val - 1) _).2.2.2.2.2.2.1 x j0 j1 j2 e0 e1 e2 (load_at _ (hs0_19 t) _ (wcRect 1 1 768 (by omega)) x))
  · exact (wcP m c t 1 0 768 (by omega) _ _ _ (du1V_eq m c t 768 (by omega)) (back2 m c t 1 768 (by omega)) x).trans (wcT m c t 1 0 768 (by omega) _ (outsAt0 m c (t.val - 1) _).2.2.2.2.2.2.1 x j0 j1 j2 e0 (e1.trans (Nat.zero_add _).symm) e2 (load_at _ (hs0_19 t) _ (wcRect 1 0 768 (by omega)) x))
  · exact (wcP m c t 0 2 768 (by omega) _ _ _ (du0V_eq m c t 768 (by omega)) (back0 m c t 0 768 (by omega)) x).trans (wcT m c t 0 2 768 (by omega) _ (outsAt0 m c (t.val - 1) _).2.2.2.2.2.2.1 x j0 j1 j2 (e0.trans (Nat.zero_add _).symm) e1 e2 (load_at _ (hs0_19 t) _ (wcRect 0 2 768 (by omega)) x))
  · unfold kernelRun0_B.sl.v850 kernelRun0_B.sl.v847 kernelRun0_B.sl.r_31 k0_pay151 kernelRun0_B.sl.v846 kernelRun0_B.sl.v845 kernelRun0_B.sl.v844
    refine (wcP m c t 0 1 768 (by omega) _ _ _ ?_ ?_ x).trans (wcT m c t 0 1 768 (by omega) _ (outsAt0 m c (t.val - 1) _).2.2.2.2.2.2.1 x j0 j1 j2 (e0.trans (Nat.zero_add _).symm) e1 e2 (load_at _ (hs0_19 t) _ (wcRect 0 1 768 (by omega)) x))
    · exact Eq.trans (by rfl) (du0V_eq m c t 768 (by omega))
    · exact Eq.trans (by rfl) (back1 m c t 0 768 (by omega))
  · exact (wcP m c t 0 0 768 (by omega) _ _ _ (du0V_eq m c t 768 (by omega)) (back2 m c t 0 768 (by omega)) x).trans (wcT m c t 0 0 768 (by omega) _ (outsAt0 m c (t.val - 1) _).2.2.2.2.2.2.1 x j0 j1 j2 (e0.trans (Nat.zero_add _).symm) (e1.trans (Nat.zero_add _).symm) e2 (load_at _ (hs0_19 t) _ (wcRect 0 0 768 (by omega)) x))
  · exact (wcP m c t 1 2 512 (by omega) _ _ _ (du1V_eq m c t 512 (by omega)) (back0 m c t 1 512 (by omega)) x).trans (wcT m c t 1 2 512 (by omega) _ (outsAt0 m c (t.val - 1) _).2.2.2.2.2.2.1 x j0 j1 j2 e0 e1 e2 (load_at _ (hs0_19 t) _ (wcRect 1 2 512 (by omega)) x))
  · exact (wcP m c t 1 1 512 (by omega) _ _ _ (du1V_eq m c t 512 (by omega)) (back1 m c t 1 512 (by omega)) x).trans (wcT m c t 1 1 512 (by omega) _ (outsAt0 m c (t.val - 1) _).2.2.2.2.2.2.1 x j0 j1 j2 e0 e1 e2 (load_at _ (hs0_19 t) _ (wcRect 1 1 512 (by omega)) x))
  · exact (wcP m c t 1 0 512 (by omega) _ _ _ (du1V_eq m c t 512 (by omega)) (back2 m c t 1 512 (by omega)) x).trans (wcT m c t 1 0 512 (by omega) _ (outsAt0 m c (t.val - 1) _).2.2.2.2.2.2.1 x j0 j1 j2 e0 (e1.trans (Nat.zero_add _).symm) e2 (load_at _ (hs0_19 t) _ (wcRect 1 0 512 (by omega)) x))
  · exact (wcP m c t 0 2 512 (by omega) _ _ _ (du0V_eq m c t 512 (by omega)) (back0 m c t 0 512 (by omega)) x).trans (wcT m c t 0 2 512 (by omega) _ (outsAt0 m c (t.val - 1) _).2.2.2.2.2.2.1 x j0 j1 j2 (e0.trans (Nat.zero_add _).symm) e1 e2 (load_at _ (hs0_19 t) _ (wcRect 0 2 512 (by omega)) x))
  · exact (wcP m c t 0 1 512 (by omega) _ _ _ (du0V_eq m c t 512 (by omega)) (back1 m c t 0 512 (by omega)) x).trans (wcT m c t 0 1 512 (by omega) _ (outsAt0 m c (t.val - 1) _).2.2.2.2.2.2.1 x j0 j1 j2 (e0.trans (Nat.zero_add _).symm) e1 e2 (load_at _ (hs0_19 t) _ (wcRect 0 1 512 (by omega)) x))
  · exact (wcP m c t 0 0 512 (by omega) _ _ _ (du0V_eq m c t 512 (by omega)) (back2 m c t 0 512 (by omega)) x).trans (wcT m c t 0 0 512 (by omega) _ (outsAt0 m c (t.val - 1) _).2.2.2.2.2.2.1 x j0 j1 j2 (e0.trans (Nat.zero_add _).symm) (e1.trans (Nat.zero_add _).symm) e2 (load_at _ (hs0_19 t) _ (wcRect 0 0 512 (by omega)) x))
  · exact (wcP m c t 1 2 256 (by omega) _ _ _ (du1V_eq m c t 256 (by omega)) (back0 m c t 1 256 (by omega)) x).trans (wcT m c t 1 2 256 (by omega) _ (outsAt0 m c (t.val - 1) _).2.2.2.2.2.2.1 x j0 j1 j2 e0 e1 e2 (load_at _ (hs0_19 t) _ (wcRect 1 2 256 (by omega)) x))
  · exact (wcP m c t 1 1 256 (by omega) _ _ _ (du1V_eq m c t 256 (by omega)) (back1 m c t 1 256 (by omega)) x).trans (wcT m c t 1 1 256 (by omega) _ (outsAt0 m c (t.val - 1) _).2.2.2.2.2.2.1 x j0 j1 j2 e0 e1 e2 (load_at _ (hs0_19 t) _ (wcRect 1 1 256 (by omega)) x))
  · exact (wcP m c t 1 0 256 (by omega) _ _ _ (du1V_eq m c t 256 (by omega)) (back2 m c t 1 256 (by omega)) x).trans (wcT m c t 1 0 256 (by omega) _ (outsAt0 m c (t.val - 1) _).2.2.2.2.2.2.1 x j0 j1 j2 e0 (e1.trans (Nat.zero_add _).symm) e2 (load_at _ (hs0_19 t) _ (wcRect 1 0 256 (by omega)) x))
  · exact (wcP m c t 0 2 256 (by omega) _ _ _ (du0V_eq m c t 256 (by omega)) (back0 m c t 0 256 (by omega)) x).trans (wcT m c t 0 2 256 (by omega) _ (outsAt0 m c (t.val - 1) _).2.2.2.2.2.2.1 x j0 j1 j2 (e0.trans (Nat.zero_add _).symm) e1 e2 (load_at _ (hs0_19 t) _ (wcRect 0 2 256 (by omega)) x))
  · exact (wcP m c t 0 1 256 (by omega) _ _ _ (du0V_eq m c t 256 (by omega)) (back1 m c t 0 256 (by omega)) x).trans (wcT m c t 0 1 256 (by omega) _ (outsAt0 m c (t.val - 1) _).2.2.2.2.2.2.1 x j0 j1 j2 (e0.trans (Nat.zero_add _).symm) e1 e2 (load_at _ (hs0_19 t) _ (wcRect 0 1 256 (by omega)) x))
  · exact (wcP m c t 0 0 256 (by omega) _ _ _ (du0V_eq m c t 256 (by omega)) (back2 m c t 0 256 (by omega)) x).trans (wcT m c t 0 0 256 (by omega) _ (outsAt0 m c (t.val - 1) _).2.2.2.2.2.2.1 x j0 j1 j2 (e0.trans (Nat.zero_add _).symm) (e1.trans (Nat.zero_add _).symm) e2 (load_at _ (hs0_19 t) _ (wcRect 0 0 256 (by omega)) x))
  · exact (wcP m c t 1 2 0 (by omega) _ _ _ (du1V_eq m c t 0 (by omega)) (back0 m c t 1 0 (by omega)) x).trans (wcT m c t 1 2 0 (by omega) _ (outsAt0 m c (t.val - 1) _).2.2.2.2.2.2.1 x j0 j1 j2 e0 e1 (e2.trans (Nat.zero_add _).symm) (load_at _ (hs0_19 t) _ (wcRect 1 2 0 (by omega)) x))
  · exact (wcP m c t 1 1 0 (by omega) _ _ _ (du1V_eq m c t 0 (by omega)) (back1 m c t 1 0 (by omega)) x).trans (wcT m c t 1 1 0 (by omega) _ (outsAt0 m c (t.val - 1) _).2.2.2.2.2.2.1 x j0 j1 j2 e0 e1 (e2.trans (Nat.zero_add _).symm) (load_at _ (hs0_19 t) _ (wcRect 1 1 0 (by omega)) x))
  · exact (wcP m c t 1 0 0 (by omega) _ _ _ (du1V_eq m c t 0 (by omega)) (back2 m c t 1 0 (by omega)) x).trans (wcT m c t 1 0 0 (by omega) _ (outsAt0 m c (t.val - 1) _).2.2.2.2.2.2.1 x j0 j1 j2 e0 (e1.trans (Nat.zero_add _).symm) (e2.trans (Nat.zero_add _).symm) (load_at _ (hs0_19 t) _ (wcRect 1 0 0 (by omega)) x))
  · exact (wcP m c t 0 2 0 (by omega) _ _ _ (du0V_eq m c t 0 (by omega)) (back0 m c t 0 0 (by omega)) x).trans (wcT m c t 0 2 0 (by omega) _ (outsAt0 m c (t.val - 1) _).2.2.2.2.2.2.1 x j0 j1 j2 (e0.trans (Nat.zero_add _).symm) e1 (e2.trans (Nat.zero_add _).symm) (load_at _ (hs0_19 t) _ (wcRect 0 2 0 (by omega)) x))
  · exact (wcP m c t 0 1 0 (by omega) _ _ _ (du0V_eq m c t 0 (by omega)) (back1 m c t 0 0 (by omega)) x).trans (wcT m c t 0 1 0 (by omega) _ (outsAt0 m c (t.val - 1) _).2.2.2.2.2.2.1 x j0 j1 j2 (e0.trans (Nat.zero_add _).symm) e1 (e2.trans (Nat.zero_add _).symm) (load_at _ (hs0_19 t) _ (wcRect 0 1 0 (by omega)) x))
  · unfold kernelRun0_B.sl.v262 kernelRun0_B.sl.v259 kernelRun0_B.sl.r_9 k0_pay53 kernelRun0_B.sl.v258 kernelRun0_B.sl.v257 kernelRun0_B.sl.r_10 k0_pay54
    refine (wcP m c t 0 0 0 (by omega) _ _ _ ?_ ?_ x).trans (wcT m c t 0 0 0 (by omega) _ (outsAt0 m c (t.val - 1) _).2.2.2.2.2.2.1 x j0 j1 j2 (e0.trans (Nat.zero_add _).symm) (e1.trans (Nat.zero_add _).symm) (e2.trans (Nat.zero_add _).symm) (load_at _ (hs0_19 t) _ (wcRect 0 0 0 (by omega)) x))
    · exact Eq.trans (by rfl) (du0V_eq m c t 0 (by omega))
    · exact Eq.trans (by rfl) (back2 m c t 0 0 (by omega))

/-- The gradient of the taps. -/
theorem final19 (c : Dev nD) : (dats m 0 c).arrAt 19 (cfgs 0).N = fun j => HeadMath.dwc (args m c) (j 0) (j 1) (j 2) := by
  refine (dats m 0 c).arrAt_eq_of_covers 19 _ (by decide +kernel) fun t hf y => ?_
  blk_simp
  idx_vars y
  have e : (win0_19.blk t).view.emb (ix3 y0 y1 y2) = (ix3 y0 y1 y2) := by blk_ext [index_eq t]
  refine Eq.trans ?_ (congrArg (fun j : S2x3x3072.Idx => HeadMath.dwc (args m c) (j 0) (j 1) (j 2)) e.symm)
  have ht : t.val = 15 := by have := (flush0_19 t).mp hf; have := val_lt t; omega
  rw [after0_19, Pipeline.eq_sum_fin_of_reset_step_apply_of_flush (fun n h => (outsAt0 m c n h).2.2.2.2.2.2.1) 16 (fun _ => 0)
    (fun t j => wcAdd m c t (j 0) (j 1) (j 2)) (wc_first m c) (wc_next m c) t ((flush0_19 t).mp hf) _, zero_add]
  unfold wcAdd HeadMath.dwc
  refine Fin.sum_mul_add_congr fun s k hl => ?_
  exact congrArg (fun n => HeadMath.wcTerm (args m c) y0 y1 n y2) (Fin.ext (by simp only [ht]; omega))

end Cert.HeadIdeal.Hand
end
-- ==== Proof.HeadO.lean ====
module

public import proofs.«01_k».proof.Proof.HeadA
public import Idealize.ShloMosaic.Lib.Pipeline.ValueKit

/-! The gradient of the offsets, summed over the grid. -/

@[expose] public section

set_option maxRecDepth 16384

noncomputable section

namespace Cert.HeadIdeal.Hand

open Cert.HeadIdeal Cert.HeadIdeal.Gen Idealize.ShloMosaic Idealize.ShloMosaic.TcCoe Idealize.SL.Sem

variable (m : (ℓ : Loc nD τ sig) → Buf (Elt Ideal) ℓ)

set_option maxHeartbeats 16000000 in
/-- The first point starts the offsets' sums from zero. -/
theorem bc_first (c : Dev nD) (t : Fin cfg0.N) (h : t.val % 16 = 0) (j : S2x1x3072.Idx) :
    (outsAt0 m c t.val t.isLt).2.2.2.2.2.2.2 j = (0 : EReal) + bcAdd m c t (j 0) (j 2) := by
  rw [outsAt0_A m c t h]
  dsimp only
  unfold out0_A_20 kernelRun0_A
  dsimp only
  idx_vars j
  rw [View.read_writes_junk_eq_canon]
  unfold kernelRun0_A.sl.H20_24 kernelRun0_A.sl.H20_23 kernelRun0_A.sl.H20_22 kernelRun0_A.sl.H20_21 kernelRun0_A.sl.H20_20 kernelRun0_A.sl.H20_19 kernelRun0_A.sl.H20_18 kernelRun0_A.sl.H20_17 kernelRun0_A.sl.H20_16 kernelRun0_A.sl.H20_15 kernelRun0_A.sl.H20_14 kernelRun0_A.sl.H20_13 kernelRun0_A.sl.H20_12 kernelRun0_A.sl.H20_11 kernelRun0_A.sl.H20_10 kernelRun0_A.sl.H20_9 kernelRun0_A.sl.H20_8 kernelRun0_A.sl.H20_7 kernelRun0_A.sl.H20_6 kernelRun0_A.sl.H20_5 kernelRun0_A.sl.H20_4 kernelRun0_A.sl.H20_3 kernelRun0_A.sl.H20_2 kernelRun0_A.sl.H20_1
  rw [canon_dropLast _ _ (View.cover_of_tiled _ ![1, 1, 256] rfl _)]
  simp only [List.dropLast_cons₂, List.dropLast_singleton]
  canon_tiles x e
  all_goals
    change (j0 : ℕ) = _ at e0
    change (j2 : ℕ) = _ at e2
  · exact (bcP m c t 1 2816 (by omega) _ _ (du1V_eq m c t 2816 (by omega)) x).trans (bcT m c t 1 2816 (by omega) _ (fun _ => 0) x j0 j1 j2 e0 e2 (bc_fresh t 1 2816 (by omega) _ rfl rfl x))
  · exact (bcP m c t 0 2816 (by omega) _ _ (du0V_eq m c t 2816 (by omega)) x).trans (bcT m c t 0 2816 (by omega) _ (fun _ => 0) x j0 j1 j2 (e0.trans (Nat.zero_add _).symm) e2 (bc_fresh t 0 2816 (by omega) _ rfl rfl x))
  · exact (bcP m c t 1 2560 (by omega) _ _ (du1V_eq m c t 2560 (by omega)) x).trans (bcT m c t 1 2560 (by omega) _ (fun _ => 0) x j0 j1 j2 e0 e2 (bc_fresh t 1 2560 (by omega) _ rfl rfl x))
  · exact (bcP m c t 0 2560 (by omega) _ _ (du0V_eq m c t 2560 (by omega)) x).trans (bcT m c t 0 2560 (by omega) _ (fun _ => 0) x j0 j1 j2 (e0.trans (Nat.zero_add _).symm) e2 (bc_fresh t 0 2560 (by omega) _ rfl rfl x))
  · exact (bcP m c t 1 2304 (by omega) _ _ (du1V_eq m c t 2304 (by omega)) x).trans (bcT m c t 1 2304 (by omega) _ (fun _ => 0) x j0 j1 j2 e0 e2 (bc_fresh t 1 2304 (by omega) _ rfl rfl x))
  · unfold kernelRun0_A.sl.v1990 kernelRun0_A.sl.v1987 kernelRun0_A.sl.r_61 kernelRun0_A.sl.r_62 k0_pay327 k0_pay328
    refine (bcP m c t 0 2304 (by omega) _ _ ?_ x).trans (bcT m c t 0 2304 (by omega) _ (fun _ => 0) x j0 j1 j2 (e0.trans (Nat.zero_add _).symm) e2 (bc_fresh t 0 2304 (by omega) _ rfl rfl x))
    exact Eq.trans (by rfl) (du0V_eq m c t 2304 (by omega))
  · exact (bcP m c t 1 2048 (by omega) _ _ (du1V_eq m c t 2048 (by omega)) x).trans (bcT m c t 1 2048 (by omega) _ (fun _ => 0) x j0 j1 j2 e0 e2 (bc_fresh t 1 2048 (by omega) _ rfl rfl x))
  · exact (bcP m c t 0 2048 (by omega) _ _ (du0V_eq m c t 2048 (by omega)) x).trans (bcT m c t 0 2048 (by omega) _ (fun _ => 0) x j0 j1 j2 (e0.trans (Nat.zero_add _).symm) e2 (bc_fresh t 0 2048 (by omega) _ rfl rfl x))
  · exact (bcP m c t 1 1792 (by omega) _ _ (du1V_eq m c t 1792 (by omega)) x).trans (bcT m c t 1 1792 (by omega) _ (fun _ => 0) x j0 j1 j2 e0 e2 (bc_fresh t 1 1792 (by omega) _ rfl rfl x))
  · exact (bcP m c t 0 1792 (by omega) _ _ (du0V_eq m c t 1792 (by omega)) x).trans (bcT m c t 0 1792 (by omega) _ (fun _ => 0) x j0 j1 j2 (e0.trans (Nat.zero_add _).symm) e2 (bc_fresh t 0 1792 (by omega) _ rfl rfl x))
  · exact (bcP m c t 1 1536 (by omega) _ _ (du1V_eq m c t 1536 (by omega)) x).trans (bcT m c t 1 1536 (by omega) _ (fun _ => 0) x j0 j1 j2 e0 e2 (bc_fresh t 1 1536 (by omega) _ rfl rfl x))
  · exact (bcP m c t 0 1536 (by omega) _ _ (du0V_eq m c t 1536 (by omega)) x).trans (bcT m c t 0 1536 (by omega) _ (fun _ => 0) x j0 j1 j2 (e0.trans (Nat.zero_add _).symm) e2 (bc_fresh t 0 1536 (by omega) _ rfl rfl x))
  · exact (bcP m c t 1 1280 (by omega) _ _ (du1V_eq m c t 1280 (by omega)) x).trans (bcT m c t 1 1280 (by omega) _ (fun _ => 0) x j0 j1 j2 e0 e2 (bc_fresh t 1 1280 (by omega) _ rfl rfl x))
  · exact (bcP m c t 0 1280 (by omega) _ _ (du0V_eq m c t 1280 (by omega)) x).trans (bcT m c t 0 1280 (by omega) _ (fun _ => 0) x j0 j1 j2 (e0.trans (Nat.zero_add _).symm) e2 (bc_fresh t 0 1280 (by omega) _ rfl rfl x))
  · exact (bcP m c t 1 1024 (by omega) _ _ (du1V_eq m c t 1024 (by omega)) x).trans (bcT m c t 1 1024 (by omega) _ (fun _ => 0) x j0 j1 j2 e0 e2 (bc_fresh t 1 1024 (by omega) _ rfl rfl x))
  · exact (bcP m c t 0 1024 (by omega) _ _ (du0V_eq m c t 1024 (by omega)) x).trans (bcT m c t 0 1024 (by omega) _ (fun _ => 0) x j0 j1 j2 (e0.trans (Nat.zero_add _).symm) e2 (bc_fresh t 0 1024 (by omega) _ rfl rfl x))
  · exact (bcP m c t 1 768 (by omega) _ _ (du1V_eq m c t 768 (by omega)) x).trans (bcT m c t 1 768 (by omega) _ (fun _ => 0) x j0 j1 j2 e0 e2 (bc_fresh t 1 768 (by omega) _ rfl rfl x))
  · exact (bcP m c t 0 768 (by omega) _ _ (du0V_eq m c t 768 (by omega)) x).trans (bcT m c t 0 768 (by omega) _ (fun _ => 0) x j0 j1 j2 (e0.trans (Nat.zero_add _).symm) e2 (bc_fresh t 0 768 (by omega) _ rfl rfl x))
  · exact (bcP m c t 1 512 (by omega) _ _ (du1V_eq m c t 512 (by omega)) x).trans (bcT m c t 1 512 (by omega) _ (fun _ => 0) x j0 j1 j2 e0 e2 (bc_fresh t 1 512 (by omega) _ rfl rfl x))
  · exact (bcP m c t 0 512 (by omega) _ _ (du0V_eq m c t 512 (by omega)) x).trans (bcT m c t 0 512 (by omega) _ (fun _ => 0) x j0 j1 j2 (e0.trans (Nat.zero_add _).symm) e2 (bc_fresh t 0 512 (by omega) _ rfl rfl x))
  · exact (bcP m c t 1 256 (by omega) _ _ (du1V_eq m c t 256 (by omega)) x).trans (bcT m c t 1 256 (by omega) _ (fun _ => 0) x j0 j1 j2 e0 e2 (bc_fresh t 1 256 (by omega) _ rfl rfl x))
  · exact (bcP m c t 0 256 (by omega) _ _ (du0V_eq m c t 256 (by omega)) x).trans (bcT m c t 0 256 (by omega) _ (fun _ => 0) x j0 j1 j2 (e0.trans (Nat.zero_add _).symm) e2 (bc_fresh t 0 256 (by omega) _ rfl rfl x))
  · exact (bcP m c t 1 0 (by omega) _ _ (du1V_eq m c t 0 (by omega)) x).trans (bcT m c t 1 0 (by omega) _ (fun _ => 0) x j0 j1 j2 e0 (e2.trans (Nat.zero_add _).symm) (bc_fresh t 1 0 (by omega) _ rfl rfl x))
  · exact (bcP m c t 0 0 (by omega) _ _ (du0V_eq m c t 0 (by omega)) x).trans (bcT m c t 0 0 (by omega) _ (fun _ => 0) x j0 j1 j2 (e0.trans (Nat.zero_add _).symm) (e2.trans (Nat.zero_add _).symm) (bc_fresh t 0 0 (by omega) _ rfl rfl x))

set_option maxHeartbeats 16000000 in
/-- Every later point adds to the offsets' sums. -/
theorem bc_next (c : Dev nD) (t : Fin cfg0.N) (h : ¬ t.val % 16 = 0) (j : S2x1x3072.Idx) :
    (outsAt0 m c t.val t.isLt).2.2.2.2.2.2.2 j = (show EReal from (outsAt0 m c (t.val - 1) (by omega)).2.2.2.2.2.2.2 j) + bcAdd m c t (j 0) (j 2) := by
  rw [outsAt0_B m c t h]
  dsimp only
  unfold out0_B_20 kernelRun0_B
  dsimp only
  idx_vars j
  rw [View.read_writes_junk_eq_canon]
  canon_tiles x e
  all_goals
    change (j0 : ℕ) = _ at e0
    change (j2 : ℕ) = _ at e2
  · exact (bcP m c t 1 2816 (by omega) _ _ (du1V_eq m c t 2816 (by omega)) x).trans (bcT m c t 1 2816 (by omega) _ (outsAt0 m c (t.val - 1) _).2.2.2.2.2.2.2 x j0 j1 j2 e0 e2 (load_at _ (hs0_20 t) _ (bcRect 1 2816 (by omega)) x))
  · exact (bcP m c t 0 2816 (by omega) _ _ (du0V_eq m c t 2816 (by omega)) x).trans (bcT m c t 0 2816 (by omega) _ (outsAt0 m c (t.val - 1) _).2.2.2.2.2.2.2 x j0 j1 j2 (e0.trans (Nat.zero_add _).symm) e2 (load_at _ (hs0_20 t) _ (bcRect 0 2816 (by omega)) x))
  · exact (bcP m c t 1 2560 (by omega) _ _ (du1V_eq m c t 2560 (by omega)) x).trans (bcT m c t 1 2560 (by omega) _ (outsAt0 m c (t.val - 1) _).2.2.2.2.2.2.2 x j0 j1 j2 e0 e2 (load_at _ (hs0_20 t) _ (bcRect 1 2560 (by omega)) x))
  · exact (bcP m c t 0 2560 (by omega) _ _ (du0V_eq m c t 2560 (by omega)) x).trans (bcT m c t 0 2560 (by omega) _ (outsAt0 m c (t.val - 1) _).2.2.2.2.2.2.2 x j0 j1 j2 (e0.trans (Nat.zero_add _).symm) e2 (load_at _ (hs0_20 t) _ (bcRect 0 2560 (by omega)) x))
  · exact (bcP m c t 1 2304 (by omega) _ _ (du1V_eq m c t 2304 (by omega)) x).trans (bcT m c t 1 2304 (by omega) _ (outsAt0 m c (t.val - 1) _).2.2.2.2.2.2.2 x j0 j1 j2 e0 e2 (load_at _ (hs0_20 t) _ (bcRect 1 2304 (by omega)) x))
  · unfold kernelRun0_B.sl.v1990 kernelRun0_B.sl.v1987 kernelRun0_B.sl.r_61 kernelRun0_B.sl.r_62 k0_pay327 k0_pay328
    refine (bcP m c t 0 2304 (by omega) _ _ ?_ x).trans (bcT m c t 0 2304 (by omega) _ (outsAt0 m c (t.val - 1) _).2.2.2.2.2.2.2 x j0 j1 j2 (e0.trans (Nat.zero_add _).symm) e2 (load_at _ (hs0_20 t) _ (bcRect 0 2304 (by omega)) x))
    exact Eq.trans (by rfl) (du0V_eq m c t 2304 (by omega))
  · exact (bcP m c t 1 2048 (by omega) _ _ (du1V_eq m c t 2048 (by omega)) x).trans (bcT m c t 1 2048 (by omega) _ (outsAt0 m c (t.val - 1) _).2.2.2.2.2.2.2 x j0 j1 j2 e0 e2 (load_at _ (hs0_20 t) _ (bcRect 1 2048 (by omega)) x))
  · exact (bcP m c t 0 2048 (by omega) _ _ (du0V_eq m c t 2048 (by omega)) x).trans (bcT m c t 0 2048 (by omega) _ (outsAt0 m c (t.val - 1) _).2.2.2.2.2.2.2 x j0 j1 j2 (e0.trans (Nat.zero_add _).symm) e2 (load_at _ (hs0_20 t) _ (bcRect 0 2048 (by omega)) x))
  · exact (bcP m c t 1 1792 (by omega) _ _ (du1V_eq m c t 1792 (by omega)) x).trans (bcT m c t 1 1792 (by omega) _ (outsAt0 m c (t.val - 1) _).2.2.2.2.2.2.2 x j0 j1 j2 e0 e2 (load_at _ (hs0_20 t) _ (bcRect 1 1792 (by omega)) x))
  · exact (bcP m c t 0 1792 (by omega) _ _ (du0V_eq m c t 1792 (by omega)) x).trans (bcT m c t 0 1792 (by omega) _ (outsAt0 m c (t.val - 1) _).2.2.2.2.2.2.2 x j0 j1 j2 (e0.trans (Nat.zero_add _).symm) e2 (load_at _ (hs0_20 t) _ (bcRect 0 1792 (by omega)) x))
  · exact (bcP m c t 1 1536 (by omega) _ _ (du1V_eq m c t 1536 (by omega)) x).trans (bcT m c t 1 1536 (by omega) _ (outsAt0 m c (t.val - 1) _).2.2.2.2.2.2.2 x j0 j1 j2 e0 e2 (load_at _ (hs0_20 t) _ (bcRect 1 1536 (by omega)) x))
  · exact (bcP m c t 0 1536 (by omega) _ _ (du0V_eq m c t 1536 (by omega)) x).trans (bcT m c t 0 1536 (by omega) _ (outsAt0 m c (t.val - 1) _).2.2.2.2.2.2.2 x j0 j1 j2 (e0.trans (Nat.zero_add _).symm) e2 (load_at _ (hs0_20 t) _ (bcRect 0 1536 (by omega)) x))
  · exact (bcP m c t 1 1280 (by omega) _ _ (du1V_eq m c t 1280 (by omega)) x).trans (bcT m c t 1 1280 (by omega) _ (outsAt0 m c (t.val - 1) _).2.2.2.2.2.2.2 x j0 j1 j2 e0 e2 (load_at _ (hs0_20 t) _ (bcRect 1 1280 (by omega)) x))
  · exact (bcP m c t 0 1280 (by omega) _ _ (du0V_eq m c t 1280 (by omega)) x).trans (bcT m c t 0 1280 (by omega) _ (outsAt0 m c (t.val - 1) _).2.2.2.2.2.2.2 x j0 j1 j2 (e0.trans (Nat.zero_add _).symm) e2 (load_at _ (hs0_20 t) _ (bcRect 0 1280 (by omega)) x))
  · exact (bcP m c t 1 1024 (by omega) _ _ (du1V_eq m c t 1024 (by omega)) x).trans (bcT m c t 1 1024 (by omega) _ (outsAt0 m c (t.val - 1) _).2.2.2.2.2.2.2 x j0 j1 j2 e0 e2 (load_at _ (hs0_20 t) _ (bcRect 1 1024 (by omega)) x))
  · exact (bcP m c t 0 1024 (by omega) _ _ (du0V_eq m c t 1024 (by omega)) x).trans (bcT m c t 0 1024 (by omega) _ (outsAt0 m c (t.val - 1) _).2.2.2.2.2.2.2 x j0 j1 j2 (e0.trans (Nat.zero_add _).symm) e2 (load_at _ (hs0_20 t) _ (bcRect 0 1024 (by omega)) x))
  · exact (bcP m c t 1 768 (by omega) _ _ (du1V_eq m c t 768 (by omega)) x).trans (bcT m c t 1 768 (by omega) _ (outsAt0 m c (t.val - 1) _).2.2.2.2.2.2.2 x j0 j1 j2 e0 e2 (load_at _ (hs0_20 t) _ (bcRect 1 768 (by omega)) x))
  · exact (bcP m c t 0 768 (by omega) _ _ (du0V_eq m c t 768 (by omega)) x).trans (bcT m c t 0 768 (by omega) _ (outsAt0 m c (t.val - 1) _).2.2.2.2.2.2.2 x j0 j1 j2 (e0.trans (Nat.zero_add _).symm) e2 (load_at _ (hs0_20 t) _ (bcRect 0 768 (by omega)) x))
  · exact (bcP m c t 1 512 (by omega) _ _ (du1V_eq m c t 512 (by omega)) x).trans (bcT m c t 1 512 (by omega) _ (outsAt0 m c (t.val - 1) _).2.2.2.2.2.2.2 x j0 j1 j2 e0 e2 (load_at _ (hs0_20 t) _ (bcRect 1 512 (by omega)) x))
  · exact (bcP m c t 0 512 (by omega) _ _ (du0V_eq m c t 512 (by omega)) x).trans (bcT m c t 0 512 (by omega) _ (outsAt0 m c (t.val - 1) _).2.2.2.2.2.2.2 x j0 j1 j2 (e0.trans (Nat.zero_add _).symm) e2 (load_at _ (hs0_20 t) _ (bcRect 0 512 (by omega)) x))
  · exact (bcP m c t 1 256 (by omega) _ _ (du1V_eq m c t 256 (by omega)) x).trans (bcT m c t 1 256 (by omega) _ (outsAt0 m c (t.val - 1) _).2.2.2.2.2.2.2 x j0 j1 j2 e0 e2 (load_at _ (hs0_20 t) _ (bcRect 1 256 (by omega)) x))
  · exact (bcP m c t 0 256 (by omega) _ _ (du0V_eq m c t 256 (by omega)) x).trans (bcT m c t 0 256 (by omega) _ (outsAt0 m c (t.val - 1) _).2.2.2.2.2.2.2 x j0 j1 j2 (e0.trans (Nat.zero_add _).symm) e2 (load_at _ (hs0_20 t) _ (bcRect 0 256 (by omega)) x))
  · exact (bcP m c t 1 0 (by omega) _ _ (du1V_eq m c t 0 (by omega)) x).trans (bcT m c t 1 0 (by omega) _ (outsAt0 m c (t.val - 1) _).2.2.2.2.2.2.2 x j0 j1 j2 e0 (e2.trans (Nat.zero_add _).symm) (load_at _ (hs0_20 t) _ (bcRect 1 0 (by omega)) x))
  · exact (bcP m c t 0 0 (by omega) _ _ (du0V_eq m c t 0 (by omega)) x).trans (bcT m c t 0 0 (by omega) _ (outsAt0 m c (t.val - 1) _).2.2.2.2.2.2.2 x j0 j1 j2 (e0.trans (Nat.zero_add _).symm) (e2.trans (Nat.zero_add _).symm) (load_at _ (hs0_20 t) _ (bcRect 0 0 (by omega)) x))

/-- The gradient of the offsets. -/
theorem final20 (c : Dev nD) : (dats m 0 c).arrAt 20 (cfgs 0).N = fun j => HeadMath.dbc (args m c) (j 0) (j 2) := by
  refine (dats m 0 c).arrAt_eq_of_covers 20 _ (by decide +kernel) fun t hf y => ?_
  blk_simp
  idx_vars y
  have e : (win0_20.blk t).view.emb (ix3 y0 y1 y2) = (ix3 y0 y1 y2) := by blk_ext [index_eq t]
  refine Eq.trans ?_ (congrArg (fun j : S2x1x3072.Idx => HeadMath.dbc (args m c) (j 0) (j 2)) e.symm)
  have ht : t.val = 15 := by have := (flush0_20 t).mp hf; have := val_lt t; omega
  rw [after0_20, Pipeline.eq_sum_fin_of_reset_step_apply_of_flush (fun n h => (outsAt0 m c n h).2.2.2.2.2.2.2) 16 (fun _ => 0)
    (fun t j => bcAdd m c t (j 0) (j 2)) (bc_first m c) (bc_next m c) t ((flush0_20 t).mp hf) _, zero_add]
  unfold bcAdd HeadMath.dbc
  refine Fin.sum_mul_add_congr fun s k hl => ?_
  exact congrArg (fun n => HeadMath.du (args m c) y0 n y2) (Fin.ext (by simp only [ht]; omega))

end Cert.HeadIdeal.Hand
end
-- ==== Proof.HeadR.lean ====
module

public import proofs.«01_k».proof.Proof.Gen.HeadRefIdeal.Run
public import Idealize.ShloMosaic.Lib.Pointwise
public import Idealize.ShloMosaic.Lib.Tactic.CleanTypes
public import proofs.«01_k».proof.Proof.Head
public import proofs.«01_k».proof.Proof.InProj
public import proofs.«01_k».proof.Proof.HostReduce

@[expose] public section

set_option maxRecDepth 100000

noncomputable section

/-! What the derivative of the forward lines of the loss leaves in its eight results. -/

namespace Cert.HeadRefIdeal.Hand

open Cert.HeadRefIdeal Cert.HeadRefIdeal.Gen Cert.HeadRefIdeal.Value Idealize.ShloMosaic Idealize.ShloMosaic.TcCoe Idealize.SL.Sem Idealize.ShloMosaic.StableHlo

variable (m : (ℓ : Loc nD τ sig) → Buf (Elt Ideal) ℓ)

/-- The arguments, by name. -/
abbrev args (c : Dev nD) : HeadMath.Arrays where
  x := m ((c.tc : Thread nD τ).loc main_arg0)
  u0 := m ((c.tc : Thread nD τ).loc main_arg1)
  wc := m ((c.tc : Thread nD τ).loc main_arg2)
  bc := m ((c.tc : Thread nD τ).loc main_arg3)
  p := m ((c.tc : Thread nD τ).loc main_arg4)
  tg := m ((c.tc : Thread nD τ).loc main_arg5)
  wd := m ((c.tc : Thread nD τ).loc main_arg6)
  wg := m ((c.tc : Thread nD τ).loc main_arg7)
  wp := m ((c.tc : Thread nD τ).loc main_arg8)
  gp := m ((c.tc : Thread nD τ).loc main_arg9)
  gf := m ((c.tc : Thread nD τ).loc main_arg10)

/-- The values so many tokens earlier, by halves. -/
theorem at19 (c : Dev nD) (h : Fin 2) (n : Fin 4096) (i : Fin 3072) (j : Fin 6144) (hj : j.val = h.val * 3072 + i.val) :
    res_main_v19 (launchContents m c) (ix3 0 n j) = HeadMath.before (args m c) h n i 0 := by
  obtain rfl : j = HeadMath.col h i := Fin.ext hj
  unfold res_main_v19 res_main_v4
  clean_types
  pointwise
  rfl
theorem at12 (c : Dev nD) (h : Fin 2) (n : Fin 4096) (i : Fin 3072) (j : Fin 6144) (hj : j.val = h.val * 3072 + i.val) :
    res_main_v12 (launchContents m c) (ix3 0 n j) = HeadMath.before (args m c) h n i 1 := by
  obtain rfl : j = HeadMath.col h i := Fin.ext hj
  unfold res_main_v12 res_main_v4
  clean_types
  pointwise
  rw [HeadMath.before]
  by_cases h1 : 1 ≤ n.val
  · rw [dif_neg (by omega), dif_pos h1]
    exact congrArg (fun k => (args m c).u0 (ix3 0 k (HeadMath.col h i))) (Fin.ext (by simp only; omega))
  · rw [dif_pos (by omega), dif_neg h1]
theorem at6 (c : Dev nD) (h : Fin 2) (n : Fin 4096) (i : Fin 3072) (j : Fin 6144) (hj : j.val = h.val * 3072 + i.val) :
    res_main_v6 (launchContents m c) (ix3 0 n j) = HeadMath.before (args m c) h n i 2 := by
  obtain rfl : j = HeadMath.col h i := Fin.ext hj
  unfold res_main_v6 res_main_v4
  clean_types
  pointwise
  rw [HeadMath.before]
  by_cases h1 : 2 ≤ n.val
  · rw [dif_neg (by omega), dif_pos h1]
  · rw [dif_pos (by omega), dif_neg h1]

/-- The convolution over time, by halves. -/
theorem at30 (c : Dev nD) (h : Fin 2) (n : Fin 4096) (i : Fin 3072) (j : Fin 6144) (hj : j.val = h.val * 3072 + i.val) :
    res_main_v30 (launchContents m c) (ix3 0 n j) = HeadMath.conv (args m c) h n i := by
  unfold res_main_v30 res_main_v22 res_main_v15 res_main_v9 res_main_v2
  clean_types
  pointwise [at19 m c h n i j hj, at12 m c h n i j hj, at6 m c h n i j hj]
  obtain rfl : j = HeadMath.col h i := Fin.ext hj
  show HeadMath.before (args m c) h n i 2 * (args m c).wc (ix3 0 0 (HeadMath.col h i)) + HeadMath.before (args m c) h n i 1 * (args m c).wc (ix3 0 1 (HeadMath.col h i))
    + HeadMath.before (args m c) h n i 0 * (args m c).wc (ix3 0 2 (HeadMath.col h i)) + (args m c).bc (ix2 0 (HeadMath.col h i)) = (args m c).bc (ix2 0 (HeadMath.col h i)) + (args m c).wc (ix3 0 2 (HeadMath.col h i)) * _ + (args m c).wc (ix3 0 0 (HeadMath.col h i)) * _ + (args m c).wc (ix3 0 1 (HeadMath.col h i)) * _
  generalize HeadMath.before (args m c) h n i 0 = b0
  generalize HeadMath.before (args m c) h n i 1 = b1
  generalize HeadMath.before (args m c) h n i 2 = b2
  ac_rfl

/-- The two halves of the convolution. -/
theorem at31 (c : Dev nD) (n : Fin 4096) (i : Fin 3072) : res_main_v31 (launchContents m c) (ix3 0 n i) = HeadMath.conv (args m c) 0 n i := by
  unfold res_main_v31
  clean_types
  pointwise
  exact at30 m c 0 n i _ (by simp)
theorem at32 (c : Dev nD) (n : Fin 4096) (i : Fin 3072) : res_main_v32 (launchContents m c) (ix3 0 n i) = HeadMath.conv (args m c) 1 n i := by
  unfold res_main_v32
  clean_types
  pointwise
  exact at30 m c 1 n i _ (by simp)

/-- The activation's tangent. -/
theorem at44 (c : Dev nD) (n : Fin 4096) (i : Fin 3072) :
    res_main_v44 (launchContents m c) (ix3 0 n i) = HeadMath.th (HeadMath.conv (args m c) 0 n i) := by
  unfold res_main_v44 res_main_v33
  clean_types
  pointwise [at31 m c, HeadMath.lit_C, HeadMath.lit_K]
  rw [mul_assoc]
  rfl
theorem at53 (c : Dev nD) (n : Fin 4096) (i : Fin 3072) :
    res_main_v53 (launchContents m c) (ix3 0 n i) = HeadMath.half * (1 + HeadMath.th (HeadMath.conv (args m c) 0 n i)) := by
  unfold res_main_v53
  clean_types
  pointwise [at44 m c, HeadMath.lit_half]

/-- The activation and the unit's product. -/
theorem at54 (c : Dev nD) (n : Fin 4096) (i : Fin 3072) :
    res_main_v54 (launchContents m c) (ix3 0 n i) = HeadMath.gel (HeadMath.conv (args m c) 0 n i) := by
  unfold res_main_v54
  clean_types
  pointwise [at53 m c, at31 m c]
  rw [HeadMath.gel, ← mul_assoc, mul_comm (HeadMath.conv _ _ _ _)]

/-- The state after the unit. -/
theorem at58 (c : Dev nD) (n : Fin 4096) (i : Fin 1024) : res_main_v58 (launchContents m c) (ix3 0 n i) = HeadMath.x3 (args m c) n i := by
  unfold res_main_v58 res_main_v55 res_main_v56
  clean_types
  pointwise [at54 m c, at32 m c]
  rfl

/-- The embedding's projection and its norm. -/
theorem at62 (c : Dev nD) (n : Fin 4096) (i : Fin 1024) : res_main_v62 (launchContents m c) (ix3 0 n i) = HeadMath.e0 (args m c) n i := by
  unfold res_main_v62 res_main_v59 res_main_v60 res_main_v0
  clean_types
  pointwise
  rfl
theorem at70 (c : Dev nD) (n : Fin 4096) : res_main_v70 (launchContents m c) (ix3 0 n 0)
    = Rms.meanSq ((1024 : ℝ) : EReal) ((8796093 / 8796093022208 : ℝ) : EReal) (fun k => HeadMath.e0 (args m c) n k) := by
  unfold res_main_v70
  clean_types
  pointwise [at62 m c, InProjMath.lit_channels, InProjMath.lit_eps]
  rfl
theorem at76 (c : Dev nD) (n : Fin 4096) (i : Fin 1024) : res_main_v76 (launchContents m c) (ix3 0 n i) = HeadMath.en (args m c) n i := by
  unfold res_main_v76 res_main_v71
  clean_types
  pointwise [at62 m c, at70 m c]
  rfl
theorem at79 (c : Dev nD) (n : Fin 4096) (i : Fin 1024) : res_main_v79 (launchContents m c) (ix3 0 n i) = HeadMath.e (args m c) n i := by
  unfold res_main_v79 res_main_v77
  clean_types
  pointwise [at76 m c]
  rfl

/-- The gate. -/
theorem at88 (c : Dev nD) (n : Fin 4096) (i : Fin 1024) : res_main_v88 (launchContents m c) (ix3 0 n i) = HeadMath.sg (args m c) n i := by
  unfold res_main_v88 res_main_v80 res_main_v0
  clean_types
  pointwise [at58 m c]
  rfl

/-- The last state, its norm, and the error. -/
theorem at93 (c : Dev nD) (n : Fin 4096) (i : Fin 1024) : res_main_v93 (launchContents m c) (ix3 0 n i) = HeadMath.x4 (args m c) n i := by
  unfold res_main_v93
  clean_types
  pointwise [at58 m c, at88 m c, at79 m c]
  rfl
theorem at100 (c : Dev nD) (n : Fin 4096) : res_main_v100 (launchContents m c) (ix3 0 n 0)
    = Rms.meanSq ((1024 : ℝ) : EReal) ((8796093 / 8796093022208 : ℝ) : EReal) (fun k => HeadMath.x4 (args m c) n k) := by
  unfold res_main_v100
  clean_types
  pointwise [at93 m c, InProjMath.lit_channels, InProjMath.lit_eps]
  rfl
theorem at106 (c : Dev nD) (n : Fin 4096) (i : Fin 1024) : res_main_v106 (launchContents m c) (ix3 0 n i) = HeadMath.un (args m c) n i := by
  unfold res_main_v106 res_main_v101
  clean_types
  pointwise [at93 m c, at100 m c]
  rfl
theorem at110 (c : Dev nD) (n : Fin 4096) (i : Fin 1024) : res_main_v110 (launchContents m c) (ix3 0 n i) = HeadMath.diff (args m c) n i := by
  unfold res_main_v110 res_main_v107
  clean_types
  pointwise [at106 m c]
  rfl

/-- The error's cotangent. -/
theorem at126 (c : Dev nD) (n : Fin 4096) (i : Fin 1024) : res_main_v126 (launchContents m c) (ix3 0 n i) = HeadMath.dy (args m c) n i := by
  unfold res_main_v126
  clean_types
  pointwise [at110 m c, InProjMath.lit_channels, HeadMath.lit_half, HeadMath.lit_two]
  first
    | exact HeadMath.dy_eq _
    | exact (congrArg (fun x => Ideal.div x _ * _) (mul_one _).symm).trans (HeadMath.dy_eq _)

/-- Back through the last norm. -/
theorem at132 (c : Dev nD) (n : Fin 4096) (i : Fin 1024) : res_main_v132 (launchContents m c) (ix3 0 n i) = HeadMath.dy (args m c) n i * (args m c).gf (ix1 i) := by
  unfold res_main_v132 res_main_v107
  clean_types
  pointwise [at126 m c]
theorem at148 (c : Dev nD) (n : Fin 4096) (i : Fin 1024) : res_main_v148 (launchContents m c) (ix3 0 n i) = HeadMath.dx4 (args m c) n i := by
  unfold res_main_v148 res_main_v144 res_main_v101
  clean_types
  pointwise [HostReduce.unit_ends, InProjMath.lit_channels, InProjMath.lit_neg_half, at93 m c, at100 m c, at132 m c]
  have e := Rms.bwd_eq (N := 1024) (e := 8796093 / 8796093022208) (by norm_num) (by norm_num) 0 (fun i => HeadMath.x4 (args m c) n i)
    (fun i => HeadMath.dy (args m c) n i * (args m c).gf (ix1 i)) i
  simp only [zero_add] at e
  exact e.symm

/-- Back through the gate. -/
theorem at149 (c : Dev nD) (n : Fin 4096) (i : Fin 1024) : res_main_v149 (launchContents m c) (ix3 0 n i) = HeadMath.de (args m c) n i := by
  unfold res_main_v149
  clean_types
  pointwise [at88 m c, at148 m c]
  exact mul_comm _ _
theorem at151 (c : Dev nD) (n : Fin 4096) (i : Fin 1024) : res_main_v151 (launchContents m c) (ix3 0 n i) = HeadMath.dgt (args m c) n i := by
  unfold res_main_v151
  clean_types
  pointwise [at88 m c, at148 m c, at79 m c]
  rfl
theorem at155 (c : Dev nD) (n : Fin 4096) (i : Fin 1024) : res_main_v155 (launchContents m c) (ix3 0 n i) = HeadMath.dx3 (args m c) n i := by
  unfold res_main_v155 res_main_v80
  clean_types
  pointwise [at151 m c, at148 m c]
  rfl
theorem at161 (c : Dev nD) (n : Fin 4096) (i : Fin 1024) : res_main_v161 (launchContents m c) (ix3 0 n i) = HeadMath.de (args m c) n i * (args m c).gp (ix2 0 i) := by
  unfold res_main_v161 res_main_v77
  clean_types
  pointwise [at149 m c]
theorem at177 (c : Dev nD) (n : Fin 4096) (i : Fin 1024) : res_main_v177 (launchContents m c) (ix3 0 n i) = HeadMath.de0 (args m c) n i := by
  unfold res_main_v177 res_main_v173 res_main_v71
  clean_types
  pointwise [HostReduce.unit_ends, InProjMath.lit_channels, InProjMath.lit_neg_half, at62 m c, at70 m c, at161 m c]
  have e := Rms.bwd_eq (N := 1024) (e := 8796093 / 8796093022208) (by norm_num) (by norm_num) 0 (fun i => HeadMath.e0 (args m c) n i)
    (fun i => HeadMath.de (args m c) n i * (args m c).gp (ix2 0 i)) i
  simp only [zero_add] at e
  exact e.symm

/-- Back through the unit. -/
theorem at186 (c : Dev nD) (n : Fin 4096) (i : Fin 3072) : res_main_v186 (launchContents m c) (ix3 0 n i) = HeadMath.df (args m c) n i := by
  unfold res_main_v186 res_main_v56
  clean_types
  pointwise [at155 m c]
  rfl
theorem at189 (c : Dev nD) (n : Fin 4096) (i : Fin 3072) :
    res_main_v189 (launchContents m c) (ix3 0 n i) = HeadMath.df (args m c) n i * HeadMath.conv (args m c) 1 n i := by
  unfold res_main_v189
  clean_types
  pointwise [at186 m c, at32 m c]
theorem at202 (c : Dev nD) (H : (args m c).Finite) (h : Fin 2) (n : Fin 4096) (i : Fin 3072) (j : Fin 6144) (hj : j.val = h.val * 3072 + i.val) :
    res_main_v202 (launchContents m c) (ix3 0 n j) = HeadMath.du (args m c) h n i := by
  unfold res_main_v202 res_main_v196 res_main_v33
  clean_types
  pointwise [at186 m c, at54 m c, at189 m c, at53 m c, at44 m c, at31 m c, HeadMath.lit_C, HeadMath.lit_K, HeadMath.lit_half, HeadMath.lit_three]
  rw [HeadMath.du]
  by_cases hk : h.val = 0
  · rw [dif_pos (by omega), if_pos hk, show (⟨j.val, by omega⟩ : Fin 3072) = i from Fin.ext (by simp only; omega)]
    exact HeadMath.dgel_eq ((H.df n i).mul (H.conv 1 n i)) (H.conv 0 n i)
  · rw [dif_neg (by omega), if_neg hk, show (⟨j.val - 3072, by omega⟩ : Fin 3072) = i from Fin.ext (by simp only; omega)]
    exact mul_comm _ _

/-- The taps' gradient: the three pieces fill one row each. -/
theorem taps (c : Dev nD) (H : (args m c).Finite) (h : Fin 2) (k : Fin 3) (i : Fin 3072) (j : Fin 6144) (hj : j.val = h.val * 3072 + i.val) :
    ((if _ : (2 ≤ k.val ∧ k.val - 2 < 1) ∧ j.val < 6144 then ∑ _x : Fin 1, ∑ n : Fin 4096, (show EReal from res_main_v19 (launchContents m c) (ix3 0 n j)) * (show EReal from res_main_v202 (launchContents m c) (ix3 0 n j)) else (0 : EReal))
      + (if _ : (1 ≤ k.val ∧ k.val - 1 < 1) ∧ j.val < 6144 then ∑ _x : Fin 1, ∑ n : Fin 4096, (show EReal from res_main_v12 (launchContents m c) (ix3 0 n j)) * (show EReal from res_main_v202 (launchContents m c) (ix3 0 n j)) else (0 : EReal)))
      + (if _ : k.val < 1 ∧ j.val < 6144 then ∑ _x : Fin 1, ∑ n : Fin 4096, (show EReal from res_main_v6 (launchContents m c) (ix3 0 n j)) * (show EReal from res_main_v202 (launchContents m c) (ix3 0 n j)) else (0 : EReal))
      = HeadMath.dwc (args m c) h k i := by
  have hlt := j.isLt
  simp only [Fin.sum_univ_one, at19 m c h _ i j hj, at12 m c h _ i j hj, at6 m c h _ i j hj, at202 m c H h _ i j hj]
  unfold HeadMath.dwc HeadMath.wcTerm
  fin_cases k
  · rw [dif_neg (by simp), dif_neg (by simp), dif_pos ⟨by simp, hlt⟩, zero_add, zero_add]
    exact Finset.sum_congr rfl fun n _ => mul_comm _ _
  · rw [dif_neg (by simp), dif_pos ⟨by simp, hlt⟩, dif_neg (by simp), zero_add, add_zero]
    exact Finset.sum_congr rfl fun n _ => mul_comm _ _
  · rw [dif_pos ⟨by simp, hlt⟩, dif_neg (by simp), dif_neg (by simp), add_zero, add_zero]
    exact Finset.sum_congr rfl fun n _ => mul_comm _ _

set_option maxHeartbeats 2000000 in
/-- The reference's eight results. -/
theorem run (H : ∀ c, (args m c).Finite) (g : Dev nD → PrngReg) : θ_run defs (onTc (τ := τ) (main (F := Ideal))) ⟨m, fun _ => 0, g⟩ fun r => ∀ c : Dev nD,
    (r.2.mem ((c.tc : Thread nD τ).loc main_v257) = fun j : S4096x1024.Idx => HeadMath.x3 (args m c) (j 0) (j 1))
      ∧ (r.2.mem ((c.tc : Thread nD τ).loc main_v259) = fun j : S4096x1024.Idx => HeadMath.dgt (args m c) (j 0) (j 1))
      ∧ (r.2.mem ((c.tc : Thread nD τ).loc main_v261) = fun j : S4096x1024.Idx => HeadMath.de0 (args m c) (j 0) (j 1))
      ∧ (r.2.mem ((c.tc : Thread nD τ).loc main_v262) = fun j : S4096x1024.Idx => HeadMath.dx3 (args m c) (j 0) (j 1))
      ∧ (r.2.mem ((c.tc : Thread nD τ).loc main_v263) = fun j : S2x4096x3072.Idx => HeadMath.du (args m c) (j 0) (j 1) (j 2))
      ∧ (r.2.mem ((c.tc : Thread nD τ).loc main_v244) = fun j : S8x1024.Idx => HeadMath.sums (args m c) (j 0) (j 1))
      ∧ (r.2.mem ((c.tc : Thread nD τ).loc main_v250) = fun j : S2x3x3072.Idx => HeadMath.dwc (args m c) (j 0) (j 1) (j 2))
      ∧ (r.2.mem ((c.tc : Thread nD τ).loc main_v255) = fun j : S2x1x3072.Idx => HeadMath.dbc (args m c) (j 0) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Value.run m g)
  have H := H c
  obtain ⟨h0, h1, h2, h3, h4, h5, h6, h7, hk⟩ := h c
  refine ⟨h0.trans (funext fun j => ?_), h1.trans (funext fun j => ?_), h2.trans (funext fun j => ?_), h3.trans (funext fun j => ?_), h4.trans (funext fun j => ?_),
    h5.trans (funext fun j => ?_), h6.trans (funext fun j => ?_), h7.trans (funext fun j => ?_), hk⟩ <;> idx_vars j <;> clear h0 h1 h2 h3 h4 h5 h6 h7 hk h
  · show _ = HeadMath.x3 (args m c) j0 j1
    clean_types
    pointwise [at58 m c]
  · show _ = HeadMath.dgt (args m c) j0 j1
    clean_types
    pointwise [at151 m c]
  · show _ = HeadMath.de0 (args m c) j0 j1
    clean_types
    pointwise [at177 m c]
  · show _ = HeadMath.dx3 (args m c) j0 j1
    clean_types
    pointwise [at155 m c]
  · show _ = HeadMath.du (args m c) j0 j1 j2
    clean_types
    pointwise
    by_cases hk : j0.val = 0
    · rw [dif_pos (by omega), show (⟨j0.val, by omega⟩ : Fin 1) = 0 from Subsingleton.elim _ _]
      refine at202 m c H j0 j1 j2 _ ?_
      simp
      omega
    · rw [dif_neg (by omega), show (⟨j0.val - 1, by omega⟩ : Fin 1) = 0 from Subsingleton.elim _ _]
      refine at202 m c H j0 j1 j2 _ ?_
      simp
      omega
  · show _ = HeadMath.sums (args m c) j0 j1
    unfold res_main_v111
    clean_types
    pointwise [HostReduce.columns, at110 m c, at126 m c, at106 m c, at149 m c, at76 m c]
    rw [HeadMath.sums]
    unfold HeadMath.sumTerm
    by_cases k0 : j0.val = 0
    · rw [dif_pos (by omega)]
      exact Finset.sum_congr rfl fun n _ => (if_pos k0).symm
    · by_cases k1 : j0.val = 1
      · rw [dif_neg (by omega), dif_pos (by omega), Fin.sum_univ_one]
        exact Finset.sum_congr rfl fun n _ => (mul_comm _ _).trans ((if_neg k0).trans (if_pos k1)).symm
      · by_cases k2 : j0.val = 2
        · rw [dif_neg (by omega), dif_neg (by omega), dif_pos (by omega), Fin.sum_univ_one]
          exact Finset.sum_congr rfl fun n _ => (mul_comm _ _).trans ((if_neg k0).trans ((if_neg k1).trans (if_pos k2))).symm
        · rw [dif_neg (by omega), dif_neg (by omega), dif_neg (by omega)]
          exact ((Finset.sum_congr rfl fun n _ => (if_neg k0).trans ((if_neg k1).trans (if_neg k2))).trans Finset.sum_const_zero).symm
  · show _ = HeadMath.dwc (args m c) j0 j1 j2
    unfold res_main_v240
    clean_types
    pointwise [HostReduce.columns]
    by_cases hk : j0.val < 1
    · rw [dif_pos hk]
      exact taps m c H j0 j1 j2 ⟨j2.val, by omega⟩ (by simp; omega)
    · rw [dif_neg hk]
      exact taps m c H j0 j1 j2 ⟨3072 + j2.val, by omega⟩ (by simp; omega)
  · show _ = HeadMath.dbc (args m c) j0 j2
    unfold res_main_v206
    clean_types
    pointwise [HostReduce.columns]
    by_cases hk : j0.val < 1
    · rw [dif_pos hk, Fin.sum_univ_one]
      exact Finset.sum_congr rfl fun n _ => at202 m c H j0 n j2 _ (by simp; omega)
    · rw [dif_neg hk, Fin.sum_univ_one]
      exact Finset.sum_congr rfl fun n _ => at202 m c H j0 n j2 _ (by simp; omega)
-- ==== Proof.HeadPre.lean ====
module

public import proofs.«01_k».proof.Defs
public import proofs.«01_k».proof.Proof.HeadB
public import proofs.«01_k».proof.Proof.Gen.HeadIdeal

@[expose] public section

noncomputable section

/-! What the stated precondition says: every entry of every argument is a real number. -/

namespace Cert.HeadPre

open Idealize.ShloMosaic Idealize.SL.Sem Cert.HeadMath

/-- The shapes the precondition's program broadcasts to. -/
theorem facts : Cert.Pre_finite.Facts :=
  ⟨by decide, by decide, by decide, by decide, by decide, by decide, by decide, by decide, by decide, by decide⟩

/-- An entry above the word of −∞ and below the word of +∞ is a real number. -/
theorem fin_of_words {x : EReal} (h : BitVec.and (FloatOps.cmpf (F := Ideal) (φ := .f32) .ogt x (FloatOps.ofBits (F := Ideal) .f32 0xFF800000#32)) (FloatOps.cmpf (F := Ideal) (φ := .f32) .olt x (FloatOps.ofBits (F := Ideal) .f32 0x7F800000#32)) = 1#1) : Fin' x := by
  have top : Ideal.ofBits .f32 0x7F800000#32 = ⊤ := by simp [Ideal.ofBits, Ideal.ieee]
  have bot : Ideal.ofBits .f32 0xFF800000#32 = ⊥ := by simp [Ideal.ofBits, Ideal.ieee]
  change BitVec.and (Ideal.cmp .ogt x (Ideal.ofBits .f32 0xFF800000#32)) (Ideal.cmp .olt x (Ideal.ofBits .f32 0x7F800000#32)) = 1#1 at h
  rw [top, bot] at h
  induction x with
  | bot => simp [Ideal.cmp] at h
  | top => simp [Ideal.cmp] at h
  | coe r => exact ⟨r, rfl⟩

set_option maxHeartbeats 4000000 in
/-- Under the precondition the argument arrays are finite. -/
theorem finite (m : (ℓ : Loc Cert.HeadIdeal.nD Cert.HeadIdeal.τ Cert.HeadIdeal.sig) → Buf (Elt Ideal) ℓ) (h : Cert.Pre_HeadIdeal_finite (hPre_finite := facts) m) (c : Dev Cert.HeadIdeal.nD) :
    (Cert.HeadIdeal.Hand.args m c).Finite := by
  obtain ⟨h0, h1, h2, h3, h4, h5, h6, h7, h8, h9, h10⟩ := h c
  exact ⟨fun j => fin_of_words (congrFun h0 j), fun j => fin_of_words (congrFun h1 j), fun j => fin_of_words (congrFun h2 j), fun j => fin_of_words (congrFun h3 j),
    fun j => fin_of_words (congrFun h4 j), fun j => fin_of_words (congrFun h5 j), fun j => fin_of_words (congrFun h6 j), fun j => fin_of_words (congrFun h7 j),
    fun j => fin_of_words (congrFun h8 j), fun j => fin_of_words (congrFun h9 j), fun j => fin_of_words (congrFun h10 j)⟩

end Cert.HeadPre

end
-- ==== Proof.HeadClaim.lean ====
module

public import proofs.«01_k».proof.Defs
public import proofs.«01_k».proof.Proof.HeadK
public import proofs.«01_k».proof.Proof.HeadD
public import proofs.«01_k».proof.Proof.HeadL
public import proofs.«01_k».proof.Proof.HeadT
public import proofs.«01_k».proof.Proof.HeadO
public import proofs.«01_k».proof.Proof.HeadR
public import proofs.«01_k».proof.Proof.HeadPre
public import Idealize.ShloMosaic.Lib.Claim
public import proofs.«01_k».proof.Proof.Gen.HeadIdeal
public import proofs.«01_k».proof.Proof.Gen.HeadRefIdeal

@[expose] public section

noncomputable section

namespace Cert.HeadClaim

open Idealize.ShloMosaic Idealize.SL.Sem

set_option maxHeartbeats 4000000 in
/-- Kernel and derivative of the forward lines leave the same eight arrays, at finite arguments. -/
theorem algebraic : Cert.algebraic_HeadIdeal_HeadRefIdeal_pre_finite (hHeadIdeal := Cert.HeadIdeal.Gen.facts) (hHeadRefIdeal := Cert.HeadRefIdeal.Gen.facts) (hPre_finite := HeadPre.facts) := by
  intro m g m' g' pre agree
  have e : ∀ c, Cert.HeadRefIdeal.Hand.args m' c = Cert.HeadIdeal.Hand.args m c := fun c => by
    obtain ⟨a0, a1, a2, a3, a4, a5, a6, a7, a8, a9, a10⟩ := agree c
    unfold Cert.HeadRefIdeal.Hand.args Cert.HeadIdeal.Hand.args
    congr 1
  refine ⟨fun c j => HeadMath.x3 (Cert.HeadIdeal.Hand.args m c) (j 0) (j 1),
    fun c j => HeadMath.dgt (Cert.HeadIdeal.Hand.args m c) (j 0) (j 1),
    fun c j => HeadMath.de0 (Cert.HeadIdeal.Hand.args m c) (j 0) (j 1),
    fun c j => HeadMath.dx3 (Cert.HeadIdeal.Hand.args m c) (j 0) (j 1),
    fun c j => HeadMath.du (Cert.HeadIdeal.Hand.args m c) (j 0) (j 1) (j 2),
    fun c j => HeadMath.sums (Cert.HeadIdeal.Hand.args m c) (j 0) (j 1),
    fun c j => HeadMath.dwc (Cert.HeadIdeal.Hand.args m c) (j 0) (j 1) (j 2),
    fun c j => HeadMath.dbc (Cert.HeadIdeal.Hand.args m c) (j 0) (j 2), ?_, ?_⟩
  · refine (θ_run _ _ _).mono (fun r h c => ?_) (θ_run_and (Cert.HeadIdeal.Gen.run_main m g) (Cert.HeadIdeal.Gen.unchanged m g))
    obtain ⟨h, k⟩ := h
    have h := (h c).1
    exact ⟨(h 13).trans (Cert.HeadIdeal.Hand.final13 m c), (h 14).trans (Cert.HeadIdeal.Hand.final14 m c), (h 15).trans (Cert.HeadIdeal.Hand.final15 m c), (h 16).trans (Cert.HeadIdeal.Hand.final16 m c), (h 17).trans (Cert.HeadIdeal.Hand.final17 m c), (h 18).trans (Cert.HeadIdeal.Hand.final18 m c), (h 19).trans (Cert.HeadIdeal.Hand.final19 m c), (h 20).trans (Cert.HeadIdeal.Hand.final20 m c), k c⟩
  · refine (θ_run _ _ _).mono (fun r h c => ?_) (Cert.HeadRefIdeal.Hand.run m' (fun c => (e c).symm ▸ HeadPre.finite m pre c) g')
    have h := h c
    rw [e c] at h
    exact h

end Cert.HeadClaim

end
-- ==== Proof.MixFrame.lean ====
module

public import proofs.«01_k».proof.Proof.Gen.Mix.Frame
public import proofs.«01_k».proof.Proof.Gen.Mix.Loops

@[expose] public section

set_option maxRecDepth 16384

noncomputable section

namespace Cert.Mix.Hand

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The memref's buffer, owned whole at some contents. -/
abbrev any (c : Dev nD) {sp : Space} {s : Shape} {e : EltTy} (r : Memref sig .tc sp s e) : sProp (MT nD τ sig Unit (Elt F) ℕ (UR sig nD τ) ℕ) :=
  iprop(∃ f, (r.view.loc (c : Thread nD τ) ↦[r.view.set]{fullShare} f))

variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .bf16) (harg5 : arg5.IsWhole)
  (arg6 : Memref sig .tc .vmem S4096x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4x128 .f32) (harg9 : arg9.IsWhole)
  (arg10 : Memref sig .tc .vmem S1x128 .f32) (harg10 : arg10.IsWhole)
  (arg11 : Memref sig .tc .vmem S1x128x128 .f32) (harg11 : arg11.IsWhole)
  (arg12 : Memref sig .tc .vmem S1x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S3x128 .f32) (harg16 : arg16.IsWhole)
  (arg17 : Memref sig .tc .vmem S5x4096x128 .bf16) (harg17 : arg17.IsWhole)
  (arg18 : Memref sig .tc .vmem S4x128 .f32) (harg18 : arg18.IsWhole)
  (arg19 : Memref sig .tc .vmem S1x128 .f32) (harg19 : arg19.IsWhole)
  (arg20 : Memref sig .tc .vmem S1x128x128 .f32) (harg20 : arg20.IsWhole)
  (arg21 : Memref sig .tc .vmem S1x128 .f32) (harg21 : arg21.IsWhole)
  (arg22 : Memref sig .tc .vmem S1x128x128 .f32) (harg22 : arg22.IsWhole)
  (arg23 : Memref sig .tc .vmem S1x128 .f32) (harg23 : arg23.IsWhole)
  (arg24 : Memref sig .tc .vmem S1x128 .f32) (harg24 : arg24.IsWhole)
  (arg25 : Memref sig .tc .vmem S3x128 .f32) (harg25 : arg25.IsWhole)
  (arg26 : Memref sig .tc .vmem S4096x128 .f32) (harg26 : arg26.IsWhole)
  (arg27 : Memref sig .tc .vmem S4096x128 .f32) (harg27 : arg27.IsWhole)
  (arg28 : Memref sig .tc .vmem S4096x128 .f32) (harg28 : arg28.IsWhole)
  (arg29 : Memref sig .tc .vmem S4096x128 .f32) (harg29 : arg29.IsWhole)
  (arg30 : Memref sig .tc .vmem S4096x128 .f32) (harg30 : arg30.IsWhole)
  (arg31 : Memref sig .tc .vmem S4096x128 .f32) (harg31 : arg31.IsWhole)
  (arg32 : Memref sig .tc .vmem S4096x128 .f32) (harg32 : arg32.IsWhole)

/-- All 32 buffers of the body, each at some contents. -/
abbrev bufs : sProp (MT nD τ sig Unit (Elt F) ℕ (UR sig nD τ) ℕ) :=
  iprop(any c arg1 ∗ any c arg2 ∗ any c arg3 ∗ any c arg4 ∗ any c arg5 ∗ any c arg6 ∗ any c arg7 ∗ any c arg8 ∗ any c arg9 ∗ any c arg10 ∗ any c arg11 ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32)

set_option maxHeartbeats 4000000 in
/-- One trip of loop 1. -/
theorem trip1 (𝒱 : Variants) (bd : Option 𝒱.V) (E : Set ℕ) (v10 : FVec F S1x128 .f32) (v13 v16 : FVec F S128x128 .bf16) (v25 : FVec F S1x128x128 .f32) (k : Fin k0_t1_loop.trips) :
    bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v10 v13 v16 v25 k PUnit.unit)
      (fun _ => bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32) := by
  have hk : k.val < 8 := Nat.lt_of_lt_of_le k.isLt k0_t1_abs.2.1
  unfold k0_t1_body
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
  sl_exec
  sl_step
  sl_close

/-- Loop 1 by the invariant that every buffer is owned at some contents. -/
@[sl_loop, instance_reducible] def inv1 (𝒱 : Variants) (bd : Option 𝒱.V) (E : Set ℕ) (v10 : FVec F S1x128 .f32) (v13 v16 : FVec F S128x128 .bf16) (v25 : FVec F S1x128x128 .f32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v10 v13 v16 v25 where
  inv := fun _ _ => bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32
  step := fun k _ => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 𝒱 bd E v10 v13 v16 v25 k

set_option maxHeartbeats 4000000 in
/-- One trip of loop 3. -/
theorem trip3 (𝒱 : Variants) (bd : Option 𝒱.V) (E : Set ℕ) (v10 : FVec F S1x128 .f32) (v13 v16 : FVec F S128x128 .bf16) (v25 : FVec F S1x128x128 .f32) (k : Fin k0_t3_loop.trips) :
    bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 ⊢ wp frame (wpE (defs₀ (F := F)) 𝒱 (c : Thread nD τ) bd) E
      (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v10 v13 v16 v25 k PUnit.unit)
      (fun _ => bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32) := by
  have hk : k.val < 4 := Nat.lt_of_lt_of_le k.isLt k0_t3_abs.2.1
  unfold k0_t3_body
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
  sl_exec
  sl_step
  sl_close

/-- Loop 3 by the invariant that every buffer is owned at some contents. -/
@[sl_loop, instance_reducible] def inv3 (𝒱 : Variants) (bd : Option 𝒱.V) (E : Set ℕ) (v10 : FVec F S1x128 .f32) (v13 v16 : FVec F S128x128 .bf16) (v25 : FVec F S1x128x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v10 v13 v16 v25 where
  inv := fun _ _ => bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32
  step := fun k _ => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 𝒱 bd E v10 v13 v16 v25 k

set_option maxHeartbeats 8000000 in
/-- The body. -/
theorem run (E : Set ℕ) :
    bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 ⊢ wp frame (wpE (defs₀ (F := F)) Variants.none (c : Thread nD τ) none) E
      (cc0_mixers_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32)
      (fun _ => bufs (F := F) c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32) := by
  rw [cc0_mixers_bwd_eq_skeleton]
  unfold cc0_mixers_bwd_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
  sl_exec
  sl_step
  sl_close

/-- A memref owned at named contents is owned at some. -/
theorem any_of_owns (c : Dev nD) {s : Shape} {e : EltTy} (r : Memref sig .tc .vmem s e) :
    (iprop(∃ X, owns (c : Thread nD τ) r fullShare X) : sProp (MT nD τ sig Unit (Elt F) ℕ (UR sig nD τ) ℕ)) ⊢ any c r := by
  unfold owns
  iintro ⟨%X, %f, -, H⟩
  iexists f
  iexact H

/-- And back: the contents read through the memref name it. -/
theorem owns_of_any (c : Dev nD) {s : Shape} {e : EltTy} (r : Memref sig .tc .vmem s e) :
    any c r ⊢ (iprop(∃ X, owns (c : Thread nD τ) r fullShare X) : sProp (MT nD τ sig Unit (Elt F) ℕ (UR sig nD τ) ℕ)) := by
  unfold owns
  iintro ⟨%f, H⟩
  iexists (r.view.read (Elt F) f)
  iexists f
  isplitr
  · ipureintro; rfl
  iexact H

/-- A whole scratch buffer as the launch holds it. -/
theorem any_whole (c : Dev nD) (b : Ref sig .tc) :
    (any c (Memref.whole b) : sProp (MT nD τ sig Unit (Elt F) ℕ (UR sig nD τ) ℕ)) = iprop(∃ f : Buf (Elt F) ((c : Thread nD τ).loc b), ((c : Thread nD τ).loc b) ↦{fullShare} f) := by
  simp only [any, Memref.view_whole, View.set_whole]

variable (m : (ℓ : Loc nD τ sig) → Buf (Elt F) ℓ) (ρ : Dev nD → PrngReg)

/-- The pipeline's proof data: the arrays at what the region finds, no output's contents named. -/
def dats (_ : Fin 1) (c : Dev nD) : Pipeline.Dat τ (Elt F) Unit ℕ (UR sig nD τ) ℕ cfg0 c where
  A w := V m c (Pipeline.arrRef spec0 w)
  after w t := Pipeline.Dat.unnamed w t
  Φ _ := Pipeline.ΦA spec0 c
  q w := Pipeline.shareOf spec0 w
  owed _ := 0

/-- The body table's row at point `t`'s slots is the body. -/
theorem row (t : Fin cfg0.N) :
    defs₀ (F := F) .tc cfg0.body (cfg0.bodyArgs t (cfg0.slots t)) = bodyAt0 t := by
  unfold defs₀; rw [Defs.onTc_tc]

set_option maxHeartbeats 4000000 in
/-- The body at any point, its 25 windows and 7 scratch buffers at some contents before and after. -/
theorem sound (c : Dev nD) (t : Fin cfg0.N) :
    (iprop((dats (F := F) m 0 c).Φ t.castSucc ∗ (dats (F := F) m 0 c).owesAt () t.castSucc ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X) ∗ (∃ X, owns (c : Thread nD τ) (win0_18.stage (cfg0.slots t 18)) fullShare X) ∗ (∃ X, owns (c : Thread nD τ) (win0_19.stage (cfg0.slots t 19)) fullShare X) ∗ (∃ X, owns (c : Thread nD τ) (win0_20.stage (cfg0.slots t 20)) fullShare X) ∗ (∃ X, owns (c : Thread nD τ) (win0_21.stage (cfg0.slots t 21)) fullShare X) ∗ (∃ X, owns (c : Thread nD τ) (win0_22.stage (cfg0.slots t 22)) fullShare X) ∗ (∃ X, owns (c : Thread nD τ) (win0_23.stage (cfg0.slots t 23)) fullShare X) ∗ (∃ X, owns (c : Thread nD τ) (win0_24.stage (cfg0.slots t 24)) fullShare X))
      : sProp (MT nD τ sig Unit (Elt F) ℕ (UR sig nD τ) ℕ))
      ⊢ wp frame (wpE (defs₀ (F := F)) Variants.none (c : Thread nD τ) none) Set.univ (bodyAt0 t)
        (fun _ => iprop((dats (F := F) m 0 c).Φ t.succ ∗ (dats (F := F) m 0 c).owesAt () t.succ ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X) ∗ (∃ X, owns (c : Thread nD τ) (win0_18.stage (cfg0.slots t 18)) fullShare X) ∗ (∃ X, owns (c : Thread nD τ) (win0_19.stage (cfg0.slots t 19)) fullShare X) ∗ (∃ X, owns (c : Thread nD τ) (win0_20.stage (cfg0.slots t 20)) fullShare X) ∗ (∃ X, owns (c : Thread nD τ) (win0_21.stage (cfg0.slots t 21)) fullShare X) ∗ (∃ X, owns (c : Thread nD τ) (win0_22.stage (cfg0.slots t 22)) fullShare X) ∗ (∃ X, owns (c : Thread nD τ) (win0_23.stage (cfg0.slots t 23)) fullShare X) ∗ (∃ X, owns (c : Thread nD τ) (win0_24.stage (cfg0.slots t 24)) fullShare X))) := by
  rw [show (dats (F := F) m 0 c).Φ t.succ = (dats (F := F) m 0 c).Φ t.castSucc from rfl,
    show (dats (F := F) m 0 c).owesAt () t.succ = (dats (F := F) m 0 c).owesAt () t.castSucc from rfl,
    show (dats (F := F) m 0 c).Φ t.castSucc = Pipeline.ΦA spec0 c from rfl]
  unfold Pipeline.ΦA
  rw [scopedRest0_eq]
  simp only [← any_whole]
  iintro ⟨⟨⟨S0, S1, S2, S3, S4, S5, S6⟩, HP⟩, Ho, H0, H1, H2, H3, H4, H5, H6, H7, H8, H9, H10, H11, H12, H13, H14, H15, H16, H17, H18, H19, H20, H21, H22, H23, H24⟩
  iapply (wp_wand_r frame (wpE (defs₀ (F := F)) Variants.none (c : Thread nD τ) none) Set.univ)
  isplitl [S0 S1 S2 S3 S4 S5 S6 H0 H1 H2 H3 H4 H5 H6 H7 H8 H9 H10 H11 H12 H13 H14 H15 H16 H17 H18 H19 H20 H21 H22 H23 H24]
  · iapply (run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ)
    isplitl [H0]; · iapply (any_of_owns c _); iexact H0
    isplitl [H1]; · iapply (any_of_owns c _); iexact H1
    isplitl [H2]; · iapply (any_of_owns c _); iexact H2
    isplitl [H3]; · iapply (any_of_owns c _); iexact H3
    isplitl [H4]; · iapply (any_of_owns c _); iexact H4
    isplitl [H5]; · iapply (any_of_owns c _); iexact H5
    isplitl [H6]; · iapply (any_of_owns c _); iexact H6
    isplitl [H7]; · iapply (any_of_owns c _); iexact H7
    isplitl [H8]; · iapply (any_of_owns c _); iexact H8
    isplitl [H9]; · iapply (any_of_owns c _); iexact H9
    isplitl [H10]; · iapply (any_of_owns c _); iexact H10
    isplitl [H11]; · iapply (any_of_owns c _); iexact H11
    isplitl [H12]; · iapply (any_of_owns c _); iexact H12
    isplitl [H13]; · iapply (any_of_owns c _); iexact H13
    isplitl [H14]; · iapply (any_of_owns c _); iexact H14
    isplitl [H15]; · iapply (any_of_owns c _); iexact H15
    isplitl [H16]; · iapply (any_of_owns c _); iexact H16
    isplitl [H17]; · iapply (any_of_owns c _); iexact H17
    isplitl [H18]; · iapply (any_of_owns c _); iexact H18
    isplitl [H19]; · iapply (any_of_owns c _); iexact H19
    isplitl [H20]; · iapply (any_of_owns c _); iexact H20
    isplitl [H21]; · iapply (any_of_owns c _); iexact H21
    isplitl [H22]; · iapply (any_of_owns c _); iexact H22
    isplitl [H23]; · iapply (any_of_owns c _); iexact H23
    isplitl [H24]; · iapply (any_of_owns c _); iexact H24
    isplitl [S0]; · iexact S0
    isplitl [S1]; · iexact S1
    isplitl [S2]; · iexact S2
    isplitl [S3]; · iexact S3
    isplitl [S4]; · iexact S4
    isplitl [S5]; · iexact S5
    iexact S6
  iintro %_ ⟨H0, H1, H2, H3, H4, H5, H6, H7, H8, H9, H10, H11, H12, H13, H14, H15, H16, H17, H18, H19, H20, H21, H22, H23, H24, S0, S1, S2, S3, S4, S5, S6⟩
  isplitl [S0 S1 S2 S3 S4 S5 S6 HP]
  · isplitr [HP]
    · isplitl [S0]; · iexact S0
      isplitl [S1]; · iexact S1
      isplitl [S2]; · iexact S2
      isplitl [S3]; · iexact S3
      isplitl [S4]; · iexact S4
      isplitl [S5]; · iexact S5
      iexact S6
    iexact HP
  isplitl [Ho]; · iexact Ho
  isplitl [H0]; · iapply (owns_of_any c _); iexact H0
  isplitl [H1]; · iapply (owns_of_any c _); iexact H1
  isplitl [H2]; · iapply (owns_of_any c _); iexact H2
  isplitl [H3]; · iapply (owns_of_any c _); iexact H3
  isplitl [H4]; · iapply (owns_of_any c _); iexact H4
  isplitl [H5]; · iapply (owns_of_any c _); iexact H5
  isplitl [H6]; · iapply (owns_of_any c _); iexact H6
  isplitl [H7]; · iapply (owns_of_any c _); iexact H7
  isplitl [H8]; · iapply (owns_of_any c _); iexact H8
  isplitl [H9]; · iapply (owns_of_any c _); iexact H9
  isplitl [H10]; · iapply (owns_of_any c _); iexact H10
  isplitl [H11]; · iapply (owns_of_any c _); iexact H11
  isplitl [H12]; · iapply (owns_of_any c _); iexact H12
  isplitl [H13]; · iapply (owns_of_any c _); iexact H13
  isplitl [H14]; · iapply (owns_of_any c _); iexact H14
  isplitl [H15]; · iapply (owns_of_any c _); iexact H15
  isplitl [H16]; · iapply (owns_of_any c _); iexact H16
  isplitl [H17]; · iapply (owns_of_any c _); iexact H17
  isplitl [H18]; · iapply (owns_of_any c _); iexact H18
  isplitl [H19]; · iapply (owns_of_any c _); iexact H19
  isplitl [H20]; · iapply (owns_of_any c _); iexact H20
  isplitl [H21]; · iapply (owns_of_any c _); iexact H21
  isplitl [H22]; · iapply (owns_of_any c _); iexact H22
  isplitl [H23]; · iapply (owns_of_any c _); iexact H23
  iapply (owns_of_any c _); iexact H24

/-- The library's body obligation with every window's contents forgotten. -/
theorem obligation (c : Dev nD) :
    Pipeline.BodyObligationLoose (dats (F := F) m 0 c) (defs₀ (F := F)) Variants.none () Set.univ (fun _ => true) := fun t => by
  simp only [bigSep_W0, row]
  exact triple_restated (sound m c t) rfl .rfl fun _ => .rfl

set_option backward.isDefEq.respectTransparency.types false in
/-- The run: every input array as it was, every counter at zero. -/
theorem ran : θ_run defs (onTc (τ := τ) (main (F := F))) (s₀ m ρ)
    (fun r => Pipeline.RDat.FramePost cfg0 (fun c => (dats m 0 c).toRForget fun _ => true) (V m) r ∧ r.2.sem = fun _ => 0) :=
  Pipeline.θ_run_frame_forget_shared cfgs (dats m) (0 : Fin 1) launch₀0 defs₀ Variants.none (fun _ => true) m ρ main
    (hbody := obligation m) (hq := fun _ _ _ => rfl)
    (howed := fun _ _ => rfl) (V := V m) (hmain := hmain m Variants.none) (hA := fun _ _ => rfl) (hΦ := fun _ _ => rfl)
    (Q' := _) (hQ' := fun _ h => h)

/-- THE FRAME: every argument ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => by
    have e : ∀ w : Fin 25, (spec0 w).isOut = false → r.2.mem ((spec0 w).arr.view.loc (c.tc : Thread nD τ)) = V m c (Pipeline.arrRef spec0 w) := fun w hw =>
      (congrFun (Pipeline.RDat.ArrAt_in (rd := (dats m 0 c).toRForget fun _ => true) w hw cfg0.N) _).mp ((h.1 c).1 w)
    exact ⟨(e 4 rfl).trans (V_main_arg0 m c), (e 5 rfl).trans (V_main_arg1 m c), (e 6 rfl).trans (V_main_arg2 m c), (e 7 rfl).trans (V_main_arg3 m c), (e 8 rfl).trans (V_main_arg4 m c), (e 9 rfl).trans (V_main_arg5 m c), (e 10 rfl).trans (V_main_arg6 m c), (e 11 rfl).trans (V_main_arg7 m c), (e 12 rfl).trans (V_main_arg8 m c), (e 13 rfl).trans (V_main_arg9 m c), (e 14 rfl).trans (V_main_arg10 m c), (e 15 rfl).trans (V_main_arg11 m c)⟩, h.2⟩) (ran m ρ)

end Cert.Mix.Hand

end
-- ==== Proof.Norm.lean ====
module

public import proofs.«01_k».proof.Proof.InProj

@[expose] public section

noncomputable section

/-! The first normalisation and the input projection, forward. -/

namespace Cert.NormMath

open Idealize.ShloMosaic

variable (x : (⟨3, ![1, 4096, 1024]⟩ : Shape).Idx → EReal) (g : (⟨2, ![1, 1024]⟩ : Shape).Idx → EReal)
  (w : (⟨3, ![1, 1024, 7168]⟩ : Shape).Idx → EReal)

/-- The normalised row times the scale. -/
def h (n : Fin 4096) (i : Fin 1024) : EReal := x (ix3 0 n i) * InProjMath.root x n * g (ix2 0 i)

/-- Its projection to the seven segments. -/
def z (n : Fin 4096) (j : Fin 7168) : EReal := ∑ k, h x g n k * w (ix3 0 k j)

end Cert.NormMath

end
-- ==== Proof.NormK.lean ====
module

public import proofs.«01_k».proof.Proof.Gen.NormIdeal.Frame
public import Idealize.ShloMosaic.Lib.Pipeline.ValueKit
public import Idealize.ShloMosaic.Lib.Pointwise
public import proofs.«01_k».proof.Proof.Norm

/-! What the call of the first normalisation and the input projection writes into its two results. -/

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `a` of the block of point `t`. -/
abbrev row (t : Fin cfg0.N) (a : Fin 512) : Fin 4096 := ⟨t.val * 512 + a.val, by have h : t.val < 8 := lt_of_lt_of_eq t.isLt N_0; omega⟩

/-- The arguments by name: the layer's input, the scale and the weight. -/
abbrev x (c : Dev nD) : S1x4096x1024.Idx → EReal := m ((c.tc : Thread nD τ).loc main_arg0)
abbrev g (c : Dev nD) : S1x1024.Idx → EReal := m ((c.tc : Thread nD τ).loc main_arg1)
abbrev w (c : Dev nD) : S1x1024x7168.Idx → EReal := m ((c.tc : Thread nD τ).loc main_arg2)

/-! What the windows' blocks hold of the arrays. -/

theorem at0 (c : Dev nD) (t : Fin cfg0.N) (a : Fin 512) (i : Fin 1024) : iblk m c 0 t (ix2 a i) = x m c (ix3 0 (row t a) i) := by
  blk_simp [iblk]
  entry_read
  pointwise
  blk_point [index_eq t]
theorem at1 (c : Dev nD) (t : Fin cfg0.N) (i : Fin 1024) : iblk m c 1 t (ix2 0 i) = g m c (ix2 0 i) := by
  blk_point [iblk, V, index_eq t]
theorem at2 (c : Dev nD) (t : Fin cfg0.N) (a : Fin 1024) (i : Fin 7168) : iblk m c 2 t (ix2 a i) = w m c (ix3 0 a i) := by
  blk_simp [iblk]
  entry_read
  pointwise
  blk_point [index_eq t]

set_option maxHeartbeats 1000000 in
/-- The normalised input. -/
theorem final4 (c : Dev nD) : (dats m 0 c).arrAt 4 (cfgs 0).N = fun j => NormMath.h (x m c) (g m c) (j 0) (j 1) := by
  refine (dats m 0 c).arrAt_eq_of_covers 4 _ (by decide +kernel) fun t hf y => ?_
  blk_simp
  rw [after0_4]
  idx_vars y
  have e : (win0_4.blk t).view.emb (ix2 y0 y1) = ix2 (row t y0) y1 := by blk_ext [index_eq t]
  refine Eq.trans ?_ (congrArg (fun j : S4096x1024.Idx => NormMath.h (x m c) (g m c) (j 0) (j 1)) e.symm)
  frame_out
  pointwise [k0_pay5, InProjMath.lit_channels, InProjMath.lit_eps, at0 m c t, at1 m c t]
  rfl

set_option maxHeartbeats 2000000 in
/-- The projection, written segment by segment. -/
theorem final3 (c : Dev nD) : (dats m 0 c).arrAt 3 (cfgs 0).N = fun j => NormMath.z (x m c) (g m c) (w m c) (j 0) (j 1) := by
  refine (dats m 0 c).arrAt_eq_of_covers 3 _ (by decide +kernel) fun t hf y => ?_
  blk_simp
  rw [after0_3]
  idx_vars y
  have e : (win0_3.blk t).view.emb (ix2 y0 y1) = ix2 (row t y0) y1 := by blk_ext [index_eq t]
  refine Eq.trans ?_ (congrArg (fun j : S4096x7168.Idx => NormMath.z (x m c) (g m c) (w m c) (j 0) (j 1)) e.symm)
  clear e hf
  frame_out
  canon_tiles q h
  all_goals
    change (y1 : ℕ) = _ at h1
    obtain rfl : y0 = q 0 := Fin.ext h0
    pointwise [k0_pay1, k0_pay2, k0_pay3, k0_pay4, k0_pay5, k0_pay6, k0_pay7, k0_pay8, k0_pay9, InProjMath.lit_channels, InProjMath.lit_eps, at0 m c t, at1 m c t, at2 m c t]
    refine Finset.sum_congr rfl fun k _ => ?_
    refine congrArg₂ (· * ·) rfl (congrArg (fun j : Fin 7168 => w m c (ix3 0 k j)) (Fin.ext ?_))
    exact h1.symm

end Cert.NormIdeal.Hand
end
-- ==== Proof.NormR.lean ====
module

public import proofs.«01_k».proof.Proof.Gen.NormRefIdeal.Run
public import Idealize.ShloMosaic.Lib.Pointwise
public import Idealize.ShloMosaic.Lib.Tactic.CleanTypes
public import proofs.«01_k».proof.Proof.Norm
public import proofs.«01_k».proof.Proof.HostReduce

@[expose] public section

set_option maxRecDepth 100000

noncomputable section

/-! What the forward lines of the first normalisation and the input projection leave in their two results. -/

namespace Cert.NormRefIdeal.Hand

open Cert.NormRefIdeal Cert.NormRefIdeal.Gen Cert.NormRefIdeal.Value Idealize.ShloMosaic Idealize.ShloMosaic.TcCoe Idealize.SL.Sem

variable (m : (ℓ : Loc nD τ sig) → Buf (Elt Ideal) ℓ)

set_option maxHeartbeats 2000000 in
/-- The projection and the normalised input. -/
theorem run (g : Dev nD → PrngReg) : θ_run defs (onTc (τ := τ) (main (F := Ideal))) ⟨m, fun _ => 0, g⟩ fun r => ∀ c : Dev nD,
    (r.2.mem ((c.tc : Thread nD τ).loc main_v17) = fun j : S4096x7168.Idx => NormMath.z (m ((c.tc : Thread nD τ).loc main_arg0)) (m ((c.tc : Thread nD τ).loc main_arg1)) (m ((c.tc : Thread nD τ).loc main_arg2)) (j 0) (j 1))
      ∧ (r.2.mem ((c.tc : Thread nD τ).loc main_v19) = fun j : S4096x1024.Idx => NormMath.h (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun j => ?_), (h c).2.1.trans (funext fun j => ?_), (h c).2.2⟩) (Value.run m g)
  · idx_vars j
    show _ = NormMath.z (m ((c.tc : Thread nD τ).loc main_arg0)) (m ((c.tc : Thread nD τ).loc main_arg1)) (m ((c.tc : Thread nD τ).loc main_arg2)) j0 j1
    clean_types
    pointwise [HostReduce.unit_ends, InProjMath.lit_channels, InProjMath.lit_eps]
    rfl
  · idx_vars j
    show _ = NormMath.h (m ((c.tc : Thread nD τ).loc main_arg0)) (m ((c.tc : Thread nD τ).loc main_arg1)) j0 j1
    clean_types
    pointwise [HostReduce.unit_ends, InProjMath.lit_channels, InProjMath.lit_eps]
    rfl

end Cert.NormRefIdeal.Hand
end
-- ==== Proof.NormClaim.lean ====
module

public import proofs.«01_k».proof.Defs
public import proofs.«01_k».proof.Proof.NormK
public import proofs.«01_k».proof.Proof.NormR
public import Idealize.ShloMosaic.Lib.Claim
public import proofs.«01_k».proof.Proof.Gen.NormIdeal
public import proofs.«01_k».proof.Proof.Gen.NormRefIdeal

@[expose] public section

set_option maxRecDepth 16384

noncomputable section

namespace Cert.NormClaim

open Idealize.ShloMosaic Idealize.SL.Sem

/-- Kernel and forward lines leave the same projection and the same normalised input. -/
theorem algebraic : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Hand.run m' g'
    · exact (Cert.NormIdeal.Hand.final3 m c).symm
    · exact (Cert.NormIdeal.Hand.final4 m c).symm

end Cert.NormClaim

end
-- ==== Proof.Merge.lean ====
module

public import proofs.«01_k».proof.Proof.UpBwd

@[expose] public section

noncomputable section

/-! The gated sum of the two branches and the second normalisation, forward. The branches, their sum and the state
after it are the ones that the backward pass recomputes. -/

namespace Cert.MergeMath

open Idealize.ShloMosaic

/-- The arrays of the forward call: of the backward's arrays the first nine, zero for the rest. -/
abbrev arrays (ya yb ga gb x : (⟨3, ![1, 4096, 1024]⟩ : Shape).Idx → EReal) (wa wb wo : (⟨3, ![1, 1024, 1024]⟩ : Shape).Idx → EReal)
    (g : (⟨2, ![1, 1024]⟩ : Shape).Idx → EReal) : UpBwdMath.Arrays where
  ya := ya
  yb := yb
  ga := ga
  gb := gb
  x := x
  wa := wa
  wb := wb
  wo := wo
  g := g
  wu := fun _ => 0
  wc := fun _ => 0
  d3 := fun _ => 0
  du := fun _ => 0

/-- The normalised state times the scale. -/
def h2 (A : UpBwdMath.Arrays) (n : Fin 4096) (i : Fin 1024) : EReal := UpBwdMath.x2 A n i * UpBwdMath.root A n * A.g (ix2 0 i)

end Cert.MergeMath

end
-- ==== Proof.MergeK.lean ====
module

public import proofs.«01_k».proof.Proof.Gen.MergeIdeal.Frame
public import Idealize.ShloMosaic.Lib.Pipeline.ValueKit
public import Idealize.ShloMosaic.Lib.Pointwise
public import proofs.«01_k».proof.Proof.Merge
public import proofs.«01_k».proof.Proof.InProj

/-! What the call of the gated sum writes into its five results. -/

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![t.val, 0] ∧ win0_2.index t = ![t.val, 5]
    ∧ win0_3.index t = ![t.val, 6] ∧ win0_4.index t = ![t.val, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

/-- Row `a` of the block of point `t`. -/
abbrev row (t : Fin cfg0.N) (a : Fin 256) : Fin 4096 := ⟨t.val * 256 + a.val, by have h : t.val < 16 := lt_of_lt_of_eq t.isLt N_0; omega⟩

/-- The arguments, by name. -/
abbrev args (c : Dev nD) : UpBwdMath.Arrays :=
  MergeMath.arrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- Two arrays in one, the second's columns after the first's. -/
def joined {n a b r : ℕ} {φ : EltTy} (h : Shape.Concatenates [(⟨2, ![n, a]⟩ : Shape), ⟨2, ![n, b]⟩] (⟨2, ![n, r]⟩ : Shape) 1) (x : Vec Ideal ⟨2, ![n, a]⟩ φ) (y : Vec Ideal ⟨2, ![n, b]⟩ φ) : Vec Ideal ⟨2, ![n, r]⟩ φ :=
  concatenate ⟨2, ![n, r]⟩ 1 [⟨⟨2, ![n, a]⟩, x⟩, ⟨⟨2, ![n, b]⟩, y⟩] h

/-! What the windows' blocks hold of the arrays. -/

theorem at0 (c : Dev nD) (t : Fin cfg0.N) (a : Fin 256) (i : Fin 1024) : iblk m c 0 t (ix2 a i) = (args m c).ya (ix3 0 (row t a) i) := by
  blk_simp [iblk]
  entry_read
  pointwise
  blk_point [index_eq t]
theorem at1 (c : Dev nD) (t : Fin cfg0.N) (a : Fin 256) (i : Fin 1024) : iblk m c 1 t (ix2 a i) = (args m c).yb (ix3 0 (row t a) i) := by
  blk_simp [iblk]
  entry_read
  pointwise
  blk_point [index_eq t]
/-- The gates stand in the last two of the seven segments. -/
theorem at2 (c : Dev nD) (t : Fin cfg0.N) (a : Fin 256) (i : Fin 1024) : iblk m c 2 t (ix2 a i) = (args m c).ga (ix3 0 (row t a) i) := by
  have e : (win0_2.blk t).view.emb (ix2 a i) = ix2 (row t a) ⟨5120 + i.val, by omega⟩ := by blk_ext [index_eq t]
  blk_simp [iblk]
  rw [e]
  unfold V hostOps0
  rw [show (fun (a : (⟨S4096x5120, .bf16⟩ : BufTy).Contents (Elt Ideal)) (b : (⟨S4096x2048, .bf16⟩ : BufTy).Contents (Elt Ideal)) => concatenate S4096x7168 1 [⟨S4096x5120, a⟩, ⟨S4096x2048, b⟩] concatenates_S4096x5120_S4096x2048_S4096x7168_d1)
      = joined concatenates_S4096x5120_S4096x2048_S4096x7168_d1 from rfl,
    show (fun (a : (⟨S4096x1024, .bf16⟩ : BufTy).Contents (Elt Ideal)) (b : (⟨S4096x1024, .bf16⟩ : BufTy).Contents (Elt Ideal)) => concatenate S4096x2048 1 [⟨S4096x1024, a⟩, ⟨S4096x1024, b⟩] concatenates_S4096x1024_S4096x1024_S4096x2048_d1)
      = joined concatenates_S4096x1024_S4096x1024_S4096x2048_d1 from rfl]
  entry_read
  unfold joined
  pointwise
theorem at3 (c : Dev nD) (t : Fin cfg0.N) (a : Fin 256) (i : Fin 1024) : iblk m c 3 t (ix2 a i) = (args m c).gb (ix3 0 (row t a) i) := by
  have e : (win0_3.blk t).view.emb (ix2 a i) = ix2 (row t a) ⟨6144 + i.val, by omega⟩ := by blk_ext [index_eq t]
  blk_simp [iblk]
  rw [e]
  unfold V hostOps0
  rw [show (fun (a : (⟨S4096x5120, .bf16⟩ : BufTy).Contents (Elt Ideal)) (b : (⟨S4096x2048, .bf16⟩ : BufTy).Contents (Elt Ideal)) => concatenate S4096x7168 1 [⟨S4096x5120, a⟩, ⟨S4096x2048, b⟩] concatenates_S4096x5120_S4096x2048_S4096x7168_d1)
      = joined concatenates_S4096x5120_S4096x2048_S4096x7168_d1 from rfl,
    show (fun (a : (⟨S4096x1024, .bf16⟩ : BufTy).Contents (Elt Ideal)) (b : (⟨S4096x1024, .bf16⟩ : BufTy).Contents (Elt Ideal)) => concatenate S4096x2048 1 [⟨S4096x1024, a⟩, ⟨S4096x1024, b⟩] concatenates_S4096x1024_S4096x1024_S4096x2048_d1)
      = joined concatenates_S4096x1024_S4096x1024_S4096x2048_d1 from rfl]
  entry_read
  unfold joined
  pointwise
  rw [dif_neg (by omega), dif_neg (by omega)]
  exact congrArg (m ((c.tc : Thread nD τ).loc main_arg3)) (congrArg (ix3 0 (row t a)) (Fin.ext (by simp only; omega)))
theorem at4 (c : Dev nD) (t : Fin cfg0.N) (a : Fin 256) (i : Fin 1024) : iblk m c 4 t (ix2 a i) = (args m c).x (ix3 0 (row t a) i) := by
  blk_simp [iblk]
  entry_read
  pointwise
  blk_point [index_eq t]
theorem at5 (c : Dev nD) (t : Fin cfg0.N) (a i : Fin 1024) : iblk m c 5 t (ix2 a i) = (args m c).wa (ix3 0 a i) := by
  blk_simp [iblk]
  entry_read
  pointwise
  blk_point [index_eq t]
theorem at6 (c : Dev nD) (t : Fin cfg0.N) (a i : Fin 1024) : iblk m c 6 t (ix2 a i) = (args m c).wb (ix3 0 a i) := by
  blk_simp [iblk]
  entry_read
  pointwise
  blk_point [index_eq t]
theorem at7 (c : Dev nD) (t : Fin cfg0.N) (a i : Fin 1024) : iblk m c 7 t (ix2 a i) = (args m c).wo (ix3 0 a i) := by
  blk_simp [iblk]
  entry_read
  pointwise
  blk_point [index_eq t]
theorem at8 (c : Dev nD) (t : Fin cfg0.N) (i : Fin 1024) : iblk m c 8 t (ix2 0 i) = (args m c).g (ix2 0 i) := by
  blk_point [iblk, V, index_eq t]

set_option maxHeartbeats 2000000 in
/-- The first projected branch. -/
theorem final9 (c : Dev nD) : (dats m 0 c).arrAt 9 (cfgs 0).N = fun j => UpBwdMath.pa (args m c) (j 0) (j 1) := by
  refine (dats m 0 c).arrAt_eq_of_covers 9 _ (by decide +kernel) fun t hf y => ?_
  blk_simp
  rw [after0_9]
  idx_vars y
  have e : (win0_9.blk t).view.emb (ix2 y0 y1) = ix2 (row t y0) y1 := by blk_ext [index_eq t]
  refine Eq.trans ?_ (congrArg (fun j : S4096x1024.Idx => UpBwdMath.pa (args m c) (j 0) (j 1)) e.symm)
  frame_out
  pointwise [k0_pay1, k0_pay2, k0_pay3, k0_pay4, k0_pay5, k0_pay6, k0_pay7, k0_pay8, k0_pay9, k0_pay10, k0_pay11, k0_pay12, InProjMath.lit_channels, InProjMath.lit_eps, UpBwdMath.lit_half, UpBwdMath.logistic_tanh, at0 m c t, at1 m c t, at2 m c t, at3 m c t, at4 m c t, at5 m c t, at6 m c t, at7 m c t, at8 m c t]
  rfl

set_option maxHeartbeats 2000000 in
/-- The second projected branch. -/
theorem final10 (c : Dev nD) : (dats m 0 c).arrAt 10 (cfgs 0).N = fun j => UpBwdMath.pb (args m c) (j 0) (j 1) := by
  refine (dats m 0 c).arrAt_eq_of_covers 10 _ (by decide +kernel) fun t hf y => ?_
  blk_simp
  rw [after0_10]
  idx_vars y
  have e : (win0_10.blk t).view.emb (ix2 y0 y1) = ix2 (row t y0) y1 := by blk_ext [index_eq t]
  refine Eq.trans ?_ (congrArg (fun j : S4096x1024.Idx => UpBwdMath.pb (args m c) (j 0) (j 1)) e.symm)
  frame_out
  pointwise [k0_pay1, k0_pay2, k0_pay3, k0_pay4, k0_pay5, k0_pay6, k0_pay7, k0_pay8, k0_pay9, k0_pay10, k0_pay11, k0_pay12, InProjMath.lit_channels, InProjMath.lit_eps, UpBwdMath.lit_half, UpBwdMath.logistic_tanh, at0 m c t, at1 m c t, at2 m c t, at3 m c t, at4 m c t, at5 m c t, at6 m c t, at7 m c t, at8 m c t]
  rfl

set_option maxHeartbeats 2000000 in
/-- The gated sum. -/
theorem final11 (c : Dev nD) : (dats m 0 c).arrAt 11 (cfgs 0).N = fun j => UpBwdMath.mix (args m c) (j 0) (j 1) := by
  refine (dats m 0 c).arrAt_eq_of_covers 11 _ (by decide +kernel) fun t hf y => ?_
  blk_simp
  rw [after0_11]
  idx_vars y
  have e : (win0_11.blk t).view.emb (ix2 y0 y1) = ix2 (row t y0) y1 := by blk_ext [index_eq t]
  refine Eq.trans ?_ (congrArg (fun j : S4096x1024.Idx => UpBwdMath.mix (args m c) (j 0) (j 1)) e.symm)
  frame_out
  pointwise [k0_pay1, k0_pay2, k0_pay3, k0_pay4, k0_pay5, k0_pay6, k0_pay7, k0_pay8, k0_pay9, k0_pay10, k0_pay11, k0_pay12, InProjMath.lit_channels, InProjMath.lit_eps, UpBwdMath.lit_half, UpBwdMath.logistic_tanh, at0 m c t, at1 m c t, at2 m c t, at3 m c t, at4 m c t, at5 m c t, at6 m c t, at7 m c t, at8 m c t]
  rfl

set_option maxHeartbeats 2000000 in
/-- The state after it. -/
theorem final12 (c : Dev nD) : (dats m 0 c).arrAt 12 (cfgs 0).N = fun j => UpBwdMath.x2 (args m c) (j 0) (j 1) := by
  refine (dats m 0 c).arrAt_eq_of_covers 12 _ (by decide +kernel) fun t hf y => ?_
  blk_simp
  rw [after0_12]
  idx_vars y
  have e : (win0_12.blk t).view.emb (ix2 y0 y1) = ix2 (row t y0) y1 := by blk_ext [index_eq t]
  refine Eq.trans ?_ (congrArg (fun j : S4096x1024.Idx => UpBwdMath.x2 (args m c) (j 0) (j 1)) e.symm)
  frame_out
  pointwise [k0_pay1, k0_pay2, k0_pay3, k0_pay4, k0_pay5, k0_pay6, k0_pay7, k0_pay8, k0_pay9, k0_pay10, k0_pay11, k0_pay12, InProjMath.lit_channels, InProjMath.lit_eps, UpBwdMath.lit_half, UpBwdMath.logistic_tanh, at0 m c t, at1 m c t, at2 m c t, at3 m c t, at4 m c t, at5 m c t, at6 m c t, at7 m c t, at8 m c t]
  rfl

set_option maxHeartbeats 2000000 in
/-- The normalised state. -/
theorem final13 (c : Dev nD) : (dats m 0 c).arrAt 13 (cfgs 0).N = fun j => MergeMath.h2 (args m c) (j 0) (j 1) := by
  refine (dats m 0 c).arrAt_eq_of_covers 13 _ (by decide +kernel) fun t hf y => ?_
  blk_simp
  rw [after0_13]
  idx_vars y
  have e : (win0_13.blk t).view.emb (ix2 y0 y1) = ix2 (row t y0) y1 := by blk_ext [index_eq t]
  refine Eq.trans ?_ (congrArg (fun j : S4096x1024.Idx => MergeMath.h2 (args m c) (j 0) (j 1)) e.symm)
  frame_out
  pointwise [k0_pay1, k0_pay2, k0_pay3, k0_pay4, k0_pay5, k0_pay6, k0_pay7, k0_pay8, k0_pay9, k0_pay10, k0_pay11, k0_pay12, InProjMath.lit_channels, InProjMath.lit_eps, UpBwdMath.lit_half, UpBwdMath.logistic_tanh, at0 m c t, at1 m c t, at2 m c t, at3 m c t, at4 m c t, at5 m c t, at6 m c t, at7 m c t, at8 m c t]
  rfl

end Cert.MergeIdeal.Hand
end
-- ==== Proof.MergeR.lean ====
module

public import proofs.«01_k».proof.Proof.Gen.MergeRefIdeal.Run
public import Idealize.ShloMosaic.Lib.Pointwise
public import Idealize.ShloMosaic.Lib.Tactic.CleanTypes
public import proofs.«01_k».proof.Proof.Merge
public import proofs.«01_k».proof.Proof.InProj
public import proofs.«01_k».proof.Proof.HostReduce

@[expose] public section

set_option maxRecDepth 100000

noncomputable section

/-! What the forward lines of the gated sum and the second normalisation leave in their five results. -/

namespace Cert.MergeRefIdeal.Hand

open Cert.MergeRefIdeal Cert.MergeRefIdeal.Gen Cert.MergeRefIdeal.Value Idealize.ShloMosaic Idealize.ShloMosaic.TcCoe Idealize.SL.Sem

variable (m : (ℓ : Loc nD τ sig) → Buf (Elt Ideal) ℓ)

/-- The arguments, by name. -/
abbrev args (c : Dev nD) : UpBwdMath.Arrays :=
  MergeMath.arrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

set_option maxHeartbeats 4000000 in
/-- The branches, their gated sum, the state and the normalised state. -/
theorem run (g : Dev nD → PrngReg) : θ_run defs (onTc (τ := τ) (main (F := Ideal))) ⟨m, fun _ => 0, g⟩ fun r => ∀ c : Dev nD,
    (r.2.mem ((c.tc : Thread nD τ).loc main_v37) = fun j : S4096x1024.Idx => UpBwdMath.pa (args m c) (j 0) (j 1))
      ∧ (r.2.mem ((c.tc : Thread nD τ).loc main_v39) = fun j : S4096x1024.Idx => UpBwdMath.pb (args m c) (j 0) (j 1))
      ∧ (r.2.mem ((c.tc : Thread nD τ).loc main_v41) = fun j : S4096x1024.Idx => UpBwdMath.mix (args m c) (j 0) (j 1))
      ∧ (r.2.mem ((c.tc : Thread nD τ).loc main_v42) = fun j : S4096x1024.Idx => UpBwdMath.x2 (args m c) (j 0) (j 1))
      ∧ (r.2.mem ((c.tc : Thread nD τ).loc main_v44) = fun j : S4096x1024.Idx => MergeMath.h2 (args m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans (funext fun j => ?_), (h c).2.1.trans (funext fun j => ?_), (h c).2.2.1.trans (funext fun j => ?_),
    (h c).2.2.2.1.trans (funext fun j => ?_), (h c).2.2.2.2.1.trans (funext fun j => ?_), (h c).2.2.2.2.2⟩) (Value.run m g)
  all_goals idx_vars j
  · show _ = UpBwdMath.pa (args m c) j0 j1
    clean_types
    pointwise [HostReduce.unit_ends, InProjMath.lit_channels, InProjMath.lit_eps]
    rfl
  · show _ = UpBwdMath.pb (args m c) j0 j1
    clean_types
    pointwise [HostReduce.unit_ends, InProjMath.lit_channels, InProjMath.lit_eps]
    rfl
  · show _ = UpBwdMath.mix (args m c) j0 j1
    clean_types
    pointwise [HostReduce.unit_ends, InProjMath.lit_channels, InProjMath.lit_eps]
    rfl
  · show _ = UpBwdMath.x2 (args m c) j0 j1
    clean_types
    pointwise [HostReduce.unit_ends, InProjMath.lit_channels, InProjMath.lit_eps]
    rfl
  · show _ = MergeMath.h2 (args m c) j0 j1
    unfold res_main_v44
    clean_types
    pointwise [HostReduce.unit_ends, InProjMath.lit_channels, InProjMath.lit_eps]
    rfl

end Cert.MergeRefIdeal.Hand
end
-- ==== Proof.MergeClaim.lean ====
module

public import proofs.«01_k».proof.Defs
public import proofs.«01_k».proof.Proof.MergeK
public import proofs.«01_k».proof.Proof.MergeR
public import Idealize.ShloMosaic.Lib.Claim
public import proofs.«01_k».proof.Proof.Gen.MergeIdeal
public import proofs.«01_k».proof.Proof.Gen.MergeRefIdeal

@[expose] public section

set_option maxRecDepth 16384

noncomputable section

namespace Cert.MergeClaim

open Idealize.ShloMosaic Idealize.SL.Sem

set_option maxHeartbeats 4000000 in
/-- Kernel and forward lines leave the same five arrays. -/
theorem algebraic : Cert.algebraic_MergeIdeal_MergeRefIdeal (hMergeIdeal := Cert.MergeIdeal.Gen.facts) (hMergeRefIdeal := Cert.MergeRefIdeal.Gen.facts) := by
  intro m g m' g' _ agree
  refine ⟨fun c j => UpBwdMath.pa (Cert.MergeIdeal.Hand.args m c) (j 0) (j 1),
    fun c j => UpBwdMath.pb (Cert.MergeIdeal.Hand.args m c) (j 0) (j 1),
    fun c j => UpBwdMath.mix (Cert.MergeIdeal.Hand.args m c) (j 0) (j 1),
    fun c j => UpBwdMath.x2 (Cert.MergeIdeal.Hand.args m c) (j 0) (j 1),
    fun c j => MergeMath.h2 (Cert.MergeIdeal.Hand.args m c) (j 0) (j 1), ?_, ?_⟩
  · refine (θ_run _ _ _).mono (fun r h c => ?_) (θ_run_and (Cert.MergeIdeal.Gen.run_main m g) (Cert.MergeIdeal.Gen.unchanged m g))
    obtain ⟨h, k⟩ := h
    have h := (h c).1
    exact ⟨(h 9).trans (Cert.MergeIdeal.Hand.final9 m c),
      (h 10).trans (Cert.MergeIdeal.Hand.final10 m c),
      (h 11).trans (Cert.MergeIdeal.Hand.final11 m c),
      (h 12).trans (Cert.MergeIdeal.Hand.final12 m c),
      (h 13).trans (Cert.MergeIdeal.Hand.final13 m c), k c⟩
  · refine (θ_run _ _ _).mono (fun r h c => ?_) (Cert.MergeRefIdeal.Hand.run m' g')
    have e : Cert.MergeRefIdeal.Hand.args m' c = Cert.MergeIdeal.Hand.args m c := by
      obtain ⟨a0, a1, a2, a3, a4, a5, a6, a7, a8⟩ := agree c
      unfold Cert.MergeRefIdeal.Hand.args Cert.MergeIdeal.Hand.args MergeMath.arrays
      congr 1
    have h := h c
    rw [e] at h
    exact h

end Cert.MergeClaim

end
-- ==== Proof.UpAct.lean ====
module

public import proofs.«01_k».proof.Proof.Norm
public import proofs.«01_k».proof.Proof.Head

@[expose] public section

noncomputable section

/-! The gated unit forward: the projection of the normalised state, the convolution over time, the activation and the product. The convolution
and what follows it are the ones that the loss recomputes from the projection. -/

namespace Cert.UpActMath

open Idealize.ShloMosaic

/-- The projection of the normalised state. -/
def u (x : (⟨3, ![1, 4096, 1024]⟩ : Shape).Idx → EReal) (g : (⟨2, ![1, 1024]⟩ : Shape).Idx → EReal) (w : (⟨3, ![1, 1024, 6144]⟩ : Shape).Idx → EReal)
    (n : Fin 4096) (j : Fin 6144) : EReal := ∑ k, NormMath.h x g n k * w (ix3 0 k j)

/-- The projection, the taps and the offset under the names that the loss gives them, zero for its other arrays. -/
abbrev arrays (x : (⟨3, ![1, 4096, 1024]⟩ : Shape).Idx → EReal) (g : (⟨2, ![1, 1024]⟩ : Shape).Idx → EReal) (w : (⟨3, ![1, 1024, 6144]⟩ : Shape).Idx → EReal)
    (wc : (⟨3, ![1, 3, 6144]⟩ : Shape).Idx → EReal) (bc : (⟨2, ![1, 6144]⟩ : Shape).Idx → EReal) : HeadMath.Arrays where
  x := fun _ => 0
  u0 := fun j => u x g w (j 1) (j 2)
  wc := wc
  bc := bc
  p := fun _ => 0
  tg := fun _ => 0
  wd := fun _ => 0
  wg := fun _ => 0
  wp := fun _ => 0
  gp := fun _ => 0
  gf := fun _ => 0

/-- The activation's small constant, the word that both programs write for it. -/
def K : EReal := Ideal.ofBits .f32 0x3D372713#32

theorem lit_K : Ideal.ofBits .f32 0x3D372713#32 = K := rfl

/-- The activation, by the hyperbolic tangent. -/
def gel (x : EReal) : EReal := HeadMath.half * x * (1 + Ideal.tanh (HeadMath.C * (x + K * (x * (x * x)))))

/-- The unit's product. -/
def f (A : HeadMath.Arrays) (n : Fin 4096) (i : Fin 3072) : EReal := gel (HeadMath.conv A 0 n i) * HeadMath.conv A 1 n i

/-- The product as the forward lines write it. -/
theorem f_host (A : HeadMath.Arrays) (n : Fin 4096) (i : Fin 3072) {x y : EReal} (hx : x = HeadMath.conv A 0 n i) (hy : y = HeadMath.conv A 1 n i) :
    x * (HeadMath.half * (1 + Ideal.tanh (HeadMath.C * (x + K * (x * x * x))))) * y = f A n i := by
  rw [f, ← hx, ← hy, gel, mul_assoc x x x, ← mul_assoc x, mul_comm x HeadMath.half]

/-- The projection by halves. -/
def u0 (A : HeadMath.Arrays) (h : Fin 2) (n : Fin 4096) (i : Fin 3072) : EReal := A.u0 (ix3 0 n (HeadMath.col h i))

end Cert.UpActMath

end
-- ==== Proof.UpActB.lean ====
module

public import proofs.«01_k».proof.Proof.Gen.UpActIdeal.Frame
public import Idealize.ShloMosaic.Lib.Pipeline.ValueKit
public import Idealize.ShloMosaic.Lib.Pointwise
public import proofs.«01_k».proof.Proof.UpAct
public import proofs.«01_k».proof.Proof.InProj
public import proofs.«01_k».proof.Proof.HostReduce

/-! What the windows' blocks of the gated unit's forward call hold of the arrays, and one tile of its convolution. -/

@[expose] public section

set_option maxRecDepth 16384

noncomputable section

namespace Cert.UpActIdeal.Hand

open Cert.UpActIdeal Cert.UpActIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![0, 0, 0] ∧ win0_2.index t = ![0, 0, 0] ∧ win0_3.index t = ![0, 0, 0]
    ∧ win0_4.index t = ![0, t.val, 0] ∧ win0_5.index t = ![t.val, 0] :=
  (by decide +kernel : ∀ t : Fin grid0.N, _)

theorem val_lt (t : Fin cfg0.N) : t.val < 16 := lt_of_lt_of_eq t.isLt N_0

/-- Row `a` of the block of point `t`. -/
abbrev row (t : Fin cfg0.N) (a : Fin 256) : Fin 4096 := ⟨t.val * 256 + a.val, by have := val_lt t; omega⟩

/-- The arguments, by name: the state, the scale and the weight, and all under the names that the loss gives them. -/
abbrev x (c : Dev nD) : S1x4096x1024.Idx → EReal := m ((c.tc : Thread nD τ).loc main_arg0)
abbrev g (c : Dev nD) : S1x1024.Idx → EReal := m ((c.tc : Thread nD τ).loc main_arg1)
abbrev w (c : Dev nD) : S1x1024x6144.Idx → EReal := m ((c.tc : Thread nD τ).loc main_arg2)
abbrev args (c : Dev nD) : HeadMath.Arrays :=
  UpActMath.arrays (x m c) (g m c) (w m c) (m ((c.tc : Thread nD τ).loc main_arg3)) (m ((c.tc : Thread nD τ).loc main_arg4))

theorem at0 (c : Dev nD) (t : Fin cfg0.N) (a : Fin 256) (i : Fin 1024) : iblk m c 0 t (ix2 a i) = NormMath.h (x m c) (g m c) (row t a) i := by
  have e : (win0_0.blk t).view.emb (ix2 a i) = ix2 (row t a) i := by blk_ext [index_eq t]
  blk_simp [iblk]
  rw [e]
  entry_read
  pointwise [HostReduce.unit_ends, InProjMath.lit_channels, InProjMath.lit_eps]
  rfl
theorem at1 (c : Dev nD) (t : Fin cfg0.N) (s : Fin 8) (a : Fin 1024) (i : Fin 768) : iblk m c 1 t (ix3 s a i) = w m c (ix3 0 a ⟨s.val * 768 + i.val, by omega⟩) := by
  have e : (win0_1.blk t).view.emb (ix3 s a i) = ix3 s a i := by blk_ext [index_eq t]
  blk_simp [iblk]
  rw [e]
  entry_read
  pointwise
theorem at2 (c : Dev nD) (t : Fin cfg0.N) (s : Fin 2) (k : Fin 3) (i : Fin 3072) : iblk m c 2 t (ix3 s k i) = HeadMath.tap (args m c) k s i := by
  have e : (win0_2.blk t).view.emb (ix3 s k i) = ix3 s k i := by blk_ext [index_eq t]
  blk_simp [iblk]
  rw [e]
  entry_read
  pointwise
  rfl
theorem at3 (c : Dev nD) (t : Fin cfg0.N) (s : Fin 2) (i : Fin 3072) : iblk m c 3 t (ix3 s 0 i) = (args m c).bc (ix2 0 (HeadMath.col s i)) := by
  have e : (win0_3.blk t).view.emb (ix3 s (0 : Fin 1) i) = ix3 s 0 i := by blk_ext [index_eq t]
  blk_simp [iblk]
  rw [e]
  entry_read
  pointwise
  rfl

/-- A tap read through the slice and the reshape that take one half out of the stack. -/
theorem half_at (c : Dev nD) (t : Fin cfg0.N) (s : Fin 2) (k : Fin 3) (j : Fin 3072) (hi : ∀ a, ![s.val, 0, 0] a + S1x3x3072.size a ≤ S2x3x3072.size a) (hr) :
    View.read (Elt Ideal) (((ms0_2 t).view.slice (Rect.unit ![s.val, 0, 0] S1x3x3072.size hi)).reshape S3x3072 hr) ((hs0_2 t).unread (iblk m c 2 t)) (ix2 k j)
      = HeadMath.tap (args m c) k s j := by
  rw [← at2 m c t]
  refine (congrFun ((hs0_2 t).read_unread (iblk m c 2 t)) ((Rect.unit (s := S2x3x3072) ![s.val, 0, 0] S1x3x3072.size hi).emb (Shape.reshapeEquiv hr (ix2 k j)))).trans ?_
  rw [show Shape.reshapeEquiv hr (ix2 k j) = ix3 (0 : Fin 1) k j from
    Shape.reshapeEquiv_eq_of_rowMajor hr (by rw [Shape.rowMajor_val_three, Shape.rowMajor_val_two]; show ((0 : ℕ) * 3 + k.val) * 3072 + j.val = k.val * 3072 + j.val; omega)]
  refine congrArg (iblk m c 2 t) (funext fun a => Fin.ext ?_)
  fin_cases a
  · show s.val + 0 * 1 = s.val; omega
  · show 0 + 1 * k.val = k.val; omega
  · show 0 + 1 * j.val = j.val; omega
theorem half_zero (c : Dev nD) (t : Fin cfg0.N) (k : Fin 3) (j : Fin 3072) (hi) (hr) :
    View.read (Elt Ideal) (((ms0_2 t).view.slice (Rect.unit ![0, 0, 0] ![1, 3, 3072] hi)).reshape S3x3072 hr) ((hs0_2 t).unread (iblk m c 2 t)) (ix2 k j)
      = HeadMath.tap (args m c) k 0 j := half_at m c t 0 k j hi hr
theorem half_one (c : Dev nD) (t : Fin cfg0.N) (k : Fin 3) (j : Fin 3072) (hi) (hr) :
    View.read (Elt Ideal) (((ms0_2 t).view.slice (Rect.unit ![1, 0, 0] ![1, 3, 3072] hi)).reshape S3x3072 hr) ((hs0_2 t).unread (iblk m c 2 t)) (ix2 k j)
      = HeadMath.tap (args m c) k 1 j := half_at m c t 1 k j hi hr

/-- The sixteen rows before a block: zero before the first block, else the projection's. -/
def earlier (c : Dev nD) (t : Fin cfg0.N) (s : Fin 2) (a : Fin 16) (j : Fin 3072) : EReal :=
  if h : 0 < t.val then UpActMath.u0 (args m c) s ⟨t.val * 256 + a.val - 16, by have := val_lt t; omega⟩ j else 0

/-- A column of the weights' block, in the whole weight. -/
structure Weights (c : Dev nD) (t : Fin cfg0.N) (s : Fin 2) (col : Fin 768 → Fin 3072) (X : FVec Ideal S256x1024 .bf16) (W : Vec Ideal S1x1024x768 .bf16) : Prop where
  here : ∀ a k, X (ix2 (a : Fin 256) (k : Fin 1024)) = NormMath.h (x m c) (g m c) (row t a) k
  weight : ∀ k i, W (ix3 (0 : Fin 1) (k : Fin 1024) (i : Fin 768)) = w m c (ix3 0 k (HeadMath.col s (col i)))

/-- What a tile of the convolution loads. -/
structure Loads (c : Dev nD) (t : Fin cfg0.N) (s : Fin 2) (col : Fin 768 → Fin 3072) (E : Vec Ideal S1x16x768 .f32) (B : Vec Ideal S1x1x768 .f32) (w2 w0 w1 : Vec Ideal S1x768 .f32) : Prop where
  before : ∀ a i, E (ix3 (0 : Fin 1) (a : Fin 16) (i : Fin 768)) = earlier m c t s a (col i)
  offset : ∀ i, B (ix3 (0 : Fin 1) (0 : Fin 1) (i : Fin 768)) = (args m c).bc (ix2 0 (HeadMath.col s (col i)))
  two : ∀ i, w2 (ix2 (0 : Fin 1) (i : Fin 768)) = HeadMath.tap (args m c) 2 s (col i)
  zero : ∀ i, w0 (ix2 (0 : Fin 1) (i : Fin 768)) = HeadMath.tap (args m c) 0 s (col i)
  one : ∀ i, w1 (ix2 (0 : Fin 1) (i : Fin 768)) = HeadMath.tap (args m c) 1 s (col i)

/-- A tile of the projection. -/
theorem proj (c : Dev nD) (t : Fin cfg0.N) {s : Fin 2} {col : Fin 768 → Fin 3072} {X : FVec Ideal S256x1024 .bf16} {W : Vec Ideal S1x1024x768 .bf16} (H : Weights m c t s col X W) :
    k0_pay22 X W = fun y => UpActMath.u0 (args m c) s (row t (y 0)) (col (y 1)) := by
  funext y
  idx_vars y
  pointwise [k0_pay22, k0_pay20, H.here, H.weight]
  rfl

/-- An earlier row of a tile: it lies in the block, in the rows before it, or before the first token. -/
theorem before_at (c : Dev nD) (t : Fin cfg0.N) (s : Fin 2) (a : Fin 256) (j : Fin 3072) (k : ℕ) (hk : k ≤ 16) (n : ℕ) (hn : n = 16 + a.val - k) (h16 : ¬ n < 16 → n - 16 < 256) :
    (if h' : n < 16 then earlier m c t s ⟨n, h'⟩ j else UpActMath.u0 (args m c) s (row t ⟨n - 16, h16 h'⟩) j) = HeadMath.before (args m c) s (row t a) j k := by
  subst hn
  have ht := val_lt t
  rw [HeadMath.before]
  by_cases h1 : 16 + a.val - k < 16
  · rw [dif_pos h1, earlier]
    by_cases h2 : 0 < t.val
    · rw [dif_pos h2, dif_pos (by simp only; omega)]
      exact congrArg (fun n => UpActMath.u0 (args m c) s n j) (Fin.ext (by simp only; omega))
    · rw [dif_neg h2, dif_neg (by simp only; omega)]
  · rw [dif_neg h1, dif_pos (by simp only; omega)]
    exact congrArg (fun n => UpActMath.u0 (args m c) s n j) (Fin.ext (by simp only; omega))

/-- A tile of the convolution. -/
theorem tile (c : Dev nD) (t : Fin cfg0.N) {s : Fin 2} {col : Fin 768 → Fin 3072} {X : FVec Ideal S256x1024 .bf16} {W : Vec Ideal S1x1024x768 .bf16}
    {E : Vec Ideal S1x16x768 .f32} {B : Vec Ideal S1x1x768 .f32} {w2 w0 w1 : Vec Ideal S1x768 .f32} (H : Weights m c t s col X W) (L : Loads m c t s col E B w2 w0 w1) :
    k0_pay32 (k0_pay29 X W) (k0_pay30 X W E) B w2 w0 w1 = fun y => HeadMath.conv (args m c) s (row t (y 0)) (col (y 1)) := by
  rw [show k0_pay30 X W E = concatenate S272x768 0 [⟨S16x768, shapeCast S16x768 E shapeCasts_S1x16x768_S16x768⟩, ⟨S256x768, k0_pay22 X W⟩] concatenates_S16x768_S256x768_S272x768_d0 from rfl,
    show k0_pay29 X W = k0_pay22 X W from rfl, proj m c t H]
  funext y
  idx_vars y
  pointwise [k0_pay32, L.before, L.offset, L.two, L.zero, L.one]
  exact congrArg₂ _ (congrArg₂ _ rfl (congrArg _ (before_at m c t s y0 (col y1) 2 (by omega) _ (by omega) (by omega))))
    (congrArg _ (before_at m c t s y0 (col y1) 1 (by omega) _ (by omega) (by omega)))

end Cert.UpActIdeal.Hand
end
-- ==== Proof.UpActT.lean ====
module

public import proofs.«01_k».proof.Proof.UpActB
public import proofs.«01_k».proof.Proof.HeadA

/-! The chunks of the kernel of the up-projection: each is one projection, one convolution by halves, and one gate. -/

@[expose] public section

set_option maxRecDepth 16384

noncomputable section

namespace Cert.UpActIdeal.Hand

open Cert.UpActIdeal Cert.UpActIdeal.Gen Idealize.ShloMosaic Idealize.ShloMosaic.TcCoe Idealize.SL.Sem
open Idealize.ShloMosaic.Pipeline (Dat)

variable (m : (ℓ : Loc nD τ sig) → Buf (Elt Ideal) ℓ)

/-- One half's convolution in a chunk. -/
def convV (X : FVec Ideal S256x1024 .bf16) (W : Vec Ideal S1x1024x768 .bf16) (E : Vec Ideal S1x16x768 .f32) (B : Vec Ideal S1x1x768 .f32) (w2 w0 w1 : Vec Ideal S1x768 .f32) :
    FVec Ideal S256x768 .f32 := k0_pay32 (k0_pay29 X W) (k0_pay30 X W E) B w2 w0 w1

/-- The gate in a chunk: the first half's convolution through the activation, times the second's. -/
def gateV (a b : FVec Ideal S256x768 .f32) : FVec Ideal S256x768 .bf16 := k0_pay19 b (k0_pay17 a) (k0_pay18 a)

/-- The last sixteen rows of a chunk's projection. -/
def haloV (X : FVec Ideal S256x1024 .bf16) (W : Vec Ideal S1x1024x768 .bf16) : FVec Ideal S1x16x768 .f32 := k0_pay31 X W

/-- A chunk's projection, as it is written out. -/
def projV (X : FVec Ideal S256x1024 .bf16) (W : Vec Ideal S1x1024x768 .bf16) : FVec Ideal S1x256x768 .bf16 := k0_pay21 X W

section Spelling
variable (v : Vec Ideal S256x1024 .bf16) (X : FVec Ideal S256x1024 .bf16) (W : Vec Ideal S1x1024x768 .bf16) (E : Vec Ideal S1x16x768 .f32) (B : Vec Ideal S1x1x768 .f32) (w2 w0 w1 : Vec Ideal S1x768 .f32)
  (a b : FVec Ideal S256x768 .f32)
theorem conv_00 : k0_pay10 (k0_pay7 v W E) (k0_pay9 v W B w2) w0 w1 = convV (k0_pay3 v) W E B w2 w0 w1 := rfl
theorem conv_01 : k0_pay16 (k0_pay13 X W) (k0_pay14 X W E) B w2 w0 w1 = convV X W E B w2 w0 w1 := rfl
theorem conv_10 : k0_pay26 (k0_pay23 X W E) (k0_pay25 X W B w2) w0 w1 = convV X W E B w2 w0 w1 := rfl
theorem conv_11 : k0_pay32 (k0_pay29 X W) (k0_pay30 X W E) B w2 w0 w1 = convV X W E B w2 w0 w1 := rfl
theorem conv_20 : k0_pay42 (k0_pay39 X W E) (k0_pay41 X W B w2) w0 w1 = convV X W E B w2 w0 w1 := rfl
theorem conv_21 : k0_pay48 (k0_pay45 X W) (k0_pay46 X W E) B w2 w0 w1 = convV X W E B w2 w0 w1 := rfl
theorem conv_30 : k0_pay59 (k0_pay56 X W E) (k0_pay58 X W B w2) w0 w1 = convV X W E B w2 w0 w1 := rfl
theorem conv_31 : k0_pay65 (k0_pay62 X W) (k0_pay63 X W E) B w2 w0 w1 = convV X W E B w2 w0 w1 := rfl
theorem gate_0 : k0_pay19 b (k0_pay17 a) (k0_pay18 a) = gateV a b := rfl
theorem gate_1 : k0_pay35 b (k0_pay33 a) (k0_pay34 a) (FloatOps.ofBits FTy.f32 1065353216#32) = gateV a b := rfl
theorem gate_2 : k0_pay52 b (k0_pay49 a) (k0_pay50 a) k0_pay51 = gateV a b := rfl
theorem gate_3 : k0_pay1 b (k0_pay66 a) (k0_pay67 a) = gateV a b := rfl
theorem halo_00 : k0_pay8 v W = haloV (k0_pay3 v) W := rfl
theorem halo_01 : k0_pay15 X W = haloV X W := rfl
theorem halo_10 : k0_pay24 X W = haloV X W := rfl
theorem halo_11 : k0_pay31 X W = haloV X W := rfl
theorem halo_20 : k0_pay40 X W = haloV X W := rfl
theorem halo_21 : k0_pay47 X W = haloV X W := rfl
theorem halo_30 : k0_pay57 X W = haloV X W := rfl
theorem halo_31 : k0_pay64 X W = haloV X W := rfl
theorem proj_00 : k0_pay5 v W = projV (k0_pay3 v) W := rfl
theorem proj_01 : k0_pay12 X W = projV X W := rfl
theorem proj_10 : k0_pay21 X W = projV X W := rfl
theorem proj_11 : k0_pay28 X W = projV X W := rfl
theorem proj_20 : k0_pay37 X W = projV X W := rfl
theorem proj_21 : k0_pay44 X W = projV X W := rfl
theorem proj_30 : k0_pay54 X W = projV X W := rfl
theorem proj_31 : k0_pay61 X W = projV X W := rfl
end Spelling

/-- A chunk of the gate, from the loads of its two halves. -/
theorem gate_eq (c : Dev nD) (t : Fin cfg0.N) {col : Fin 768 → Fin 3072} {X : FVec Ideal S256x1024 .bf16} {W W' : Vec Ideal S1x1024x768 .bf16}
    {E E' : Vec Ideal S1x16x768 .f32} {B B' : Vec Ideal S1x1x768 .f32} {w2 w0 w1 z2 z0 z1 : Vec Ideal S1x768 .f32}
    (H : Weights m c t 0 col X W) (L : Loads m c t 0 col E B w2 w0 w1) (H' : Weights m c t 1 col X W') (L' : Loads m c t 1 col E' B' z2 z0 z1) :
    gateV (convV X W E B w2 w0 w1) (convV X W' E' B' z2 z0 z1) = fun y => UpActMath.f (args m c) (row t (y 0)) (col (y 1)) := by
  rw [show convV X W E B w2 w0 w1 = _ from tile m c t H L, show convV X W' E' B' z2 z0 z1 = _ from tile m c t H' L']
  funext y
  idx_vars y
  pointwise [gateV, k0_pay17, k0_pay18, k0_pay19, HostReduce.unit_ends, UpActMath.lit_K, HeadMath.lit_C, HeadMath.lit_half]
  rw [UpActMath.f, UpActMath.gel, mul_assoc (HeadMath.conv (args m c) 0 (row t y0) (col y1)) (HeadMath.conv (args m c) 0 (row t y0) (col y1))]

/-- A chunk of the projection, as it is written out. -/
theorem projV_eq (c : Dev nD) (t : Fin cfg0.N) {s : Fin 2} {col : Fin 768 → Fin 3072} {X : FVec Ideal S256x1024 .bf16} {W : Vec Ideal S1x1024x768 .bf16} (H : Weights m c t s col X W) :
    projV X W = fun y => UpActMath.u0 (args m c) s (row t (y 1)) (col (y 2)) := by
  funext y
  idx_vars y
  obtain rfl : y0 = 0 := Subsingleton.elim _ _
  refine Eq.trans ?_ (congrFun (proj m c t H) (ix2 y1 y2))
  pointwise [projV, k0_pay21, k0_pay22]

/-- The last rows of a chunk's projection. -/
theorem haloV_eq (c : Dev nD) (t : Fin cfg0.N) {s : Fin 2} {col : Fin 768 → Fin 3072} {X : FVec Ideal S256x1024 .bf16} {W : Vec Ideal S1x1024x768 .bf16} (H : Weights m c t s col X W) :
    haloV X W = fun y => UpActMath.u0 (args m c) s (row t ⟨240 + (y 1).val, by have := (y 1).isLt; change (y 1).val < 16 at this; omega⟩) (col (y 2)) := by
  funext y
  idx_vars y
  obtain rfl : y0 = 0 := Subsingleton.elim _ _
  refine Eq.trans ?_ (congrFun (proj m c t H) (ix2 ⟨240 + y1.val, by omega⟩ y2))
  pointwise [haloV, k0_pay31, k0_pay29, k0_pay22, k0_pay27, k0_pay20]

/-- The block of weights of a half's chunk. -/
theorem weights (c : Dev nD) (t : Fin cfg0.N) (s : Fin 2) (k : Fin 4) (p : Fin 8) (hp : p.val = s.val * 4 + k.val) (hi) :
    Weights m c t s (fun i => ⟨768 * k.val + i.val, by omega⟩) (k0_pay3 (iblk m c 0 t)) (View.ld (iblk m c 1 t) (Rect.unit (s := S8x1024x768) ![p.val, 0, 0] ![1, 1024, 768] hi)) := by
  refine ⟨fun a j => ?_, fun j i => ?_⟩
  · pointwise [k0_pay3, at0 m c t]
  · refine Eq.trans (congrArg (iblk m c 1 t) (a₂ := ix3 p j i) (funext fun a => Fin.ext ?_)) ((at1 m c t p j i).trans (congrArg (fun q : Fin 6144 => w m c (ix3 0 j q)) (Fin.ext ?_)))
    · fin_cases a
      · show p.val + 1 * 0 = p.val; omega
      · show 0 + 1 * j.val = j.val; omega
      · show 0 + 1 * i.val = i.val; omega
    · show p.val * 768 + i.val = s.val * 3072 + (768 * k.val + i.val); omega

end Cert.UpActIdeal.Hand
end
-- ==== Proof.UpActK.lean ====
module

public import proofs.«01_k».proof.Proof.UpActT

/-! What the call of the up-projection's forward leaves: the rows that it keeps from block to block, and its two results. -/

@[expose] public section

set_option maxRecDepth 16384

noncomputable section

namespace Cert.UpActIdeal.Hand

open Cert.UpActIdeal Cert.UpActIdeal.Gen Idealize.ShloMosaic Idealize.ShloMosaic.TcCoe Idealize.SL.Sem
open Idealize.ShloMosaic.Pipeline (Dat)

variable (m : (ℓ : Loc nD τ sig) → Buf (Elt Ideal) ℓ)

/-- The column of chunk `k` at its place `i`. -/
abbrev chunk (k : Fin 4) (i : Fin 768) : Fin 3072 := ⟨768 * k.val + i.val, by omega⟩

/-- Columns of a half, from its number and the column's. -/
theorem u0_at (c : Dev nD) {s s' : Fin 2} (hs : s.val = s'.val) {n n' : Fin 4096} (hn : n.val = n'.val) {j j' : Fin 3072} (hj : j.val = j'.val) :
    UpActMath.u0 (args m c) s n j = UpActMath.u0 (args m c) s' n' j' := by
  obtain rfl := Fin.ext hs
  obtain rfl := Fin.ext hn
  obtain rfl := Fin.ext hj
  rfl

/-- One chunk of the kept rows. -/
theorem kept_tile (c : Dev nD) (t : Fin cfg0.N) (s : Fin 2) (k : Fin 4) (p : Fin 8) (hp : p.val = s.val * 4 + k.val) (hi) (x : S1x16x768.Idx)
    {y0 : Fin 2} {y1 : Fin 16} {y2 : Fin 3072} (h0 : y0.val = s.val) (h1 : y1.val = (x 1).val) (h2 : y2.val = 768 * k.val + (x 2).val) :
    haloV (k0_pay3 (iblk m c 0 t)) (View.ld (iblk m c 1 t) (Rect.unit (s := S8x1024x768) ![p.val, 0, 0] ![1, 1024, 768] hi)) x
      = UpActMath.u0 (args m c) y0 (row t ⟨240 + y1.val, by omega⟩) y2 :=
  (congrFun (haloV_eq m c t (weights m c t s k p hp hi)) x).trans (u0_at m c h0.symm (by show t.val * 256 + (240 + (x 1).val) = t.val * 256 + (240 + y1.val); omega) h2.symm)

/-- One chunk of the written projection. -/
theorem proj_tile (c : Dev nD) (t : Fin cfg0.N) (s : Fin 2) (k : Fin 4) (p : Fin 8) (hp : p.val = s.val * 4 + k.val) (hi) (x : S1x256x768.Idx)
    {y0 : Fin 2} {y1 : Fin 256} {y2 : Fin 3072} (h0 : y0.val = s.val) (h1 : y1.val = (x 1).val) (h2 : y2.val = 768 * k.val + (x 2).val) :
    projV (k0_pay3 (iblk m c 0 t)) (View.ld (iblk m c 1 t) (Rect.unit (s := S8x1024x768) ![p.val, 0, 0] ![1, 1024, 768] hi)) x
      = UpActMath.u0 (args m c) y0 (row t y1) y2 :=
  (congrFun (projV_eq m c t (weights m c t s k p hp hi)) x).trans (u0_at m c h0.symm (by show t.val * 256 + (x 1).val = t.val * 256 + y1.val; omega) h2.symm)

set_option maxHeartbeats 2000000 in
/-- After a point the kept rows are the last sixteen rows of its block's projection. -/
theorem kept (c : Dev nD) (t : Fin cfg0.N) : (outsAt0 m c t.val t.isLt).2.2
    = fun y : S2x16x3072.Idx => UpActMath.u0 (args m c) (y 0) (row t ⟨240 + (y 1).val, by have := (y 1).isLt; change (y 1).val < 16 at this; omega⟩) (y 2) := by
  funext y
  idx_vars y
  by_cases a : t.val % 16 = 0
  on_goal 1 =>
    rw [outsAt0_A m c t a]; frame_out
    rw [Cert.HeadIdeal.Hand.canon_dropLast _ _ (View.cover_of_tiled _ ![1, 16, 768] rfl _)]
    simp only [List.dropLast_cons₂, List.dropLast_singleton]
  on_goal 2 => rw [outsAt0_B m c t a]; frame_out
  all_goals
    simp only [halo_00, halo_01, halo_10, halo_11, halo_20, halo_21, halo_30, halo_31]
    canon_tiles x h
    all_goals
      change (y0 : ℕ) = _ at h0
      change (y1 : ℕ) = _ at h1
      change (y2 : ℕ) = _ at h2
    · exact kept_tile m c t 1 3 7 rfl _ x (by show y0.val = 1; omega) h1 h2
    · exact kept_tile m c t 0 3 3 rfl _ x (by show y0.val = 0; omega) h1 h2
    · exact kept_tile m c t 1 2 6 rfl _ x (by show y0.val = 1; omega) h1 h2
    · exact kept_tile m c t 0 2 2 rfl _ x (by show y0.val = 0; omega) h1 h2
    · exact kept_tile m c t 1 1 5 rfl _ x (by show y0.val = 1; omega) h1 h2
    · exact kept_tile m c t 0 1 1 rfl _ x (by show y0.val = 0; omega) h1 h2
    · exact kept_tile m c t 1 0 4 rfl _ x (by show y0.val = 1; omega) h1 (h2.trans (Nat.zero_add _).symm)
    · exact kept_tile m c t 0 0 0 rfl _ x (by show y0.val = 0; omega) h1 (h2.trans (Nat.zero_add _).symm)

set_option maxHeartbeats 2000000 in
/-- The projection, by halves. -/
theorem final4 (c : Dev nD) : (dats m 0 c).arrAt 4 (cfgs 0).N = fun j => UpActMath.u0 (args m c) (j 0) (j 1) (j 2) := by
  refine (dats m 0 c).arrAt_eq_of_covers 4 _ (by decide +kernel) fun t hf y => ?_
  blk_simp
  rw [after0_4]
  idx_vars y
  have e : (win0_4.blk t).view.emb (ix3 y0 y1 y2) = ix3 y0 (row t y1) y2 := by blk_ext [index_eq t]
  refine Eq.trans ?_ (congrArg (fun j : S2x4096x3072.Idx => UpActMath.u0 (args m c) (j 0) (j 1) (j 2)) e.symm)
  clear e hf
  by_cases a : t.val % 16 = 0
  on_goal 1 => rw [outsAt0_A m c t a]; frame_out
  on_goal 2 => rw [outsAt0_B m c t a]; frame_out
  all_goals
    simp only [proj_00, proj_01, proj_10, proj_11, proj_20, proj_21, proj_30, proj_31]
    canon_tiles x h
    all_goals
      change (y0 : ℕ) = _ at h0
      change (y1 : ℕ) = _ at h1
      change (y2 : ℕ) = _ at h2
    · exact proj_tile m c t 1 3 7 rfl _ x (by show y0.val = 1; omega) h1 h2
    · exact proj_tile m c t 0 3 3 rfl _ x (by show y0.val = 0; omega) h1 h2
    · exact proj_tile m c t 1 2 6 rfl _ x (by show y0.val = 1; omega) h1 h2
    · exact proj_tile m c t 0 2 2 rfl _ x (by show y0.val = 0; omega) h1 h2
    · exact proj_tile m c t 1 1 5 rfl _ x (by show y0.val = 1; omega) h1 h2
    · exact proj_tile m c t 0 1 1 rfl _ x (by show y0.val = 0; omega) h1 h2
    · exact proj_tile m c t 1 0 4 rfl _ x (by show y0.val = 1; omega) h1 (h2.trans (Nat.zero_add _).symm)
    · exact proj_tile m c t 0 0 0 rfl _ x (by show y0.val = 0; omega) h1 (h2.trans (Nat.zero_add _).symm)

end Cert.UpActIdeal.Hand
end
-- ==== Proof.UpActF.lean ====
module

public import proofs.«01_k».proof.Proof.UpActK

/-! The second result of the up-projection's forward: the gated product. -/

@[expose] public section

set_option maxRecDepth 16384

noncomputable section

namespace Cert.UpActIdeal.Hand

open Cert.UpActIdeal Cert.UpActIdeal.Gen Idealize.ShloMosaic Idealize.ShloMosaic.TcCoe Idealize.SL.Sem
open Idealize.ShloMosaic.Pipeline (Dat)

variable (m : (ℓ : Loc nD τ sig) → Buf (Elt Ideal) ℓ)

/-- The loads of a half's chunk, given what it reads for the rows before the block. -/
theorem loads (c : Dev nD) (t : Fin cfg0.N) (s : Fin 2) (k : Fin 4) {E : Vec Ideal S1x16x768 .f32} (hE : ∀ a i, E (ix3 (0 : Fin 1) (a : Fin 16) (i : Fin 768)) = earlier m c t s a (chunk k i))
    (hb hi) (hr) (k2 k0 k1) :
    Loads m c t s (chunk k) E (View.ld (iblk m c 3 t) (Rect.unit (s := S2x1x3072) ![s.val, 0, 768 * k.val] ![1, 1, 768] hb))
      (View.ld (View.read (Elt Ideal) (((ms0_2 t).view.slice (Rect.unit (s := S2x3x3072) ![s.val, 0, 0] ![1, 3, 3072] hi)).reshape S3x3072 hr) ((hs0_2 t).unread (iblk m c 2 t))) (Rect.unit (s := S3x3072) ![2, 768 * k.val] ![1, 768] k2))
      (View.ld (View.read (Elt Ideal) (((ms0_2 t).view.slice (Rect.unit (s := S2x3x3072) ![s.val, 0, 0] ![1, 3, 3072] hi)).reshape S3x3072 hr) ((hs0_2 t).unread (iblk m c 2 t))) (Rect.unit (s := S3x3072) ![0, 768 * k.val] ![1, 768] k0))
      (View.ld (View.read (Elt Ideal) (((ms0_2 t).view.slice (Rect.unit (s := S2x3x3072) ![s.val, 0, 0] ![1, 3, 3072] hi)).reshape S3x3072 hr) ((hs0_2 t).unread (iblk m c 2 t))) (Rect.unit (s := S3x3072) ![1, 768 * k.val] ![1, 768] k1)) := by
  refine ⟨hE, fun i => ?_, fun i => ?_, fun i => ?_, fun i => ?_⟩
  · refine Eq.trans (congrArg (iblk m c 3 t) (a₂ := ix3 s 0 (chunk k i)) (funext fun a => Fin.ext ?_)) (at3 m c t s (chunk k i))
    fin_cases a
    · show s.val + 1 * 0 = s.val; omega
    · rfl
    · show 768 * k.val + 1 * i.val = 768 * k.val + i.val; omega
  on_goal 1 => refine Eq.trans (congrArg (View.read (Elt Ideal) _ _) (a₂ := ix2 2 (chunk k i)) (funext fun a => Fin.ext ?_)) (half_at m c t s 2 (chunk k i) hi hr)
  on_goal 2 => refine Eq.trans (congrArg (View.read (Elt Ideal) _ _) (a₂ := ix2 0 (chunk k i)) (funext fun a => Fin.ext ?_)) (half_at m c t s 0 (chunk k i) hi hr)
  on_goal 3 => refine Eq.trans (congrArg (View.read (Elt Ideal) _ _) (a₂ := ix2 1 (chunk k i)) (funext fun a => Fin.ext ?_)) (half_at m c t s 1 (chunk k i) hi hr)
  all_goals
    fin_cases a
    · rfl
    · show 768 * k.val + 1 * i.val = 768 * k.val + i.val; omega

/-- The rectangle of the kept rows of a half's chunk. -/
abbrev keptRect (s : Fin 2) (k : Fin 4) : Rect S2x16x3072 := Rect.unit ![s.val, 0, 768 * k.val] ![1, 16, 768] (fun a => by fin_cases a <;> simp <;> omega)

/-- In the first block the rows before it are loaded as zeros. -/
theorem fresh (c : Dev nD) (t : Fin cfg0.N) (h : t.val % 16 = 0) (s : Fin 2) (k : Fin 4) (L : List (View.Piece (Elt Ideal) S2x16x3072 .f32))
    (hq : L.getLast? = some ⟨Rect.unit (s := S2x16x3072) ![0, 0, 0] S2x16x3072.size inb_S2x16x3072_S2x16x3072_0_0_0, k0_pay2 (F := Ideal)⟩)
    (hd : (L.dropLast.all fun p => LoadRect.disj p.1 (keptRect s k).toLoadRect) = true) (a : Fin 16) (i : Fin 768) :
    (View.whole cc0_scratch0).readCov L (keptRect s k).toLoadRect (ix3 (0 : Fin 1) a i) = earlier m c t s a (chunk k i) := by
  have := val_lt t
  rw [Cert.HeadIdeal.Hand.readCov_last _ _ _ L hq hd, View.readCov_fill _ _ _ _ _ (by decide), earlier, dif_neg (by omega)]
  pointwise [k0_pay2]

/-- In a later block they are those that the point before it kept. -/
theorem carried (c : Dev nD) (t : Fin cfg0.N) (h : ¬ t.val % 16 = 0) (s : Fin 2) (k : Fin 4) (hl : t.val - 1 < cfg0.N) (a : Fin 16) (i : Fin 768) :
    View.ld (outsAt0 m c (t.val - 1) hl).2.2 (keptRect s k) (ix3 (0 : Fin 1) a i) = earlier m c t s a (chunk k i) := by
  have := val_lt t
  rw [show (outsAt0 m c (t.val - 1) hl).2.2 = _ from kept m c ⟨t.val - 1, hl⟩, earlier, dif_pos (by omega)]
  refine u0_at m c ?_ ?_ ?_
  · show s.val + 1 * 0 = s.val; omega
  · show (t.val - 1) * 256 + (240 + (0 + 1 * a.val)) = t.val * 256 + a.val - 16; omega
  · show 768 * k.val + 1 * i.val = 768 * k.val + i.val; omega

set_option maxHeartbeats 2000000 in
/-- The gated product. -/
theorem final5 (c : Dev nD) : (dats m 0 c).arrAt 5 (cfgs 0).N = fun j => UpActMath.f (args m c) (j 0) (j 1) := by
  refine (dats m 0 c).arrAt_eq_of_covers 5 _ (by decide +kernel) fun t hf y => ?_
  blk_simp
  rw [after0_5]
  idx_vars y
  have e : (win0_5.blk t).view.emb (ix2 y0 y1) = ix2 (row t y0) y1 := by blk_ext [index_eq t]
  refine Eq.trans ?_ (congrArg (fun j : S4096x3072.Idx => UpActMath.f (args m c) (j 0) (j 1)) e.symm)
  clear e hf
  have place {k : Fin 4} {i : Fin 768} (h : y1.val = 768 * k.val + i.val) : UpActMath.f (args m c) (row t y0) (chunk k i) = UpActMath.f (args m c) (row t y0) y1 :=
    congrArg (UpActMath.f (args m c) (row t y0)) (Fin.ext h.symm)
  by_cases a : t.val % 16 = 0
  · rw [outsAt0_A m c t a]; frame_out
    simp only [conv_00, conv_01, conv_10, conv_11, conv_20, conv_21, conv_30, conv_31, gate_0, gate_1, gate_2, gate_3]
    canon_tiles x h
    all_goals
      obtain rfl : y0 = x 0 := Fin.ext h0
      change (y1 : ℕ) = _ at h1
    · refine Eq.trans (congrFun (gate_eq m c t (col := chunk 3) ?_ ?_ ?_ ?_) x) (place h1)
      · exact weights m c t 0 3 3 rfl _
      · exact loads m c t 0 3 (fresh m c t a 0 3 _ rfl rfl) _ _ _ _ _ _
      · exact weights m c t 1 3 7 rfl _
      · exact loads m c t 1 3 (fresh m c t a 1 3 _ rfl rfl) _ _ _ _ _ _
    · refine Eq.trans (congrFun (gate_eq m c t (col := chunk 2) ?_ ?_ ?_ ?_) x) (place h1)
      · exact weights m c t 0 2 2 rfl _
      · exact loads m c t 0 2 (fresh m c t a 0 2 _ rfl rfl) _ _ _ _ _ _
      · exact weights m c t 1 2 6 rfl _
      · exact loads m c t 1 2 (fresh m c t a 1 2 _ rfl rfl) _ _ _ _ _ _
    · refine Eq.trans (congrFun (gate_eq m c t (col := chunk 1) ?_ ?_ ?_ ?_) x) (place h1)
      · exact weights m c t 0 1 1 rfl _
      · exact loads m c t 0 1 (fresh m c t a 0 1 _ rfl rfl) _ _ _ _ _ _
      · exact weights m c t 1 1 5 rfl _
      · exact loads m c t 1 1 (fresh m c t a 1 1 _ rfl rfl) _ _ _ _ _ _
    · refine Eq.trans (congrFun (gate_eq m c t (col := chunk 0) ?_ ?_ ?_ ?_) x) (place (h1.trans (Nat.zero_add _).symm))
      · exact weights m c t 0 0 0 rfl _
      · exact loads m c t 0 0 (fresh m c t a 0 0 _ rfl rfl) _ _ _ _ _ _
      · exact weights m c t 1 0 4 rfl _
      · exact loads m c t 1 0 (fresh m c t a 1 0 _ rfl rfl) _ _ _ _ _ _
  · rw [outsAt0_B m c t a]; frame_out
    simp only [conv_00, conv_01, conv_10, conv_11, conv_20, conv_21, conv_30, conv_31, gate_0, gate_1, gate_2, gate_3, read_unread_whole]
    canon_tiles x h
    all_goals
      obtain rfl : y0 = x 0 := Fin.ext h0
      change (y1 : ℕ) = _ at h1
    · refine Eq.trans (congrFun (gate_eq m c t (col := chunk 3) ?_ ?_ ?_ ?_) x) (place h1)
      · exact weights m c t 0 3 3 rfl _
      · exact loads m c t 0 3 (carried m c t a 0 3 _) _ _ _ _ _ _
      · exact weights m c t 1 3 7 rfl _
      · exact loads m c t 1 3 (carried m c t a 1 3 _) _ _ _ _ _ _
    · refine Eq.trans (congrFun (gate_eq m c t (col := chunk 2) ?_ ?_ ?_ ?_) x) (place h1)
      · exact weights m c t 0 2 2 rfl _
      · exact loads m c t 0 2 (carried m c t a 0 2 _) _ _ _ _ _ _
      · exact weights m c t 1 2 6 rfl _
      · exact loads m c t 1 2 (carried m c t a 1 2 _) _ _ _ _ _ _
    · refine Eq.trans (congrFun (gate_eq m c t (col := chunk 1) ?_ ?_ ?_ ?_) x) (place h1)
      · exact weights m c t 0 1 1 rfl _
      · exact loads m c t 0 1 (carried m c t a 0 1 _) _ _ _ _ _ _
      · exact weights m c t 1 1 5 rfl _
      · exact loads m c t 1 1 (carried m c t a 1 1 _) _ _ _ _ _ _
    · refine Eq.trans (congrFun (gate_eq m c t (col := chunk 0) ?_ ?_ ?_ ?_) x) (place (h1.trans (Nat.zero_add _).symm))
      · exact weights m c t 0 0 0 rfl _
      · exact loads m c t 0 0 (carried m c t a 0 0 _) _ _ _ _ _ _
      · exact weights m c t 1 0 4 rfl _
      · exact loads m c t 1 0 (carried m c t a 1 0 _) _ _ _ _ _ _

end Cert.UpActIdeal.Hand
end
-- ==== Proof.UpActR.lean ====
module

public import proofs.«01_k».proof.Proof.Gen.UpActRefIdeal.Run
public import Idealize.ShloMosaic.Lib.Pointwise
public import Idealize.ShloMosaic.Lib.Tactic.CleanTypes
public import proofs.«01_k».proof.Proof.UpAct
public import proofs.«01_k».proof.Proof.HeadB
public import proofs.«01_k».proof.Proof.InProj
public import proofs.«01_k».proof.Proof.HostReduce

@[expose] public section

set_option maxRecDepth 100000

noncomputable section

/-! What the forward lines of the gated unit leave in their two results. -/

namespace Cert.UpActRefIdeal.Hand

open Cert.UpActRefIdeal Cert.UpActRefIdeal.Gen Cert.UpActRefIdeal.Value Idealize.ShloMosaic Idealize.ShloMosaic.TcCoe Idealize.SL.Sem

variable (m : (ℓ : Loc nD τ sig) → Buf (Elt Ideal) ℓ)

/-- The arguments, by name: the state, the scale and the weight, and all under the names that the loss gives them. -/
abbrev x (c : Dev nD) : S1x4096x1024.Idx → EReal := m ((c.tc : Thread nD τ).loc main_arg0)
abbrev g (c : Dev nD) : S1x1024.Idx → EReal := m ((c.tc : Thread nD τ).loc main_arg1)
abbrev w (c : Dev nD) : S1x1024x6144.Idx → EReal := m ((c.tc : Thread nD τ).loc main_arg2)
abbrev args (c : Dev nD) : HeadMath.Arrays :=
  UpActMath.arrays (x m c) (g m c) (w m c) (m ((c.tc : Thread nD τ).loc main_arg3)) (m ((c.tc : Thread nD τ).loc main_arg4))

set_option maxHeartbeats 4000000 in
/-- The projection in two halves, and the unit's product. -/
theorem run (ρ : Dev nD → PrngReg) : θ_run defs (onTc (τ := τ) (main (F := Ideal))) ⟨m, fun _ => 0, ρ⟩ fun r => ∀ c : Dev nD,
    (r.2.mem ((c.tc : Thread nD τ).loc main_v48) = fun j : S2x4096x3072.Idx => UpActMath.u0 (args m c) (j 0) (j 1) (j 2))
      ∧ (r.2.mem ((c.tc : Thread nD τ).loc main_v64) = fun j : S4096x3072.Idx => UpActMath.f (args m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun j => ?_), (h c).2.1.trans (funext fun j => ?_), (h c).2.2⟩) (Value.run m ρ)
  all_goals idx_vars j
  · show _ = UpActMath.u0 (args m c) j0 j1 j2
    clean_types
    pointwise [HostReduce.unit_ends, InProjMath.lit_channels, InProjMath.lit_eps]
    split
    all_goals
      rw [show UpActMath.u0 (args m c) j0 j1 j2 = UpActMath.u (x m c) (g m c) (w m c) j1 (HeadMath.col j0 j2) from rfl]
      refine Finset.sum_congr rfl fun k _ => ?_
      refine congrArg₂ (· * ·) (congrArg (fun s : Fin 1 => x m c (ix3 s j1 k) * InProjMath.root (x m c) j1 * g m c (ix2 0 k)) (Subsingleton.elim _ _))
        (congrArg (fun j : Fin 6144 => w m c (ix3 0 k j)) (Fin.ext ?_))
      show _ = j0.val * 3072 + j2.val
      simp only
      omega
  · show _ = UpActMath.f (args m c) j0 j1
    unfold res_main_v64
    clean_types
    pointwise [HostReduce.unit_ends, InProjMath.lit_channels, InProjMath.lit_eps, UpActMath.lit_K, HeadMath.lit_C, HeadMath.lit_half]
    refine UpActMath.f_host (args m c) j0 j1 ?_ ?_
    · exact Cert.HeadIdeal.Hand.conv_host (args m c) 0 j0 j1 ⟨j1.val, by omega⟩ (by simp) (fun _ => lt_of_le_of_lt (Nat.sub_le _ _) j0.isLt) (fun _ => by omega)
    · exact Cert.HeadIdeal.Hand.conv_host (args m c) 1 j0 j1 ⟨3072 + j1.val, by omega⟩ (by simp) (fun _ => lt_of_le_of_lt (Nat.sub_le _ _) j0.isLt) (fun _ => by omega)

end Cert.UpActRefIdeal.Hand
end
-- ==== Proof.UpActClaim.lean ====
module

public import proofs.«01_k».proof.Defs
public import proofs.«01_k».proof.Proof.UpActF
public import proofs.«01_k».proof.Proof.UpActR
public import Idealize.ShloMosaic.Lib.Claim
public import proofs.«01_k».proof.Proof.Gen.UpActIdeal
public import proofs.«01_k».proof.Proof.Gen.UpActRefIdeal

@[expose] public section

set_option maxRecDepth 16384

noncomputable section

namespace Cert.UpActClaim

open Idealize.ShloMosaic Idealize.SL.Sem

set_option maxHeartbeats 4000000 in
/-- Kernel and forward lines leave the same two arrays. -/
theorem algebraic : Cert.algebraic_UpActIdeal_UpActRefIdeal (hUpActIdeal := Cert.UpActIdeal.Gen.facts) (hUpActRefIdeal := Cert.UpActRefIdeal.Gen.facts) := by
  intro m g m' g' _ agree
  refine ⟨fun c j => UpActMath.u0 (Cert.UpActIdeal.Hand.args m c) (j 0) (j 1) (j 2), fun c j => UpActMath.f (Cert.UpActIdeal.Hand.args m c) (j 0) (j 1), ?_, ?_⟩
  · refine (θ_run _ _ _).mono (fun r h c => ?_) (θ_run_and (Cert.UpActIdeal.Gen.run_main m g) (Cert.UpActIdeal.Gen.unchanged m g))
    obtain ⟨h, k⟩ := h
    have h := (h c).1
    exact ⟨(h 4).trans (Cert.UpActIdeal.Hand.final4 m c), (h 5).trans (Cert.UpActIdeal.Hand.final5 m c), k c⟩
  · refine (θ_run _ _ _).mono (fun r h c => ?_) (Cert.UpActRefIdeal.Hand.run m' g')
    have e : Cert.UpActRefIdeal.Hand.args m' c = Cert.UpActIdeal.Hand.args m c := by
      obtain ⟨a0, a1, a2, a3, a4⟩ := agree c
      have e0 : Cert.UpActRefIdeal.Hand.x m' c = Cert.UpActIdeal.Hand.x m c := a0
      have e1 : Cert.UpActRefIdeal.Hand.g m' c = Cert.UpActIdeal.Hand.g m c := a1
      have e2 : Cert.UpActRefIdeal.Hand.w m' c = Cert.UpActIdeal.Hand.w m c := a2
      unfold Cert.UpActRefIdeal.Hand.args Cert.UpActIdeal.Hand.args
      rw [e0, e1, e2]
      congr 1
    have h := h c
    rw [e] at h
    exact h

end Cert.UpActClaim

end
-- ==== Proof.Down.lean ====
module

public import Idealize.ShloMosaic.Lib.Pointwise
public import Mathlib.Algebra.BigOperators.Fin

/-! The gradient of the down projection's weight, and its sum taken block after block. -/

@[expose] public section

set_option maxRecDepth 16384

noncomputable section

namespace Cert.DownMath

open Idealize.ShloMosaic

/-- The product's input and the gradient of its result. -/
abbrev Input := (⟨3, ![1, 4096, 3072]⟩ : Shape).Idx → EReal
abbrev Grad := (⟨3, ![1, 4096, 1024]⟩ : Shape).Idx → EReal

/-- What the token `n` adds to an entry of the gradient. -/
def term (f : Input) (d : Grad) (i : Fin 3072) (j : Fin 1024) (n : Fin 4096) : EReal := f (ix3 0 n i) * d (ix3 0 n j)

/-- The gradient of the weight: the sum over the tokens. -/
def dw (f : Input) (d : Grad) (i : Fin 3072) (j : Fin 1024) : EReal := ∑ n : Fin 4096, term f d i j n

/-- The row of a block of 512 tokens. -/
abbrev row (s : Fin 8) (a : Fin 512) : Fin 4096 := ⟨s.val * 512 + a.val, by omega⟩

/-- What a block of tokens adds; nothing past the last block. -/
def block (u : Fin 4096 → EReal) (s : ℕ) : EReal := if h : s < 8 then ∑ a : Fin 512, u (row ⟨s, h⟩ a) else 0

/-- The sum of the first `n` blocks. -/
def upto (u : Fin 4096 → EReal) (n : ℕ) : EReal := ∑ s ∈ Finset.range n, block u s

theorem upto_zero (u : Fin 4096 → EReal) : upto u 0 = 0 := Finset.sum_range_zero _

theorem upto_succ (u : Fin 4096 → EReal) (n : ℕ) (h : n < 8) : upto u (n + 1) = upto u n + ∑ a : Fin 512, u (row ⟨n, h⟩ a) :=
  (Finset.sum_range_succ _ n).trans (congrArg (upto u n + ·) (dif_pos h))

/-- All eight blocks are all tokens. -/
theorem upto_all (u : Fin 4096 → EReal) : upto u 8 = ∑ n : Fin 4096, u n := by
  unfold upto
  rw [Finset.sum_range, ← (finProdFinEquiv (m := 8) (n := 512)).sum_comp, Fintype.sum_prod_type]
  refine Finset.sum_congr rfl fun s _ => (dif_pos s.isLt).trans (Finset.sum_congr rfl fun a _ => congrArg u (Fin.ext ?_))
  show s.val * 512 + a.val = a.val + 512 * s.val
  omega

end Cert.DownMath
end
-- ==== Proof.DownK.lean ====
module

public import proofs.«01_k».proof.Proof.Gen.DownIdeal.Frame
public import Idealize.ShloMosaic.Lib.Pipeline.ValueKit
public import Idealize.ShloMosaic.Lib.Pipeline.ReadBack
public import Idealize.ShloMosaic.Lib.Pointwise
public import proofs.«01_k».proof.Proof.Down

/-! What the call of the down projection's weight gradient writes into its result. -/

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![t.val, 0] ∧ win0_2.index t = ![0, 0] :=
  (by decide +kernel : ∀ t : Fin grid0.N, _)

/-- There are eight points, one for each block of tokens. -/
theorem points (t : Fin cfg0.N) : t.val < 8 := lt_of_lt_of_eq t.isLt N_0

/-- Row `a` of the block of point `t`. -/
abbrev row (t : Fin cfg0.N) (a : Fin 512) : Fin 4096 := DownMath.row ⟨t.val, points t⟩ a

/-- The arguments by name: the product's input and the gradient of its result. -/
abbrev f (c : Dev nD) : DownMath.Input := m ((c.tc : Thread nD τ).loc main_arg0)
abbrev d (c : Dev nD) : DownMath.Grad := m ((c.tc : Thread nD τ).loc main_arg1)

/-! What the windows' blocks hold of the arrays. -/

theorem at0 (c : Dev nD) (t : Fin cfg0.N) (a : Fin 512) (i : Fin 3072) : iblk m c 0 t (ix2 a i) = f m c (ix3 0 (row t a) i) := by
  blk_simp [iblk]
  entry_read
  pointwise
  blk_point [index_eq t]
theorem at1 (c : Dev nD) (t : Fin cfg0.N) (a : Fin 512) (i : Fin 1024) : iblk m c 1 t (ix2 a i) = d m c (ix3 0 (row t a) i) := by
  blk_simp [iblk]
  entry_read
  pointwise
  blk_point [index_eq t]

/-- The running sum after point `t`. -/
abbrev acc (c : Dev nD) (t : Fin cfg0.N) (i : Fin 3072) (j : Fin 1024) : EReal := (outsAt0 m c t.val t.isLt).2 (ix2 i j)

set_option maxHeartbeats 1000000 in
/-- The first point starts the sum from zero. -/
theorem acc_first (c : Dev nD) (t : Fin cfg0.N) (h : t.val = 0) (i : Fin 3072) (j : Fin 1024) :
    acc m c t i j = 0 + ∑ a : Fin 512, DownMath.term (f m c) (d m c) i j (row t a) := by
  unfold acc
  rw [outsAt0_A m c t (by omega) (by omega)]
  frame_out
  pointwise [k0_pay1, k0_pay2, at0 m c t, at1 m c t]
  rfl

set_option maxHeartbeats 1000000 in
/-- Every later point adds its block to the sum. -/
theorem acc_next (c : Dev nD) (t : Fin cfg0.N) (h : ¬ t.val = 0) (i : Fin 3072) (j : Fin 1024) :
    acc m c t i j = acc m c ⟨t.val - 1, by omega⟩ i j + ∑ a : Fin 512, DownMath.term (f m c) (d m c) i j (row t a) := by
  have b := points t
  unfold acc
  by_cases h1 : t.val % 8 = 7
  · rw [outsAt0_C m c t (by omega) h1]
    frame_out
    simp only [read_unread_whole]
    pointwise [k0_pay2, at0 m c t, at1 m c t]
    rfl
  · rw [outsAt0_B m c t (by omega) h1]
    frame_out
    simp only [read_unread_whole]
    pointwise [k0_pay2, at0 m c t, at1 m c t]
    rfl

/-- After point `t` the sum is that of the blocks up to `t`. -/
theorem acc_eq (c : Dev nD) (i : Fin 3072) (j : Fin 1024) : ∀ (n : ℕ) (h : n < cfg0.N),
    acc m c ⟨n, h⟩ i j = DownMath.upto (DownMath.term (f m c) (d m c) i j) (n + 1)
  | 0, h => by
    rw [acc_first m c ⟨0, h⟩ rfl, DownMath.upto_succ _ 0 (by omega), DownMath.upto_zero]
  | n + 1, h => by
    rw [acc_next m c ⟨n + 1, h⟩ (Nat.succ_ne_zero n), DownMath.upto_succ _ (n + 1) (points ⟨n + 1, h⟩)]
    exact congrArg (· + _) (acc_eq c i j n (by omega))

set_option maxHeartbeats 1000000 in
/-- The last point writes the sum out. -/
theorem out_last (c : Dev nD) (t : Fin cfg0.N) (h : t.val = 7) (i : Fin 3072) (j : Fin 1024) :
    (outsAt0 m c t.val t.isLt).1 (ix2 i j) = acc m c t i j := by
  rw [acc_next m c t (by omega)]
  rw [outsAt0_C m c t (by omega) (by omega)]
  frame_out
  simp only [read_unread_whole]
  pointwise [k0_pay2, k0_pay3, at0 m c t, at1 m c t]
  rfl

set_option maxHeartbeats 1000000 in
/-- The gradient of the weight. -/
theorem final2 (c : Dev nD) : (dats m 0 c).arrAt 2 (cfgs 0).N = fun j => DownMath.dw (f m c) (d m c) (j 0) (j 1) := by
  refine (dats m 0 c).arrAt_eq_of_covers 2 _ (by decide +kernel) fun t hf y => ?_
  have b : t.val = 7 := (by decide +kernel : ∀ t : Fin cfg0.N, (cfg0.win 2).flush t = true → t.val = 7) t hf
  blk_simp
  rw [after0_2]
  idx_vars y
  have e : (win0_2.blk t).view.emb (ix2 y0 y1) = ix2 y0 y1 := by blk_ext [index_eq t]
  refine Eq.trans ?_ (congrArg (fun j : S3072x1024.Idx => DownMath.dw (f m c) (d m c) (j 0) (j 1)) e.symm)
  refine (out_last m c t b y0 y1).trans ((acc_eq m c y0 y1 t.val t.isLt).trans ?_)
  rw [b]
  exact DownMath.upto_all _

end Cert.DownIdeal.Hand
end
-- ==== Proof.DownR.lean ====
module

public import proofs.«01_k».proof.Proof.Gen.DownRefIdeal.Run
public import Idealize.ShloMosaic.Lib.Pointwise
public import Idealize.ShloMosaic.Lib.Tactic.CleanTypes
public import proofs.«01_k».proof.Proof.Down

@[expose] public section

set_option maxRecDepth 100000

noncomputable section

/-! What the gradient's lines of the down projection leave in their result. -/

namespace Cert.DownRefIdeal.Hand

open Cert.DownRefIdeal Cert.DownRefIdeal.Gen Cert.DownRefIdeal.Value Idealize.ShloMosaic Idealize.ShloMosaic.TcCoe Idealize.SL.Sem

variable (m : (ℓ : Loc nD τ sig) → Buf (Elt Ideal) ℓ)

/-- The arguments by name: the product's input and the gradient of its result. -/
abbrev f (c : Dev nD) : DownMath.Input := m ((c.tc : Thread nD τ).loc main_arg0)
abbrev d (c : Dev nD) : DownMath.Grad := m ((c.tc : Thread nD τ).loc main_arg1)

set_option maxHeartbeats 2000000 in
/-- The gradient of the weight. -/
theorem run (g : Dev nD → PrngReg) : θ_run defs (onTc (τ := τ) (main (F := Ideal))) ⟨m, fun _ => 0, g⟩ fun r => ∀ c : Dev nD,
    (r.2.mem ((c.tc : Thread nD τ).loc main_v4) = fun j : S3072x1024.Idx => DownMath.dw (f m c) (d m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun j => ?_), (h c).2⟩) (Value.run m g)
  idx_vars j
  show _ = DownMath.dw (f m c) (d m c) j0 j1
  clean_types
  pointwise
  rw [Fin.sum_univ_one]
  refine Finset.sum_congr rfl fun n _ => ?_
  exact mul_comm (d m c (ix3 0 n j1)) (f m c (ix3 0 n j0))

end Cert.DownRefIdeal.Hand
end
-- ==== Proof.DownClaim.lean ====
module

public import proofs.«01_k».proof.Defs
public import proofs.«01_k».proof.Proof.DownK
public import proofs.«01_k».proof.Proof.DownR
public import Idealize.ShloMosaic.Lib.Claim
public import proofs.«01_k».proof.Proof.Gen.DownIdeal
public import proofs.«01_k».proof.Proof.Gen.DownRefIdeal

@[expose] public section

set_option maxRecDepth 16384

noncomputable section

namespace Cert.DownClaim

open Idealize.ShloMosaic Idealize.SL.Sem

set_option maxHeartbeats 4000000 in
/-- Kernel and gradient's lines leave the same array. -/
theorem algebraic : Cert.algebraic_DownIdeal_DownRefIdeal (hDownIdeal := Cert.DownIdeal.Gen.facts) (hDownRefIdeal := Cert.DownRefIdeal.Gen.facts) := by
  intro m g m' g' _ agree
  refine ⟨fun c j => DownMath.dw (Cert.DownIdeal.Hand.f m c) (Cert.DownIdeal.Hand.d m c) (j 0) (j 1), ?_, ?_⟩
  · refine (θ_run _ _ _).mono (fun r h c => ?_) (θ_run_and (Cert.DownIdeal.Gen.run_main m g) (Cert.DownIdeal.Gen.unchanged m g))
    obtain ⟨h, k⟩ := h
    have h := (h c).1
    exact ⟨(h 2).trans (Cert.DownIdeal.Hand.final2 m c), k c⟩
  · refine (θ_run _ _ _).mono (fun r h c => ?_) (Cert.DownRefIdeal.Hand.run m' g')
    obtain ⟨a0, a1⟩ := agree c
    have e0 : Cert.DownRefIdeal.Hand.f m' c = Cert.DownIdeal.Hand.f m c := a0
    have e1 : Cert.DownRefIdeal.Hand.d m' c = Cert.DownIdeal.Hand.d m c := a1
    have h := h c
    rw [e0, e1] at h
    exact h

end Cert.DownClaim

end
-- ==== Proof.Adam.lean ====
module

public import proofs.«01_k».proof.Proof.HostReduce

/-! The optimiser's step of one weight, in plain terms. -/

@[expose] public section

set_option maxRecDepth 16384

noncomputable section

namespace Cert.AdamMath

open Idealize.ShloMosaic

/-- A shard of a weight or of a moment, and the devices' parts of its gradient. -/
abbrev Shard := (⟨3, ![1, 384, 1024]⟩ : Shape).Idx → EReal
abbrev Parts := (⟨3, ![8, 384, 1024]⟩ : Shape).Idx → EReal

/-- The gradient: the sum of the devices' parts. -/
def g (P : Parts) (i : Fin 384) (j : Fin 1024) : EReal := ∑ k : Fin 8, P (ix3 k i j)

/-- The new first moment. -/
def first (P : Parts) (M : Shard) (i : Fin 384) (j : Fin 1024) : EReal :=
  Ideal.ofBits .f32 0x3F666666#32 * M (ix3 0 i j) + Ideal.ofBits .f32 0x3DCCCCCD#32 * g P i j

/-- The new second moment. -/
def second (P : Parts) (V : Shard) (i : Fin 384) (j : Fin 1024) : EReal :=
  Ideal.ofBits .f32 0x3F7FBE77#32 * V (ix3 0 i j) + Ideal.ofBits .f32 0x3A83126F#32 * (g P i j * g P i j)

/-- The step: the corrected first moment over the root of the corrected second, and the decay. -/
def delta (P : Parts) (W M V : Shard) (i : Fin 384) (j : Fin 1024) : EReal :=
  Ideal.ofBits .f32 0xBA83126F#32 *
    (Ideal.div (Ideal.div (first P M i j) (Ideal.ofBits .f32 0x3F26BD02#32))
        (Ideal.sqrt (Ideal.div (second P V i j) (Ideal.ofBits .f32 0x3C231ACC#32)) + Ideal.ofBits .f32 0x322BCC77#32)
      + Ideal.ofBits .f32 0x3C23D70A#32 * W (ix3 0 i j))

/-- The parts' sum over the devices' axis. -/
theorem devices (h : (⟨3, ![8, 384, 1024]⟩ : Shape).ReducesTo [0] (⟨2, ![384, 1024]⟩ : Shape)) (v : Parts) (init : EReal) (i : Fin 384) (j : Fin 1024) :
    Ideal.hostReduceAdd h v init (ix2 i j) = init + g v i j := by
  unfold Ideal.hostReduceAdd g
  rw [Finset.sum_filter_eq_sum_of_fiber _ (fun k : Fin 8 => ix3 (n0 := 8) (n1 := 384) (n2 := 1024) k i j) (fun _ _ e => congrFun e 0) ?_]
  intro k
  constructor
  · intro e
    refine ⟨k 0, ?_⟩
    funext a; apply Fin.ext
    match a with
    | ⟨0, _⟩ => rfl
    | ⟨1, _⟩ => exact (congrArg Fin.val (congrFun e 0)).symm
    | ⟨2, _⟩ => exact (congrArg Fin.val (congrFun e 1)).symm
  · rintro ⟨k, rfl⟩
    funext b
    match b with
    | ⟨0, _⟩ => rfl
    | ⟨1, _⟩ => rfl

end Cert.AdamMath
end
-- ==== Proof.AdamK.lean ====
module

public import proofs.«01_k».proof.Proof.Gen.AdamIdeal.Frame
public import Idealize.ShloMosaic.Lib.Pipeline.ValueKit
public import Idealize.ShloMosaic.Lib.Pointwise
public import proofs.«01_k».proof.Proof.Adam

/-! What the optimiser's call writes into its four results. -/

@[expose] public section

set_option maxRecDepth 16384

noncomputable section

namespace Cert.AdamIdeal.Hand

open Cert.AdamIdeal Cert.AdamIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `a` of the block of point `t`. -/
abbrev row (t : Fin cfg0.N) (a : Fin 128) : Fin 384 := ⟨t.val * 128 + a.val, by have h : t.val < 3 := lt_of_lt_of_eq t.isLt N_0; omega⟩

/-- The arguments by name: the parts of the gradient, the weight, the two moments. -/
abbrev parts (c : Dev nD) : AdamMath.Parts := m ((c.tc : Thread nD τ).loc main_arg0)
abbrev w (c : Dev nD) : AdamMath.Shard := m ((c.tc : Thread nD τ).loc main_arg1)
abbrev m1 (c : Dev nD) : AdamMath.Shard := m ((c.tc : Thread nD τ).loc main_arg2)
abbrev m2 (c : Dev nD) : AdamMath.Shard := m ((c.tc : Thread nD τ).loc main_arg3)

/-! What the windows' blocks hold of the arrays. -/

theorem at0 (c : Dev nD) (t : Fin cfg0.N) (k : Fin 8) (a : Fin 128) (i : Fin 1024) : iblk m c 0 t (ix3 k a i) = parts m c (ix3 k (row t a) i) := by
  blk_simp [iblk]
  entry_read
  pointwise
  blk_point [index_eq t]
theorem at1 (c : Dev nD) (t : Fin cfg0.N) (a : Fin 128) (i : Fin 1024) : iblk m c 1 t (ix2 a i) = w m c (ix3 0 (row t a) i) := by
  blk_simp [iblk]
  entry_read
  pointwise
  blk_point [index_eq t]
theorem at2 (c : Dev nD) (t : Fin cfg0.N) (a : Fin 128) (i : Fin 1024) : iblk m c 2 t (ix2 a i) = m1 m c (ix3 0 (row t a) i) := by
  blk_simp [iblk]
  entry_read
  pointwise
  blk_point [index_eq t]
theorem at3 (c : Dev nD) (t : Fin cfg0.N) (a : Fin 128) (i : Fin 1024) : iblk m c 3 t (ix2 a i) = m2 m c (ix3 0 (row t a) i) := by
  blk_simp [iblk]
  entry_read
  pointwise
  blk_point [index_eq t]

/-- The gradient as the kernel adds it up, part after part. -/
theorem g_eq (P : AdamMath.Parts) (i : Fin 384) (j : Fin 1024) : P (ix3 0 i j) + P (ix3 1 i j) + P (ix3 2 i j) + P (ix3 3 i j) + P (ix3 4 i j)
    + P (ix3 5 i j) + P (ix3 6 i j) + P (ix3 7 i j) = AdamMath.g P i j := by
  unfold AdamMath.g
  rw [Fin.sum_univ_eight]

set_option maxHeartbeats 1000000 in
/-- The gradient. -/
theorem final4 (c : Dev nD) : (dats m 0 c).arrAt 4 (cfgs 0).N = fun j => AdamMath.g (parts m c) (j 0) (j 1) := by
  refine (dats m 0 c).arrAt_eq_of_covers 4 _ (by decide +kernel) fun t hf y => ?_
  blk_simp
  rw [after0_4]
  idx_vars y
  have e : (win0_4.blk t).view.emb (ix2 y0 y1) = ix2 (row t y0) y1 := by blk_ext [index_eq t]
  refine Eq.trans ?_ (congrArg (fun j : S384x1024.Idx => AdamMath.g (parts m c) (j 0) (j 1)) e.symm)
  frame_out
  pointwise [k0_pay4, at0 m c t]
  exact g_eq (parts m c) (row t y0) y1

set_option maxHeartbeats 1000000 in
/-- The new first moment. -/
theorem final6 (c : Dev nD) : (dats m 0 c).arrAt 6 (cfgs 0).N = fun j => AdamMath.first (parts m c) (m1 m c) (j 0) (j 1) := by
  refine (dats m 0 c).arrAt_eq_of_covers 6 _ (by decide +kernel) fun t hf y => ?_
  blk_simp
  rw [after0_6]
  idx_vars y
  have e : (win0_6.blk t).view.emb (ix2 y0 y1) = ix2 (row t y0) y1 := by blk_ext [index_eq t]
  refine Eq.trans ?_ (congrArg (fun j : S384x1024.Idx => AdamMath.first (parts m c) (m1 m c) (j 0) (j 1)) e.symm)
  frame_out
  pointwise [k0_pay1, k0_pay4, k0_pay5, at0 m c t, at2 m c t]
  rw [g_eq (parts m c) (row t y0) y1]
  rfl

set_option maxHeartbeats 1000000 in
/-- The new second moment. -/
theorem final7 (c : Dev nD) : (dats m 0 c).arrAt 7 (cfgs 0).N = fun j => AdamMath.second (parts m c) (m2 m c) (j 0) (j 1) := by
  refine (dats m 0 c).arrAt_eq_of_covers 7 _ (by decide +kernel) fun t hf y => ?_
  blk_simp
  rw [after0_7]
  idx_vars y
  have e : (win0_7.blk t).view.emb (ix2 y0 y1) = ix2 (row t y0) y1 := by blk_ext [index_eq t]
  refine Eq.trans ?_ (congrArg (fun j : S384x1024.Idx => AdamMath.second (parts m c) (m2 m c) (j 0) (j 1)) e.symm)
  frame_out
  pointwise [k0_pay2, k0_pay4, k0_pay5, at0 m c t, at3 m c t]
  rw [g_eq (parts m c) (row t y0) y1]
  rfl

set_option maxHeartbeats 1000000 in
/-- The step of the weight. -/
theorem final5 (c : Dev nD) : (dats m 0 c).arrAt 5 (cfgs 0).N = fun j => AdamMath.delta (parts m c) (w m c) (m1 m c) (m2 m c) (j 0) (j 1) := by
  refine (dats m 0 c).arrAt_eq_of_covers 5 _ (by decide +kernel) fun t hf y => ?_
  blk_simp
  rw [after0_5]
  idx_vars y
  have e : (win0_5.blk t).view.emb (ix2 y0 y1) = ix2 (row t y0) y1 := by blk_ext [index_eq t]
  refine Eq.trans ?_ (congrArg (fun j : S384x1024.Idx => AdamMath.delta (parts m c) (w m c) (m1 m c) (m2 m c) (j 0) (j 1)) e.symm)
  frame_out
  pointwise [k0_pay1, k0_pay2, k0_pay3, k0_pay4, k0_pay5, at0 m c t, at1 m c t, at2 m c t, at3 m c t]
  rw [g_eq (parts m c) (row t y0) y1]
  rfl

end Cert.AdamIdeal.Hand
end
-- ==== Proof.AdamR.lean ====
module

public import proofs.«01_k».proof.Proof.Gen.AdamRefIdeal.Run
public import Idealize.ShloMosaic.Lib.Pointwise
public import Idealize.ShloMosaic.Lib.Tactic.CleanTypes
public import proofs.«01_k».proof.Proof.Adam

@[expose] public section

set_option maxRecDepth 100000

noncomputable section

/-! What the optimiser's lines leave in their four results. -/

namespace Cert.AdamRefIdeal.Hand

open Cert.AdamRefIdeal Cert.AdamRefIdeal.Gen Cert.AdamRefIdeal.Value Idealize.ShloMosaic Idealize.ShloMosaic.TcCoe Idealize.SL.Sem

variable (m : (ℓ : Loc nD τ sig) → Buf (Elt Ideal) ℓ)

/-- The arguments by name: the parts of the gradient, the weight, the two moments. -/
abbrev parts (c : Dev nD) : AdamMath.Parts := m ((c.tc : Thread nD τ).loc main_arg0)
abbrev w (c : Dev nD) : AdamMath.Shard := m ((c.tc : Thread nD τ).loc main_arg1)
abbrev m1 (c : Dev nD) : AdamMath.Shard := m ((c.tc : Thread nD τ).loc main_arg2)
abbrev m2 (c : Dev nD) : AdamMath.Shard := m ((c.tc : Thread nD τ).loc main_arg3)

/-- The sum over the devices starts at zero. -/
theorem sum_eq (c : Dev nD) (h : (⟨3, ![8, 384, 1024]⟩ : Shape).ReducesTo [0] (⟨2, ![384, 1024]⟩ : Shape)) (i : Fin 384) (j : Fin 1024) :
    Ideal.hostReduceAdd h (parts m c) 0 (ix2 i j) = AdamMath.g (parts m c) i j := (AdamMath.devices h _ _ i j).trans (zero_add _)

set_option maxHeartbeats 2000000 in
/-- The gradient, the step and the two new moments. -/
theorem run (g : Dev nD → PrngReg) : θ_run defs (onTc (τ := τ) (main (F := Ideal))) ⟨m, fun _ => 0, g⟩ fun r => ∀ c : Dev nD,
    (r.2.mem ((c.tc : Thread nD τ).loc main_v0) = fun j : S384x1024.Idx => AdamMath.g (parts m c) (j 0) (j 1))
      ∧ (r.2.mem ((c.tc : Thread nD τ).loc main_v27) = fun j : S384x1024.Idx => AdamMath.delta (parts m c) (w m c) (m1 m c) (m2 m c) (j 0) (j 1))
      ∧ (r.2.mem ((c.tc : Thread nD τ).loc main_v8) = fun j : S384x1024.Idx => AdamMath.first (parts m c) (m1 m c) (j 0) (j 1))
      ∧ (r.2.mem ((c.tc : Thread nD τ).loc main_v14) = fun j : S384x1024.Idx => AdamMath.second (parts m c) (m2 m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun j => ?_), (h c).2.1.trans (funext fun j => ?_),
    (h c).2.2.1.trans (funext fun j => ?_), (h c).2.2.2.1.trans (funext fun j => ?_), (h c).2.2.2.2⟩) (Value.run m g)
  · idx_vars j
    show _ = AdamMath.g (parts m c) j0 j1
    clean_types
    pointwise [sum_eq m c]
  · idx_vars j
    show _ = AdamMath.delta (parts m c) (w m c) (m1 m c) (m2 m c) j0 j1
    clean_types
    pointwise [sum_eq m c]
    rfl
  · idx_vars j
    show _ = AdamMath.first (parts m c) (m1 m c) j0 j1
    clean_types
    pointwise [sum_eq m c]
    rfl
  · idx_vars j
    show _ = AdamMath.second (parts m c) (m2 m c) j0 j1
    clean_types
    pointwise [sum_eq m c]
    rfl

end Cert.AdamRefIdeal.Hand
end
-- ==== Proof.AdamClaim.lean ====
module

public import proofs.«01_k».proof.Defs
public import proofs.«01_k».proof.Proof.AdamK
public import proofs.«01_k».proof.Proof.AdamR
public import Idealize.ShloMosaic.Lib.Claim
public import proofs.«01_k».proof.Proof.Gen.AdamIdeal
public import proofs.«01_k».proof.Proof.Gen.AdamRefIdeal

@[expose] public section

set_option maxRecDepth 16384

noncomputable section

namespace Cert.AdamClaim

open Idealize.ShloMosaic Idealize.SL.Sem

set_option maxHeartbeats 4000000 in
/-- Kernel and optimiser's lines leave the same four arrays. -/
theorem algebraic : Cert.algebraic_AdamIdeal_AdamRefIdeal (hAdamIdeal := Cert.AdamIdeal.Gen.facts) (hAdamRefIdeal := Cert.AdamRefIdeal.Gen.facts) := by
  intro m g m' g' _ agree
  refine ⟨fun c j => AdamMath.g (Cert.AdamIdeal.Hand.parts m c) (j 0) (j 1),
    fun c j => AdamMath.delta (Cert.AdamIdeal.Hand.parts m c) (Cert.AdamIdeal.Hand.w m c) (Cert.AdamIdeal.Hand.m1 m c) (Cert.AdamIdeal.Hand.m2 m c) (j 0) (j 1),
    fun c j => AdamMath.first (Cert.AdamIdeal.Hand.parts m c) (Cert.AdamIdeal.Hand.m1 m c) (j 0) (j 1),
    fun c j => AdamMath.second (Cert.AdamIdeal.Hand.parts m c) (Cert.AdamIdeal.Hand.m2 m c) (j 0) (j 1), ?_, ?_⟩
  · refine (θ_run _ _ _).mono (fun r h c => ?_) (θ_run_and (Cert.AdamIdeal.Gen.run_main m g) (Cert.AdamIdeal.Gen.unchanged m g))
    obtain ⟨h, k⟩ := h
    have h := (h c).1
    exact ⟨(h 4).trans (Cert.AdamIdeal.Hand.final4 m c), (h 5).trans (Cert.AdamIdeal.Hand.final5 m c),
      (h 6).trans (Cert.AdamIdeal.Hand.final6 m c), (h 7).trans (Cert.AdamIdeal.Hand.final7 m c), k c⟩
  · refine (θ_run _ _ _).mono (fun r h c => ?_) (Cert.AdamRefIdeal.Hand.run m' g')
    obtain ⟨a0, a1, a2, a3⟩ := agree c
    have e0 : Cert.AdamRefIdeal.Hand.parts m' c = Cert.AdamIdeal.Hand.parts m c := a0
    have e1 : Cert.AdamRefIdeal.Hand.w m' c = Cert.AdamIdeal.Hand.w m c := a1
    have e2 : Cert.AdamRefIdeal.Hand.m1 m' c = Cert.AdamIdeal.Hand.m1 m c := a2
    have e3 : Cert.AdamRefIdeal.Hand.m2 m' c = Cert.AdamIdeal.Hand.m2 m c := a3
    have h := h c
    rw [e0, e1, e2, e3] at h
    exact h

end Cert.AdamClaim

end
-- ==== Proof.Grad.lean ====
module

public import proofs.«01_k».proof.Proof.Down

/-! The gradient of a weight of `p` rows and `q` columns: the sum over the tokens of the products. -/

@[expose] public section

noncomputable section

namespace Cert.GradMath

open Idealize.ShloMosaic

/-- What the token `n` adds to an entry of the gradient. -/
def term {p q : ℕ} (a : (⟨3, ![1, 4096, p]⟩ : Shape).Idx → EReal) (b : (⟨3, ![1, 4096, q]⟩ : Shape).Idx → EReal) (i : Fin p) (j : Fin q) (n : Fin 4096) : EReal :=
  a (ix3 0 n i) * b (ix3 0 n j)

/-- The gradient of the weight. -/
def dw {p q : ℕ} (a : (⟨3, ![1, 4096, p]⟩ : Shape).Idx → EReal) (b : (⟨3, ![1, 4096, q]⟩ : Shape).Idx → EReal) (i : Fin p) (j : Fin q) : EReal :=
  ∑ n : Fin 4096, term a b i j n

/-- A sum that starts from zero and takes one block after the other is, after the block `n`, that of the blocks up to it. -/
theorem upto_eq (u : Fin 4096 → EReal) (s : ∀ n : ℕ, n < 8 → EReal) (h0 : ∀ h, s 0 h = ∑ a : Fin 512, u (DownMath.row ⟨0, h⟩ a))
    (h1 : ∀ n h, s (n + 1) h = s n (by omega) + ∑ a : Fin 512, u (DownMath.row ⟨n + 1, h⟩ a)) : ∀ n h, s n h = DownMath.upto u (n + 1)
  | 0, h => by rw [h0, DownMath.upto_succ u 0 h, DownMath.upto_zero, zero_add]
  | n + 1, h => by rw [h1, DownMath.upto_succ u (n + 1) h, upto_eq u s h0 h1 n]

/-- After the last block it is the sum over all tokens. -/
theorem last_eq (u : Fin 4096 → EReal) (s : ∀ n : ℕ, n < 8 → EReal) (h0 : ∀ h, s 0 h = ∑ a : Fin 512, u (DownMath.row ⟨0, h⟩ a))
    (h1 : ∀ n h, s (n + 1) h = s n (by omega) + ∑ a : Fin 512, u (DownMath.row ⟨n + 1, h⟩ a)) : s 7 (by omega) = ∑ n : Fin 4096, u n :=
  (upto_eq u s h0 h1 7 _).trans (DownMath.upto_all u)

end Cert.GradMath
end
-- ==== Proof.GradMergeK.lean ====
module

public import proofs.«01_k».proof.Proof.Gen.GradMergeIdeal.Frame
public import Idealize.ShloMosaic.Lib.Pipeline.ValueKit
public import Idealize.ShloMosaic.Lib.Pipeline.ReadBack
public import Idealize.ShloMosaic.Lib.Pointwise
public import proofs.«01_k».proof.Proof.Grad

/-! What the call of the gradients of the merge's three weights writes into its three results. -/

@[expose] public section

set_option maxRecDepth 16384

noncomputable section

namespace Cert.GradMergeIdeal.Hand

open Cert.GradMergeIdeal Cert.GradMergeIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![0, 0] ∧ win0_7.index t = ![0, 0] ∧ win0_8.index t = ![0, 0] :=
  (by decide +kernel : ∀ t : Fin grid0.N, _)

/-- There are eight points, one for each block of tokens. -/
theorem points (t : Fin cfg0.N) : t.val < 8 := lt_of_lt_of_eq t.isLt N_0

/-- Row `a` of the block of point `t`. -/
abbrev row (t : Fin cfg0.N) (a : Fin 512) : Fin 4096 := DownMath.row ⟨t.val, points t⟩ a

/-- The arguments by name: the three products' inputs and the gradients of their results. -/
abbrev ya (c : Dev nD) : S1x4096x1024.Idx → EReal := m ((c.tc : Thread nD τ).loc main_arg0)
abbrev yb (c : Dev nD) : S1x4096x1024.Idx → EReal := m ((c.tc : Thread nD τ).loc main_arg1)
abbrev mm (c : Dev nD) : S1x4096x1024.Idx → EReal := m ((c.tc : Thread nD τ).loc main_arg2)
abbrev dpa (c : Dev nD) : S1x4096x1024.Idx → EReal := m ((c.tc : Thread nD τ).loc main_arg3)
abbrev dpb (c : Dev nD) : S1x4096x1024.Idx → EReal := m ((c.tc : Thread nD τ).loc main_arg4)
abbrev dx (c : Dev nD) : S1x4096x1024.Idx → EReal := m ((c.tc : Thread nD τ).loc main_arg5)

/-! What the windows' blocks hold of the arrays. -/

theorem at0 (c : Dev nD) (t : Fin cfg0.N) (a : Fin 512) (i : Fin 1024) : iblk m c 0 t (ix2 a i) = mm m c (ix3 0 (row t a) i) := by
  blk_simp [iblk]
  entry_read
  pointwise
  blk_point [index_eq t]
theorem at1 (c : Dev nD) (t : Fin cfg0.N) (a : Fin 512) (i : Fin 1024) : iblk m c 1 t (ix2 a i) = ya m c (ix3 0 (row t a) i) := by
  blk_simp [iblk]
  entry_read
  pointwise
  blk_point [index_eq t]
theorem at2 (c : Dev nD) (t : Fin cfg0.N) (a : Fin 512) (i : Fin 1024) : iblk m c 2 t (ix2 a i) = yb m c (ix3 0 (row t a) i) := by
  blk_simp [iblk]
  entry_read
  pointwise
  blk_point [index_eq t]
theorem at3 (c : Dev nD) (t : Fin cfg0.N) (a : Fin 512) (i : Fin 1024) : iblk m c 3 t (ix2 a i) = dx m c (ix3 0 (row t a) i) := by
  blk_simp [iblk]
  entry_read
  pointwise
  blk_point [index_eq t]
theorem at4 (c : Dev nD) (t : Fin cfg0.N) (a : Fin 512) (i : Fin 1024) : iblk m c 4 t (ix2 a i) = dpa m c (ix3 0 (row t a) i) := by
  blk_simp [iblk]
  entry_read
  pointwise
  blk_point [index_eq t]
theorem at5 (c : Dev nD) (t : Fin cfg0.N) (a : Fin 512) (i : Fin 1024) : iblk m c 5 t (ix2 a i) = dpb m c (ix3 0 (row t a) i) := by
  blk_simp [iblk]
  entry_read
  pointwise
  blk_point [index_eq t]

/-! The weight of the output product. -/

/-- The running sum after point `t`. -/
abbrev acc0 (c : Dev nD) (t : Fin cfg0.N) (i j : Fin 1024) : EReal := (outsAt0 m c t.val t.isLt).2.2.2.1 (ix2 i j)

set_option maxHeartbeats 1000000 in
/-- The first point starts the sum from zero. -/
theorem acc0_first (c : Dev nD) (t : Fin cfg0.N) (h : t.val = 0) (i j : Fin 1024) :
    acc0 m c t i j = ∑ a : Fin 512, GradMath.term (mm m c) (dx m c) i j (row t a) := by
  unfold acc0
  rw [outsAt0_A m c t (by omega) (by omega) (by omega) (by omega) (by omega) (by omega)]
  frame_out
  pointwise [k0_pay1, k0_pay2, k0_pay3, k0_pay4, k0_pay5, k0_pay6, k0_pay7, k0_pay8, k0_pay9, k0_pay10, at0 m c t, at3 m c t]
  rfl

set_option maxHeartbeats 1000000 in
/-- Every later point adds its block to the sum. -/
theorem acc0_next (c : Dev nD) (t : Fin cfg0.N) (h : ¬ t.val = 0) (i j : Fin 1024) :
    acc0 m c t i j = acc0 m c ⟨t.val - 1, by omega⟩ i j + ∑ a : Fin 512, GradMath.term (mm m c) (dx m c) i j (row t a) := by
  have b := points t
  unfold acc0
  by_cases h1 : t.val % 8 = 7
  · rw [outsAt0_C m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at0 m c t, at3 m c t]
    rfl
  · rw [outsAt0_B m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at0 m c t, at3 m c t]
    rfl

set_option maxHeartbeats 1000000 in
/-- The last point writes the sum out. -/
theorem out0_last (c : Dev nD) (t : Fin cfg0.N) (h : t.val = 7) (i j : Fin 1024) :
    (outsAt0 m c t.val t.isLt).1 (ix2 i j) = acc0 m c t i j := by
  rw [acc0_next m c t (by omega)]
  rw [outsAt0_C m c t (by omega) (by omega) (by omega) (by omega) (by omega) (by omega)]
  frame_out
  simp only [read_unread_whole]
  pointwise [k0_pay1, k0_pay2, k0_pay3, k0_pay4, k0_pay5, k0_pay6, k0_pay7, k0_pay8, k0_pay9, k0_pay10, at0 m c t, at3 m c t]
  rfl

set_option maxHeartbeats 1000000 in
/-- The gradient of the weight. -/
theorem final6 (c : Dev nD) : (dats m 0 c).arrAt 6 (cfgs 0).N = fun j => GradMath.dw (mm m c) (dx m c) (j 0) (j 1) := by
  refine (dats m 0 c).arrAt_eq_of_covers 6 _ (by decide +kernel) fun t hf y => ?_
  have b : t.val = 7 := (by decide +kernel : ∀ t : Fin cfg0.N, (cfg0.win 6).flush t = true → t.val = 7) t hf
  blk_simp
  rw [after0_6]
  idx_vars y
  have e : (win0_6.blk t).view.emb (ix2 y0 y1) = ix2 y0 y1 := by blk_ext [index_eq t]
  refine Eq.trans ?_ (congrArg (fun j : S1024x1024.Idx => GradMath.dw (mm m c) (dx m c) (j 0) (j 1)) e.symm)
  obtain rfl : t = ⟨7, by decide⟩ := Fin.ext b
  refine (out0_last m c _ b y0 y1).trans ?_
  exact GradMath.last_eq (GradMath.term (mm m c) (dx m c) y0 y1) (fun n h => acc0 m c ⟨n, lt_of_lt_of_eq h N_0.symm⟩ y0 y1)
    (fun h => acc0_first m c _ rfl y0 y1) (fun n h => acc0_next m c _ (Nat.succ_ne_zero n) y0 y1)

/-! The weight of the product of the first branch. -/

/-- The running sum after point `t`. -/
abbrev acc1 (c : Dev nD) (t : Fin cfg0.N) (i j : Fin 1024) : EReal := (outsAt0 m c t.val t.isLt).2.2.2.2.1 (ix2 i j)

set_option maxHeartbeats 1000000 in
/-- The first point starts the sum from zero. -/
theorem acc1_first (c : Dev nD) (t : Fin cfg0.N) (h : t.val = 0) (i j : Fin 1024) :
    acc1 m c t i j = ∑ a : Fin 512, GradMath.term (ya m c) (dpa m c) i j (row t a) := by
  unfold acc1
  rw [outsAt0_A m c t (by omega) (by omega) (by omega) (by omega) (by omega) (by omega)]
  frame_out
  pointwise [k0_pay1, k0_pay2, k0_pay3, k0_pay4, k0_pay5, k0_pay6, k0_pay7, k0_pay8, k0_pay9, k0_pay10, at1 m c t, at4 m c t]
  rfl

set_option maxHeartbeats 1000000 in
/-- Every later point adds its block to the sum. -/
theorem acc1_next (c : Dev nD) (t : Fin cfg0.N) (h : ¬ t.val = 0) (i j : Fin 1024) :
    acc1 m c t i j = acc1 m c ⟨t.val - 1, by omega⟩ i j + ∑ a : Fin 512, GradMath.term (ya m c) (dpa m c) i j (row t a) := by
  have b := points t
  unfold acc1
  by_cases h1 : t.val % 8 = 7
  · rw [outsAt0_C m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at1 m c t, at4 m c t]
    rfl
  · rw [outsAt0_B m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at1 m c t, at4 m c t]
    rfl

set_option maxHeartbeats 1000000 in
/-- The last point writes the sum out. -/
theorem out1_last (c : Dev nD) (t : Fin cfg0.N) (h : t.val = 7) (i j : Fin 1024) :
    (outsAt0 m c t.val t.isLt).2.1 (ix2 i j) = acc1 m c t i j := by
  rw [acc1_next m c t (by omega)]
  rw [outsAt0_C m c t (by omega) (by omega) (by omega) (by omega) (by omega) (by omega)]
  frame_out
  simp only [read_unread_whole]
  pointwise [k0_pay1, k0_pay2, k0_pay3, k0_pay4, k0_pay5, k0_pay6, k0_pay7, k0_pay8, k0_pay9, k0_pay10, at1 m c t, at4 m c t]
  rfl

set_option maxHeartbeats 1000000 in
/-- The gradient of the weight. -/
theorem final7 (c : Dev nD) : (dats m 0 c).arrAt 7 (cfgs 0).N = fun j => GradMath.dw (ya m c) (dpa m c) (j 0) (j 1) := by
  refine (dats m 0 c).arrAt_eq_of_covers 7 _ (by decide +kernel) fun t hf y => ?_
  have b : t.val = 7 := (by decide +kernel : ∀ t : Fin cfg0.N, (cfg0.win 7).flush t = true → t.val = 7) t hf
  blk_simp
  rw [after0_7]
  idx_vars y
  have e : (win0_7.blk t).view.emb (ix2 y0 y1) = ix2 y0 y1 := by blk_ext [index_eq t]
  refine Eq.trans ?_ (congrArg (fun j : S1024x1024.Idx => GradMath.dw (ya m c) (dpa m c) (j 0) (j 1)) e.symm)
  obtain rfl : t = ⟨7, by decide⟩ := Fin.ext b
  refine (out1_last m c _ b y0 y1).trans ?_
  exact GradMath.last_eq (GradMath.term (ya m c) (dpa m c) y0 y1) (fun n h => acc1 m c ⟨n, lt_of_lt_of_eq h N_0.symm⟩ y0 y1)
    (fun h => acc1_first m c _ rfl y0 y1) (fun n h => acc1_next m c _ (Nat.succ_ne_zero n) y0 y1)

/-! The weight of the product of the second branch. -/

/-- The running sum after point `t`. -/
abbrev acc2 (c : Dev nD) (t : Fin cfg0.N) (i j : Fin 1024) : EReal := (outsAt0 m c t.val t.isLt).2.2.2.2.2 (ix2 i j)

set_option maxHeartbeats 1000000 in
/-- The first point starts the sum from zero. -/
theorem acc2_first (c : Dev nD) (t : Fin cfg0.N) (h : t.val = 0) (i j : Fin 1024) :
    acc2 m c t i j = ∑ a : Fin 512, GradMath.term (yb m c) (dpb m c) i j (row t a) := by
  unfold acc2
  rw [outsAt0_A m c t (by omega) (by omega) (by omega) (by omega) (by omega) (by omega)]
  frame_out
  pointwise [k0_pay1, k0_pay2, k0_pay3, k0_pay4, k0_pay5, k0_pay6, k0_pay7, k0_pay8, k0_pay9, k0_pay10, at2 m c t, at5 m c t]
  rfl

set_option maxHeartbeats 1000000 in
/-- Every later point adds its block to the sum. -/
theorem acc2_next (c : Dev nD) (t : Fin cfg0.N) (h : ¬ t.val = 0) (i j : Fin 1024) :
    acc2 m c t i j = acc2 m c ⟨t.val - 1, by omega⟩ i j + ∑ a : Fin 512, GradMath.term (yb m c) (dpb m c) i j (row t a) := by
  have b := points t
  unfold acc2
  by_cases h1 : t.val % 8 = 7
  · rw [outsAt0_C m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at2 m c t, at5 m c t]
    rfl
  · rw [outsAt0_B m c t (by omega) h1 (by omega) h1 (by omega) h1]
    frame_out
    simp only [read_unread_whole]
    pointwise [k0_pay1, k0_pay2, k0_pay3, k0_pay4, k0_pay5, k0_pay6, k0_pay7, k0_pay8, k0_pay9, k0_pay10, at2 m c t, at5 m c t]
    rfl

set_option maxHeartbeats 1000000 in
/-- The last point writes the sum out. -/
theorem out2_last (c : Dev nD) (t : Fin cfg0.N) (h : t.val = 7) (i j : Fin 1024) :
    (outsAt0 m c t.val t.isLt).2.2.1 (ix2 i j) = acc2 m c t i j := by
  rw [acc2_next m c t (by omega)]
  rw [outsAt0_C m c t (by omega) (by omega) (by omega) (by omega) (by omega) (by omega)]
  frame_out
  simp only [read_unread_whole]
  pointwise [k0_pay1, k0_pay2, k0_pay3, k0_pay4, k0_pay5, k0_pay6, k0_pay7, k0_pay8, k0_pay9, k0_pay10, at2 m c t, at5 m c t]
  rfl

set_option maxHeartbeats 1000000 in
/-- The gradient of the weight. -/
theorem final8 (c : Dev nD) : (dats m 0 c).arrAt 8 (cfgs 0).N = fun j => GradMath.dw (yb m c) (dpb m c) (j 0) (j 1) := by
  refine (dats m 0 c).arrAt_eq_of_covers 8 _ (by decide +kernel) fun t hf y => ?_
  have b : t.val = 7 := (by decide +kernel : ∀ t : Fin cfg0.N, (cfg0.win 8).flush t = true → t.val = 7) t hf
  blk_simp
  rw [after0_8]
  idx_vars y
  have e : (win0_8.blk t).view.emb (ix2 y0 y1) = ix2 y0 y1 := by blk_ext [index_eq t]
  refine Eq.trans ?_ (congrArg (fun j : S1024x1024.Idx => GradMath.dw (yb m c) (dpb m c) (j 0) (j 1)) e.symm)
  obtain rfl : t = ⟨7, by decide⟩ := Fin.ext b
  refine (out2_last m c _ b y0 y1).trans ?_
  exact GradMath.last_eq (GradMath.term (yb m c) (dpb m c) y0 y1) (fun n h => acc2 m c ⟨n, lt_of_lt_of_eq h N_0.symm⟩ y0 y1)
    (fun h => acc2_first m c _ rfl y0 y1) (fun n h => acc2_next m c _ (Nat.succ_ne_zero n) y0 y1)

end Cert.GradMergeIdeal.Hand
end
-- ==== Proof.GradMergeR.lean ====
module

public import proofs.«01_k».proof.Proof.Gen.GradMergeRefIdeal.Run
public import Idealize.ShloMosaic.Lib.Pointwise
public import Idealize.ShloMosaic.Lib.Tactic.CleanTypes
public import proofs.«01_k».proof.Proof.Grad

@[expose] public section

set_option maxRecDepth 100000

noncomputable section

/-! What the gradient's lines of the merge's three products leave in their results. -/

namespace Cert.GradMergeRefIdeal.Hand

open Cert.GradMergeRefIdeal Cert.GradMergeRefIdeal.Gen Cert.GradMergeRefIdeal.Value Idealize.ShloMosaic Idealize.ShloMosaic.TcCoe Idealize.SL.Sem

variable (m : (ℓ : Loc nD τ sig) → Buf (Elt Ideal) ℓ)

/-- The arguments by name: the three products' inputs and the gradients of their results. -/
abbrev ya (c : Dev nD) : S1x4096x1024.Idx → EReal := m ((c.tc : Thread nD τ).loc main_arg0)
abbrev yb (c : Dev nD) : S1x4096x1024.Idx → EReal := m ((c.tc : Thread nD τ).loc main_arg1)
abbrev mm (c : Dev nD) : S1x4096x1024.Idx → EReal := m ((c.tc : Thread nD τ).loc main_arg2)
abbrev dpa (c : Dev nD) : S1x4096x1024.Idx → EReal := m ((c.tc : Thread nD τ).loc main_arg3)
abbrev dpb (c : Dev nD) : S1x4096x1024.Idx → EReal := m ((c.tc : Thread nD τ).loc main_arg4)
abbrev dx (c : Dev nD) : S1x4096x1024.Idx → EReal := m ((c.tc : Thread nD τ).loc main_arg5)

set_option maxHeartbeats 2000000 in
/-- The gradients of the three weights. -/
theorem run (g : Dev nD → PrngReg) : θ_run defs (onTc (τ := τ) (main (F := Ideal))) ⟨m, fun _ => 0, g⟩ fun r => ∀ c : Dev nD,
    (r.2.mem ((c.tc : Thread nD τ).loc main_v10) = fun j : S1024x1024.Idx => GradMath.dw (mm m c) (dx m c) (j 0) (j 1))
      ∧ (r.2.mem ((c.tc : Thread nD τ).loc main_v11) = fun j : S1024x1024.Idx => GradMath.dw (ya m c) (dpa m c) (j 0) (j 1))
      ∧ (r.2.mem ((c.tc : Thread nD τ).loc main_v12) = fun j : S1024x1024.Idx => GradMath.dw (yb m c) (dpb m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun j => ?_), (h c).2.1.trans (funext fun j => ?_), (h c).2.2.1.trans (funext fun j => ?_), (h c).2.2.2⟩) (Value.run m g)
  · idx_vars j
    show _ = GradMath.dw (mm m c) (dx m c) j0 j1
    clean_types
    pointwise
    rw [Fin.sum_univ_one]
    exact Finset.sum_congr rfl fun n _ => mul_comm (dx m c (ix3 0 n j1)) (mm m c (ix3 0 n j0))
  · idx_vars j
    show _ = GradMath.dw (ya m c) (dpa m c) j0 j1
    clean_types
    pointwise
    rw [Fin.sum_univ_one]
    exact Finset.sum_congr rfl fun n _ => mul_comm (dpa m c (ix3 0 n j1)) (ya m c (ix3 0 n j0))
  · idx_vars j
    show _ = GradMath.dw (yb m c) (dpb m c) j0 j1
    clean_types
    pointwise
    rw [Fin.sum_univ_one]
    exact Finset.sum_congr rfl fun n _ => mul_comm (dpb m c (ix3 0 n j1)) (yb m c (ix3 0 n j0))

end Cert.GradMergeRefIdeal.Hand
end
-- ==== Proof.GradMergeClaim.lean ====
module

public import proofs.«01_k».proof.Defs
public import proofs.«01_k».proof.Proof.GradMergeK
public import proofs.«01_k».proof.Proof.GradMergeR
public import Idealize.ShloMosaic.Lib.Claim
public import proofs.«01_k».proof.Proof.Gen.GradMergeIdeal
public import proofs.«01_k».proof.Proof.Gen.GradMergeRefIdeal

@[expose] public section

set_option maxRecDepth 16384

noncomputable section

namespace Cert.GradMergeClaim

open Idealize.ShloMosaic Idealize.SL.Sem
open Cert.GradMergeIdeal.Hand

set_option maxHeartbeats 4000000 in
/-- Kernel and gradient's lines leave the same three arrays. -/
theorem algebraic : Cert.algebraic_GradMergeIdeal_GradMergeRefIdeal (hGradMergeIdeal := Cert.GradMergeIdeal.Gen.facts) (hGradMergeRefIdeal := Cert.GradMergeRefIdeal.Gen.facts) := by
  intro m g m' g' _ agree
  refine ⟨fun c j => GradMath.dw (mm m c) (dx m c) (j 0) (j 1), fun c j => GradMath.dw (ya m c) (dpa m c) (j 0) (j 1), fun c j => GradMath.dw (yb m c) (dpb m c) (j 0) (j 1), ?_, ?_⟩
  · refine (θ_run _ _ _).mono (fun r h c => ?_) (θ_run_and (Cert.GradMergeIdeal.Gen.run_main m g) (Cert.GradMergeIdeal.Gen.unchanged m g))
    obtain ⟨h, k⟩ := h
    have h := (h c).1
    exact ⟨(h 6).trans (final6 m c), (h 7).trans (final7 m c), (h 8).trans (final8 m c), k c⟩
  · refine (θ_run _ _ _).mono (fun r h c => ?_) (Cert.GradMergeRefIdeal.Hand.run m' g')
    obtain ⟨a0, a1, a2, a3, a4, a5⟩ := agree c
    have e0 : Cert.GradMergeRefIdeal.Hand.ya m' c = ya m c := a0
    have e1 : Cert.GradMergeRefIdeal.Hand.yb m' c = yb m c := a1
    have e2 : Cert.GradMergeRefIdeal.Hand.mm m' c = mm m c := a2
    have e3 : Cert.GradMergeRefIdeal.Hand.dpa m' c = dpa m c := a3
    have e4 : Cert.GradMergeRefIdeal.Hand.dpb m' c = dpb m c := a4
    have e5 : Cert.GradMergeRefIdeal.Hand.dx m' c = dx m c := a5
    have h := h c
    rw [e0, e1, e2, e3, e4, e5] at h
    exact h

end Cert.GradMergeClaim

end
-- ==== Proof.GradInK.lean ====
module

public import proofs.«01_k».proof.Proof.Gen.GradInIdeal.Frame
public import Idealize.ShloMosaic.Lib.Pipeline.ValueKit
public import Idealize.ShloMosaic.Lib.Pipeline.ReadBack
public import Idealize.ShloMosaic.Lib.Pointwise
public import proofs.«01_k».proof.Proof.Grad
public import proofs.«01_k».proof.Proof.HeadA

/-! What the call of the input projection's weight gradient writes into its result. -/

@[expose] public section

set_option maxRecDepth 16384

noncomputable section

namespace Cert.GradInIdeal.Hand

open Cert.GradInIdeal Cert.GradInIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val % 8, t.val / 8] ∧ win0_1.index t = ![0, t.val % 8, 0] ∧ win0_2.index t = ![0, t.val % 8, 0] ∧ win0_3.index t = ![t.val / 8, 0] :=
  (by decide +kernel : ∀ t : Fin grid0.N, _)

/-- Sixteen points: two halves of eight blocks of tokens. -/
theorem points (t : Fin cfg0.N) : t.val < 16 := lt_of_lt_of_eq t.isLt N_0

/-- Row `a` of the block of point `t`. -/
abbrev row (t : Fin cfg0.N) (a : Fin 512) : Fin 4096 := DownMath.row ⟨t.val % 8, Nat.mod_lt _ (by decide)⟩ a

/-- Column `i` of the half of point `t`. -/
abbrev col (t : Fin cfg0.N) (i : Fin 512) : Fin 1024 := ⟨t.val / 8 * 512 + i.val, by have h := points t; omega⟩

/-- The arguments by name: the product's input and the gradient of its result. -/
abbrev x (c : Dev nD) : S1x4096x1024.Idx → EReal := m ((c.tc : Thread nD τ).loc main_arg0)
abbrev d (c : Dev nD) : S1x4096x7168.Idx → EReal := m ((c.tc : Thread nD τ).loc main_arg1)

/-! What the windows' blocks hold of the arrays. -/

theorem at0 (c : Dev nD) (t : Fin cfg0.N) (a i : Fin 512) : iblk m c 0 t (ix2 a i) = x m c (ix3 0 (row t a) (col t i)) := by
  blk_simp [iblk]
  entry_read
  pointwise
  blk_point [index_eq t]
theorem at1 (c : Dev nD) (t : Fin cfg0.N) (s : Fin 5) (a : Fin 512) (j : Fin 1024) :
    iblk m c 1 t (ix3 s a j) = d m c (ix3 0 (row t a) ⟨s.val * 1024 + j.val, by omega⟩) := by
  have e : ((View.whole main_v6).slice (win0_1.rect t)).emb (ix3 s a j) = ix3 s (row t a) j := by blk_ext [index_eq t]
  blk_simp [iblk]
  entry_read
  pointwise
  simp only [e]
  rfl
theorem at2 (c : Dev nD) (t : Fin cfg0.N) (s : Fin 2) (a : Fin 512) (j : Fin 1024) :
    iblk m c 2 t (ix3 s a j) = d m c (ix3 0 (row t a) ⟨(5 + s.val) * 1024 + j.val, by omega⟩) := by
  have e : ((View.whole main_v7).slice (win0_2.rect t)).emb (ix3 s a j) = ix3 s (row t a) j := by blk_ext [index_eq t]
  blk_simp [iblk]
  entry_read
  pointwise
  simp only [e]
  rfl

/-- The running sum after point `t`. -/
abbrev acc (c : Dev nD) (t : Fin cfg0.N) (i : Fin 512) (j : Fin 7168) : EReal := (outsAt0 m c t.val t.isLt).2 (ix2 i j)

/-- Columns of the running sum loaded before a store into them hold the zeros it was filled with. -/
theorem fresh (L : List (View.Piece (Elt Ideal) S512x7168 .f32)) (r : Rect S512x7168)
    (hq : L.getLast? = some ⟨Rect.unit (s := S512x7168) ![0, 0] S512x7168.size inb_S512x7168_S512x7168_0_0, k0_pay3 (F := Ideal)⟩)
    (hd : (L.dropLast.all fun p => LoadRect.disj p.1 r.toLoadRect) = true) :
    (View.whole cc0_scratch0).readCov L r.toLoadRect = fun _ => (0 : EReal) := by
  funext x
  rw [Cert.HeadIdeal.Hand.readCov_last _ _ _ L hq hd, View.readCov_fill _ _ _ _ _ (by decide)]
  pointwise [k0_pay3]

set_option maxHeartbeats 4000000 in
/-- The first point of a half starts the sum from zero. -/
theorem acc_first (c : Dev nD) (t : Fin cfg0.N) (h : t.val % 8 = 0) (i : Fin 512) (j : Fin 7168) :
    acc m c t i j = ∑ a : Fin 512, GradMath.term (x m c) (d m c) (col t i) j (row t a) := by
  unfold acc
  rw [outsAt0_A m c t (by omega) (by omega)]
  frame_out
  rw [Cert.HeadIdeal.Hand.canon_dropLast _ _ (View.cover_of_tiled _ ![512, 1024] rfl _)]
  simp only [List.dropLast_cons₂, List.dropLast_singleton]
  canon_tiles q h
  all_goals
    change (j : ℕ) = _ at h1
    obtain rfl : i = q 0 := Fin.ext h0
    have lt := lt_of_eq_of_lt h1.symm j.isLt
    obtain rfl : j = ⟨_, lt⟩ := Fin.ext h1
    rw [fresh]
    · pointwise [k0_pay1, k0_pay4, k0_pay5, k0_pay6, k0_pay7, k0_pay8, k0_pay9, k0_pay10, k0_pay11, k0_pay12, at0 m c t, at1 m c t, at2 m c t]
      rfl
    · rfl
    · rfl

set_option maxHeartbeats 4000000 in
/-- Every later point adds its block to the sum. -/
theorem acc_next (c : Dev nD) (t : Fin cfg0.N) (h : ¬ t.val % 8 = 0) (i : Fin 512) (j : Fin 7168) :
    acc m c t i j = acc m c ⟨t.val - 1, by omega⟩ i j + ∑ a : Fin 512, GradMath.term (x m c) (d m c) (col t i) j (row t a) := by
  have b := points t
  unfold acc
  by_cases h1 : t.val % 8 = 7
  · rw [outsAt0_C m c t (by omega) h1]
    frame_out
    simp only [read_unread_whole]
    canon_tiles q h
    all_goals
      change (j : ℕ) = _ at h1
      obtain rfl : i = q 0 := Fin.ext h0
      have lt := lt_of_eq_of_lt h1.symm j.isLt
      obtain rfl : j = ⟨_, lt⟩ := Fin.ext h1
      pointwise [k0_pay1, k0_pay4, k0_pay5, k0_pay6, k0_pay7, k0_pay8, k0_pay9, k0_pay10, k0_pay11, k0_pay12, at0 m c t, at1 m c t, at2 m c t]
      rfl
  · rw [outsAt0_B m c t (by omega) h1]
    frame_out
    simp only [read_unread_whole]
    canon_tiles q h
    all_goals
      change (j : ℕ) = _ at h1
      obtain rfl : i = q 0 := Fin.ext h0
      have lt := lt_of_eq_of_lt h1.symm j.isLt
      obtain rfl : j = ⟨_, lt⟩ := Fin.ext h1
      pointwise [k0_pay1, k0_pay4, k0_pay5, k0_pay6, k0_pay7, k0_pay8, k0_pay9, k0_pay10, k0_pay11, k0_pay12, at0 m c t, at1 m c t, at2 m c t]
      rfl

set_option maxHeartbeats 4000000 in
/-- The last point of a half writes the sum out. -/
theorem out_last (c : Dev nD) (t : Fin cfg0.N) (h : t.val % 8 = 7) (i : Fin 512) (j : Fin 7168) :
    (outsAt0 m c t.val t.isLt).1 (ix2 i j) = acc m c t i j := by
  unfold acc
  rw [outsAt0_C m c t (by omega) (by omega)]
  dsimp only
  frame_out
  rw [View.readCov_eq_canon']
  have e : (Rect.unit (s := S512x7168) ![0, 0] S512x7168.size inb_S512x7168_S512x7168_0_0).toLoadRect.idx (ix2 i j) = ix2 i j := by
    refine funext fun a => Fin.ext ?_
    fin_cases a
    · show 0 + 1 * (i : ℕ) = i; omega
    · show 0 + 1 * (j : ℕ) = j; omega
  exact congrArg (View.canon _) e

/-- The point of a block of a half. -/
abbrev pt (h : Fin 2) (n : ℕ) (hn : n < 8) : Fin cfg0.N := ⟨h.val * 8 + n, lt_of_lt_of_eq (show h.val * 8 + n < 16 by omega) N_0.symm⟩

/-- After the last block of a half the running sum is that over all tokens. -/
theorem whole (c : Dev nD) (h : Fin 2) (i : Fin 512) (j : Fin 7168) :
    acc m c (pt h 7 (by omega)) i j = GradMath.dw (x m c) (d m c) ⟨h.val * 512 + i.val, by omega⟩ j := by
  have e : ∀ n (hn : n < 8), (∑ a : Fin 512, GradMath.term (x m c) (d m c) (col (pt h n hn) i) j (row (pt h n hn) a))
      = ∑ a : Fin 512, GradMath.term (x m c) (d m c) ⟨h.val * 512 + i.val, by omega⟩ j (DownMath.row ⟨n, hn⟩ a) := by
    intro n hn
    have e0 : col (pt h n hn) i = ⟨h.val * 512 + i.val, by omega⟩ := Fin.ext (by show (h.val * 8 + n) / 8 * 512 + i.val = h.val * 512 + i.val; omega)
    have e1 : (⟨(pt h n hn).val % 8, Nat.mod_lt _ (by decide)⟩ : Fin 8) = ⟨n, hn⟩ := Fin.ext (by show (h.val * 8 + n) % 8 = n; omega)
    unfold row
    rw [e0, e1]
  refine GradMath.last_eq (GradMath.term (x m c) (d m c) ⟨h.val * 512 + i.val, by omega⟩ j) (fun n hn => acc m c (pt h n hn) i j) (fun hn => ?_) (fun n hn => ?_)
  · exact (acc_first m c (pt h 0 hn) (by show (h.val * 8 + 0) % 8 = 0; omega) i j).trans (e 0 hn)
  · refine (acc_next m c (pt h (n + 1) hn) (by show ¬ (h.val * 8 + (n + 1)) % 8 = 0; omega) i j).trans ?_
    rw [e (n + 1) hn]
    exact congrArg (fun t => acc m c t i j + _) (Fin.ext (by show h.val * 8 + (n + 1) - 1 = h.val * 8 + n; omega))

set_option maxHeartbeats 1000000 in
/-- The gradient of the weight. -/
theorem final3 (c : Dev nD) : (dats m 0 c).arrAt 3 (cfgs 0).N = fun j => GradMath.dw (x m c) (d m c) (j 0) (j 1) := by
  refine (dats m 0 c).arrAt_eq_of_covers 3 _ (by decide +kernel) fun t hf y => ?_
  have b : t.val % 8 = 7 := (by decide +kernel : ∀ t : Fin cfg0.N, (cfg0.win 3).flush t = true → t.val % 8 = 7) t hf
  blk_simp
  rw [after0_3]
  idx_vars y
  have e : (win0_3.blk t).view.emb (ix2 y0 y1) = ix2 (col t y0) y1 := by blk_ext [index_eq t]
  refine Eq.trans ?_ (congrArg (fun j : S1024x7168.Idx => GradMath.dw (x m c) (d m c) (j 0) (j 1)) e.symm)
  have p := points t
  have w := whole m c ⟨t.val / 8, by omega⟩ y0 y1
  rw [show pt ⟨t.val / 8, by omega⟩ 7 (by omega) = t from Fin.ext (by show t.val / 8 * 8 + 7 = t.val; omega)] at w
  exact (out_last m c t b y0 y1).trans w

end Cert.GradInIdeal.Hand
end
-- ==== Proof.GradInR.lean ====
module

public import proofs.«01_k».proof.Proof.Gen.GradInRefIdeal.Run
public import Idealize.ShloMosaic.Lib.Pointwise
public import Idealize.ShloMosaic.Lib.Tactic.CleanTypes
public import proofs.«01_k».proof.Proof.Grad

@[expose] public section

set_option maxRecDepth 100000

noncomputable section

/-! What the gradient's lines of the input projection leave in their result. -/

namespace Cert.GradInRefIdeal.Hand

open Cert.GradInRefIdeal Cert.GradInRefIdeal.Gen Cert.GradInRefIdeal.Value Idealize.ShloMosaic Idealize.ShloMosaic.TcCoe Idealize.SL.Sem

variable (m : (ℓ : Loc nD τ sig) → Buf (Elt Ideal) ℓ)

/-- The arguments by name: the product's input and the gradient of its result. -/
abbrev x (c : Dev nD) : S1x4096x1024.Idx → EReal := m ((c.tc : Thread nD τ).loc main_arg0)
abbrev d (c : Dev nD) : S1x4096x7168.Idx → EReal := m ((c.tc : Thread nD τ).loc main_arg1)

set_option maxHeartbeats 2000000 in
/-- The gradient of the weight. -/
theorem run (g : Dev nD → PrngReg) : θ_run defs (onTc (τ := τ) (main (F := Ideal))) ⟨m, fun _ => 0, g⟩ fun r => ∀ c : Dev nD,
    (r.2.mem ((c.tc : Thread nD τ).loc main_v4) = fun j : S1024x7168.Idx => GradMath.dw (x m c) (d m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun j => ?_), (h c).2⟩) (Value.run m g)
  idx_vars j
  show _ = GradMath.dw (x m c) (d m c) j0 j1
  clean_types
  pointwise
  rw [Fin.sum_univ_one]
  exact Finset.sum_congr rfl fun n _ => mul_comm (d m c (ix3 0 n j1)) (x m c (ix3 0 n j0))

end Cert.GradInRefIdeal.Hand
end
-- ==== Proof.GradInClaim.lean ====
module

public import proofs.«01_k».proof.Defs
public import proofs.«01_k».proof.Proof.GradInK
public import proofs.«01_k».proof.Proof.GradInR
public import Idealize.ShloMosaic.Lib.Claim
public import proofs.«01_k».proof.Proof.Gen.GradInIdeal
public import proofs.«01_k».proof.Proof.Gen.GradInRefIdeal

@[expose] public section

set_option maxRecDepth 16384

noncomputable section

namespace Cert.GradInClaim

open Idealize.ShloMosaic Idealize.SL.Sem
open Cert.GradInIdeal.Hand

set_option maxHeartbeats 4000000 in
/-- Kernel and gradient's lines leave the same array. -/
theorem algebraic : Cert.algebraic_GradInIdeal_GradInRefIdeal (hGradInIdeal := Cert.GradInIdeal.Gen.facts) (hGradInRefIdeal := Cert.GradInRefIdeal.Gen.facts) := by
  intro m g m' g' _ agree
  refine ⟨fun c j => GradMath.dw (x m c) (d m c) (j 0) (j 1), ?_, ?_⟩
  · refine (θ_run _ _ _).mono (fun r h c => ?_) (θ_run_and (Cert.GradInIdeal.Gen.run_main m g) (Cert.GradInIdeal.Gen.unchanged m g))
    obtain ⟨h, k⟩ := h
    have h := (h c).1
    exact ⟨(h 3).trans (final3 m c), k c⟩
  · refine (θ_run _ _ _).mono (fun r h c => ?_) (Cert.GradInRefIdeal.Hand.run m' g')
    obtain ⟨a0, a1⟩ := agree c
    have e0 : Cert.GradInRefIdeal.Hand.x m' c = x m c := a0
    have e1 : Cert.GradInRefIdeal.Hand.d m' c = d m c := a1
    have h := h c
    rw [e0, e1] at h
    exact h

end Cert.GradInClaim

end
-- ==== Proof.GradUpK.lean ====
module

public import proofs.«01_k».proof.Proof.Gen.GradUpIdeal.Frame
public import Idealize.ShloMosaic.Lib.Pipeline.ValueKit
public import Idealize.ShloMosaic.Lib.Pipeline.ReadBack
public import Idealize.ShloMosaic.Lib.Pointwise
public import proofs.«01_k».proof.Proof.Grad
public import proofs.«01_k».proof.Proof.HeadA

/-! What the call of the up projection's weight gradient writes into its result. -/

@[expose] public section

set_option maxRecDepth 16384

noncomputable section

namespace Cert.GradUpIdeal.Hand

open Cert.GradUpIdeal Cert.GradUpIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![t.val % 8, 0] ∧ win0_1.index t = ![t.val / 8, t.val % 8, 0] ∧ win0_2.index t = ![t.val / 8, 0, 0] :=
  (by decide +kernel : ∀ t : Fin grid0.N, _)

/-- Sixteen points: two halves of eight blocks of tokens. -/
theorem points (t : Fin cfg0.N) : t.val < 16 := lt_of_lt_of_eq t.isLt N_0

/-- Row `a` of the block of point `t`. -/
abbrev row (t : Fin cfg0.N) (a : Fin 512) : Fin 4096 := DownMath.row ⟨t.val % 8, Nat.mod_lt _ (by decide)⟩ a

/-- Column `j` of the half of point `t`. -/
abbrev half (t : Fin cfg0.N) (j : Fin 3072) : Fin 6144 := ⟨t.val / 8 * 3072 + j.val, by have h := points t; omega⟩

/-- Column `j` of the block `b` of the result. -/
abbrev col (b : Fin 8) (j : Fin 768) : Fin 6144 := ⟨b.val * 768 + j.val, by omega⟩

/-- The arguments by name: the product's input and the gradient of its result. -/
abbrev x (c : Dev nD) : S1x4096x1024.Idx → EReal := m ((c.tc : Thread nD τ).loc main_arg0)
abbrev d (c : Dev nD) : S1x4096x6144.Idx → EReal := m ((c.tc : Thread nD τ).loc main_arg1)

/-! What the windows' blocks hold of the arrays. -/

theorem at0 (c : Dev nD) (t : Fin cfg0.N) (a : Fin 512) (i : Fin 1024) : iblk m c 0 t (ix2 a i) = x m c (ix3 0 (row t a) i) := by
  blk_simp [iblk]
  entry_read
  pointwise
  blk_point [index_eq t]
theorem at1 (c : Dev nD) (t : Fin cfg0.N) (a : Fin 512) (j : Fin 3072) :
    iblk m c 1 t (ix3 0 a j) = d m c (ix3 0 (row t a) (half t j)) := by
  have e : ((View.whole main_v3).slice (win0_1.rect t)).emb (ix3 0 a j) = ix3 ⟨t.val / 8, by have h := points t; omega⟩ (row t a) j := by blk_ext [index_eq t]
  blk_simp [iblk]
  entry_read
  pointwise
  simp only [e]
  rfl

/-- The running sum after point `t`. -/
abbrev acc (c : Dev nD) (t : Fin cfg0.N) (i : Fin 1024) (j : Fin 3072) : EReal := (outsAt0 m c t.val t.isLt).2 (ix2 i j)

/-- Columns of the running sum loaded before a store into them hold the zeros it was filled with. -/
theorem fresh (L : List (View.Piece (Elt Ideal) S1024x3072 .f32)) (r : Rect S1024x3072)
    (hq : L.getLast? = some ⟨Rect.unit (s := S1024x3072) ![0, 0] S1024x3072.size inb_S1024x3072_S1024x3072_0_0, k0_pay7 (F := Ideal)⟩)
    (hd : (L.dropLast.all fun p => LoadRect.disj p.1 r.toLoadRect) = true) :
    (View.whole cc0_scratch0).readCov L r.toLoadRect = fun _ => (0 : EReal) := by
  funext x
  rw [Cert.HeadIdeal.Hand.readCov_last _ _ _ L hq hd, View.readCov_fill _ _ _ _ _ (by decide)]
  pointwise [k0_pay7]

set_option maxHeartbeats 4000000 in
/-- The first point of a half starts the sum from zero. -/
theorem acc_first (c : Dev nD) (t : Fin cfg0.N) (h : t.val % 8 = 0) (i : Fin 1024) (j : Fin 3072) :
    acc m c t i j = ∑ a : Fin 512, GradMath.term (x m c) (d m c) i (half t j) (row t a) := by
  unfold acc
  rw [outsAt0_A m c t (by omega) (by omega)]
  frame_out
  rw [Cert.HeadIdeal.Hand.canon_dropLast _ _ (View.cover_of_tiled _ ![1024, 768] rfl _)]
  simp only [List.dropLast_cons₂, List.dropLast_singleton]
  canon_tiles q h
  all_goals
    change (j : ℕ) = _ at h1
    obtain rfl : i = q 0 := Fin.ext h0
    have lt := lt_of_eq_of_lt h1.symm j.isLt
    obtain rfl : j = ⟨_, lt⟩ := Fin.ext h1
    rw [fresh]
    · pointwise [k0_pay1, k0_pay2, k0_pay8, k0_pay9, k0_pay10, k0_pay11, at0 m c t, at1 m c t]
      rfl
    · rfl
    · rfl

set_option maxHeartbeats 4000000 in
/-- Every later point adds its block to the sum. -/
theorem acc_next (c : Dev nD) (t : Fin cfg0.N) (h : ¬ t.val % 8 = 0) (i : Fin 1024) (j : Fin 3072) :
    acc m c t i j = acc m c ⟨t.val - 1, by omega⟩ i j + ∑ a : Fin 512, GradMath.term (x m c) (d m c) i (half t j) (row t a) := by
  have b := points t
  unfold acc
  by_cases h1 : t.val % 8 = 7
  · rw [outsAt0_C m c t (by omega) h1]
    frame_out
    simp only [read_unread_whole]
    canon_tiles q h
    all_goals
      change (j : ℕ) = _ at h1
      obtain rfl : i = q 0 := Fin.ext h0
      have lt := lt_of_eq_of_lt h1.symm j.isLt
      obtain rfl : j = ⟨_, lt⟩ := Fin.ext h1
      pointwise [k0_pay1, k0_pay2, k0_pay8, k0_pay9, k0_pay10, k0_pay11, at0 m c t, at1 m c t]
      rfl
  · rw [outsAt0_B m c t (by omega) h1]
    frame_out
    simp only [read_unread_whole]
    canon_tiles q h
    all_goals
      change (j : ℕ) = _ at h1
      obtain rfl : i = q 0 := Fin.ext h0
      have lt := lt_of_eq_of_lt h1.symm j.isLt
      obtain rfl : j = ⟨_, lt⟩ := Fin.ext h1
      pointwise [k0_pay1, k0_pay2, k0_pay8, k0_pay9, k0_pay10, k0_pay11, at0 m c t, at1 m c t]
      rfl

/-- Columns of the running sum, written out: its rounding has no effect on exact numbers. -/
theorem written (L : List (View.Piece (Elt Ideal) S1024x3072 .f32)) (o : ℕ) (inb : ∀ a, ![0, o] a + ![1024, 768] a ≤ S1024x3072.size a) (ho : o + 768 ≤ 3072) (q : S1x1024x768.Idx) :
    k0_pay3 (F := Ideal) ((View.whole cc0_scratch0).readCov L (Rect.unit (s := S1024x3072) ![0, o] ![1024, 768] inb).toLoadRect) q
      = (View.canon L (ix2 (q 1) ⟨o + (q 2).val, lt_of_lt_of_le (Nat.add_lt_add_left (q 2).isLt o) ho⟩) : EReal) := by
  rw [View.readCov_eq_canon']
  idx_vars q
  pointwise [k0_pay3]

set_option maxHeartbeats 4000000 in
/-- The last point of a half writes the sum out. -/
theorem out_last (c : Dev nD) (t : Fin cfg0.N) (h : t.val % 8 = 7) (b : Fin 4) (i : Fin 1024) (j : Fin 768) :
    (outsAt0 m c t.val t.isLt).1 (ix3 b i j) = acc m c t i ⟨b.val * 768 + j.val, by omega⟩ := by
  unfold acc
  rw [outsAt0_C m c t (by omega) (by omega)]
  dsimp only
  frame_out
  canon_tiles q h
  all_goals
    change (b : ℕ) = _ at h0
    obtain rfl : i = q 1 := Fin.ext h1
    obtain rfl : j = q 2 := Fin.ext h2
    have z : (q 0).val = 0 := Nat.lt_one_iff.mp (q 0).isLt
  · exact (written _ 2304 _ (by omega) q).trans (congrArg (fun k => View.canon _ (ix2 (q 1) k)) (Fin.ext (by show 2304 + (q 2).val = b.val * 768 + (q 2).val; omega)))
  · exact (written _ 1536 _ (by omega) q).trans (congrArg (fun k => View.canon _ (ix2 (q 1) k)) (Fin.ext (by show 1536 + (q 2).val = b.val * 768 + (q 2).val; omega)))
  · exact (written _ 768 _ (by omega) q).trans (congrArg (fun k => View.canon _ (ix2 (q 1) k)) (Fin.ext (by show 768 + (q 2).val = b.val * 768 + (q 2).val; omega)))
  · exact (written _ 0 _ (by omega) q).trans (congrArg (fun k => View.canon _ (ix2 (q 1) k)) (Fin.ext (by show 0 + (q 2).val = b.val * 768 + (q 2).val; omega)))

/-- The point of a block of a half. -/
abbrev pt (h : Fin 2) (n : ℕ) (hn : n < 8) : Fin cfg0.N := ⟨h.val * 8 + n, lt_of_lt_of_eq (show h.val * 8 + n < 16 by omega) N_0.symm⟩

/-- After the last block of a half the running sum is that over all tokens. -/
theorem whole (c : Dev nD) (h : Fin 2) (i : Fin 1024) (j : Fin 3072) :
    acc m c (pt h 7 (by omega)) i j = GradMath.dw (x m c) (d m c) i ⟨h.val * 3072 + j.val, by omega⟩ := by
  have e : ∀ n (hn : n < 8), (∑ a : Fin 512, GradMath.term (x m c) (d m c) i (half (pt h n hn) j) (row (pt h n hn) a))
      = ∑ a : Fin 512, GradMath.term (x m c) (d m c) i ⟨h.val * 3072 + j.val, by omega⟩ (DownMath.row ⟨n, hn⟩ a) := by
    intro n hn
    have e0 : half (pt h n hn) j = ⟨h.val * 3072 + j.val, by omega⟩ := Fin.ext (by show (h.val * 8 + n) / 8 * 3072 + j.val = h.val * 3072 + j.val; omega)
    have e1 : (⟨(pt h n hn).val % 8, Nat.mod_lt _ (by decide)⟩ : Fin 8) = ⟨n, hn⟩ := Fin.ext (by show (h.val * 8 + n) % 8 = n; omega)
    unfold row
    rw [e0, e1]
  refine GradMath.last_eq (GradMath.term (x m c) (d m c) i ⟨h.val * 3072 + j.val, by omega⟩) (fun n hn => acc m c (pt h n hn) i j) (fun hn => ?_) (fun n hn => ?_)
  · exact (acc_first m c (pt h 0 hn) (by show (h.val * 8 + 0) % 8 = 0; omega) i j).trans (e 0 hn)
  · refine (acc_next m c (pt h (n + 1) hn) (by show ¬ (h.val * 8 + (n + 1)) % 8 = 0; omega) i j).trans ?_
    rw [e (n + 1) hn]
    exact congrArg (fun t => acc m c t i j + _) (Fin.ext (by show h.val * 8 + (n + 1) - 1 = h.val * 8 + n; omega))

set_option maxHeartbeats 1000000 in
/-- The gradient of the weight. -/
theorem final2 (c : Dev nD) : (dats m 0 c).arrAt 2 (cfgs 0).N = fun j => GradMath.dw (x m c) (d m c) (j 1) (col (j 0) (j 2)) := by
  refine (dats m 0 c).arrAt_eq_of_covers 2 _ (by decide +kernel) fun t hf y => ?_
  have b : t.val % 8 = 7 := (by decide +kernel : ∀ t : Fin cfg0.N, (cfg0.win 2).flush t = true → t.val % 8 = 7) t hf
  have p := points t
  blk_simp
  rw [after0_2]
  idx_vars y
  have e : (win0_2.blk t).view.emb (ix3 y0 y1 y2) = ix3 (⟨t.val / 8 * 4 + y0.val, by omega⟩ : Fin 8) y1 y2 := by blk_ext [index_eq t]
  refine Eq.trans ?_ (congrArg (fun j : S8x1024x768.Idx => GradMath.dw (x m c) (d m c) (j 1) (col (j 0) (j 2))) e.symm)
  have w := whole m c ⟨t.val / 8, by omega⟩ y1 ⟨y0.val * 768 + y2.val, by omega⟩
  rw [show pt ⟨t.val / 8, by omega⟩ 7 (by omega) = t from Fin.ext (by show t.val / 8 * 8 + 7 = t.val; omega)] at w
  refine (out_last m c t b y0 y1 y2).trans (w.trans ?_)
  exact congrArg (GradMath.dw (x m c) (d m c) y1) (Fin.ext (by show t.val / 8 * 3072 + (y0.val * 768 + y2.val) = (t.val / 8 * 4 + y0.val) * 768 + y2.val; omega))

end Cert.GradUpIdeal.Hand
end
-- ==== Proof.GradUpR.lean ====
module

public import proofs.«01_k».proof.Proof.Gen.GradUpRefIdeal.Run
public import Idealize.ShloMosaic.Lib.Pointwise
public import Idealize.ShloMosaic.Lib.Tactic.CleanTypes
public import proofs.«01_k».proof.Proof.Grad

@[expose] public section

set_option maxRecDepth 100000

noncomputable section

/-! What the gradient's lines of the up projection leave in their result. -/

namespace Cert.GradUpRefIdeal.Hand

open Cert.GradUpRefIdeal Cert.GradUpRefIdeal.Gen Cert.GradUpRefIdeal.Value Idealize.ShloMosaic Idealize.ShloMosaic.TcCoe Idealize.SL.Sem

variable (m : (ℓ : Loc nD τ sig) → Buf (Elt Ideal) ℓ)

/-- The arguments by name: the product's input and the gradient of its result. -/
abbrev x (c : Dev nD) : S1x4096x1024.Idx → EReal := m ((c.tc : Thread nD τ).loc main_arg0)
abbrev d (c : Dev nD) : S1x4096x6144.Idx → EReal := m ((c.tc : Thread nD τ).loc main_arg1)

/-- Column `j` of the block `b` of the result. -/
abbrev col (b : Fin 8) (j : Fin 768) : Fin 6144 := ⟨b.val * 768 + j.val, by omega⟩

set_option maxHeartbeats 2000000 in
/-- The gradient of the weight. -/
theorem run (g : Dev nD → PrngReg) : θ_run defs (onTc (τ := τ) (main (F := Ideal))) ⟨m, fun _ => 0, g⟩ fun r => ∀ c : Dev nD,
    (r.2.mem ((c.tc : Thread nD τ).loc main_v6) = fun j : S8x1024x768.Idx => GradMath.dw (x m c) (d m c) (j 1) (col (j 0) (j 2)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans (funext fun j => ?_), (h c).2⟩) (Value.run m g)
  idx_vars j
  show _ = GradMath.dw (x m c) (d m c) j1 (col j0 j2)
  clean_types
  pointwise
  rw [Fin.sum_univ_one]
  exact Finset.sum_congr rfl fun n _ => mul_comm (d m c (ix3 0 n (col j0 j2))) (x m c (ix3 0 n j1))

end Cert.GradUpRefIdeal.Hand
end
-- ==== Proof.GradUpClaim.lean ====
module

public import proofs.«01_k».proof.Defs
public import proofs.«01_k».proof.Proof.GradUpK
public import proofs.«01_k».proof.Proof.GradUpR
public import Idealize.ShloMosaic.Lib.Claim
public import proofs.«01_k».proof.Proof.Gen.GradUpIdeal
public import proofs.«01_k».proof.Proof.Gen.GradUpRefIdeal

@[expose] public section

set_option maxRecDepth 16384

noncomputable section

namespace Cert.GradUpClaim

open Idealize.ShloMosaic Idealize.SL.Sem
open Cert.GradUpIdeal.Hand

set_option maxHeartbeats 4000000 in
/-- Kernel and gradient's lines leave the same array. -/
theorem algebraic : Cert.algebraic_GradUpIdeal_GradUpRefIdeal (hGradUpIdeal := Cert.GradUpIdeal.Gen.facts) (hGradUpRefIdeal := Cert.GradUpRefIdeal.Gen.facts) := by
  intro m g m' g' _ agree
  refine ⟨fun c j => GradMath.dw (x m c) (d m c) (j 1) (col (j 0) (j 2)), ?_, ?_⟩
  · refine (θ_run _ _ _).mono (fun r h c => ?_) (θ_run_and (Cert.GradUpIdeal.Gen.run_main m g) (Cert.GradUpIdeal.Gen.unchanged m g))
    obtain ⟨h, k⟩ := h
    have h := (h c).1
    exact ⟨(h 2).trans (final2 m c), k c⟩
  · refine (θ_run _ _ _).mono (fun r h c => ?_) (Cert.GradUpRefIdeal.Hand.run m' g')
    obtain ⟨a0, a1⟩ := agree c
    have e0 : Cert.GradUpRefIdeal.Hand.x m' c = x m c := a0
    have e1 : Cert.GradUpRefIdeal.Hand.d m' c = d m c := a1
    have h := h c
    rw [e0, e1] at h
    exact h

end Cert.GradUpClaim

end
-- ==== Proof.Gates.lean ====
module

public import Idealize.ShloMosaic.Lib.Pointwise

/-! The optimiser's step of the two gate maps, in plain terms. -/

@[expose] public section

set_option maxRecDepth 16384

noncomputable section

namespace Cert.GatesMath

open Idealize.ShloMosaic

/-- The eight blocks of a gate map, and a single entry of its rows laid one under the other. -/
abbrev Map := (⟨4, ![1, 8, 128, 128]⟩ : Shape).Idx → EReal
def flat (X : Map) (i : Fin 1024) (j : Fin 128) : EReal := X (ix4 0 ⟨i.val / 128, by omega⟩ ⟨i.val % 128, by omega⟩ j)

/-- The new first moment of an entry, from its gradient and its first moment. -/
def first (g m : EReal) : EReal := Ideal.ofBits .f32 0x3F666666#32 * m + Ideal.ofBits .f32 0x3DCCCCCD#32 * g

/-- The new second moment of an entry. -/
def second (g v : EReal) : EReal := Ideal.ofBits .f32 0x3F7FBE77#32 * v + Ideal.ofBits .f32 0x3A83126F#32 * (g * g)

/-- The step of an entry: the corrected first moment over the root of the corrected second, and the decay. -/
def delta (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.GatesMath
end
-- ==== Proof.GatesK.lean ====
module

public import proofs.«01_k».proof.Proof.Gen.GatesIdeal.Frame
public import Idealize.ShloMosaic.Lib.Pipeline.ValueKit
public import Idealize.ShloMosaic.Lib.Pointwise
public import proofs.«01_k».proof.Proof.Gates

/-! What the optimiser's call for the two gate maps writes into its eight results. -/

@[expose] public section

set_option maxRecDepth 16384

noncomputable section

namespace Cert.GatesIdeal.Hand

open Cert.GatesIdeal Cert.GatesIdeal.Gen Idealize.ShloMosaic Idealize.ShloMosaic.TcCoe Idealize.SL.Sem
open Idealize.ShloMosaic.Pipeline (Dat)

variable (m : (ℓ : Loc nD τ sig) → Buf (Elt Ideal) ℓ)

theorem index_eq : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- The arguments by name, one of each for the two maps: gradient, weight, first and second moment. -/
abbrev ga (c : Dev nD) : GatesMath.Map := m ((c.tc : Thread nD τ).loc main_arg0)
abbrev gx (c : Dev nD) : GatesMath.Map := m ((c.tc : Thread nD τ).loc main_arg1)
abbrev wa (c : Dev nD) : GatesMath.Map := m ((c.tc : Thread nD τ).loc main_arg2)
abbrev wx (c : Dev nD) : GatesMath.Map := m ((c.tc : Thread nD τ).loc main_arg3)
abbrev ma (c : Dev nD) : GatesMath.Map := m ((c.tc : Thread nD τ).loc main_arg4)
abbrev mx (c : Dev nD) : GatesMath.Map := m ((c.tc : Thread nD τ).loc main_arg5)
abbrev va (c : Dev nD) : GatesMath.Map := m ((c.tc : Thread nD τ).loc main_arg6)
abbrev vx (c : Dev nD) : GatesMath.Map := m ((c.tc : Thread nD τ).loc main_arg7)

/-! What the windows hold of the arrays. -/

theorem at0 (c : Dev nD) (t : Fin cfg0.N) (i : Fin 1024) (j : Fin 128) : iblk m c 0 t (ix2 i j) = GatesMath.flat (ga m c) i j := by
  blk_simp [iblk]
  entry_read
  pointwise
  blk_point [index_eq t]
theorem at1 (c : Dev nD) (t : Fin cfg0.N) (i : Fin 1024) (j : Fin 128) : iblk m c 1 t (ix2 i j) = GatesMath.flat (gx m c) i j := by
  blk_simp [iblk]
  entry_read
  pointwise
  blk_point [index_eq t]
theorem at2 (c : Dev nD) (t : Fin cfg0.N) (i : Fin 1024) (j : Fin 128) : iblk m c 2 t (ix2 i j) = GatesMath.flat (wa m c) i j := by
  blk_simp [iblk]
  entry_read
  pointwise
  blk_point [index_eq t]
theorem at3 (c : Dev nD) (t : Fin cfg0.N) (i : Fin 1024) (j : Fin 128) : iblk m c 3 t (ix2 i j) = GatesMath.flat (wx m c) i j := by
  blk_simp [iblk]
  entry_read
  pointwise
  blk_point [index_eq t]
theorem at4 (c : Dev nD) (t : Fin cfg0.N) (i : Fin 1024) (j : Fin 128) : iblk m c 4 t (ix2 i j) = GatesMath.flat (ma m c) i j := by
  blk_simp [iblk]
  entry_read
  pointwise
  blk_point [index_eq t]
theorem at5 (c : Dev nD) (t : Fin cfg0.N) (i : Fin 1024) (j : Fin 128) : iblk m c 5 t (ix2 i j) = GatesMath.flat (mx m c) i j := by
  blk_simp [iblk]
  entry_read
  pointwise
  blk_point [index_eq t]
theorem at6 (c : Dev nD) (t : Fin cfg0.N) (i : Fin 1024) (j : Fin 128) : iblk m c 6 t (ix2 i j) = GatesMath.flat (va m c) i j := by
  blk_simp [iblk]
  entry_read
  pointwise
  blk_point [index_eq t]
theorem at7 (c : Dev nD) (t : Fin cfg0.N) (i : Fin 1024) (j : Fin 128) : iblk m c 7 t (ix2 i j) = GatesMath.flat (vx m c) i j := by
  blk_simp [iblk]
  entry_read
  pointwise
  blk_point [index_eq t]

set_option maxHeartbeats 1000000 in
/-- The gradient of the first map. -/
theorem final8 (c : Dev nD) : (dats m 0 c).arrAt 8 (cfgs 0).N = fun j => GatesMath.flat (ga m c) (j 0) (j 1) := by
  refine (dats m 0 c).arrAt_eq_of_covers 8 _ (by decide +kernel) fun t hf y => ?_
  blk_simp
  rw [after0_8]
  idx_vars y
  have e : (win0_8.blk t).view.emb (ix2 y0 y1) = ix2 y0 y1 := by blk_ext [index_eq t]
  refine Eq.trans ?_ (congrArg (fun j : S1024x128.Idx => GatesMath.flat (ga m c) (j 0) (j 1)) e.symm)
  frame_out
  pointwise [k0_pay1, at0 m c t, at2 m c t, at4 m c t, at6 m c t]
  try rfl

set_option maxHeartbeats 1000000 in
/-- Its step. -/
theorem final9 (c : Dev nD) : (dats m 0 c).arrAt 9 (cfgs 0).N = fun j => GatesMath.delta (GatesMath.flat (ga m c) (j 0) (j 1)) (GatesMath.flat (wa m c) (j 0) (j 1)) (GatesMath.flat (ma m c) (j 0) (j 1)) (GatesMath.flat (va m c) (j 0) (j 1)) := by
  refine (dats m 0 c).arrAt_eq_of_covers 9 _ (by decide +kernel) fun t hf y => ?_
  blk_simp
  rw [after0_9]
  idx_vars y
  have e : (win0_9.blk t).view.emb (ix2 y0 y1) = ix2 y0 y1 := by blk_ext [index_eq t]
  refine Eq.trans ?_ (congrArg (fun j : S1024x128.Idx => GatesMath.delta (GatesMath.flat (ga m c) (j 0) (j 1)) (GatesMath.flat (wa m c) (j 0) (j 1)) (GatesMath.flat (ma m c) (j 0) (j 1)) (GatesMath.flat (va m c) (j 0) (j 1))) e.symm)
  frame_out
  pointwise [k0_pay1, k0_pay2, k0_pay3, k0_pay4, at0 m c t, at2 m c t, at4 m c t, at6 m c t]
  try rfl

set_option maxHeartbeats 1000000 in
/-- Its first moment. -/
theorem final10 (c : Dev nD) : (dats m 0 c).arrAt 10 (cfgs 0).N = fun j => GatesMath.first (GatesMath.flat (ga m c) (j 0) (j 1)) (GatesMath.flat (ma m c) (j 0) (j 1)) := by
  refine (dats m 0 c).arrAt_eq_of_covers 10 _ (by decide +kernel) fun t hf y => ?_
  blk_simp
  rw [after0_10]
  idx_vars y
  have e : (win0_10.blk t).view.emb (ix2 y0 y1) = ix2 y0 y1 := by blk_ext [index_eq t]
  refine Eq.trans ?_ (congrArg (fun j : S1024x128.Idx => GatesMath.first (GatesMath.flat (ga m c) (j 0) (j 1)) (GatesMath.flat (ma m c) (j 0) (j 1))) e.symm)
  frame_out
  pointwise [k0_pay1, k0_pay2, at0 m c t, at2 m c t, at4 m c t, at6 m c t]
  try rfl

set_option maxHeartbeats 1000000 in
/-- Its second moment. -/
theorem final11 (c : Dev nD) : (dats m 0 c).arrAt 11 (cfgs 0).N = fun j => GatesMath.second (GatesMath.flat (ga m c) (j 0) (j 1)) (GatesMath.flat (va m c) (j 0) (j 1)) := by
  refine (dats m 0 c).arrAt_eq_of_covers 11 _ (by decide +kernel) fun t hf y => ?_
  blk_simp
  rw [after0_11]
  idx_vars y
  have e : (win0_11.blk t).view.emb (ix2 y0 y1) = ix2 y0 y1 := by blk_ext [index_eq t]
  refine Eq.trans ?_ (congrArg (fun j : S1024x128.Idx => GatesMath.second (GatesMath.flat (ga m c) (j 0) (j 1)) (GatesMath.flat (va m c) (j 0) (j 1))) e.symm)
  frame_out
  pointwise [k0_pay1, k0_pay3, at0 m c t, at2 m c t, at4 m c t, at6 m c t]
  try rfl

set_option maxHeartbeats 1000000 in
/-- The gradient of the second map. -/
theorem final12 (c : Dev nD) : (dats m 0 c).arrAt 12 (cfgs 0).N = fun j => GatesMath.flat (gx m c) (j 0) (j 1) := by
  refine (dats m 0 c).arrAt_eq_of_covers 12 _ (by decide +kernel) fun t hf y => ?_
  blk_simp
  rw [after0_12]
  idx_vars y
  have e : (win0_12.blk t).view.emb (ix2 y0 y1) = ix2 y0 y1 := by blk_ext [index_eq t]
  refine Eq.trans ?_ (congrArg (fun j : S1024x128.Idx => GatesMath.flat (gx m c) (j 0) (j 1)) e.symm)
  frame_out
  pointwise [k0_pay5, at1 m c t, at3 m c t, at5 m c t, at7 m c t]
  try rfl

set_option maxHeartbeats 1000000 in
/-- Its step. -/
theorem final13 (c : Dev nD) : (dats m 0 c).arrAt 13 (cfgs 0).N = fun j => GatesMath.delta (GatesMath.flat (gx m c) (j 0) (j 1)) (GatesMath.flat (wx m c) (j 0) (j 1)) (GatesMath.flat (mx m c) (j 0) (j 1)) (GatesMath.flat (vx m c) (j 0) (j 1)) := by
  refine (dats m 0 c).arrAt_eq_of_covers 13 _ (by decide +kernel) fun t hf y => ?_
  blk_simp
  rw [after0_13]
  idx_vars y
  have e : (win0_13.blk t).view.emb (ix2 y0 y1) = ix2 y0 y1 := by blk_ext [index_eq t]
  refine Eq.trans ?_ (congrArg (fun j : S1024x128.Idx => GatesMath.delta (GatesMath.flat (gx m c) (j 0) (j 1)) (GatesMath.flat (wx m c) (j 0) (j 1)) (GatesMath.flat (mx m c) (j 0) (j 1)) (GatesMath.flat (vx m c) (j 0) (j 1))) e.symm)
  frame_out
  pointwise [k0_pay5, k0_pay6, k0_pay7, k0_pay8, at1 m c t, at3 m c t, at5 m c t, at7 m c t]
  try rfl

set_option maxHeartbeats 1000000 in
/-- Its first moment. -/
theorem final14 (c : Dev nD) : (dats m 0 c).arrAt 14 (cfgs 0).N = fun j => GatesMath.first (GatesMath.flat (gx m c) (j 0) (j 1)) (GatesMath.flat (mx m c) (j 0) (j 1)) := by
  refine (dats m 0 c).arrAt_eq_of_covers 14 _ (by decide +kernel) fun t hf y => ?_
  blk_simp
  rw [after0_14]
  idx_vars y
  have e : (win0_14.blk t).view.emb (ix2 y0 y1) = ix2 y0 y1 := by blk_ext [index_eq t]
  refine Eq.trans ?_ (congrArg (fun j : S1024x128.Idx => GatesMath.first (GatesMath.flat (gx m c) (j 0) (j 1)) (GatesMath.flat (mx m c) (j 0) (j 1))) e.symm)
  frame_out
  pointwise [k0_pay5, k0_pay6, at1 m c t, at3 m c t, at5 m c t, at7 m c t]
  try rfl

set_option maxHeartbeats 1000000 in
/-- Its second moment. -/
theorem final15 (c : Dev nD) : (dats m 0 c).arrAt 15 (cfgs 0).N = fun j => GatesMath.second (GatesMath.flat (gx m c) (j 0) (j 1)) (GatesMath.flat (vx m c) (j 0) (j 1)) := by
  refine (dats m 0 c).arrAt_eq_of_covers 15 _ (by decide +kernel) fun t hf y => ?_
  blk_simp
  rw [after0_15]
  idx_vars y
  have e : (win0_15.blk t).view.emb (ix2 y0 y1) = ix2 y0 y1 := by blk_ext [index_eq t]
  refine Eq.trans ?_ (congrArg (fun j : S1024x128.Idx => GatesMath.second (GatesMath.flat (gx m c) (j 0) (j 1)) (GatesMath.flat (vx m c) (j 0) (j 1))) e.symm)
  frame_out
  pointwise [k0_pay5, k0_pay7, at1 m c t, at3 m c t, at5 m c t, at7 m c t]
  try rfl

end Cert.GatesIdeal.Hand
end
-- ==== Proof.GatesR.lean ====
module

public import proofs.«01_k».proof.Proof.Gen.GatesRefIdeal.Run
public import Idealize.ShloMosaic.Lib.Pointwise
public import Idealize.ShloMosaic.Lib.Tactic.CleanTypes
public import proofs.«01_k».proof.Proof.Gates

@[expose] public section

set_option maxRecDepth 100000

noncomputable section

/-! What the optimiser's lines leave in the eight results of the two gate maps. -/

namespace Cert.GatesRefIdeal.Hand

open Cert.GatesRefIdeal Cert.GatesRefIdeal.Gen Cert.GatesRefIdeal.Value Idealize.ShloMosaic Idealize.ShloMosaic.TcCoe Idealize.SL.Sem

variable (m : (ℓ : Loc nD τ sig) → Buf (Elt Ideal) ℓ)

/-- The arguments by name, one of each for the two maps: gradient, weight, first and second moment. -/
abbrev ga (c : Dev nD) : GatesMath.Map := m ((c.tc : Thread nD τ).loc main_arg0)
abbrev gx (c : Dev nD) : GatesMath.Map := m ((c.tc : Thread nD τ).loc main_arg1)
abbrev wa (c : Dev nD) : GatesMath.Map := m ((c.tc : Thread nD τ).loc main_arg2)
abbrev wx (c : Dev nD) : GatesMath.Map := m ((c.tc : Thread nD τ).loc main_arg3)
abbrev ma (c : Dev nD) : GatesMath.Map := m ((c.tc : Thread nD τ).loc main_arg4)
abbrev mx (c : Dev nD) : GatesMath.Map := m ((c.tc : Thread nD τ).loc main_arg5)
abbrev va (c : Dev nD) : GatesMath.Map := m ((c.tc : Thread nD τ).loc main_arg6)
abbrev vx (c : Dev nD) : GatesMath.Map := m ((c.tc : Thread nD τ).loc main_arg7)

set_option maxHeartbeats 4000000 in
/-- Of each map the gradient, the step and the two new moments. -/
theorem run (g : Dev nD → PrngReg) : θ_run defs (onTc (τ := τ) (main (F := Ideal))) ⟨m, fun _ => 0, g⟩ fun r => ∀ c : Dev nD,
    (r.2.mem ((c.tc : Thread nD τ).loc main_v24) = fun j : S1024x128.Idx => GatesMath.flat (ga m c) (j 0) (j 1))
      ∧ (r.2.mem ((c.tc : Thread nD τ).loc main_v25) = fun j : S1024x128.Idx => GatesMath.delta (GatesMath.flat (ga m c) (j 0) (j 1)) (GatesMath.flat (wa m c) (j 0) (j 1)) (GatesMath.flat (ma m c) (j 0) (j 1)) (GatesMath.flat (va m c) (j 0) (j 1)))
      ∧ (r.2.mem ((c.tc : Thread nD τ).loc main_v26) = fun j : S1024x128.Idx => GatesMath.first (GatesMath.flat (ga m c) (j 0) (j 1)) (GatesMath.flat (ma m c) (j 0) (j 1)))
      ∧ (r.2.mem ((c.tc : Thread nD τ).loc main_v27) = fun j : S1024x128.Idx => GatesMath.second (GatesMath.flat (ga m c) (j 0) (j 1)) (GatesMath.flat (va m c) (j 0) (j 1)))
      ∧ (r.2.mem ((c.tc : Thread nD τ).loc main_v52) = fun j : S1024x128.Idx => GatesMath.flat (gx m c) (j 0) (j 1))
      ∧ (r.2.mem ((c.tc : Thread nD τ).loc main_v53) = fun j : S1024x128.Idx => GatesMath.delta (GatesMath.flat (gx m c) (j 0) (j 1)) (GatesMath.flat (wx m c) (j 0) (j 1)) (GatesMath.flat (mx m c) (j 0) (j 1)) (GatesMath.flat (vx m c) (j 0) (j 1)))
      ∧ (r.2.mem ((c.tc : Thread nD τ).loc main_v54) = fun j : S1024x128.Idx => GatesMath.first (GatesMath.flat (gx m c) (j 0) (j 1)) (GatesMath.flat (mx m c) (j 0) (j 1)))
      ∧ (r.2.mem ((c.tc : Thread nD τ).loc main_v55) = fun j : S1024x128.Idx => GatesMath.second (GatesMath.flat (gx m c) (j 0) (j 1)) (GatesMath.flat (vx m c) (j 0) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans (funext fun j => ?_), (h c).2.1.trans (funext fun j => ?_), (h c).2.2.1.trans (funext fun j => ?_), (h c).2.2.2.1.trans (funext fun j => ?_),
    (h c).2.2.2.2.1.trans (funext fun j => ?_), (h c).2.2.2.2.2.1.trans (funext fun j => ?_), (h c).2.2.2.2.2.2.1.trans (funext fun j => ?_), (h c).2.2.2.2.2.2.2.1.trans (funext fun j => ?_), (h c).2.2.2.2.2.2.2.2⟩) (Value.run m g)
  · idx_vars j
    show _ = GatesMath.flat (ga m c) j0 j1
    clean_types
    pointwise
    rfl
  · idx_vars j
    show _ = GatesMath.delta (GatesMath.flat (ga m c) j0 j1) (GatesMath.flat (wa m c) j0 j1) (GatesMath.flat (ma m c) j0 j1) (GatesMath.flat (va m c) j0 j1)
    clean_types
    pointwise
    rfl
  · idx_vars j
    show _ = GatesMath.first (GatesMath.flat (ga m c) j0 j1) (GatesMath.flat (ma m c) j0 j1)
    clean_types
    pointwise
    rfl
  · idx_vars j
    show _ = GatesMath.second (GatesMath.flat (ga m c) j0 j1) (GatesMath.flat (va m c) j0 j1)
    clean_types
    pointwise
    rfl
  · idx_vars j
    show _ = GatesMath.flat (gx m c) j0 j1
    clean_types
    pointwise
    rfl
  · idx_vars j
    show _ = GatesMath.delta (GatesMath.flat (gx m c) j0 j1) (GatesMath.flat (wx m c) j0 j1) (GatesMath.flat (mx m c) j0 j1) (GatesMath.flat (vx m c) j0 j1)
    clean_types
    pointwise
    rfl
  · idx_vars j
    show _ = GatesMath.first (GatesMath.flat (gx m c) j0 j1) (GatesMath.flat (mx m c) j0 j1)
    clean_types
    pointwise
    rfl
  · idx_vars j
    show _ = GatesMath.second (GatesMath.flat (gx m c) j0 j1) (GatesMath.flat (vx m c) j0 j1)
    clean_types
    pointwise
    rfl

end Cert.GatesRefIdeal.Hand
end
-- ==== Proof.GatesClaim.lean ====
module

public import proofs.«01_k».proof.Defs
public import proofs.«01_k».proof.Proof.GatesK
public import proofs.«01_k».proof.Proof.GatesR
public import Idealize.ShloMosaic.Lib.Claim
public import proofs.«01_k».proof.Proof.Gen.GatesIdeal
public import proofs.«01_k».proof.Proof.Gen.GatesRefIdeal

@[expose] public section

set_option maxRecDepth 16384

noncomputable section

namespace Cert.GatesClaim

open Idealize.ShloMosaic Idealize.SL.Sem
open Cert.GatesIdeal.Hand

set_option maxHeartbeats 4000000 in
/-- Kernel and optimiser's lines leave the same eight arrays. -/
theorem algebraic : Cert.algebraic_GatesIdeal_GatesRefIdeal (hGatesIdeal := Cert.GatesIdeal.Gen.facts) (hGatesRefIdeal := Cert.GatesRefIdeal.Gen.facts) := by
  intro m g m' g' _ agree
  refine ⟨fun c j => GatesMath.flat (ga m c) (j 0) (j 1),
    fun c j => GatesMath.delta (GatesMath.flat (ga m c) (j 0) (j 1)) (GatesMath.flat (wa m c) (j 0) (j 1)) (GatesMath.flat (ma m c) (j 0) (j 1)) (GatesMath.flat (va m c) (j 0) (j 1)),
    fun c j => GatesMath.first (GatesMath.flat (ga m c) (j 0) (j 1)) (GatesMath.flat (ma m c) (j 0) (j 1)),
    fun c j => GatesMath.second (GatesMath.flat (ga m c) (j 0) (j 1)) (GatesMath.flat (va m c) (j 0) (j 1)),
    fun c j => GatesMath.flat (gx m c) (j 0) (j 1),
    fun c j => GatesMath.delta (GatesMath.flat (gx m c) (j 0) (j 1)) (GatesMath.flat (wx m c) (j 0) (j 1)) (GatesMath.flat (mx m c) (j 0) (j 1)) (GatesMath.flat (vx m c) (j 0) (j 1)),
    fun c j => GatesMath.first (GatesMath.flat (gx m c) (j 0) (j 1)) (GatesMath.flat (mx m c) (j 0) (j 1)),
    fun c j => GatesMath.second (GatesMath.flat (gx m c) (j 0) (j 1)) (GatesMath.flat (vx m c) (j 0) (j 1)), ?_, ?_⟩
  · refine (θ_run _ _ _).mono (fun r h c => ?_) (θ_run_and (Cert.GatesIdeal.Gen.run_main m g) (Cert.GatesIdeal.Gen.unchanged m g))
    obtain ⟨h, k⟩ := h
    have h := (h c).1
    exact ⟨(h 8).trans (final8 m c), (h 9).trans (final9 m c), (h 10).trans (final10 m c), (h 11).trans (final11 m c), (h 12).trans (final12 m c), (h 13).trans (final13 m c), (h 14).trans (final14 m c), (h 15).trans (final15 m c), k c⟩
  · refine (θ_run _ _ _).mono (fun r h c => ?_) (Cert.GatesRefIdeal.Hand.run m' g')
    obtain ⟨a0, a1, a2, a3, a4, a5, a6, a7⟩ := agree c
    have e0 : Cert.GatesRefIdeal.Hand.ga m' c = ga m c := a0
    have e1 : Cert.GatesRefIdeal.Hand.gx m' c = gx m c := a1
    have e2 : Cert.GatesRefIdeal.Hand.wa m' c = wa m c := a2
    have e3 : Cert.GatesRefIdeal.Hand.wx m' c = wx m c := a3
    have e4 : Cert.GatesRefIdeal.Hand.ma m' c = ma m c := a4
    have e5 : Cert.GatesRefIdeal.Hand.mx m' c = mx m c := a5
    have e6 : Cert.GatesRefIdeal.Hand.va m' c = va m c := a6
    have e7 : Cert.GatesRefIdeal.Hand.vx m' c = vx m c := a7
    have h := h c
    rw [e0, e1, e2, e3, e4, e5, e6, e7] at h
    exact h

end Cert.GatesClaim

end
-- ==== Proof.lean ====
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.InProjClaim
public import proofs.«01_k».proof.Proof.Gen.UpBwd
public import proofs.«01_k».proof.Proof.Gen.UpBwd.Frame
public import proofs.«01_k».proof.Proof.Gen.UpBwdIdeal
public import proofs.«01_k».proof.Proof.Gen.UpBwdIdeal.Frame
public import proofs.«01_k».proof.Proof.Gen.UpBwdRefIdeal
public import proofs.«01_k».proof.Proof.Gen.UpBwdIdeal.Value
public import proofs.«01_k».proof.Proof.Gen.UpBwdRefIdeal.Run
public import proofs.«01_k».proof.Proof.UpBwdClaim
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadIdeal.Value
public import proofs.«01_k».proof.Proof.Gen.HeadRefIdeal.Run
public import proofs.«01_k».proof.Proof.HeadClaim
public import proofs.«01_k».proof.Proof.Gen.Mix
public import proofs.«01_k».proof.Proof.Gen.Mix.Frame
public import proofs.«01_k».proof.Proof.Gen.MixIdeal
public import proofs.«01_k».proof.Proof.MixFrame
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.NormClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.MergeClaim
public import proofs.«01_k».proof.Proof.Gen.UpAct
public import proofs.«01_k».proof.Proof.Gen.UpAct.Frame
public import proofs.«01_k».proof.Proof.Gen.UpActIdeal
public import proofs.«01_k».proof.Proof.Gen.UpActIdeal.Frame
public import proofs.«01_k».proof.Proof.Gen.UpActRefIdeal
public import proofs.«01_k».proof.Proof.Gen.UpActIdeal.Value
public import proofs.«01_k».proof.Proof.Gen.UpActRefIdeal.Run
public import proofs.«01_k».proof.Proof.UpActClaim
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.GradMerge
public import proofs.«01_k».proof.Proof.Gen.GradMerge.Frame
public import proofs.«01_k».proof.Proof.Gen.GradMergeIdeal
public import proofs.«01_k».proof.Proof.Gen.GradMergeIdeal.Frame
public import proofs.«01_k».proof.Proof.Gen.GradMergeRefIdeal
public import proofs.«01_k».proof.Proof.Gen.GradMergeIdeal.Value
public import proofs.«01_k».proof.Proof.Gen.GradMergeRefIdeal.Run
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInRefIdeal
public import proofs.«01_k».proof.Proof.Gen.GradInIdeal.Value
public import proofs.«01_k».proof.Proof.Gen.GradInRefIdeal.Run
public import proofs.«01_k».proof.Proof.Gen.GradUp
public import proofs.«01_k».proof.Proof.Gen.GradUp.Frame
public import proofs.«01_k».proof.Proof.Gen.GradUpIdeal
public import proofs.«01_k».proof.Proof.Gen.GradUpIdeal.Frame
public import proofs.«01_k».proof.Proof.Gen.GradUpRefIdeal
public import proofs.«01_k».proof.Proof.Gen.GradUpIdeal.Value
public import proofs.«01_k».proof.Proof.Gen.GradUpRefIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesRefIdeal
public import proofs.«01_k».proof.Proof.Gen.GatesIdeal.Value
public import proofs.«01_k».proof.Proof.Gen.GatesRefIdeal.Run
public import proofs.«01_k».proof.Proof.DownClaim
public import proofs.«01_k».proof.Proof.AdamClaim
public import proofs.«01_k».proof.Proof.GradMergeClaim
public import proofs.«01_k».proof.Proof.GradInClaim
public import proofs.«01_k».proof.Proof.GradUpClaim
public import proofs.«01_k».proof.Proof.GatesClaim
public import Idealize.ShloMosaic.Lib.Claim
public import Idealize.ShloMosaic.Adequacy
public import Idealize.ShloMosaic.Init

@[expose] public section

noncomputable section

namespace Cert.Proof

open Idealize.ShloMosaic Idealize.SL.Sem

/-- The references' frames: they have host operations only, and no semaphore. -/
theorem frame_in_proj_ref : Cert.quiescent_InProjRefIdeal (hInProjRefIdeal := Cert.InProjRefIdeal.Gen.facts) := fun m ρ _ =>
  (θ_run (Cert.InProjRefIdeal.defs (F := Ideal)) _ _).mono (fun r h => ⟨fun c => (h c).2.2, sem_eq_zero_of_no_sems (by decide) r.2⟩) (Cert.InProjRefIdeal.Value.run m ρ)

theorem frame_up_bwd_ref : Cert.quiescent_UpBwdRefIdeal (hUpBwdRefIdeal := Cert.UpBwdRefIdeal.Gen.facts) := fun m ρ _ =>
  (θ_run (Cert.UpBwdRefIdeal.defs (F := Ideal)) _ _).mono
    (fun r h => ⟨fun c => (h c).2.2.2.2.2.2.2.2, sem_eq_zero_of_no_sems (by decide) r.2⟩) (Cert.UpBwdRefIdeal.Value.run m ρ)

theorem frame_head_ref : Cert.quiescent_HeadRefIdeal (hHeadRefIdeal := Cert.HeadRefIdeal.Gen.facts) := fun m ρ _ =>
  (θ_run (Cert.HeadRefIdeal.defs (F := Ideal)) _ _).mono
    (fun r h => ⟨fun c => (h c).2.2.2.2.2.2.2.2, sem_eq_zero_of_no_sems (by decide) r.2⟩) (Cert.HeadRefIdeal.Value.run m ρ)

theorem frame_norm_ref : Cert.quiescent_NormRefIdeal (hNormRefIdeal := Cert.NormRefIdeal.Gen.facts) := fun m ρ _ =>
  (θ_run (Cert.NormRefIdeal.defs (F := Ideal)) _ _).mono
    (fun r h => ⟨fun c => (h c).2.2, sem_eq_zero_of_no_sems (by decide) r.2⟩) (Cert.NormRefIdeal.Value.run m ρ)

theorem frame_merge_ref : Cert.quiescent_MergeRefIdeal (hMergeRefIdeal := Cert.MergeRefIdeal.Gen.facts) := fun m ρ _ =>
  (θ_run (Cert.MergeRefIdeal.defs (F := Ideal)) _ _).mono
    (fun r h => ⟨fun c => (h c).2.2.2.2.2, sem_eq_zero_of_no_sems (by decide) r.2⟩) (Cert.MergeRefIdeal.Value.run m ρ)

theorem frame_upact_ref : Cert.quiescent_UpActRefIdeal (hUpActRefIdeal := Cert.UpActRefIdeal.Gen.facts) := fun m ρ _ =>
  (θ_run (Cert.UpActRefIdeal.defs (F := Ideal)) _ _).mono
    (fun r h => ⟨fun c => (h c).2.2, sem_eq_zero_of_no_sems (by decide) r.2⟩) (Cert.UpActRefIdeal.Value.run m ρ)

theorem frame_down_ref : Cert.quiescent_DownRefIdeal (hDownRefIdeal := Cert.DownRefIdeal.Gen.facts) := fun m ρ _ =>
  (θ_run (Cert.DownRefIdeal.defs (F := Ideal)) _ _).mono
    (fun r h => ⟨fun c => (h c).2, sem_eq_zero_of_no_sems (by decide) r.2⟩) (Cert.DownRefIdeal.Value.run m ρ)

theorem frame_adam_ref : Cert.quiescent_AdamRefIdeal (hAdamRefIdeal := Cert.AdamRefIdeal.Gen.facts) := fun m ρ _ =>
  (θ_run (Cert.AdamRefIdeal.defs (F := Ideal)) _ _).mono
    (fun r h => ⟨fun c => (h c).2.2.2.2, sem_eq_zero_of_no_sems (by decide) r.2⟩) (Cert.AdamRefIdeal.Value.run m ρ)

theorem frame_grad_merge_ref : Cert.quiescent_GradMergeRefIdeal (hGradMergeRefIdeal := Cert.GradMergeRefIdeal.Gen.facts) := fun m ρ _ =>
  (θ_run (Cert.GradMergeRefIdeal.defs (F := Ideal)) _ _).mono
    (fun r h => ⟨fun c => (h c).2.2.2, sem_eq_zero_of_no_sems (by decide) r.2⟩) (Cert.GradMergeRefIdeal.Value.run m ρ)

theorem frame_grad_in_ref : Cert.quiescent_GradInRefIdeal (hGradInRefIdeal := Cert.GradInRefIdeal.Gen.facts) := fun m ρ _ =>
  (θ_run (Cert.GradInRefIdeal.defs (F := Ideal)) _ _).mono
    (fun r h => ⟨fun c => (h c).2, sem_eq_zero_of_no_sems (by decide) r.2⟩) (Cert.GradInRefIdeal.Value.run m ρ)

theorem frame_grad_up_ref : Cert.quiescent_GradUpRefIdeal (hGradUpRefIdeal := Cert.GradUpRefIdeal.Gen.facts) := fun m ρ _ =>
  (θ_run (Cert.GradUpRefIdeal.defs (F := Ideal)) _ _).mono
    (fun r h => ⟨fun c => (h c).2, sem_eq_zero_of_no_sems (by decide) r.2⟩) (Cert.GradUpRefIdeal.Value.run m ρ)

theorem frame_gates_ref : Cert.quiescent_GatesRefIdeal (hGatesRefIdeal := Cert.GatesRefIdeal.Gen.facts) := fun m ρ _ =>
  (θ_run (Cert.GatesRefIdeal.defs (F := Ideal)) _ _).mono
    (fun r h => ⟨fun c => (h c).2.2.2.2.2.2.2.2, sem_eq_zero_of_no_sems (by decide) r.2⟩) (Cert.GatesRefIdeal.Value.run m ρ)

/-- The two coefficients of the derivative of the gate's activation are named by their exact fractions. -/
theorem preserves_head : Cert.preserves_Head_HeadIdeal :=
  ⟨IdealRules.named_const.statement _ _ _ _ _ rfl, IdealRules.named_const.statement _ _ _ _ _ rfl⟩

/-- The mixers' call, with its idealized twin of the same text: both frames from one run. -/
theorem frame_mix : Cert.quiescent_Mix (hMix := Cert.Mix.Gen.facts) := fun m ρ _ => Cert.Mix.Hand.frame m ρ

theorem frame_mix_ideal : Cert.quiescent_MixIdeal (hMixIdeal := Cert.MixIdeal.Gen.facts) := fun m ρ _ =>
  Eq.mp (by sl_kernel_rfl) (Cert.Mix.Hand.frame (F := Ideal) m ρ)

/-- Everything stated in the statement. -/
theorem claim : Cert.Claim :=
  ⟨Cert.InProj.Gen.facts, Cert.InProjIdeal.Gen.facts, Cert.InProjRefIdeal.Gen.facts, Cert.UpBwd.Gen.facts, Cert.UpBwdIdeal.Gen.facts,
    Cert.UpBwdRefIdeal.Gen.facts, Cert.Head.Gen.facts, Cert.HeadIdeal.Gen.facts, Cert.HeadRefIdeal.Gen.facts, Cert.Mix.Gen.facts, Cert.MixIdeal.Gen.facts,
    Cert.Norm.Gen.facts, Cert.NormIdeal.Gen.facts, Cert.NormRefIdeal.Gen.facts, Cert.Merge.Gen.facts, Cert.MergeIdeal.Gen.facts, Cert.MergeRefIdeal.Gen.facts, Cert.UpAct.Gen.facts, Cert.UpActIdeal.Gen.facts, Cert.UpActRefIdeal.Gen.facts,
    Cert.Down.Gen.facts, Cert.DownIdeal.Gen.facts, Cert.DownRefIdeal.Gen.facts, Cert.Adam.Gen.facts, Cert.AdamIdeal.Gen.facts, Cert.AdamRefIdeal.Gen.facts,
    Cert.GradMerge.Gen.facts, Cert.GradMergeIdeal.Gen.facts, Cert.GradMergeRefIdeal.Gen.facts,
    Cert.GradIn.Gen.facts, Cert.GradInIdeal.Gen.facts, Cert.GradInRefIdeal.Gen.facts,
    Cert.GradUp.Gen.facts, Cert.GradUpIdeal.Gen.facts, Cert.GradUpRefIdeal.Gen.facts,
    Cert.Gates.Gen.facts, Cert.GatesIdeal.Gen.facts, Cert.GatesRefIdeal.Gen.facts,
    Cert.HeadPre.facts,
    fun m ρ _ => Cert.InProj.Gen.frame m ρ, fun m ρ _ => Cert.InProjIdeal.Gen.frame m ρ, frame_in_proj_ref,
    fun m ρ _ => Cert.UpBwd.Gen.frame m ρ, fun m ρ _ => Cert.UpBwdIdeal.Gen.frame m ρ, frame_up_bwd_ref,
    fun m ρ _ => Cert.Head.Gen.frame m ρ, fun m ρ _ => Cert.HeadIdeal.Gen.frame m ρ, fun m ρ _ => Cert.HeadIdeal.Gen.frame m ρ,
    frame_head_ref, fun m ρ _ => frame_head_ref m ρ trivial, frame_mix, frame_mix_ideal,
    fun m ρ _ => Cert.Norm.Gen.frame m ρ, fun m ρ _ => Cert.NormIdeal.Gen.frame m ρ, frame_norm_ref,
    fun m ρ _ => Cert.Merge.Gen.frame m ρ, fun m ρ _ => Cert.MergeIdeal.Gen.frame m ρ, frame_merge_ref,
    fun m ρ _ => Cert.UpAct.Gen.frame m ρ, fun m ρ _ => Cert.UpActIdeal.Gen.frame m ρ, frame_upact_ref,
    fun m ρ _ => Cert.Down.Gen.frame m ρ, fun m ρ _ => Cert.DownIdeal.Gen.frame m ρ, frame_down_ref,
    fun m ρ _ => Cert.Adam.Gen.frame m ρ, fun m ρ _ => Cert.AdamIdeal.Gen.frame m ρ, frame_adam_ref,
    fun m ρ _ => Cert.GradMerge.Gen.frame m ρ, fun m ρ _ => Cert.GradMergeIdeal.Gen.frame m ρ, frame_grad_merge_ref,
    fun m ρ _ => Cert.GradIn.Gen.frame m ρ, fun m ρ _ => Cert.GradInIdeal.Gen.frame m ρ, frame_grad_in_ref,
    fun m ρ _ => Cert.GradUp.Gen.frame m ρ, fun m ρ _ => Cert.GradUpIdeal.Gen.frame m ρ, frame_grad_up_ref,
    fun m ρ _ => Cert.Gates.Gen.frame m ρ, fun m ρ _ => Cert.GatesIdeal.Gen.frame m ρ, frame_gates_ref,
    trivial, Cert.InProjClaim.algebraic, trivial, Cert.UpBwdClaim.algebraic, preserves_head, Cert.HeadClaim.algebraic, trivial,
    trivial, Cert.NormClaim.algebraic, trivial, Cert.MergeClaim.algebraic, trivial, Cert.UpActClaim.algebraic,
    trivial, Cert.DownClaim.algebraic, trivial, Cert.AdamClaim.algebraic,
    trivial, Cert.GradMergeClaim.algebraic, trivial, Cert.GradInClaim.algebraic, trivial, Cert.GradUpClaim.algebraic, trivial, Cert.GatesClaim.algebraic⟩

end Cert.Proof

end
